-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43_16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x12x207x2 : Shape := ⟨4, ![16, 12, 207, 2]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S195x128 : Shape := ⟨2, ![195, 128]⟩
abbrev S195x64 : Shape := ⟨2, ![195, 64]⟩
abbrev S64x1 : Shape := ⟨2, ![64, 1]⟩
abbrev S1 : Shape := ⟨1, ![1]⟩
abbrev S192x2 : Shape := ⟨2, ![192, 2]⟩
abbrev S192x64 : Shape := ⟨2, ![192, 64]⟩
abbrev S192 : Shape := ⟨1, ![192]⟩
abbrev S64x32 : Shape := ⟨2, ![64, 32]⟩
abbrev S12x16x207x2 : Shape := ⟨4, ![12, 16, 207, 2]⟩
abbrev S_ : Shape := ⟨0, ![]⟩
abbrev S12x16x208x2 : Shape := ⟨4, ![12, 16, 208, 2]⟩
abbrev S12x3328x2 : Shape := ⟨3, ![12, 3328, 2]⟩
abbrev S66x128 : Shape := ⟨2, ![66, 128]⟩
abbrev S2x128 : Shape := ⟨2, ![2, 128]⟩
abbrev S6x128 : Shape := ⟨2, ![6, 128]⟩
abbrev S64x128 : Shape := ⟨2, ![64, 128]⟩
abbrev S192x128 : Shape := ⟨2, ![192, 128]⟩
abbrev S66x64 : Shape := ⟨2, ![66, 64]⟩
abbrev S2x64 : Shape := ⟨2, ![2, 64]⟩
abbrev S6x64 : Shape := ⟨2, ![6, 64]⟩
abbrev S64x64 : Shape := ⟨2, ![64, 64]⟩
abbrev S128x128 : Shape := ⟨2, ![128, 128]⟩
abbrev S128x64 : Shape := ⟨2, ![128, 64]⟩
abbrev S65x128 : Shape := ⟨2, ![65, 128]⟩
abbrev S1x128 : Shape := ⟨2, ![1, 128]⟩
abbrev S3x128 : Shape := ⟨2, ![3, 128]⟩
abbrev S65x64 : Shape := ⟨2, ![65, 64]⟩
abbrev S1x64 : Shape := ⟨2, ![1, 64]⟩
abbrev S3x64 : Shape := ⟨2, ![3, 64]⟩
abbrev S2x192 : Shape := ⟨2, ![2, 192]⟩
abbrev S64x192 : Shape := ⟨2, ![64, 192]⟩
abbrev S1x192 : Shape := ⟨2, ![1, 192]⟩
abbrev S1x1 : Shape := ⟨2, ![1, 1]⟩
abbrev S3328x12 : Shape := ⟨2, ![3328, 12]⟩
abbrev S3328x64 : Shape := ⟨2, ![3328, 64]⟩
abbrev S1x3328x2 : Shape := ⟨3, ![1, 3328, 2]⟩
abbrev S3328x2 : Shape := ⟨2, ![3328, 2]⟩
abbrev S3328x192 : Shape := ⟨2, ![3328, 192]⟩
abbrev S3328x32 : Shape := ⟨2, ![3328, 32]⟩
abbrev S208x208 : Shape := ⟨2, ![208, 208]⟩
abbrev S208x32 : Shape := ⟨2, ![208, 32]⟩
abbrev S208 : Shape := ⟨1, ![208]⟩
abbrev S208x1 : Shape := ⟨2, ![208, 1]⟩
abbrev S208x2 : Shape := ⟨2, ![208, 2]⟩
abbrev S208x64 : Shape := ⟨2, ![208, 64]⟩
abbrev S208x128 : Shape := ⟨2, ![208, 128]⟩
abbrev S3328x6 : Shape := ⟨2, ![3328, 6]⟩
abbrev S3328x128 : Shape := ⟨2, ![3328, 128]⟩
abbrev S3328x1 : Shape := ⟨2, ![3328, 1]⟩
abbrev S208x16 : Shape := ⟨2, ![208, 16]⟩
abbrev S3328x3 : Shape := ⟨2, ![3328, 3]⟩
abbrev S3328 : Shape := ⟨1, ![3328]⟩
abbrev S16x208x12 : Shape := ⟨3, ![16, 208, 12]⟩
abbrev S16x12x208 : Shape := ⟨3, ![16, 12, 208]⟩
abbrev S16x12x207 : Shape := ⟨3, ![16, 12, 207]⟩
abbrev S16x12x207x1 : Shape := ⟨4, ![16, 12, 207, 1]⟩

abbrev nBuf : Space → Nat
  | .hbm => 137
  | .vmem => 34
  | .smem => 0
  | _ => 0

abbrev hbmTy0_0 (i : Nat) : BufTy := match i % 128 with
  | 0 => ⟨S16x12x207x2, .f32⟩
  | 1 => ⟨S198x128, .f32⟩
  | 2 => ⟨S128, .f32⟩
  | 3 => ⟨S198x64, .f32⟩
  | 4 => ⟨S64, .f32⟩
  | 5 => ⟨S384x128, .f32⟩
  | 6 => ⟨S128, .f32⟩
  | 7 => ⟨S384x64, .f32⟩
  | 8 => ⟨S64, .f32⟩
  | 9 => ⟨S195x128, .f32⟩
  | 10 => ⟨S128, .f32⟩
  | 11 => ⟨S195x64, .f32⟩
  | 12 => ⟨S64, .f32⟩
  | 13 => ⟨S384x128, .f32⟩
  | 14 => ⟨S128, .f32⟩
  | 15 => ⟨S384x64, .f32⟩
  | 16 => ⟨S64, .f32⟩
  | 17 => ⟨S64x1, .f32⟩
  | 18 => ⟨S1, .f32⟩
  | 19 => ⟨S192x2, .f32⟩
  | 20 => ⟨S192x64, .f32⟩
  | 21 => ⟨S192, .f32⟩
  | 22 => ⟨S192, .f32⟩
  | 23 => ⟨S64x32, .f32⟩
  | 24 => ⟨S64x32, .f32⟩
  | 25 => ⟨S12x16x207x2, .f32⟩
  | 26 => ⟨S_, .i32⟩
  | 27 => ⟨S_, .f32⟩
  | 28 => ⟨S12x16x208x2, .f32⟩
  | 29 => ⟨S12x3328x2, .f32⟩
  | 30 => ⟨S66x128, .f32⟩
  | 31 => ⟨S66x128, .f32⟩
  | 32 => ⟨S66x128, .f32⟩
  | 33 => ⟨S2x128, .f32⟩
  | 34 => ⟨S2x128, .f32⟩
  | 35 => ⟨S2x128, .f32⟩
  | 36 => ⟨S6x128, .f32⟩
  | 37 => ⟨S64x128, .f32⟩
  | 38 => ⟨S64x128, .f32⟩
  | 39 => ⟨S64x128, .f32⟩
  | 40 => ⟨S192x128, .f32⟩
  | 41 => ⟨S66x64, .f32⟩
  | 42 => ⟨S66x64, .f32⟩
  | 43 => ⟨S66x64, .f32⟩
  | 44 => ⟨S2x64, .f32⟩
  | 45 => ⟨S2x64, .f32⟩
  | 46 => ⟨S2x64, .f32⟩
  | 47 => ⟨S6x64, .f32⟩
  | 48 => ⟨S64x64, .f32⟩
  | 49 => ⟨S64x64, .f32⟩
  | 50 => ⟨S64x64, .f32⟩
  | 51 => ⟨S192x64, .f32⟩
  | 52 => ⟨S128x128, .f32⟩
  | 53 => ⟨S128x128, .f32⟩
  | 54 => ⟨S128x128, .f32⟩
  | 55 => ⟨S64x128, .f32⟩
  | 56 => ⟨S64x128, .f32⟩
  | 57 => ⟨S64x128, .f32⟩
  | 58 => ⟨S192x128, .f32⟩
  | 59 => ⟨S64x128, .f32⟩
  | 60 => ⟨S64x128, .f32⟩
  | 61 => ⟨S64x128, .f32⟩
  | 62 => ⟨S192x128, .f32⟩
  | 63 => ⟨S128x64, .f32⟩
  | 64 => ⟨S128x64, .f32⟩
  | 65 => ⟨S128x64, .f32⟩
  | 66 => ⟨S64x64, .f32⟩
  | 67 => ⟨S64x64, .f32⟩
  | 68 => ⟨S64x64, .f32⟩
  | 69 => ⟨S192x64, .f32⟩
  | 70 => ⟨S64x64, .f32⟩
  | 71 => ⟨S64x64, .f32⟩
  | 72 => ⟨S64x64, .f32⟩
  | 73 => ⟨S192x64, .f32⟩
  | 74 => ⟨S65x128, .f32⟩
  | 75 => ⟨S65x128, .f32⟩
  | 76 => ⟨S65x128, .f32⟩
  | 77 => ⟨S1x128, .f32⟩
  | 78 => ⟨S1x128, .f32⟩
  | 79 => ⟨S1x128, .f32⟩
  | 80 => ⟨S3x128, .f32⟩
  | 81 => ⟨S64x128, .f32⟩
  | 82 => ⟨S64x128, .f32⟩
  | 83 => ⟨S64x128, .f32⟩
  | 84 => ⟨S192x128, .f32⟩
  | 85 => ⟨S65x64, .f32⟩
  | 86 => ⟨S65x64, .f32⟩
  | 87 => ⟨S65x64, .f32⟩
  | 88 => ⟨S1x64, .f32⟩
  | 89 => ⟨S1x64, .f32⟩
  | 90 => ⟨S1x64, .f32⟩
  | 91 => ⟨S3x64, .f32⟩
  | 92 => ⟨S64x64, .f32⟩
  | 93 => ⟨S64x64, .f32⟩
  | 94 => ⟨S64x64, .f32⟩
  | 95 => ⟨S192x64, .f32⟩
  | 96 => ⟨S128x128, .f32⟩
  | 97 => ⟨S128x128, .f32⟩
  | 98 => ⟨S128x128, .f32⟩
  | 99 => ⟨S64x128, .f32⟩
  | 100 => ⟨S64x128, .f32⟩
  | 101 => ⟨S64x128, .f32⟩
  | 102 => ⟨S192x128, .f32⟩
  | 103 => ⟨S64x128, .f32⟩
  | 104 => ⟨S64x128, .f32⟩
  | 105 => ⟨S64x128, .f32⟩
  | 106 => ⟨S192x128, .f32⟩
  | 107 => ⟨S128x64, .f32⟩
  | 108 => ⟨S128x64, .f32⟩
  | 109 => ⟨S128x64, .f32⟩
  | 110 => ⟨S64x64, .f32⟩
  | 111 => ⟨S64x64, .f32⟩
  | 112 => ⟨S64x64, .f32⟩
  | 113 => ⟨S192x64, .f32⟩
  | 114 => ⟨S64x64, .f32⟩
  | 115 => ⟨S64x64, .f32⟩
  | 116 => ⟨S64x64, .f32⟩
  | 117 => ⟨S192x64, .f32⟩
  | 118 => ⟨S2x192, .f32⟩
  | 119 => ⟨S64x192, .f32⟩
  | 120 => ⟨S1x192, .f32⟩
  | 121 => ⟨S1x192, .f32⟩
  | 122 => ⟨S1x128, .f32⟩
  | 123 => ⟨S1x64, .f32⟩
  | 124 => ⟨S1x128, .f32⟩
  | 125 => ⟨S1x64, .f32⟩
  | 126 => ⟨S1x128, .f32⟩
  | 127 => ⟨S1x64, .f32⟩
  | _ => ⟨S16x12x207x2, .f32⟩

abbrev hbmTy0_1 (i : Nat) : BufTy := match i % 128 with
  | 0 => ⟨S1x128, .f32⟩
  | 1 => ⟨S1x64, .f32⟩
  | 2 => ⟨S1x64, .f32⟩
  | 3 => ⟨S1x1, .f32⟩
  | 4 => ⟨S3328x12, .f32⟩
  | 5 => ⟨S16x208x12, .f32⟩
  | 6 => ⟨S16x12x208, .f32⟩
  | 7 => ⟨S16x12x207, .f32⟩
  | 8 => ⟨S16x12x207x1, .f32⟩
  | _ => ⟨S16x12x207x2, .f32⟩

abbrev hbmTy (i : Nat) : BufTy := match i / 128 with
  | 0 => hbmTy0_0 i
  | 1 => hbmTy0_1 i
  | _ => ⟨S16x12x207x2, .f32⟩

abbrev bufTy : (tb : Table) → Fin (tcTables nBuf tb) → BufTy
  | .hbm, ⟨i, _⟩ => hbmTy i
  | .local _ .vmem, ⟨0, _⟩ => ⟨S12x3328x2, .f32⟩
  | .local _ .vmem, ⟨1, _⟩ => ⟨S2x192, .f32⟩
  | .local _ .vmem, ⟨2, _⟩ => ⟨S64x192, .f32⟩
  | .local _ .vmem, ⟨3, _⟩ => ⟨S1x192, .f32⟩
  | .local _ .vmem, ⟨4, _⟩ => ⟨S1x192, .f32⟩
  | .local _ .vmem, ⟨5, _⟩ => ⟨S64x32, .f32⟩
  | .local _ .vmem, ⟨6, _⟩ => ⟨S64x32, .f32⟩
  | .local _ .vmem, ⟨7, _⟩ => ⟨S6x128, .f32⟩
  | .local _ .vmem, ⟨8, _⟩ => ⟨S192x128, .f32⟩
  | .local _ .vmem, ⟨9, _⟩ => ⟨S1x128, .f32⟩
  | .local _ .vmem, ⟨10, _⟩ => ⟨S6x64, .f32⟩
  | .local _ .vmem, ⟨11, _⟩ => ⟨S192x64, .f32⟩
  | .local _ .vmem, ⟨12, _⟩ => ⟨S1x64, .f32⟩
  | .local _ .vmem, ⟨13, _⟩ => ⟨S192x128, .f32⟩
  | .local _ .vmem, ⟨14, _⟩ => ⟨S192x128, .f32⟩
  | .local _ .vmem, ⟨15, _⟩ => ⟨S1x128, .f32⟩
  | .local _ .vmem, ⟨16, _⟩ => ⟨S192x64, .f32⟩
  | .local _ .vmem, ⟨17, _⟩ => ⟨S192x64, .f32⟩
  | .local _ .vmem, ⟨18, _⟩ => ⟨S1x64, .f32⟩
  | .local _ .vmem, ⟨19, _⟩ => ⟨S3x128, .f32⟩
  | .local _ .vmem, ⟨20, _⟩ => ⟨S192x128, .f32⟩
  | .local _ .vmem, ⟨21, _⟩ => ⟨S1x128, .f32⟩
  | .local _ .vmem, ⟨22, _⟩ => ⟨S3x64, .f32⟩
  | .local _ .vmem, ⟨23, _⟩ => ⟨S192x64, .f32⟩
  | .local _ .vmem, ⟨24, _⟩ => ⟨S1x64, .f32⟩
  | .local _ .vmem, ⟨25, _⟩ => ⟨S192x128, .f32⟩
  | .local _ .vmem, ⟨26, _⟩ => ⟨S192x128, .f32⟩
  | .local _ .vmem, ⟨27, _⟩ => ⟨S1x128, .f32⟩
  | .local _ .vmem, ⟨28, _⟩ => ⟨S192x64, .f32⟩
  | .local _ .vmem, ⟨29, _⟩ => ⟨S192x64, .f32⟩
  | .local _ .vmem, ⟨30, _⟩ => ⟨S1x64, .f32⟩
  | .local _ .vmem, ⟨31, _⟩ => ⟨S1x64, .f32⟩
  | .local _ .vmem, ⟨32, _⟩ => ⟨S1x1, .f32⟩
  | .local _ .vmem, ⟨33, _⟩ => ⟨S3328x12, .f32⟩
  | _, _ => ⟨S16x12x207x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_c : Ref sig .tc := ⟨.hbm, 26, rfl⟩
abbrev main_call0_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c12_i32 : BitVec 32 := 12#32
  let v9 : BitVec 32 := Scalar.addi c0_i32 c12_i32
  let c1_i32 : BitVec 32 := 1#32
  ⟨c0_i32, v9, c1_i32⟩
def k0_off1 (k0_t1 : Fin k0_t1_loop.trips) : Fin 3 → Nat :=
  let c0_i32 : BitVec 32 := 0#32
  let c1_i32 : BitVec 32 := 1#32
  let arg34 : BitVec 32 := Scf.iv c0_i32 c1_i32 k0_t1
  let v757 : Index := Scalar.indexCast arg34
  let c0_300 : Index := 0#32
  let c0_301 : Index := 0#32
  ![v757.toNat, 0, 0]
@[reducible] def k0_t2_loop : Scf.Loop 32 :=
  let c0_i32_288 : BitVec 32 := 0#32
  let c12_i32_289 : BitVec 32 := 12#32
  let v749 : BitVec 32 := Scalar.addi c0_i32_288 c12_i32_289
  let c1_i32_290 : BitVec 32 := 1#32
  ⟨c0_i32_288, v749, c1_i32_290⟩
def k0_off2 (k0_t2 : Fin k0_t2_loop.trips) : Fin 3 → Nat :=
  let c0_i32_288 : BitVec 32 := 0#32
  let c1_i32_290 : BitVec 32 := 1#32
  let arg34 : BitVec 32 := Scf.iv c0_i32_288 c1_i32_290 k0_t2
  let v757 : Index := Scalar.indexCast arg34
  let c0_300 : Index := 0#32
  let c0_301 : Index := 0#32
  ![v757.toNat, 0, 0]
@[reducible] def k0_t3_loop : Scf.Loop 32 :=
  let c0_i32_294 : BitVec 32 := 0#32
  let c12_i32_295 : BitVec 32 := 12#32
  let v754 : BitVec 32 := Scalar.addi c0_i32_294 c12_i32_295
  let c1_i32_296 : BitVec 32 := 1#32
  ⟨c0_i32_294, v754, c1_i32_296⟩
abbrev stage0_0 : Fin 1 → Memref sig .tc .vmem S12x3328x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S192x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S192x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S192x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S192x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S192x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S192x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S192x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S3x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S192x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S192x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S192x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S192x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S192x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S3328x12 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
-- ==== ReferenceIdeal.lean ====
abbrev S16x12x207x2 : Shape := ⟨4, ![16, 12, 207, 2]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S195x128 : Shape := ⟨2, ![195, 128]⟩
abbrev S195x64 : Shape := ⟨2, ![195, 64]⟩
abbrev S64x1 : Shape := ⟨2, ![64, 1]⟩
abbrev S1 : Shape := ⟨1, ![1]⟩
abbrev S192x2 : Shape := ⟨2, ![192, 2]⟩
abbrev S192x64 : Shape := ⟨2, ![192, 64]⟩
abbrev S192 : Shape := ⟨1, ![192]⟩
abbrev S64x32 : Shape := ⟨2, ![64, 32]⟩
abbrev S12x16x207x2 : Shape := ⟨4, ![12, 16, 207, 2]⟩
abbrev S12x3312x2 : Shape := ⟨3, ![12, 3312, 2]⟩
abbrev S_ : Shape := ⟨0, ![]⟩
abbrev S3312x64 : Shape := ⟨2, ![3312, 64]⟩
abbrev S1x3312x2 : Shape := ⟨3, ![1, 3312, 2]⟩
abbrev S3312x2 : Shape := ⟨2, ![3312, 2]⟩
abbrev S2x192 : Shape := ⟨2, ![2, 192]⟩
abbrev S3312x192 : Shape := ⟨2, ![3312, 192]⟩
abbrev S1x192 : Shape := ⟨2, ![1, 192]⟩
abbrev S64x192 : Shape := ⟨2, ![64, 192]⟩
abbrev S16x207x64 : Shape := ⟨3, ![16, 207, 64]⟩
abbrev S16x207x32 : Shape := ⟨3, ![16, 207, 32]⟩
abbrev S16x207x207 : Shape := ⟨3, ![16, 207, 207]⟩
abbrev S16x207 : Shape := ⟨2, ![16, 207]⟩
abbrev S16x207x1 : Shape := ⟨3, ![16, 207, 1]⟩
abbrev S207x207 : Shape := ⟨2, ![207, 207]⟩
abbrev S207x30 : Shape := ⟨2, ![207, 30]⟩
abbrev S207x1 : Shape := ⟨2, ![207, 1]⟩
abbrev S207 : Shape := ⟨1, ![207]⟩
abbrev S12x16x207x64 : Shape := ⟨4, ![12, 16, 207, 64]⟩
abbrev S1x16x207x2 : Shape := ⟨4, ![1, 16, 207, 2]⟩
abbrev S16x207x2 : Shape := ⟨3, ![16, 207, 2]⟩
abbrev S16x207x66 : Shape := ⟨3, ![16, 207, 66]⟩
abbrev S207x66x16 : Shape := ⟨3, ![207, 66, 16]⟩
abbrev S207x1056 : Shape := ⟨2, ![207, 1056]⟩
abbrev S1x207x1056 : Shape := ⟨3, ![1, 207, 1056]⟩
abbrev S3x207x1056 : Shape := ⟨3, ![3, 207, 1056]⟩
abbrev S3x207x66x16 : Shape := ⟨4, ![3, 207, 66, 16]⟩
abbrev S16x207x66x3 : Shape := ⟨4, ![16, 207, 66, 3]⟩
abbrev S3312x198 : Shape := ⟨2, ![3312, 198]⟩
abbrev S3312x128 : Shape := ⟨2, ![3312, 128]⟩
abbrev S1x128 : Shape := ⟨2, ![1, 128]⟩
abbrev S16x207x128 : Shape := ⟨3, ![16, 207, 128]⟩
abbrev S1x64 : Shape := ⟨2, ![1, 64]⟩
abbrev S1x16x207x64 : Shape := ⟨4, ![1, 16, 207, 64]⟩
abbrev S207x128x16 : Shape := ⟨3, ![207, 128, 16]⟩
abbrev S207x2048 : Shape := ⟨2, ![207, 2048]⟩
abbrev S1x207x2048 : Shape := ⟨3, ![1, 207, 2048]⟩
abbrev S3x207x2048 : Shape := ⟨3, ![3, 207, 2048]⟩
abbrev S3x207x128x16 : Shape := ⟨4, ![3, 207, 128, 16]⟩
abbrev S16x207x128x3 : Shape := ⟨4, ![16, 207, 128, 3]⟩
abbrev S3312x384 : Shape := ⟨2, ![3312, 384]⟩
abbrev S16x12x207x1 : Shape := ⟨4, ![16, 12, 207, 1]⟩
abbrev S16x207x65 : Shape := ⟨3, ![16, 207, 65]⟩
abbrev S207x65x16 : Shape := ⟨3, ![207, 65, 16]⟩
abbrev S207x1040 : Shape := ⟨2, ![207, 1040]⟩
abbrev S1x207x1040 : Shape := ⟨3, ![1, 207, 1040]⟩
abbrev S3x207x1040 : Shape := ⟨3, ![3, 207, 1040]⟩
abbrev S3x207x65x16 : Shape := ⟨4, ![3, 207, 65, 16]⟩
abbrev S16x207x65x3 : Shape := ⟨4, ![16, 207, 65, 3]⟩
abbrev S3312x195 : Shape := ⟨2, ![3312, 195]⟩
abbrev S1x1x1 : Shape := ⟨3, ![1, 1, 1]⟩
abbrev S16x1x207x1 : Shape := ⟨4, ![16, 1, 207, 1]⟩

abbrev nBuf : Space → Nat
  | .hbm => 505
  | .vmem => 0
  | .smem => 0
  | _ => 0

abbrev hbmTy0_0 (i : Nat) : BufTy := match i % 128 with
  | 0 => ⟨S16x12x207x2, .f32⟩
  | 1 => ⟨S198x128, .f32⟩
  | 2 => ⟨S128, .f32⟩
  | 3 => ⟨S198x64, .f32⟩
  | 4 => ⟨S64, .f32⟩
  | 5 => ⟨S384x128, .f32⟩
  | 6 => ⟨S128, .f32⟩
  | 7 => ⟨S384x64, .f32⟩
  | 8 => ⟨S64, .f32⟩
  | 9 => ⟨S195x128, .f32⟩
  | 10 => ⟨S128, .f32⟩
  | 11 => ⟨S195x64, .f32⟩
  | 12 => ⟨S64, .f32⟩
  | 13 => ⟨S384x128, .f32⟩
  | 14 => ⟨S128, .f32⟩
  | 15 => ⟨S384x64, .f32⟩
  | 16 => ⟨S64, .f32⟩
  | 17 => ⟨S64x1, .f32⟩
  | 18 => ⟨S1, .f32⟩
  | 19 => ⟨S192x2, .f32⟩
  | 20 => ⟨S192x64, .f32⟩
  | 21 => ⟨S192, .f32⟩
  | 22 => ⟨S192, .f32⟩
  | 23 => ⟨S64x32, .f32⟩
  | 24 => ⟨S64x32, .f32⟩
  | 25 => ⟨S12x16x207x2, .f32⟩
  | 26 => ⟨S12x3312x2, .f32⟩
  | 27 => ⟨S_, .f32⟩
  | 28 => ⟨S3312x64, .f32⟩
  | 29 => ⟨S_, .i32⟩
  | 30 => ⟨S_, .i32⟩
  | 31 => ⟨S12x3312x2, .f32⟩
  | 32 => ⟨S192x2, .f32⟩
  | 33 => ⟨S192, .f32⟩
  | 34 => ⟨S192x64, .f32⟩
  | 35 => ⟨S192, .f32⟩
  | 36 => ⟨S_, .i32⟩
  | 37 => ⟨S_, .i32⟩
  | 38 => ⟨S3312x64, .f32⟩
  | 39 => ⟨S_, .i32⟩
  | 40 => ⟨S_, .i1⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S1x3312x2, .f32⟩
  | 52 => ⟨S3312x2, .f32⟩
  | 53 => ⟨S2x192, .f32⟩
  | 54 => ⟨S3312x192, .f32⟩
  | 55 => ⟨S1x192, .f32⟩
  | 56 => ⟨S3312x192, .f32⟩
  | 57 => ⟨S3312x192, .f32⟩
  | 58 => ⟨S64x192, .f32⟩
  | 59 => ⟨S3312x192, .f32⟩
  | 60 => ⟨S1x192, .f32⟩
  | 61 => ⟨S3312x192, .f32⟩
  | 62 => ⟨S3312x192, .f32⟩
  | 63 => ⟨S3312x64, .f32⟩
  | 64 => ⟨S3312x64, .f32⟩
  | 65 => ⟨S3312x64, .f32⟩
  | 66 => ⟨S3312x64, .f32⟩
  | 67 => ⟨S3312x64, .f32⟩
  | 68 => ⟨S3312x64, .f32⟩
  | 69 => ⟨S3312x64, .f32⟩
  | 70 => ⟨S3312x64, .f32⟩
  | 71 => ⟨S3312x64, .f32⟩
  | 72 => ⟨S_, .f32⟩
  | 73 => ⟨S3312x64, .f32⟩
  | 74 => ⟨S3312x64, .f32⟩
  | 75 => ⟨S_, .f32⟩
  | 76 => ⟨S3312x64, .f32⟩
  | 77 => ⟨S3312x64, .f32⟩
  | 78 => ⟨S3312x64, .f32⟩
  | 79 => ⟨S3312x64, .f32⟩
  | 80 => ⟨S3312x64, .f32⟩
  | 81 => ⟨S_, .f32⟩
  | 82 => ⟨S3312x64, .f32⟩
  | 83 => ⟨S3312x64, .f32⟩
  | 84 => ⟨S_, .f32⟩
  | 85 => ⟨S3312x64, .f32⟩
  | 86 => ⟨S3312x64, .f32⟩
  | 87 => ⟨S3312x64, .f32⟩
  | 88 => ⟨S3312x64, .f32⟩
  | 89 => ⟨S3312x64, .f32⟩
  | 90 => ⟨S_, .f32⟩
  | 91 => ⟨S3312x64, .f32⟩
  | 92 => ⟨S3312x64, .f32⟩
  | 93 => ⟨S3312x64, .f32⟩
  | 94 => ⟨S3312x64, .f32⟩
  | 95 => ⟨S3312x64, .f32⟩
  | 96 => ⟨S_, .i32⟩
  | 97 => ⟨S_, .i32⟩
  | 98 => ⟨S16x207x64, .f32⟩
  | 99 => ⟨S16x207x32, .f32⟩
  | 100 => ⟨S16x207x32, .f32⟩
  | 101 => ⟨S16x207x207, .f32⟩
  | 102 => ⟨S_, .f32⟩
  | 103 => ⟨S16x207x207, .f32⟩
  | 104 => ⟨S16x207x207, .f32⟩
  | 105 => ⟨S_, .f32⟩
  | 106 => ⟨S16x207, .f32⟩
  | 107 => ⟨S_, .f32⟩
  | 108 => ⟨S16x207, .f32⟩
  | 109 => ⟨S16x207, .f32⟩
  | 110 => ⟨S16x207x1, .f32⟩
  | 111 => ⟨S16x207x207, .f32⟩
  | 112 => ⟨S16x207x207, .f32⟩
  | 113 => ⟨S16x207x207, .f32⟩
  | 114 => ⟨S_, .f32⟩
  | 115 => ⟨S16x207, .f32⟩
  | 116 => ⟨S16x207x1, .f32⟩
  | 117 => ⟨S16x207x207, .f32⟩
  | 118 => ⟨S16x207x207, .f32⟩
  | 119 => ⟨S_, .f32⟩
  | 120 => ⟨S207x207, .f32⟩
  | 121 => ⟨S_, .f32⟩
  | 122 => ⟨S207x207, .f32⟩
  | 123 => ⟨S207x207, .f32⟩
  | 124 => ⟨S207x30, .f32⟩
  | 125 => ⟨S207x30, .i32⟩
  | 126 => ⟨S207x1, .f32⟩
  | 127 => ⟨S207x207, .f32⟩
  | _ => ⟨S16x12x207x2, .f32⟩

abbrev hbmTy0_1 (i : Nat) : BufTy := match i % 128 with
  | 0 => ⟨S207x207, .i1⟩
  | 1 => ⟨S_, .f32⟩
  | 2 => ⟨S_, .f32⟩
  | 3 => ⟨S207x207, .f32⟩
  | 4 => ⟨S207x207, .f32⟩
  | 5 => ⟨S_, .f32⟩
  | 6 => ⟨S207, .f32⟩
  | 7 => ⟨S_, .f32⟩
  | 8 => ⟨S207, .f32⟩
  | 9 => ⟨S207, .i1⟩
  | 10 => ⟨S_, .f32⟩
  | 11 => ⟨S207, .f32⟩
  | 12 => ⟨S207, .f32⟩
  | 13 => ⟨S_, .f32⟩
  | 14 => ⟨S_, .f32⟩
  | 15 => ⟨S207, .f32⟩
  | 16 => ⟨S207, .f32⟩
  | 17 => ⟨S207x1, .f32⟩
  | 18 => ⟨S207x207, .f32⟩
  | 19 => ⟨S207x207, .f32⟩
  | 20 => ⟨S12x16x207x2, .f32⟩
  | 21 => ⟨S_, .f32⟩
  | 22 => ⟨S16x207x64, .f32⟩
  | 23 => ⟨S_, .f32⟩
  | 24 => ⟨S12x16x207x64, .f32⟩
  | 25 => ⟨S_, .i32⟩
  | 26 => ⟨S_, .i32⟩
  | 27 => ⟨S12x16x207x2, .f32⟩
  | 28 => ⟨S207x207, .f32⟩
  | 29 => ⟨S198x128, .f32⟩
  | 30 => ⟨S128, .f32⟩
  | 31 => ⟨S198x64, .f32⟩
  | 32 => ⟨S64, .f32⟩
  | 33 => ⟨S_, .i32⟩
  | 34 => ⟨S_, .i32⟩
  | 35 => ⟨S16x207x64, .f32⟩
  | 36 => ⟨S12x16x207x64, .f32⟩
  | 37 => ⟨S_, .i32⟩
  | 38 => ⟨S_, .i1⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S1x16x207x2, .f32⟩
  | 51 => ⟨S16x207x2, .f32⟩
  | 52 => ⟨S16x207x66, .f32⟩
  | 53 => ⟨S207x66x16, .f32⟩
  | 54 => ⟨S207x1056, .f32⟩
  | 55 => ⟨S207x1056, .f32⟩
  | 56 => ⟨S207x1056, .f32⟩
  | 57 => ⟨S_, .f32⟩
  | 58 => ⟨S207x1056, .f32⟩
  | 59 => ⟨S207x1056, .f32⟩
  | 60 => ⟨S207x1056, .f32⟩
  | 61 => ⟨S1x207x1056, .f32⟩
  | 62 => ⟨S1x207x1056, .f32⟩
  | 63 => ⟨S1x207x1056, .f32⟩
  | 64 => ⟨S3x207x1056, .f32⟩
  | 65 => ⟨S3x207x66x16, .f32⟩
  | 66 => ⟨S16x207x66x3, .f32⟩
  | 67 => ⟨S3312x198, .f32⟩
  | 68 => ⟨S3312x128, .f32⟩
  | 69 => ⟨S1x128, .f32⟩
  | 70 => ⟨S3312x128, .f32⟩
  | 71 => ⟨S3312x128, .f32⟩
  | 72 => ⟨S16x207x128, .f32⟩
  | 73 => ⟨S16x207x128, .f32⟩
  | 74 => ⟨S16x207x128, .f32⟩
  | 75 => ⟨S_, .f32⟩
  | 76 => ⟨S16x207x128, .f32⟩
  | 77 => ⟨S16x207x128, .f32⟩
  | 78 => ⟨S_, .f32⟩
  | 79 => ⟨S16x207x128, .f32⟩
  | 80 => ⟨S16x207x128, .f32⟩
  | 81 => ⟨S16x207x64, .f32⟩
  | 82 => ⟨S16x207x64, .f32⟩
  | 83 => ⟨S16x207x64, .f32⟩
  | 84 => ⟨S16x207x66, .f32⟩
  | 85 => ⟨S207x66x16, .f32⟩
  | 86 => ⟨S207x1056, .f32⟩
  | 87 => ⟨S207x1056, .f32⟩
  | 88 => ⟨S207x1056, .f32⟩
  | 89 => ⟨S_, .f32⟩
  | 90 => ⟨S207x1056, .f32⟩
  | 91 => ⟨S207x1056, .f32⟩
  | 92 => ⟨S207x1056, .f32⟩
  | 93 => ⟨S1x207x1056, .f32⟩
  | 94 => ⟨S1x207x1056, .f32⟩
  | 95 => ⟨S1x207x1056, .f32⟩
  | 96 => ⟨S3x207x1056, .f32⟩
  | 97 => ⟨S3x207x66x16, .f32⟩
  | 98 => ⟨S16x207x66x3, .f32⟩
  | 99 => ⟨S3312x198, .f32⟩
  | 100 => ⟨S3312x64, .f32⟩
  | 101 => ⟨S1x64, .f32⟩
  | 102 => ⟨S3312x64, .f32⟩
  | 103 => ⟨S3312x64, .f32⟩
  | 104 => ⟨S16x207x64, .f32⟩
  | 105 => ⟨S16x207x64, .f32⟩
  | 106 => ⟨S16x207x64, .f32⟩
  | 107 => ⟨S_, .f32⟩
  | 108 => ⟨S16x207x64, .f32⟩
  | 109 => ⟨S16x207x64, .f32⟩
  | 110 => ⟨S16x207x64, .f32⟩
  | 111 => ⟨S16x207x64, .f32⟩
  | 112 => ⟨S1x16x207x64, .f32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S12x16x207x64, .f32⟩
  | 123 => ⟨S_, .i32⟩
  | 124 => ⟨S_, .i32⟩
  | 125 => ⟨S_, .i32⟩
  | 126 => ⟨S_, .i32⟩
  | 127 => ⟨S12x16x207x64, .f32⟩
  | _ => ⟨S16x12x207x2, .f32⟩

abbrev hbmTy0_2 (i : Nat) : BufTy := match i % 128 with
  | 0 => ⟨S207x207, .f32⟩
  | 1 => ⟨S384x128, .f32⟩
  | 2 => ⟨S128, .f32⟩
  | 3 => ⟨S384x64, .f32⟩
  | 4 => ⟨S64, .f32⟩
  | 5 => ⟨S_, .i32⟩
  | 6 => ⟨S_, .i32⟩
  | 7 => ⟨S16x207x64, .f32⟩
  | 8 => ⟨S_, .i32⟩
  | 9 => ⟨S_, .i1⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S1x16x207x64, .f32⟩
  | 22 => ⟨S16x207x64, .f32⟩
  | 23 => ⟨S16x207x128, .f32⟩
  | 24 => ⟨S207x128x16, .f32⟩
  | 25 => ⟨S207x2048, .f32⟩
  | 26 => ⟨S207x2048, .f32⟩
  | 27 => ⟨S207x2048, .f32⟩
  | 28 => ⟨S_, .f32⟩
  | 29 => ⟨S207x2048, .f32⟩
  | 30 => ⟨S207x2048, .f32⟩
  | 31 => ⟨S207x2048, .f32⟩
  | 32 => ⟨S1x207x2048, .f32⟩
  | 33 => ⟨S1x207x2048, .f32⟩
  | 34 => ⟨S1x207x2048, .f32⟩
  | 35 => ⟨S3x207x2048, .f32⟩
  | 36 => ⟨S3x207x128x16, .f32⟩
  | 37 => ⟨S16x207x128x3, .f32⟩
  | 38 => ⟨S3312x384, .f32⟩
  | 39 => ⟨S3312x128, .f32⟩
  | 40 => ⟨S1x128, .f32⟩
  | 41 => ⟨S3312x128, .f32⟩
  | 42 => ⟨S3312x128, .f32⟩
  | 43 => ⟨S16x207x128, .f32⟩
  | 44 => ⟨S16x207x128, .f32⟩
  | 45 => ⟨S16x207x128, .f32⟩
  | 46 => ⟨S_, .f32⟩
  | 47 => ⟨S16x207x128, .f32⟩
  | 48 => ⟨S16x207x128, .f32⟩
  | 49 => ⟨S_, .f32⟩
  | 50 => ⟨S16x207x128, .f32⟩
  | 51 => ⟨S16x207x128, .f32⟩
  | 52 => ⟨S16x207x64, .f32⟩
  | 53 => ⟨S16x207x64, .f32⟩
  | 54 => ⟨S16x207x64, .f32⟩
  | 55 => ⟨S16x207x128, .f32⟩
  | 56 => ⟨S207x128x16, .f32⟩
  | 57 => ⟨S207x2048, .f32⟩
  | 58 => ⟨S207x2048, .f32⟩
  | 59 => ⟨S207x2048, .f32⟩
  | 60 => ⟨S_, .f32⟩
  | 61 => ⟨S207x2048, .f32⟩
  | 62 => ⟨S207x2048, .f32⟩
  | 63 => ⟨S207x2048, .f32⟩
  | 64 => ⟨S1x207x2048, .f32⟩
  | 65 => ⟨S1x207x2048, .f32⟩
  | 66 => ⟨S1x207x2048, .f32⟩
  | 67 => ⟨S3x207x2048, .f32⟩
  | 68 => ⟨S3x207x128x16, .f32⟩
  | 69 => ⟨S16x207x128x3, .f32⟩
  | 70 => ⟨S3312x384, .f32⟩
  | 71 => ⟨S3312x64, .f32⟩
  | 72 => ⟨S1x64, .f32⟩
  | 73 => ⟨S3312x64, .f32⟩
  | 74 => ⟨S3312x64, .f32⟩
  | 75 => ⟨S16x207x64, .f32⟩
  | 76 => ⟨S16x207x64, .f32⟩
  | 77 => ⟨S16x207x64, .f32⟩
  | 78 => ⟨S_, .f32⟩
  | 79 => ⟨S16x207x64, .f32⟩
  | 80 => ⟨S16x207x64, .f32⟩
  | 81 => ⟨S16x207x64, .f32⟩
  | 82 => ⟨S16x207x64, .f32⟩
  | 83 => ⟨S_, .i32⟩
  | 84 => ⟨S_, .i32⟩
  | 85 => ⟨S_, .f32⟩
  | 86 => ⟨S16x207x1, .f32⟩
  | 87 => ⟨S_, .f32⟩
  | 88 => ⟨S16x12x207x1, .f32⟩
  | 89 => ⟨S_, .i32⟩
  | 90 => ⟨S_, .i32⟩
  | 91 => ⟨S207x207, .f32⟩
  | 92 => ⟨S195x128, .f32⟩
  | 93 => ⟨S128, .f32⟩
  | 94 => ⟨S195x64, .f32⟩
  | 95 => ⟨S64, .f32⟩
  | 96 => ⟨S384x128, .f32⟩
  | 97 => ⟨S128, .f32⟩
  | 98 => ⟨S384x64, .f32⟩
  | 99 => ⟨S64, .f32⟩
  | 100 => ⟨S64x1, .f32⟩
  | 101 => ⟨S1, .f32⟩
  | 102 => ⟨S_, .i32⟩
  | 103 => ⟨S_, .i32⟩
  | 104 => ⟨S16x207x64, .f32⟩
  | 105 => ⟨S16x207x64, .f32⟩
  | 106 => ⟨S16x207x1, .f32⟩
  | 107 => ⟨S16x12x207x1, .f32⟩
  | 108 => ⟨S_, .i32⟩
  | 109 => ⟨S_, .i1⟩
  | 110 => ⟨S_, .i32⟩
  | 111 => ⟨S_, .i32⟩
  | 112 => ⟨S16x207x65, .f32⟩
  | 113 => ⟨S207x65x16, .f32⟩
  | 114 => ⟨S207x1040, .f32⟩
  | 115 => ⟨S207x1040, .f32⟩
  | 116 => ⟨S207x1040, .f32⟩
  | 117 => ⟨S_, .f32⟩
  | 118 => ⟨S207x1040, .f32⟩
  | 119 => ⟨S207x1040, .f32⟩
  | 120 => ⟨S207x1040, .f32⟩
  | 121 => ⟨S1x207x1040, .f32⟩
  | 122 => ⟨S1x207x1040, .f32⟩
  | 123 => ⟨S1x207x1040, .f32⟩
  | 124 => ⟨S3x207x1040, .f32⟩
  | 125 => ⟨S3x207x65x16, .f32⟩
  | 126 => ⟨S16x207x65x3, .f32⟩
  | 127 => ⟨S3312x195, .f32⟩
  | _ => ⟨S16x12x207x2, .f32⟩

abbrev hbmTy0_3 (i : Nat) : BufTy := match i % 128 with
  | 0 => ⟨S3312x128, .f32⟩
  | 1 => ⟨S1x128, .f32⟩
  | 2 => ⟨S3312x128, .f32⟩
  | 3 => ⟨S3312x128, .f32⟩
  | 4 => ⟨S16x207x128, .f32⟩
  | 5 => ⟨S16x207x128, .f32⟩
  | 6 => ⟨S16x207x128, .f32⟩
  | 7 => ⟨S_, .f32⟩
  | 8 => ⟨S16x207x128, .f32⟩
  | 9 => ⟨S16x207x128, .f32⟩
  | 10 => ⟨S_, .f32⟩
  | 11 => ⟨S16x207x128, .f32⟩
  | 12 => ⟨S16x207x128, .f32⟩
  | 13 => ⟨S16x207x64, .f32⟩
  | 14 => ⟨S16x207x64, .f32⟩
  | 15 => ⟨S16x207x64, .f32⟩
  | 16 => ⟨S16x207x65, .f32⟩
  | 17 => ⟨S207x65x16, .f32⟩
  | 18 => ⟨S207x1040, .f32⟩
  | 19 => ⟨S207x1040, .f32⟩
  | 20 => ⟨S207x1040, .f32⟩
  | 21 => ⟨S_, .f32⟩
  | 22 => ⟨S207x1040, .f32⟩
  | 23 => ⟨S207x1040, .f32⟩
  | 24 => ⟨S207x1040, .f32⟩
  | 25 => ⟨S1x207x1040, .f32⟩
  | 26 => ⟨S1x207x1040, .f32⟩
  | 27 => ⟨S1x207x1040, .f32⟩
  | 28 => ⟨S3x207x1040, .f32⟩
  | 29 => ⟨S3x207x65x16, .f32⟩
  | 30 => ⟨S16x207x65x3, .f32⟩
  | 31 => ⟨S3312x195, .f32⟩
  | 32 => ⟨S3312x64, .f32⟩
  | 33 => ⟨S1x64, .f32⟩
  | 34 => ⟨S3312x64, .f32⟩
  | 35 => ⟨S3312x64, .f32⟩
  | 36 => ⟨S16x207x64, .f32⟩
  | 37 => ⟨S16x207x64, .f32⟩
  | 38 => ⟨S16x207x64, .f32⟩
  | 39 => ⟨S_, .f32⟩
  | 40 => ⟨S16x207x64, .f32⟩
  | 41 => ⟨S16x207x64, .f32⟩
  | 42 => ⟨S16x207x64, .f32⟩
  | 43 => ⟨S16x207x64, .f32⟩
  | 44 => ⟨S16x207x128, .f32⟩
  | 45 => ⟨S207x128x16, .f32⟩
  | 46 => ⟨S207x2048, .f32⟩
  | 47 => ⟨S207x2048, .f32⟩
  | 48 => ⟨S207x2048, .f32⟩
  | 49 => ⟨S_, .f32⟩
  | 50 => ⟨S207x2048, .f32⟩
  | 51 => ⟨S207x2048, .f32⟩
  | 52 => ⟨S207x2048, .f32⟩
  | 53 => ⟨S1x207x2048, .f32⟩
  | 54 => ⟨S1x207x2048, .f32⟩
  | 55 => ⟨S1x207x2048, .f32⟩
  | 56 => ⟨S3x207x2048, .f32⟩
  | 57 => ⟨S3x207x128x16, .f32⟩
  | 58 => ⟨S16x207x128x3, .f32⟩
  | 59 => ⟨S3312x384, .f32⟩
  | 60 => ⟨S3312x128, .f32⟩
  | 61 => ⟨S1x128, .f32⟩
  | 62 => ⟨S3312x128, .f32⟩
  | 63 => ⟨S3312x128, .f32⟩
  | 64 => ⟨S16x207x128, .f32⟩
  | 65 => ⟨S16x207x128, .f32⟩
  | 66 => ⟨S16x207x128, .f32⟩
  | 67 => ⟨S_, .f32⟩
  | 68 => ⟨S16x207x128, .f32⟩
  | 69 => ⟨S16x207x128, .f32⟩
  | 70 => ⟨S_, .f32⟩
  | 71 => ⟨S16x207x128, .f32⟩
  | 72 => ⟨S16x207x128, .f32⟩
  | 73 => ⟨S16x207x64, .f32⟩
  | 74 => ⟨S16x207x64, .f32⟩
  | 75 => ⟨S16x207x64, .f32⟩
  | 76 => ⟨S16x207x128, .f32⟩
  | 77 => ⟨S207x128x16, .f32⟩
  | 78 => ⟨S207x2048, .f32⟩
  | 79 => ⟨S207x2048, .f32⟩
  | 80 => ⟨S207x2048, .f32⟩
  | 81 => ⟨S_, .f32⟩
  | 82 => ⟨S207x2048, .f32⟩
  | 83 => ⟨S207x2048, .f32⟩
  | 84 => ⟨S207x2048, .f32⟩
  | 85 => ⟨S1x207x2048, .f32⟩
  | 86 => ⟨S1x207x2048, .f32⟩
  | 87 => ⟨S1x207x2048, .f32⟩
  | 88 => ⟨S3x207x2048, .f32⟩
  | 89 => ⟨S3x207x128x16, .f32⟩
  | 90 => ⟨S16x207x128x3, .f32⟩
  | 91 => ⟨S3312x384, .f32⟩
  | 92 => ⟨S3312x64, .f32⟩
  | 93 => ⟨S1x64, .f32⟩
  | 94 => ⟨S3312x64, .f32⟩
  | 95 => ⟨S3312x64, .f32⟩
  | 96 => ⟨S16x207x64, .f32⟩
  | 97 => ⟨S16x207x64, .f32⟩
  | 98 => ⟨S16x207x64, .f32⟩
  | 99 => ⟨S_, .f32⟩
  | 100 => ⟨S16x207x64, .f32⟩
  | 101 => ⟨S16x207x64, .f32⟩
  | 102 => ⟨S16x207x64, .f32⟩
  | 103 => ⟨S16x207x64, .f32⟩
  | 104 => ⟨S16x207x1, .f32⟩
  | 105 => ⟨S1x1x1, .f32⟩
  | 106 => ⟨S16x207x1, .f32⟩
  | 107 => ⟨S16x207x1, .f32⟩
  | 108 => ⟨S16x1x207x1, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S16x12x207x1, .f32⟩
  | 119 => ⟨S_, .i32⟩
  | 120 => ⟨S_, .i32⟩
  | _ => ⟨S16x12x207x2, .f32⟩

abbrev hbmTy (i : Nat) : BufTy := match i / 128 with
  | 0 => hbmTy0_0 i
  | 1 => hbmTy0_1 i
  | 2 => hbmTy0_2 i
  | 3 => hbmTy0_3 i
  | _ => ⟨S16x12x207x2, .f32⟩

abbrev bufTy : (tb : Table) → Fin (tcTables nBuf tb) → BufTy
  | .hbm, ⟨i, _⟩ => hbmTy i
  | _, _ => ⟨S16x12x207x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_c : Ref sig .tc := ⟨.hbm, 29, rfl⟩
abbrev main_c_0 : Ref sig .tc := ⟨.hbm, 30, rfl⟩
abbrev main_v3_0 : Ref sig .tc := ⟨.hbm, 31, rfl⟩
abbrev main_v3_1 : Ref sig .tc := ⟨.hbm, 32, rfl⟩
abbrev main_v3_2 : Ref sig .tc := ⟨.hbm, 33, rfl⟩
abbrev main_v3_3 : Ref sig .tc := ⟨.hbm, 34, rfl⟩
abbrev main_v3_4 : Ref sig .tc := ⟨.hbm, 35, rfl⟩
abbrev main_v3_5 : Ref sig .tc := ⟨.hbm, 36, rfl⟩
abbrev main_v3_6 : Ref sig .tc := ⟨.hbm, 37, rfl⟩
abbrev main_v3_7 : Ref sig .tc := ⟨.hbm, 38, rfl⟩
abbrev main_while0c_c_28 : Ref sig .tc := ⟨.hbm, 39, rfl⟩
abbrev main_while0c_v44 : Ref sig .tc := ⟨.hbm, 40, rfl⟩
abbrev main_while0b_c_28 : Ref sig .tc := ⟨.hbm, 41, rfl⟩
abbrev main_while0b_v44 : Ref sig .tc := ⟨.hbm, 42, rfl⟩
abbrev main_while0b_call0_c : Ref sig .tc := ⟨.hbm, 43, rfl⟩
abbrev main_while0b_call0_v0 : Ref sig .tc := ⟨.hbm, 44, rfl⟩
abbrev main_while0b_call0_v1 : Ref sig .tc := ⟨.hbm, 45, rfl⟩
abbrev main_while0b_call0_c_0 : Ref sig .tc := ⟨.hbm, 46, rfl⟩
abbrev main_while0b_call0_v2 : Ref sig .tc := ⟨.hbm, 47, rfl⟩
abbrev main_while0b_call0_v3 : Ref sig .tc := ⟨.hbm, 48, rfl⟩
abbrev main_while0b_call0_c_1 : Ref sig .tc := ⟨.hbm, 49, rfl⟩
abbrev main_while0b_call0_c_2 : Ref sig .tc := ⟨.hbm, 50, rfl⟩
abbrev main_while0b_call0_v4 : Ref sig .tc := ⟨.hbm, 51, rfl⟩
abbrev main_while0b_v45 : Ref sig .tc := ⟨.hbm, 52, rfl⟩
abbrev main_while0b_v46 : Ref sig .tc := ⟨.hbm, 53, rfl⟩
abbrev main_while0b_v47 : Ref sig .tc := ⟨.hbm, 54, rfl⟩
abbrev main_while0b_v48 : Ref sig .tc := ⟨.hbm, 55, rfl⟩
abbrev main_while0b_v49 : Ref sig .tc := ⟨.hbm, 56, rfl⟩
abbrev main_while0b_v50 : Ref sig .tc := ⟨.hbm, 57, rfl⟩
abbrev main_while0b_v51 : Ref sig .tc := ⟨.hbm, 58, rfl⟩
abbrev main_while0b_v52 : Ref sig .tc := ⟨.hbm, 59, rfl⟩
abbrev main_while0b_v53 : Ref sig .tc := ⟨.hbm, 60, rfl⟩
abbrev main_while0b_v54 : Ref sig .tc := ⟨.hbm, 61, rfl⟩
abbrev main_while0b_v55 : Ref sig .tc := ⟨.hbm, 62, rfl⟩
abbrev main_while0b_v56 : Ref sig .tc := ⟨.hbm, 63, rfl⟩
abbrev main_while0b_v57 : Ref sig .tc := ⟨.hbm, 64, rfl⟩
abbrev main_while0b_v58 : Ref sig .tc := ⟨.hbm, 65, rfl⟩
abbrev main_while0b_v59 : Ref sig .tc := ⟨.hbm, 66, rfl⟩
abbrev main_while0b_v60 : Ref sig .tc := ⟨.hbm, 67, rfl⟩
abbrev main_while0b_v61 : Ref sig .tc := ⟨.hbm, 68, rfl⟩
abbrev main_while0b_v62 : Ref sig .tc := ⟨.hbm, 69, rfl⟩
abbrev main_while0b_v63 : Ref sig .tc := ⟨.hbm, 70, rfl⟩
abbrev main_while0b_v64 : Ref sig .tc := ⟨.hbm, 71, rfl⟩
abbrev main_while0b_cst_29 : Ref sig .tc := ⟨.hbm, 72, rfl⟩
abbrev main_while0b_v65 : Ref sig .tc := ⟨.hbm, 73, rfl⟩
abbrev main_while0b_v66 : Ref sig .tc := ⟨.hbm, 74, rfl⟩
abbrev main_while0b_cst_30 : Ref sig .tc := ⟨.hbm, 75, rfl⟩
abbrev main_while0b_v67 : Ref sig .tc := ⟨.hbm, 76, rfl⟩
abbrev main_while0b_v68 : Ref sig .tc := ⟨.hbm, 77, rfl⟩
abbrev main_while0b_v69 : Ref sig .tc := ⟨.hbm, 78, rfl⟩
abbrev main_while0b_v70 : Ref sig .tc := ⟨.hbm, 79, rfl⟩
abbrev main_while0b_v71 : Ref sig .tc := ⟨.hbm, 80, rfl⟩
abbrev main_while0b_cst_31 : Ref sig .tc := ⟨.hbm, 81, rfl⟩
abbrev main_while0b_v72 : Ref sig .tc := ⟨.hbm, 82, rfl⟩
abbrev main_while0b_v73 : Ref sig .tc := ⟨.hbm, 83, rfl⟩
abbrev main_while0b_cst_32 : Ref sig .tc := ⟨.hbm, 84, rfl⟩
abbrev main_while0b_v74 : Ref sig .tc := ⟨.hbm, 85, rfl⟩
abbrev main_while0b_v75 : Ref sig .tc := ⟨.hbm, 86, rfl⟩
abbrev main_while0b_v76 : Ref sig .tc := ⟨.hbm, 87, rfl⟩
abbrev main_while0b_v77 : Ref sig .tc := ⟨.hbm, 88, rfl⟩
abbrev main_while0b_v78 : Ref sig .tc := ⟨.hbm, 89, rfl⟩
abbrev main_while0b_cst_33 : Ref sig .tc := ⟨.hbm, 90, rfl⟩
abbrev main_while0b_v79 : Ref sig .tc := ⟨.hbm, 91, rfl⟩
abbrev main_while0b_v80 : Ref sig .tc := ⟨.hbm, 92, rfl⟩
abbrev main_while0b_v81 : Ref sig .tc := ⟨.hbm, 93, rfl⟩
abbrev main_while0b_v82 : Ref sig .tc := ⟨.hbm, 94, rfl⟩
abbrev main_while0b_v83 : Ref sig .tc := ⟨.hbm, 95, rfl⟩
abbrev main_while0b_c_34 : Ref sig .tc := ⟨.hbm, 96, rfl⟩
abbrev main_while0b_v84 : Ref sig .tc := ⟨.hbm, 97, rfl⟩
abbrev main_v4 : Ref sig .tc := ⟨.hbm, 98, rfl⟩
abbrev main_v5 : Ref sig .tc := ⟨.hbm, 99, rfl⟩
abbrev main_v6 : Ref sig .tc := ⟨.hbm, 100, rfl⟩
abbrev main_v7 : Ref sig .tc := ⟨.hbm, 101, rfl⟩
abbrev main_call1_cst : Ref sig .tc := ⟨.hbm, 102, rfl⟩
abbrev main_call1_v0 : Ref sig .tc := ⟨.hbm, 103, rfl⟩
abbrev main_v8 : Ref sig .tc := ⟨.hbm, 104, rfl⟩
abbrev main_cst_1 : Ref sig .tc := ⟨.hbm, 105, rfl⟩
abbrev main_v9 : Ref sig .tc := ⟨.hbm, 106, rfl⟩
abbrev main_cst_2 : Ref sig .tc := ⟨.hbm, 107, rfl⟩
abbrev main_v10 : Ref sig .tc := ⟨.hbm, 108, rfl⟩
abbrev main_v11 : Ref sig .tc := ⟨.hbm, 109, rfl⟩
abbrev main_v12 : Ref sig .tc := ⟨.hbm, 110, rfl⟩
abbrev main_v13 : Ref sig .tc := ⟨.hbm, 111, rfl⟩
abbrev main_v14 : Ref sig .tc := ⟨.hbm, 112, rfl⟩
abbrev main_v15 : Ref sig .tc := ⟨.hbm, 113, rfl⟩
abbrev main_cst_3 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_cst_4 : Ref sig .tc := ⟨.hbm, 119, rfl⟩
abbrev main_v20 : Ref sig .tc := ⟨.hbm, 120, rfl⟩
abbrev main_cst_5 : Ref sig .tc := ⟨.hbm, 121, rfl⟩
abbrev main_v21 : Ref sig .tc := ⟨.hbm, 122, rfl⟩
abbrev main_v22 : Ref sig .tc := ⟨.hbm, 123, rfl⟩
abbrev main_values : Ref sig .tc := ⟨.hbm, 124, rfl⟩
abbrev main_indices : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_cst_6 : Ref sig .tc := ⟨.hbm, 129, rfl⟩
abbrev main_call2_v0 : Ref sig .tc := ⟨.hbm, 130, rfl⟩
abbrev main_call2_v1 : Ref sig .tc := ⟨.hbm, 131, rfl⟩
abbrev main_v26 : Ref sig .tc := ⟨.hbm, 132, rfl⟩
abbrev main_cst_7 : Ref sig .tc := ⟨.hbm, 133, rfl⟩
abbrev main_v27 : Ref sig .tc := ⟨.hbm, 134, rfl⟩
abbrev main_cst_8 : Ref sig .tc := ⟨.hbm, 135, rfl⟩
abbrev main_v28 : Ref sig .tc := ⟨.hbm, 136, rfl⟩
abbrev main_v29 : Ref sig .tc := ⟨.hbm, 137, rfl⟩
abbrev main_cst_9 : Ref sig .tc := ⟨.hbm, 138, rfl⟩
abbrev main_v30 : Ref sig .tc := ⟨.hbm, 139, rfl⟩
abbrev main_v31 : Ref sig .tc := ⟨.hbm, 140, rfl⟩
abbrev main_cst_10 : Ref sig .tc := ⟨.hbm, 141, rfl⟩
abbrev main_call3_v0 : Ref sig .tc := ⟨.hbm, 142, rfl⟩
abbrev main_call3_v1 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_cst_11 : Ref sig .tc := ⟨.hbm, 149, rfl⟩
abbrev main_v37 : Ref sig .tc := ⟨.hbm, 150, rfl⟩
abbrev main_cst_12 : Ref sig .tc := ⟨.hbm, 151, rfl⟩
abbrev main_v38 : Ref sig .tc := ⟨.hbm, 152, rfl⟩
abbrev main_c_13 : Ref sig .tc := ⟨.hbm, 153, rfl⟩
abbrev main_c_14 : Ref sig .tc := ⟨.hbm, 154, rfl⟩
abbrev main_v39_0 : Ref sig .tc := ⟨.hbm, 155, rfl⟩
abbrev main_v39_1 : Ref sig .tc := ⟨.hbm, 156, rfl⟩
abbrev main_v39_2 : Ref sig .tc := ⟨.hbm, 157, rfl⟩
abbrev main_v39_3 : Ref sig .tc := ⟨.hbm, 158, rfl⟩
abbrev main_v39_4 : Ref sig .tc := ⟨.hbm, 159, rfl⟩
abbrev main_v39_5 : Ref sig .tc := ⟨.hbm, 160, rfl⟩
abbrev main_v39_6 : Ref sig .tc := ⟨.hbm, 161, rfl⟩
abbrev main_v39_7 : Ref sig .tc := ⟨.hbm, 162, rfl⟩
abbrev main_v39_8 : Ref sig .tc := ⟨.hbm, 163, rfl⟩
abbrev main_v39_9 : Ref sig .tc := ⟨.hbm, 164, rfl⟩
abbrev main_while1c_c_30 : Ref sig .tc := ⟨.hbm, 165, rfl⟩
abbrev main_while1c_v44 : Ref sig .tc := ⟨.hbm, 166, rfl⟩
abbrev main_while1b_c_30 : Ref sig .tc := ⟨.hbm, 167, rfl⟩
abbrev main_while1b_v44 : Ref sig .tc := ⟨.hbm, 168, rfl⟩
abbrev main_while1b_call4_c : Ref sig .tc := ⟨.hbm, 169, rfl⟩
abbrev main_while1b_call4_v0 : Ref sig .tc := ⟨.hbm, 170, rfl⟩
abbrev main_while1b_call4_v1 : Ref sig .tc := ⟨.hbm, 171, rfl⟩
abbrev main_while1b_call4_c_0 : Ref sig .tc := ⟨.hbm, 172, rfl⟩
abbrev main_while1b_call4_v2 : Ref sig .tc := ⟨.hbm, 173, rfl⟩
abbrev main_while1b_call4_v3 : Ref sig .tc := ⟨.hbm, 174, rfl⟩
abbrev main_while1b_call4_c_1 : Ref sig .tc := ⟨.hbm, 175, rfl⟩
abbrev main_while1b_call4_c_2 : Ref sig .tc := ⟨.hbm, 176, rfl⟩
abbrev main_while1b_call4_c_3 : Ref sig .tc := ⟨.hbm, 177, rfl⟩
abbrev main_while1b_call4_v4 : Ref sig .tc := ⟨.hbm, 178, rfl⟩
abbrev main_while1b_v45 : Ref sig .tc := ⟨.hbm, 179, rfl⟩
abbrev main_while1b_v46 : Ref sig .tc := ⟨.hbm, 180, rfl⟩
abbrev main_while1b_v47 : Ref sig .tc := ⟨.hbm, 181, rfl⟩
abbrev main_while1b_v48 : Ref sig .tc := ⟨.hbm, 182, rfl⟩
abbrev main_while1b_v49 : Ref sig .tc := ⟨.hbm, 183, rfl⟩
abbrev main_while1b_v50 : Ref sig .tc := ⟨.hbm, 184, rfl⟩
abbrev main_while1b_cst_31 : Ref sig .tc := ⟨.hbm, 185, rfl⟩
abbrev main_while1b_v51 : Ref sig .tc := ⟨.hbm, 186, rfl⟩
abbrev main_while1b_v52 : Ref sig .tc := ⟨.hbm, 187, rfl⟩
abbrev main_while1b_v53 : Ref sig .tc := ⟨.hbm, 188, rfl⟩
abbrev main_while1b_v54 : Ref sig .tc := ⟨.hbm, 189, rfl⟩
abbrev main_while1b_v55 : Ref sig .tc := ⟨.hbm, 190, rfl⟩
abbrev main_while1b_v56 : Ref sig .tc := ⟨.hbm, 191, rfl⟩
abbrev main_while1b_v57 : Ref sig .tc := ⟨.hbm, 192, rfl⟩
abbrev main_while1b_v58 : Ref sig .tc := ⟨.hbm, 193, rfl⟩
abbrev main_while1b_v59 : Ref sig .tc := ⟨.hbm, 194, rfl⟩
abbrev main_while1b_v60 : Ref sig .tc := ⟨.hbm, 195, rfl⟩
abbrev main_while1b_v61 : Ref sig .tc := ⟨.hbm, 196, rfl⟩
abbrev main_while1b_v62 : Ref sig .tc := ⟨.hbm, 197, rfl⟩
abbrev main_while1b_v63 : Ref sig .tc := ⟨.hbm, 198, rfl⟩
abbrev main_while1b_v64 : Ref sig .tc := ⟨.hbm, 199, rfl⟩
abbrev main_while1b_v65 : Ref sig .tc := ⟨.hbm, 200, rfl⟩
abbrev main_while1b_v66 : Ref sig .tc := ⟨.hbm, 201, rfl⟩
abbrev main_while1b_v67 : Ref sig .tc := ⟨.hbm, 202, rfl⟩
abbrev main_while1b_cst_32 : Ref sig .tc := ⟨.hbm, 203, rfl⟩
abbrev main_while1b_v68 : Ref sig .tc := ⟨.hbm, 204, rfl⟩
abbrev main_while1b_v69 : Ref sig .tc := ⟨.hbm, 205, rfl⟩
abbrev main_while1b_cst_33 : Ref sig .tc := ⟨.hbm, 206, rfl⟩
abbrev main_while1b_v70 : Ref sig .tc := ⟨.hbm, 207, rfl⟩
abbrev main_while1b_v71 : Ref sig .tc := ⟨.hbm, 208, rfl⟩
abbrev main_while1b_v72 : Ref sig .tc := ⟨.hbm, 209, rfl⟩
abbrev main_while1b_v73 : Ref sig .tc := ⟨.hbm, 210, rfl⟩
abbrev main_while1b_v74 : Ref sig .tc := ⟨.hbm, 211, rfl⟩
abbrev main_while1b_v75 : Ref sig .tc := ⟨.hbm, 212, rfl⟩
abbrev main_while1b_v76 : Ref sig .tc := ⟨.hbm, 213, rfl⟩
abbrev main_while1b_v77 : Ref sig .tc := ⟨.hbm, 214, rfl⟩
abbrev main_while1b_v78 : Ref sig .tc := ⟨.hbm, 215, rfl⟩
abbrev main_while1b_v79 : Ref sig .tc := ⟨.hbm, 216, rfl⟩
abbrev main_while1b_cst_34 : Ref sig .tc := ⟨.hbm, 217, rfl⟩
abbrev main_while1b_v80 : Ref sig .tc := ⟨.hbm, 218, rfl⟩
abbrev main_while1b_v81 : Ref sig .tc := ⟨.hbm, 219, rfl⟩
abbrev main_while1b_v82 : Ref sig .tc := ⟨.hbm, 220, rfl⟩
abbrev main_while1b_v83 : Ref sig .tc := ⟨.hbm, 221, rfl⟩
abbrev main_while1b_v84 : Ref sig .tc := ⟨.hbm, 222, rfl⟩
abbrev main_while1b_v85 : Ref sig .tc := ⟨.hbm, 223, rfl⟩
abbrev main_while1b_v86 : Ref sig .tc := ⟨.hbm, 224, rfl⟩
abbrev main_while1b_v87 : Ref sig .tc := ⟨.hbm, 225, rfl⟩
abbrev main_while1b_v88 : Ref sig .tc := ⟨.hbm, 226, rfl⟩
abbrev main_while1b_v89 : Ref sig .tc := ⟨.hbm, 227, rfl⟩
abbrev main_while1b_v90 : Ref sig .tc := ⟨.hbm, 228, rfl⟩
abbrev main_while1b_v91 : Ref sig .tc := ⟨.hbm, 229, rfl⟩
abbrev main_while1b_v92 : Ref sig .tc := ⟨.hbm, 230, rfl⟩
abbrev main_while1b_v93 : Ref sig .tc := ⟨.hbm, 231, rfl⟩
abbrev main_while1b_v94 : Ref sig .tc := ⟨.hbm, 232, rfl⟩
abbrev main_while1b_v95 : Ref sig .tc := ⟨.hbm, 233, rfl⟩
abbrev main_while1b_v96 : Ref sig .tc := ⟨.hbm, 234, rfl⟩
abbrev main_while1b_cst_35 : Ref sig .tc := ⟨.hbm, 235, rfl⟩
abbrev main_while1b_v97 : Ref sig .tc := ⟨.hbm, 236, rfl⟩
abbrev main_while1b_v98 : Ref sig .tc := ⟨.hbm, 237, rfl⟩
abbrev main_while1b_v99 : Ref sig .tc := ⟨.hbm, 238, rfl⟩
abbrev main_while1b_v100 : Ref sig .tc := ⟨.hbm, 239, rfl⟩
abbrev main_while1b_call5_v0 : Ref sig .tc := ⟨.hbm, 240, rfl⟩
abbrev main_while1b_call5_c : Ref sig .tc := ⟨.hbm, 241, rfl⟩
abbrev main_while1b_call5_v1 : Ref sig .tc := ⟨.hbm, 242, rfl⟩
abbrev main_while1b_call5_v2 : Ref sig .tc := ⟨.hbm, 243, rfl⟩
abbrev main_while1b_call5_c_0 : Ref sig .tc := ⟨.hbm, 244, rfl⟩
abbrev main_while1b_call5_v3 : Ref sig .tc := ⟨.hbm, 245, rfl⟩
abbrev main_while1b_call5_v4 : Ref sig .tc := ⟨.hbm, 246, rfl⟩
abbrev main_while1b_call5_c_1 : Ref sig .tc := ⟨.hbm, 247, rfl⟩
abbrev main_while1b_call5_c_2 : Ref sig .tc := ⟨.hbm, 248, rfl⟩
abbrev main_while1b_call5_c_3 : Ref sig .tc := ⟨.hbm, 249, rfl⟩
abbrev main_while1b_v101 : Ref sig .tc := ⟨.hbm, 250, rfl⟩
abbrev main_while1b_c_36 : Ref sig .tc := ⟨.hbm, 251, rfl⟩
abbrev main_while1b_v102 : Ref sig .tc := ⟨.hbm, 252, rfl⟩
abbrev main_c_15 : Ref sig .tc := ⟨.hbm, 253, rfl⟩
abbrev main_c_16 : Ref sig .tc := ⟨.hbm, 254, rfl⟩
abbrev main_v40_0 : Ref sig .tc := ⟨.hbm, 255, rfl⟩
abbrev main_v40_1 : Ref sig .tc := ⟨.hbm, 256, rfl⟩
abbrev main_v40_2 : Ref sig .tc := ⟨.hbm, 257, rfl⟩
abbrev main_v40_3 : Ref sig .tc := ⟨.hbm, 258, rfl⟩
abbrev main_v40_4 : Ref sig .tc := ⟨.hbm, 259, rfl⟩
abbrev main_v40_5 : Ref sig .tc := ⟨.hbm, 260, rfl⟩
abbrev main_v40_6 : Ref sig .tc := ⟨.hbm, 261, rfl⟩
abbrev main_v40_7 : Ref sig .tc := ⟨.hbm, 262, rfl⟩
abbrev main_v40_8 : Ref sig .tc := ⟨.hbm, 263, rfl⟩
abbrev main_while2c_c_29 : Ref sig .tc := ⟨.hbm, 264, rfl⟩
abbrev main_while2c_v44 : Ref sig .tc := ⟨.hbm, 265, rfl⟩
abbrev main_while2b_c_29 : Ref sig .tc := ⟨.hbm, 266, rfl⟩
abbrev main_while2b_v44 : Ref sig .tc := ⟨.hbm, 267, rfl⟩
abbrev main_while2b_call6_c : Ref sig .tc := ⟨.hbm, 268, rfl⟩
abbrev main_while2b_call6_v0 : Ref sig .tc := ⟨.hbm, 269, rfl⟩
abbrev main_while2b_call6_v1 : Ref sig .tc := ⟨.hbm, 270, rfl⟩
abbrev main_while2b_call6_c_0 : Ref sig .tc := ⟨.hbm, 271, rfl⟩
abbrev main_while2b_call6_v2 : Ref sig .tc := ⟨.hbm, 272, rfl⟩
abbrev main_while2b_call6_v3 : Ref sig .tc := ⟨.hbm, 273, rfl⟩
abbrev main_while2b_call6_c_1 : Ref sig .tc := ⟨.hbm, 274, rfl⟩
abbrev main_while2b_call6_c_2 : Ref sig .tc := ⟨.hbm, 275, rfl⟩
abbrev main_while2b_call6_c_3 : Ref sig .tc := ⟨.hbm, 276, rfl⟩
abbrev main_while2b_call6_v4 : Ref sig .tc := ⟨.hbm, 277, rfl⟩
abbrev main_while2b_v45 : Ref sig .tc := ⟨.hbm, 278, rfl⟩
abbrev main_while2b_v46 : Ref sig .tc := ⟨.hbm, 279, rfl⟩
abbrev main_while2b_v47 : Ref sig .tc := ⟨.hbm, 280, rfl⟩
abbrev main_while2b_v48 : Ref sig .tc := ⟨.hbm, 281, rfl⟩
abbrev main_while2b_v49 : Ref sig .tc := ⟨.hbm, 282, rfl⟩
abbrev main_while2b_v50 : Ref sig .tc := ⟨.hbm, 283, rfl⟩
abbrev main_while2b_cst_30 : Ref sig .tc := ⟨.hbm, 284, rfl⟩
abbrev main_while2b_v51 : Ref sig .tc := ⟨.hbm, 285, rfl⟩
abbrev main_while2b_v52 : Ref sig .tc := ⟨.hbm, 286, rfl⟩
abbrev main_while2b_v53 : Ref sig .tc := ⟨.hbm, 287, rfl⟩
abbrev main_while2b_v54 : Ref sig .tc := ⟨.hbm, 288, rfl⟩
abbrev main_while2b_v55 : Ref sig .tc := ⟨.hbm, 289, rfl⟩
abbrev main_while2b_v56 : Ref sig .tc := ⟨.hbm, 290, rfl⟩
abbrev main_while2b_v57 : Ref sig .tc := ⟨.hbm, 291, rfl⟩
abbrev main_while2b_v58 : Ref sig .tc := ⟨.hbm, 292, rfl⟩
abbrev main_while2b_v59 : Ref sig .tc := ⟨.hbm, 293, rfl⟩
abbrev main_while2b_v60 : Ref sig .tc := ⟨.hbm, 294, rfl⟩
abbrev main_while2b_v61 : Ref sig .tc := ⟨.hbm, 295, rfl⟩
abbrev main_while2b_v62 : Ref sig .tc := ⟨.hbm, 296, rfl⟩
abbrev main_while2b_v63 : Ref sig .tc := ⟨.hbm, 297, rfl⟩
abbrev main_while2b_v64 : Ref sig .tc := ⟨.hbm, 298, rfl⟩
abbrev main_while2b_v65 : Ref sig .tc := ⟨.hbm, 299, rfl⟩
abbrev main_while2b_v66 : Ref sig .tc := ⟨.hbm, 300, rfl⟩
abbrev main_while2b_v67 : Ref sig .tc := ⟨.hbm, 301, rfl⟩
abbrev main_while2b_cst_31 : Ref sig .tc := ⟨.hbm, 302, rfl⟩
abbrev main_while2b_v68 : Ref sig .tc := ⟨.hbm, 303, rfl⟩
abbrev main_while2b_v69 : Ref sig .tc := ⟨.hbm, 304, rfl⟩
abbrev main_while2b_cst_32 : Ref sig .tc := ⟨.hbm, 305, rfl⟩
abbrev main_while2b_v70 : Ref sig .tc := ⟨.hbm, 306, rfl⟩
abbrev main_while2b_v71 : Ref sig .tc := ⟨.hbm, 307, rfl⟩
abbrev main_while2b_v72 : Ref sig .tc := ⟨.hbm, 308, rfl⟩
abbrev main_while2b_v73 : Ref sig .tc := ⟨.hbm, 309, rfl⟩
abbrev main_while2b_v74 : Ref sig .tc := ⟨.hbm, 310, rfl⟩
abbrev main_while2b_v75 : Ref sig .tc := ⟨.hbm, 311, rfl⟩
abbrev main_while2b_v76 : Ref sig .tc := ⟨.hbm, 312, rfl⟩
abbrev main_while2b_v77 : Ref sig .tc := ⟨.hbm, 313, rfl⟩
abbrev main_while2b_v78 : Ref sig .tc := ⟨.hbm, 314, rfl⟩
abbrev main_while2b_v79 : Ref sig .tc := ⟨.hbm, 315, rfl⟩
abbrev main_while2b_cst_33 : Ref sig .tc := ⟨.hbm, 316, rfl⟩
abbrev main_while2b_v80 : Ref sig .tc := ⟨.hbm, 317, rfl⟩
abbrev main_while2b_v81 : Ref sig .tc := ⟨.hbm, 318, rfl⟩
abbrev main_while2b_v82 : Ref sig .tc := ⟨.hbm, 319, rfl⟩
abbrev main_while2b_v83 : Ref sig .tc := ⟨.hbm, 320, rfl⟩
abbrev main_while2b_v84 : Ref sig .tc := ⟨.hbm, 321, rfl⟩
abbrev main_while2b_v85 : Ref sig .tc := ⟨.hbm, 322, rfl⟩
abbrev main_while2b_v86 : Ref sig .tc := ⟨.hbm, 323, rfl⟩
abbrev main_while2b_v87 : Ref sig .tc := ⟨.hbm, 324, rfl⟩
abbrev main_while2b_v88 : Ref sig .tc := ⟨.hbm, 325, rfl⟩
abbrev main_while2b_v89 : Ref sig .tc := ⟨.hbm, 326, rfl⟩
abbrev main_while2b_v90 : Ref sig .tc := ⟨.hbm, 327, rfl⟩
abbrev main_while2b_v91 : Ref sig .tc := ⟨.hbm, 328, rfl⟩
abbrev main_while2b_v92 : Ref sig .tc := ⟨.hbm, 329, rfl⟩
abbrev main_while2b_v93 : Ref sig .tc := ⟨.hbm, 330, rfl⟩
abbrev main_while2b_v94 : Ref sig .tc := ⟨.hbm, 331, rfl⟩
abbrev main_while2b_v95 : Ref sig .tc := ⟨.hbm, 332, rfl⟩
abbrev main_while2b_v96 : Ref sig .tc := ⟨.hbm, 333, rfl⟩
abbrev main_while2b_cst_34 : Ref sig .tc := ⟨.hbm, 334, rfl⟩
abbrev main_while2b_v97 : Ref sig .tc := ⟨.hbm, 335, rfl⟩
abbrev main_while2b_v98 : Ref sig .tc := ⟨.hbm, 336, rfl⟩
abbrev main_while2b_v99 : Ref sig .tc := ⟨.hbm, 337, rfl⟩
abbrev main_while2b_v100 : Ref sig .tc := ⟨.hbm, 338, rfl⟩
abbrev main_while2b_c_35 : Ref sig .tc := ⟨.hbm, 339, rfl⟩
abbrev main_while2b_v101 : Ref sig .tc := ⟨.hbm, 340, rfl⟩
abbrev main_cst_17 : Ref sig .tc := ⟨.hbm, 341, rfl⟩
abbrev main_v41 : Ref sig .tc := ⟨.hbm, 342, rfl⟩
abbrev main_cst_18 : Ref sig .tc := ⟨.hbm, 343, rfl⟩
abbrev main_v42 : Ref sig .tc := ⟨.hbm, 344, rfl⟩
abbrev main_c_19 : Ref sig .tc := ⟨.hbm, 345, rfl⟩
abbrev main_c_20 : Ref sig .tc := ⟨.hbm, 346, rfl⟩
abbrev main_v43_0 : Ref sig .tc := ⟨.hbm, 347, rfl⟩
abbrev main_v43_1 : Ref sig .tc := ⟨.hbm, 348, rfl⟩
abbrev main_v43_2 : Ref sig .tc := ⟨.hbm, 349, rfl⟩
abbrev main_v43_3 : Ref sig .tc := ⟨.hbm, 350, rfl⟩
abbrev main_v43_4 : Ref sig .tc := ⟨.hbm, 351, rfl⟩
abbrev main_v43_5 : Ref sig .tc := ⟨.hbm, 352, rfl⟩
abbrev main_v43_6 : Ref sig .tc := ⟨.hbm, 353, rfl⟩
abbrev main_v43_7 : Ref sig .tc := ⟨.hbm, 354, rfl⟩
abbrev main_v43_8 : Ref sig .tc := ⟨.hbm, 355, rfl⟩
abbrev main_v43_9 : Ref sig .tc := ⟨.hbm, 356, rfl⟩
abbrev main_v43_10 : Ref sig .tc := ⟨.hbm, 357, rfl⟩
abbrev main_v43_11 : Ref sig .tc := ⟨.hbm, 358, rfl⟩
abbrev main_v43_12 : Ref sig .tc := ⟨.hbm, 359, rfl⟩
abbrev main_v43_13 : Ref sig .tc := ⟨.hbm, 360, rfl⟩
abbrev main_v43_14 : Ref sig .tc := ⟨.hbm, 361, rfl⟩
abbrev main_v43_15 : Ref sig .tc := ⟨.hbm, 362, rfl⟩
abbrev main_v43_16 : Ref sig .tc := ⟨.hbm, 363, rfl⟩
abbrev main_while3c_c_37 : Ref sig .tc := ⟨.hbm, 364, rfl⟩
abbrev main_while3c_v44 : Ref sig .tc := ⟨.hbm, 365, rfl⟩
abbrev main_while3b_c_37 : Ref sig .tc := ⟨.hbm, 366, rfl⟩
abbrev main_while3b_v44 : Ref sig .tc := ⟨.hbm, 367, rfl⟩
abbrev main_while3b_v45 : Ref sig .tc := ⟨.hbm, 368, rfl⟩
abbrev main_while3b_v46 : Ref sig .tc := ⟨.hbm, 369, rfl⟩
abbrev main_while3b_v47 : Ref sig .tc := ⟨.hbm, 370, rfl⟩
abbrev main_while3b_v48 : Ref sig .tc := ⟨.hbm, 371, rfl⟩
abbrev main_while3b_v49 : Ref sig .tc := ⟨.hbm, 372, rfl⟩
abbrev main_while3b_cst_38 : Ref sig .tc := ⟨.hbm, 373, rfl⟩
abbrev main_while3b_v50 : Ref sig .tc := ⟨.hbm, 374, rfl⟩
abbrev main_while3b_v51 : Ref sig .tc := ⟨.hbm, 375, rfl⟩
abbrev main_while3b_v52 : Ref sig .tc := ⟨.hbm, 376, rfl⟩
abbrev main_while3b_v53 : Ref sig .tc := ⟨.hbm, 377, rfl⟩
abbrev main_while3b_v54 : Ref sig .tc := ⟨.hbm, 378, rfl⟩
abbrev main_while3b_v55 : Ref sig .tc := ⟨.hbm, 379, rfl⟩
abbrev main_while3b_v56 : Ref sig .tc := ⟨.hbm, 380, rfl⟩
abbrev main_while3b_v57 : Ref sig .tc := ⟨.hbm, 381, rfl⟩
abbrev main_while3b_v58 : Ref sig .tc := ⟨.hbm, 382, rfl⟩
abbrev main_while3b_v59 : Ref sig .tc := ⟨.hbm, 383, rfl⟩
abbrev main_while3b_v60 : Ref sig .tc := ⟨.hbm, 384, rfl⟩
abbrev main_while3b_v61 : Ref sig .tc := ⟨.hbm, 385, rfl⟩
abbrev main_while3b_v62 : Ref sig .tc := ⟨.hbm, 386, rfl⟩
abbrev main_while3b_v63 : Ref sig .tc := ⟨.hbm, 387, rfl⟩
abbrev main_while3b_v64 : Ref sig .tc := ⟨.hbm, 388, rfl⟩
abbrev main_while3b_v65 : Ref sig .tc := ⟨.hbm, 389, rfl⟩
abbrev main_while3b_v66 : Ref sig .tc := ⟨.hbm, 390, rfl⟩
abbrev main_while3b_cst_39 : Ref sig .tc := ⟨.hbm, 391, rfl⟩
abbrev main_while3b_v67 : Ref sig .tc := ⟨.hbm, 392, rfl⟩
abbrev main_while3b_v68 : Ref sig .tc := ⟨.hbm, 393, rfl⟩
abbrev main_while3b_cst_40 : Ref sig .tc := ⟨.hbm, 394, rfl⟩
abbrev main_while3b_v69 : Ref sig .tc := ⟨.hbm, 395, rfl⟩
abbrev main_while3b_v70 : Ref sig .tc := ⟨.hbm, 396, rfl⟩
abbrev main_while3b_v71 : Ref sig .tc := ⟨.hbm, 397, rfl⟩
abbrev main_while3b_v72 : Ref sig .tc := ⟨.hbm, 398, rfl⟩
abbrev main_while3b_v73 : Ref sig .tc := ⟨.hbm, 399, rfl⟩
abbrev main_while3b_v74 : Ref sig .tc := ⟨.hbm, 400, rfl⟩
abbrev main_while3b_v75 : Ref sig .tc := ⟨.hbm, 401, rfl⟩
abbrev main_while3b_v76 : Ref sig .tc := ⟨.hbm, 402, rfl⟩
abbrev main_while3b_v77 : Ref sig .tc := ⟨.hbm, 403, rfl⟩
abbrev main_while3b_v78 : Ref sig .tc := ⟨.hbm, 404, rfl⟩
abbrev main_while3b_cst_41 : Ref sig .tc := ⟨.hbm, 405, rfl⟩
abbrev main_while3b_v79 : Ref sig .tc := ⟨.hbm, 406, rfl⟩
abbrev main_while3b_v80 : Ref sig .tc := ⟨.hbm, 407, rfl⟩
abbrev main_while3b_v81 : Ref sig .tc := ⟨.hbm, 408, rfl⟩
abbrev main_while3b_v82 : Ref sig .tc := ⟨.hbm, 409, rfl⟩
abbrev main_while3b_v83 : Ref sig .tc := ⟨.hbm, 410, rfl⟩
abbrev main_while3b_v84 : Ref sig .tc := ⟨.hbm, 411, rfl⟩
abbrev main_while3b_v85 : Ref sig .tc := ⟨.hbm, 412, rfl⟩
abbrev main_while3b_v86 : Ref sig .tc := ⟨.hbm, 413, rfl⟩
abbrev main_while3b_v87 : Ref sig .tc := ⟨.hbm, 414, rfl⟩
abbrev main_while3b_v88 : Ref sig .tc := ⟨.hbm, 415, rfl⟩
abbrev main_while3b_v89 : Ref sig .tc := ⟨.hbm, 416, rfl⟩
abbrev main_while3b_v90 : Ref sig .tc := ⟨.hbm, 417, rfl⟩
abbrev main_while3b_v91 : Ref sig .tc := ⟨.hbm, 418, rfl⟩
abbrev main_while3b_v92 : Ref sig .tc := ⟨.hbm, 419, rfl⟩
abbrev main_while3b_v93 : Ref sig .tc := ⟨.hbm, 420, rfl⟩
abbrev main_while3b_v94 : Ref sig .tc := ⟨.hbm, 421, rfl⟩
abbrev main_while3b_v95 : Ref sig .tc := ⟨.hbm, 422, rfl⟩
abbrev main_while3b_cst_42 : Ref sig .tc := ⟨.hbm, 423, rfl⟩
abbrev main_while3b_v96 : Ref sig .tc := ⟨.hbm, 424, rfl⟩
abbrev main_while3b_v97 : Ref sig .tc := ⟨.hbm, 425, rfl⟩
abbrev main_while3b_v98 : Ref sig .tc := ⟨.hbm, 426, rfl⟩
abbrev main_while3b_v99 : Ref sig .tc := ⟨.hbm, 427, rfl⟩
abbrev main_while3b_v100 : Ref sig .tc := ⟨.hbm, 428, rfl⟩
abbrev main_while3b_v101 : Ref sig .tc := ⟨.hbm, 429, rfl⟩
abbrev main_while3b_v102 : Ref sig .tc := ⟨.hbm, 430, rfl⟩
abbrev main_while3b_v103 : Ref sig .tc := ⟨.hbm, 431, rfl⟩
abbrev main_while3b_v104 : Ref sig .tc := ⟨.hbm, 432, rfl⟩
abbrev main_while3b_cst_43 : Ref sig .tc := ⟨.hbm, 433, rfl⟩
abbrev main_while3b_v105 : Ref sig .tc := ⟨.hbm, 434, rfl⟩
abbrev main_while3b_v106 : Ref sig .tc := ⟨.hbm, 435, rfl⟩
abbrev main_while3b_v107 : Ref sig .tc := ⟨.hbm, 436, rfl⟩
abbrev main_while3b_v108 : Ref sig .tc := ⟨.hbm, 437, rfl⟩
abbrev main_while3b_v109 : Ref sig .tc := ⟨.hbm, 438, rfl⟩
abbrev main_while3b_v110 : Ref sig .tc := ⟨.hbm, 439, rfl⟩
abbrev main_while3b_v111 : Ref sig .tc := ⟨.hbm, 440, rfl⟩
abbrev main_while3b_v112 : Ref sig .tc := ⟨.hbm, 441, rfl⟩
abbrev main_while3b_v113 : Ref sig .tc := ⟨.hbm, 442, rfl⟩
abbrev main_while3b_v114 : Ref sig .tc := ⟨.hbm, 443, rfl⟩
abbrev main_while3b_v115 : Ref sig .tc := ⟨.hbm, 444, rfl⟩
abbrev main_while3b_v116 : Ref sig .tc := ⟨.hbm, 445, rfl⟩
abbrev main_while3b_v117 : Ref sig .tc := ⟨.hbm, 446, rfl⟩
abbrev main_while3b_v118 : Ref sig .tc := ⟨.hbm, 447, rfl⟩
abbrev main_while3b_v119 : Ref sig .tc := ⟨.hbm, 448, rfl⟩
abbrev main_while3b_v120 : Ref sig .tc := ⟨.hbm, 449, rfl⟩
abbrev main_while3b_v121 : Ref sig .tc := ⟨.hbm, 450, rfl⟩
abbrev main_while3b_cst_44 : Ref sig .tc := ⟨.hbm, 451, rfl⟩
abbrev main_while3b_v122 : Ref sig .tc := ⟨.hbm, 452, rfl⟩
abbrev main_while3b_v123 : Ref sig .tc := ⟨.hbm, 453, rfl⟩
abbrev main_while3b_cst_45 : Ref sig .tc := ⟨.hbm, 454, rfl⟩
abbrev main_while3b_v124 : Ref sig .tc := ⟨.hbm, 455, rfl⟩
abbrev main_while3b_v125 : Ref sig .tc := ⟨.hbm, 456, rfl⟩
abbrev main_while3b_v126 : Ref sig .tc := ⟨.hbm, 457, rfl⟩
abbrev main_while3b_v127 : Ref sig .tc := ⟨.hbm, 458, rfl⟩
abbrev main_while3b_v128 : Ref sig .tc := ⟨.hbm, 459, rfl⟩
abbrev main_while3b_v129 : Ref sig .tc := ⟨.hbm, 460, rfl⟩
abbrev main_while3b_v130 : Ref sig .tc := ⟨.hbm, 461, rfl⟩
abbrev main_while3b_v131 : Ref sig .tc := ⟨.hbm, 462, rfl⟩
abbrev main_while3b_v132 : Ref sig .tc := ⟨.hbm, 463, rfl⟩
abbrev main_while3b_v133 : Ref sig .tc := ⟨.hbm, 464, rfl⟩
abbrev main_while3b_cst_46 : Ref sig .tc := ⟨.hbm, 465, rfl⟩
abbrev main_while3b_v134 : Ref sig .tc := ⟨.hbm, 466, rfl⟩
abbrev main_while3b_v135 : Ref sig .tc := ⟨.hbm, 467, rfl⟩
abbrev main_while3b_v136 : Ref sig .tc := ⟨.hbm, 468, rfl⟩
abbrev main_while3b_v137 : Ref sig .tc := ⟨.hbm, 469, rfl⟩
abbrev main_while3b_v138 : Ref sig .tc := ⟨.hbm, 470, rfl⟩
abbrev main_while3b_v139 : Ref sig .tc := ⟨.hbm, 471, rfl⟩
abbrev main_while3b_v140 : Ref sig .tc := ⟨.hbm, 472, rfl⟩
abbrev main_while3b_v141 : Ref sig .tc := ⟨.hbm, 473, rfl⟩
abbrev main_while3b_v142 : Ref sig .tc := ⟨.hbm, 474, rfl⟩
abbrev main_while3b_v143 : Ref sig .tc := ⟨.hbm, 475, rfl⟩
abbrev main_while3b_v144 : Ref sig .tc := ⟨.hbm, 476, rfl⟩
abbrev main_while3b_v145 : Ref sig .tc := ⟨.hbm, 477, rfl⟩
abbrev main_while3b_v146 : Ref sig .tc := ⟨.hbm, 478, rfl⟩
abbrev main_while3b_v147 : Ref sig .tc := ⟨.hbm, 479, rfl⟩
abbrev main_while3b_v148 : Ref sig .tc := ⟨.hbm, 480, rfl⟩
abbrev main_while3b_v149 : Ref sig .tc := ⟨.hbm, 481, rfl⟩
abbrev main_while3b_v150 : Ref sig .tc := ⟨.hbm, 482, rfl⟩
abbrev main_while3b_cst_47 : Ref sig .tc := ⟨.hbm, 483, rfl⟩
abbrev main_while3b_v151 : Ref sig .tc := ⟨.hbm, 484, rfl⟩
abbrev main_while3b_v152 : Ref sig .tc := ⟨.hbm, 485, rfl⟩
abbrev main_while3b_v153 : Ref sig .tc := ⟨.hbm, 486, rfl⟩
abbrev main_while3b_v154 : Ref sig .tc := ⟨.hbm, 487, rfl⟩
abbrev main_while3b_v155 : Ref sig .tc := ⟨.hbm, 488, rfl⟩
abbrev main_while3b_v156 : Ref sig .tc := ⟨.hbm, 489, rfl⟩
abbrev main_while3b_v157 : Ref sig .tc := ⟨.hbm, 490, rfl⟩
abbrev main_while3b_v158 : Ref sig .tc := ⟨.hbm, 491, rfl⟩
abbrev main_while3b_call7_v0 : Ref sig .tc := ⟨.hbm, 492, rfl⟩
abbrev main_while3b_call7_c : Ref sig .tc := ⟨.hbm, 493, rfl⟩
abbrev main_while3b_call7_v1 : Ref sig .tc := ⟨.hbm, 494, rfl⟩
abbrev main_while3b_call7_v2 : Ref sig .tc := ⟨.hbm, 495, rfl⟩
abbrev main_while3b_call7_c_0 : Ref sig .tc := ⟨.hbm, 496, rfl⟩
abbrev main_while3b_call7_v3 : Ref sig .tc := ⟨.hbm, 497, rfl⟩
abbrev main_while3b_call7_v4 : Ref sig .tc := ⟨.hbm, 498, rfl⟩
abbrev main_while3b_call7_c_1 : Ref sig .tc := ⟨.hbm, 499, rfl⟩
abbrev main_while3b_call7_c_2 : Ref sig .tc := ⟨.hbm, 500, rfl⟩
abbrev main_while3b_call7_c_3 : Ref sig .tc := ⟨.hbm, 501, rfl⟩
abbrev main_while3b_v159 : Ref sig .tc := ⟨.hbm, 502, rfl⟩
abbrev main_while3b_c_48 : Ref sig .tc := ⟨.hbm, 503, rfl⟩
abbrev main_while3b_v160 : Ref sig .tc := ⟨.hbm, 504, rfl⟩

abbrev nD : Nat := 1
abbrev τ : Topo := Topo.v7x

variable {F : FTy → Type} [FloatOps F]

abbrev main_while0_count : Scf.Loop 32 := ⟨0#32, 12#32, 1#32⟩

abbrev main_while1_count : Scf.Loop 32 := ⟨0#32, 12#32, 1#32⟩

abbrev main_while2_count : Scf.Loop 32 := ⟨0#32, 12#32, 1#32⟩

abbrev main_while3_count : Scf.Loop 32 := ⟨0#32, 12#32, 1#32⟩
-- ==== Proof.RefLists.lean ====
/-
  The reference as lists of operations: the stretches of its straight-line code between the time loops, the stretches of
  each time loop's body, the equations that say that the printed program runs exactly these lists in order, and each
  loop's exit test as a list of two operations.
-/
module

public import proofs.«01_k».proof.ReferenceIdeal
public import proofs.«01_k».proof.Proof.Gen.ReferenceIdeal
public import Idealize.ShloMosaic.Lib.Pipeline.Kit
public import Idealize.ShloMosaic.Lib.Pipeline.Regions
public import Idealize.ShloMosaic.Lib.StableHlo.RunLoop

@[expose] public section

set_option maxRecDepth 8000

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem
open StableHlo (binaryIndexed_bufs_sub binary_bufs_sub nary_bufs_sub nullary_bufs_sub reshape_bufs_sub ternary_bufs_sub unaryIndexed_bufs_sub unary_bufs_sub)

variable {F : FTy → Type} [FloatOps F]

/-- The arrays of a shape and an element type. -/
abbrev Arr (F : FTy → Type) (s : Shape) (e : EltTy) := (⟨s, e⟩ : BufTy).Contents (Elt F)

/-- 14 operations of the program, in order. -/
abbrev hostOps0 : List (HloOp τ sig (Elt F)) :=
  [ StableHlo.unary main_arg0 main_v0 ((transpose S12x16x207x2 [1, 0, 2, 3] · transposes_S16x12x207x2_S12x16x207x2_1_0_2_3) : Arr F S16x12x207x2 .f32 → Arr F S12x16x207x2 .f32),
    StableHlo.reshape main_v0 main_v1 rfl shapeCasts_S12x16x207x2_S12x3312x2,
    StableHlo.nullary main_cst (constant S_ .f32 0x00000000#32),
    StableHlo.unary main_cst main_v2 (broadcastInDim S3312x64 ![] bcast_S_S3312x64 : Arr F S_ .f32 → Arr F S3312x64 .f32),
    StableHlo.nullary main_c (constantI S_ 32 0#32),
    StableHlo.nullary main_c_0 (constantI S_ 32 0#32),
    StableHlo.unary main_v1 main_v3_0 id,
    StableHlo.unary main_arg19 main_v3_1 id,
    StableHlo.unary main_arg21 main_v3_2 id,
    StableHlo.unary main_arg20 main_v3_3 id,
    StableHlo.unary main_arg22 main_v3_4 id,
    StableHlo.unary main_c_0 main_v3_5 id,
    StableHlo.unary main_c main_v3_6 id,
    StableHlo.unary main_v2 main_v3_7 id ]
/-- Each of them touches the TensorCore's buffers only. -/
theorem hostOps0_sub : (hostOps0 : List (HloOp τ sig (Elt F))).Forall fun op => op.bufs ⊆ StableHlo.tcRefs τ sig :=
  ⟨unary_bufs_sub .., reshape_bufs_sub .., nullary_bufs_sub .., unary_bufs_sub .., nullary_bufs_sub .., nullary_bufs_sub .., unary_bufs_sub .., unary_bufs_sub .., unary_bufs_sub .., unary_bufs_sub .., unary_bufs_sub .., unary_bufs_sub .., unary_bufs_sub .., unary_bufs_sub ..⟩
/-- 4 operations of the program, in order. -/
abbrev hostOps0_1 : List (HloOp τ sig (Elt F)) :=
  [ StableHlo.reshape main_v3_7 main_v4 rfl shapeCasts_S3312x64_S16x207x64,
    StableHlo.binary main_v4 main_arg23 main_v5 ((fun l r => Host.dotGeneral dot_S16x207x64_S64x32_S16x207x32_2_0_01_1_n_n none l r) : Arr F S16x207x64 .f32 → Arr F S64x32 .f32 → Arr F S16x207x32 .f32),
    StableHlo.binary main_v4 main_arg24 main_v6 ((fun l r => Host.dotGeneral dot_S16x207x64_S64x32_S16x207x32_2_0_01_1_n_n none l r) : Arr F S16x207x64 .f32 → Arr F S64x32 .f32 → Arr F S16x207x32 .f32),
    StableHlo.binary main_v5 main_v6 main_v7 ((fun l r => Host.dotGeneral dot_S16x207x32_S16x207x32_S16x207x207_2_2_1_1_0_0 none l r) : Arr F S16x207x32 .f32 → Arr F S16x207x32 .f32 → Arr F S16x207x207 .f32) ]
/-- Each of them touches the TensorCore's buffers only. -/
theorem hostOps0_1_sub : (hostOps0_1 : List (HloOp τ sig (Elt F))).Forall fun op => op.bufs ⊆ StableHlo.tcRefs τ sig :=
  ⟨reshape_bufs_sub .., binary_bufs_sub .., binary_bufs_sub .., binary_bufs_sub ..⟩
/-- 3 operations of `relu`, in order. -/
abbrev hostOps0_2 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S16x207x207, .f32⟩) (broadcastInDim S16x207x207 ![] bcast_S_S16x207x207),
    StableHlo.TRef.binary (.of main_v7 : StableHlo.TRef sig ⟨S16x207x207, .f32⟩) (.of main_call1_v0 : StableHlo.TRef sig ⟨S16x207x207, .f32⟩) (.of main_v8 : StableHlo.TRef sig ⟨S16x207x207, .f32⟩) maximumf ]
/-- Each of them touches the TensorCore's buffers only. -/
theorem hostOps0_2_sub : (hostOps0_2 : List (HloOp τ sig (Elt F))).Forall fun op => op.bufs ⊆ StableHlo.tcRefs τ sig :=
  ⟨nullary_bufs_sub .., unary_bufs_sub .., binary_bufs_sub ..⟩
/-- 25 operations of the program, in order. -/
abbrev hostOps0_3 : List (HloOp τ sig (Elt F)) :=
  [ StableHlo.nullary main_cst_1 (constant S_ .f32 0xFF800000#32),
    StableHlo.binary main_v8 main_cst_1 main_v9 ((fun x v => Host.reduce FloatOps.maximumf x v reducesTo_S16x207x207_S16x207_d2 h_S_) : Arr F S16x207x207 .f32 → Arr F S_ .f32 → Arr F S16x207 .f32),
    StableHlo.nullary main_cst_2 (constant S_ .f32 0xFF800000#32),
    StableHlo.unary main_cst_2 main_v10 (broadcastInDim S16x207 ![] bcast_S_S16x207 : Arr F S_ .f32 → Arr F S16x207 .f32),
    StableHlo.binary main_v10 main_v9 main_v11 (maximumf : Arr F S16x207 .f32 → Arr F S16x207 .f32 → Arr F S16x207 .f32),
    StableHlo.unary main_v11 main_v12 (broadcastInDim S16x207x1 ![0, 1] bcast_S16x207_S16x207x1_0_1 : Arr F S16x207 .f32 → Arr F S16x207x1 .f32),
    StableHlo.unary main_v12 main_v13 (broadcastInDim S16x207x207 ![0, 1, 2] bcast_S16x207x1_S16x207x207_0_1_2 : Arr F S16x207x1 .f32 → Arr F S16x207x207 .f32),
    StableHlo.binary main_v8 main_v13 main_v14 (subf : Arr F S16x207x207 .f32 → Arr F S16x207x207 .f32 → Arr F S16x207x207 .f32),
    StableHlo.unary main_v14 main_v15 (Host.exp : Arr F S16x207x207 .f32 → Arr F S16x207x207 .f32),
    StableHlo.nullary main_cst_3 (constant S_ .f32 0x00000000#32),
    StableHlo.binary main_v15 main_cst_3 main_v16 ((fun x v => Host.reduceAdd x v reducesTo_S16x207x207_S16x207_d2 h_S_) : Arr F S16x207x207 .f32 → Arr F S_ .f32 → Arr F S16x207 .f32),
    StableHlo.unary main_v16 main_v17 (broadcastInDim S16x207x1 ![0, 1] bcast_S16x207_S16x207x1_0_1 : Arr F S16x207 .f32 → Arr F S16x207x1 .f32),
    StableHlo.unary main_v17 main_v18 (broadcastInDim S16x207x207 ![0, 1, 2] bcast_S16x207x1_S16x207x207_0_1_2 : Arr F S16x207x1 .f32 → Arr F S16x207x207 .f32),
    StableHlo.binary main_v15 main_v18 main_v19 (Host.divf : Arr F S16x207x207 .f32 → Arr F S16x207x207 .f32 → Arr F S16x207x207 .f32),
    StableHlo.nullary main_cst_4 (constant S_ .f32 0x00000000#32),
    StableHlo.binary main_v19 main_cst_4 main_v20 ((fun x v => Host.reduceAdd x v reducesTo_S16x207x207_S207x207_d0 h_S_) : Arr F S16x207x207 .f32 → Arr F S_ .f32 → Arr F S207x207 .f32),
    StableHlo.nullary main_cst_5 (constant S_ .f32 0x41800000#32),
    StableHlo.unary main_cst_5 main_v21 (broadcastInDim S207x207 ![] bcast_S_S207x207 : Arr F S_ .f32 → Arr F S207x207 .f32),
    StableHlo.binary main_v20 main_v21 main_v22 (Host.divf : Arr F S207x207 .f32 → Arr F S207x207 .f32 → Arr F S207x207 .f32),
    StableHlo.unary main_v22 main_values ((fun x => (Host.topK S207x30 1 (FloatOps.cmpfTotal .gt) x sliceFits_S207x207_S207x30).1) : Arr F S207x207 .f32 → Arr F S207x30 .f32),
    StableHlo.unary main_v22 main_indices ((fun x => (Host.topK S207x30 1 (FloatOps.cmpfTotal .gt) x sliceFits_S207x207_S207x30).2) : Arr F S207x207 .f32 → Arr F S207x30 .i32),
    StableHlo.unary main_values main_v23 ((extractStridedSlice S207x1 ![0, 29] · slices_S207x30_S207x1_0_29) : Arr F S207x30 .f32 → Arr F S207x1 .f32),
    StableHlo.unary main_v23 main_v24 (broadcastInDim S207x207 ![0, 1] bcast_S207x1_S207x207_0_1 : Arr F S207x1 .f32 → Arr F S207x207 .f32),
    StableHlo.binary main_v22 main_v24 main_v25 (cmpf .oge : Arr F S207x207 .f32 → Arr F S207x207 .f32 → Arr F S207x207 .i1),
    StableHlo.nullary main_cst_6 (constant S_ .f32 0x00000000#32) ]
/-- Each of them touches the TensorCore's buffers only. -/
theorem hostOps0_3_sub : (hostOps0_3 : List (HloOp τ sig (Elt F))).Forall fun op => op.bufs ⊆ StableHlo.tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., unary_bufs_sub .., unary_bufs_sub .., binary_bufs_sub .., nullary_bufs_sub ..⟩
/-- 3 operations of `_where`, in order. -/
abbrev hostOps0_4 : List (HloOp τ sig (Elt F)) :=
  [ StableHlo.TRef.unary (.of main_cst_6 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S207x207, .f32⟩) (broadcastInDim S207x207 ![] bcast_S_S207x207),
    StableHlo.TRef.ternary (.of main_v25 : StableHlo.TRef sig ⟨S207x207, .i1⟩) (.of main_v22 : StableHlo.TRef sig ⟨S207x207, .f32⟩) (.of main_call2_v1 : StableHlo.TRef sig ⟨S207x207, .f32⟩) (.of main_v26 : StableHlo.TRef sig ⟨S207x207, .f32⟩) select ]
/-- Each of them touches the TensorCore's buffers only. -/
theorem hostOps0_4_sub : (hostOps0_4 : List (HloOp τ sig (Elt F))).Forall fun op => op.bufs ⊆ StableHlo.tcRefs τ sig :=
  ⟨unary_bufs_sub .., unary_bufs_sub .., ternary_bufs_sub ..⟩
/-- 9 operations of the program, in order. -/
abbrev hostOps0_5 : List (HloOp τ sig (Elt F)) :=
  [ StableHlo.nullary main_cst_7 (constant S_ .f32 0x00000000#32),
    StableHlo.binary main_v26 main_cst_7 main_v27 ((fun x v => Host.reduceAdd x v reducesTo_S207x207_S207_d1 h_S_) : Arr F S207x207 .f32 → Arr F S_ .f32 → Arr F S207 .f32),
    StableHlo.nullary main_cst_8 (constant S_ .f32 0x00000000#32),
    StableHlo.unary main_cst_8 main_v28 (broadcastInDim S207 ![] bcast_S_S207 : Arr F S_ .f32 → Arr F S207 .f32),
    StableHlo.binary main_v27 main_v28 main_v29 (cmpf .ogt : Arr F S207 .f32 → Arr F S207 .f32 → Arr F S207 .i1),
    StableHlo.nullary main_cst_9 (constant S_ .f32 0x3F800000#32),
    StableHlo.unary main_cst_9 main_v30 (broadcastInDim S207 ![] bcast_S_S207 : Arr F S_ .f32 → Arr F S207 .f32),
    StableHlo.binary main_v30 main_v27 main_v31 (Host.divf : Arr F S207 .f32 → Arr F S207 .f32 → Arr F S207 .f32),
    StableHlo.nullary main_cst_10 (constant S_ .f32 0x00000000#32) ]
/-- Each of them touches the TensorCore's buffers only. -/
theorem hostOps0_5_sub : (hostOps0_5 : List (HloOp τ sig (Elt F))).Forall fun op => op.bufs ⊆ StableHlo.tcRefs τ sig :=
  ⟨nullary_bufs_sub .., binary_bufs_sub .., nullary_bufs_sub .., unary_bufs_sub .., binary_bufs_sub .., nullary_bufs_sub .., unary_bufs_sub .., binary_bufs_sub .., nullary_bufs_sub ..⟩
/-- 3 operations of `_where_0`, in order. -/
abbrev hostOps0_6 : List (HloOp τ sig (Elt F)) :=
  [ StableHlo.TRef.unary (.of main_cst_10 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S207, .f32⟩) (broadcastInDim S207 ![] bcast_S_S207),
    StableHlo.TRef.ternary (.of main_v29 : StableHlo.TRef sig ⟨S207, .i1⟩) (.of main_v31 : StableHlo.TRef sig ⟨S207, .f32⟩) (.of main_call3_v1 : StableHlo.TRef sig ⟨S207, .f32⟩) (.of main_v32 : StableHlo.TRef sig ⟨S207, .f32⟩) select ]
/-- Each of them touches the TensorCore's buffers only. -/
theorem hostOps0_6_sub : (hostOps0_6 : List (HloOp τ sig (Elt F))).Forall fun op => op.bufs ⊆ StableHlo.tcRefs τ sig :=
  ⟨unary_bufs_sub .., unary_bufs_sub .., ternary_bufs_sub ..⟩
/-- 20 operations of the program, in order. -/
abbrev hostOps0_7 : List (HloOp τ sig (Elt F)) :=
  [ StableHlo.unary main_v32 main_v33 (broadcastInDim S207x1 ![0] bcast_S207_S207x1_0 : Arr F S207 .f32 → Arr F S207x1 .f32),
    StableHlo.unary main_v33 main_v34 (broadcastInDim S207x207 ![0, 1] bcast_S207x1_S207x207_0_1 : Arr F S207x1 .f32 → Arr F S207x207 .f32),
    StableHlo.binary main_v34 main_v26 main_v35 (mulf : Arr F S207x207 .f32 → Arr F S207x207 .f32 → Arr F S207x207 .f32),
    StableHlo.unary main_arg0 main_v36 ((transpose S12x16x207x2 [1, 0, 2, 3] · transposes_S16x12x207x2_S12x16x207x2_1_0_2_3) : Arr F S16x12x207x2 .f32 → Arr F S12x16x207x2 .f32),
    StableHlo.nullary main_cst_11 (constant S_ .f32 0x00000000#32),
    StableHlo.unary main_cst_11 main_v37 (broadcastInDim S16x207x64 ![] bcast_S_S16x207x64 : Arr F S_ .f32 → Arr F S16x207x64 .f32),
    StableHlo.nullary main_cst_12 (constant S_ .f32 0x00000000#32),
    StableHlo.unary main_cst_12 main_v38 (broadcastInDim S12x16x207x64 ![] bcast_S_S12x16x207x64 : Arr F S_ .f32 → Arr F S12x16x207x64 .f32),
    StableHlo.nullary main_c_13 (constantI S_ 32 0#32),
    StableHlo.nullary main_c_14 (constantI S_ 32 0#32),
    StableHlo.unary main_v36 main_v39_0 id,
    StableHlo.unary main_v35 main_v39_1 id,
    StableHlo.unary main_arg1 main_v39_2 id,
    StableHlo.unary main_arg2 main_v39_3 id,
    StableHlo.unary main_arg3 main_v39_4 id,
    StableHlo.unary main_arg4 main_v39_5 id,
    StableHlo.unary main_c_14 main_v39_6 id,
    StableHlo.unary main_c_13 main_v39_7 id,
    StableHlo.unary main_v37 main_v39_8 id,
    StableHlo.unary main_v38 main_v39_9 id ]
/-- Each of them touches the TensorCore's buffers only. -/
theorem hostOps0_7_sub : (hostOps0_7 : List (HloOp τ sig (Elt F))).Forall fun op => op.bufs ⊆ StableHlo.tcRefs τ sig :=
  ⟨unary_bufs_sub .., unary_bufs_sub .., binary_bufs_sub .., unary_bufs_sub .., nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 11 operations of the program, in order. -/
abbrev hostOps0_8 : List (HloOp τ sig (Elt F)) :=
  [ StableHlo.nullary main_c_15 (constantI S_ 32 0#32),
    StableHlo.nullary main_c_16 (constantI S_ 32 0#32),
    StableHlo.unary main_v39_9 main_v40_0 id,
    StableHlo.unary main_v35 main_v40_1 id,
    StableHlo.unary main_arg5 main_v40_2 id,
    StableHlo.unary main_arg6 main_v40_3 id,
    StableHlo.unary main_arg7 main_v40_4 id,
    StableHlo.unary main_arg8 main_v40_5 id,
    StableHlo.unary main_c_16 main_v40_6 id,
    StableHlo.unary main_c_15 main_v40_7 id,
    StableHlo.unary main_v37 main_v40_8 id ]
/-- Each of them touches the TensorCore's buffers only. -/
theorem hostOps0_8_sub : (hostOps0_8 : List (HloOp τ sig (Elt F))).Forall fun op => op.bufs ⊆ StableHlo.tcRefs τ sig :=
  ⟨nullary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
/-- 23 operations of the program, in order. -/
abbrev hostOps0_9 : List (HloOp τ sig (Elt F)) :=
  [ StableHlo.nullary main_cst_17 (constant S_ .f32 0x00000000#32),
    StableHlo.unary main_cst_17 main_v41 (broadcastInDim S16x207x1 ![] bcast_S_S16x207x1 : Arr F S_ .f32 → Arr F S16x207x1 .f32),
    StableHlo.nullary main_cst_18 (constant S_ .f32 0x00000000#32),
    StableHlo.unary main_cst_18 main_v42 (broadcastInDim S16x12x207x1 ![] bcast_S_S16x12x207x1 : Arr F S_ .f32 → Arr F S16x12x207x1 .f32),
    StableHlo.nullary main_c_19 (constantI S_ 32 0#32),
    StableHlo.nullary main_c_20 (constantI S_ 32 0#32),
    StableHlo.unary main_v35 main_v43_0 id,
    StableHlo.unary main_arg9 main_v43_1 id,
    StableHlo.unary main_arg10 main_v43_2 id,
    StableHlo.unary main_arg11 main_v43_3 id,
    StableHlo.unary main_arg12 main_v43_4 id,
    StableHlo.unary main_arg13 main_v43_5 id,
    StableHlo.unary main_arg14 main_v43_6 id,
    StableHlo.unary main_arg15 main_v43_7 id,
    StableHlo.unary main_arg16 main_v43_8 id,
    StableHlo.unary main_arg17 main_v43_9 id,
    StableHlo.unary main_arg18 main_v43_10 id,
    StableHlo.unary main_c_20 main_v43_11 id,
    StableHlo.unary main_c_19 main_v43_12 id,
    StableHlo.unary main_v39_8 main_v43_13 id,
    StableHlo.unary main_v40_8 main_v43_14 id,
    StableHlo.unary main_v41 main_v43_15 id,
    StableHlo.unary main_v42 main_v43_16 id ]
/-- Each of them touches the TensorCore's buffers only. -/
theorem hostOps0_9_sub : (hostOps0_9 : List (HloOp τ sig (Elt F))).Forall fun op => op.bufs ⊆ StableHlo.tcRefs τ sig :=
  ⟨nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 14 operations of one part of the program, in order. -/
abbrev main_part0_ops0 : List (HloOp τ sig (Elt F)) :=
  [ StableHlo.unary main_arg0 main_v0 ((transpose S12x16x207x2 [1, 0, 2, 3] · transposes_S16x12x207x2_S12x16x207x2_1_0_2_3) : Arr F S16x12x207x2 .f32 → Arr F S12x16x207x2 .f32),
    StableHlo.reshape main_v0 main_v1 rfl shapeCasts_S12x16x207x2_S12x3312x2,
    StableHlo.nullary main_cst (constant S_ .f32 0x00000000#32),
    StableHlo.unary main_cst main_v2 (broadcastInDim S3312x64 ![] bcast_S_S3312x64 : Arr F S_ .f32 → Arr F S3312x64 .f32),
    StableHlo.nullary main_c (constantI S_ 32 0#32),
    StableHlo.nullary main_c_0 (constantI S_ 32 0#32),
    StableHlo.unary main_v1 main_v3_0 id,
    StableHlo.unary main_arg19 main_v3_1 id,
    StableHlo.unary main_arg21 main_v3_2 id,
    StableHlo.unary main_arg20 main_v3_3 id,
    StableHlo.unary main_arg22 main_v3_4 id,
    StableHlo.unary main_c_0 main_v3_5 id,
    StableHlo.unary main_c main_v3_6 id,
    StableHlo.unary main_v2 main_v3_7 id ]
/-- 4 operations of one part of the program, in order. -/
abbrev main_part0_ops1 : List (HloOp τ sig (Elt F)) :=
  [ StableHlo.reshape main_v3_7 main_v4 rfl shapeCasts_S3312x64_S16x207x64,
    StableHlo.binary main_v4 main_arg23 main_v5 ((fun l r => Host.dotGeneral dot_S16x207x64_S64x32_S16x207x32_2_0_01_1_n_n none l r) : Arr F S16x207x64 .f32 → Arr F S64x32 .f32 → Arr F S16x207x32 .f32),
    StableHlo.binary main_v4 main_arg24 main_v6 ((fun l r => Host.dotGeneral dot_S16x207x64_S64x32_S16x207x32_2_0_01_1_n_n none l r) : Arr F S16x207x64 .f32 → Arr F S64x32 .f32 → Arr F S16x207x32 .f32),
    StableHlo.binary main_v5 main_v6 main_v7 ((fun l r => Host.dotGeneral dot_S16x207x32_S16x207x32_S16x207x207_2_2_1_1_0_0 none l r) : Arr F S16x207x32 .f32 → Arr F S16x207x32 .f32 → Arr F S16x207x207 .f32) ]
/-- 3 operations of `relu`, in order. -/
abbrev main_part0_ops2 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S16x207x207, .f32⟩) (broadcastInDim S16x207x207 ![] bcast_S_S16x207x207),
    StableHlo.TRef.binary (.of main_v7 : StableHlo.TRef sig ⟨S16x207x207, .f32⟩) (.of main_call1_v0 : StableHlo.TRef sig ⟨S16x207x207, .f32⟩) (.of main_v8 : StableHlo.TRef sig ⟨S16x207x207, .f32⟩) maximumf ]
/-- 25 operations of one part of the program, in order. -/
abbrev main_part0_ops3 : List (HloOp τ sig (Elt F)) :=
  [ StableHlo.nullary main_cst_1 (constant S_ .f32 0xFF800000#32),
    StableHlo.binary main_v8 main_cst_1 main_v9 ((fun x v => Host.reduce FloatOps.maximumf x v reducesTo_S16x207x207_S16x207_d2 h_S_) : Arr F S16x207x207 .f32 → Arr F S_ .f32 → Arr F S16x207 .f32),
    StableHlo.nullary main_cst_2 (constant S_ .f32 0xFF800000#32),
    StableHlo.unary main_cst_2 main_v10 (broadcastInDim S16x207 ![] bcast_S_S16x207 : Arr F S_ .f32 → Arr F S16x207 .f32),
    StableHlo.binary main_v10 main_v9 main_v11 (maximumf : Arr F S16x207 .f32 → Arr F S16x207 .f32 → Arr F S16x207 .f32),
    StableHlo.unary main_v11 main_v12 (broadcastInDim S16x207x1 ![0, 1] bcast_S16x207_S16x207x1_0_1 : Arr F S16x207 .f32 → Arr F S16x207x1 .f32),
    StableHlo.unary main_v12 main_v13 (broadcastInDim S16x207x207 ![0, 1, 2] bcast_S16x207x1_S16x207x207_0_1_2 : Arr F S16x207x1 .f32 → Arr F S16x207x207 .f32),
    StableHlo.binary main_v8 main_v13 main_v14 (subf : Arr F S16x207x207 .f32 → Arr F S16x207x207 .f32 → Arr F S16x207x207 .f32),
    StableHlo.unary main_v14 main_v15 (Host.exp : Arr F S16x207x207 .f32 → Arr F S16x207x207 .f32),
    StableHlo.nullary main_cst_3 (constant S_ .f32 0x00000000#32),
    StableHlo.binary main_v15 main_cst_3 main_v16 ((fun x v => Host.reduceAdd x v reducesTo_S16x207x207_S16x207_d2 h_S_) : Arr F S16x207x207 .f32 → Arr F S_ .f32 → Arr F S16x207 .f32),
    StableHlo.unary main_v16 main_v17 (broadcastInDim S16x207x1 ![0, 1] bcast_S16x207_S16x207x1_0_1 : Arr F S16x207 .f32 → Arr F S16x207x1 .f32),
    StableHlo.unary main_v17 main_v18 (broadcastInDim S16x207x207 ![0, 1, 2] bcast_S16x207x1_S16x207x207_0_1_2 : Arr F S16x207x1 .f32 → Arr F S16x207x207 .f32),
    StableHlo.binary main_v15 main_v18 main_v19 (Host.divf : Arr F S16x207x207 .f32 → Arr F S16x207x207 .f32 → Arr F S16x207x207 .f32),
    StableHlo.nullary main_cst_4 (constant S_ .f32 0x00000000#32),
    StableHlo.binary main_v19 main_cst_4 main_v20 ((fun x v => Host.reduceAdd x v reducesTo_S16x207x207_S207x207_d0 h_S_) : Arr F S16x207x207 .f32 → Arr F S_ .f32 → Arr F S207x207 .f32),
    StableHlo.nullary main_cst_5 (constant S_ .f32 0x41800000#32),
    StableHlo.unary main_cst_5 main_v21 (broadcastInDim S207x207 ![] bcast_S_S207x207 : Arr F S_ .f32 → Arr F S207x207 .f32),
    StableHlo.binary main_v20 main_v21 main_v22 (Host.divf : Arr F S207x207 .f32 → Arr F S207x207 .f32 → Arr F S207x207 .f32),
    StableHlo.unary main_v22 main_values ((fun x => (Host.topK S207x30 1 (FloatOps.cmpfTotal .gt) x sliceFits_S207x207_S207x30).1) : Arr F S207x207 .f32 → Arr F S207x30 .f32),
    StableHlo.unary main_v22 main_indices ((fun x => (Host.topK S207x30 1 (FloatOps.cmpfTotal .gt) x sliceFits_S207x207_S207x30).2) : Arr F S207x207 .f32 → Arr F S207x30 .i32),
    StableHlo.unary main_values main_v23 ((extractStridedSlice S207x1 ![0, 29] · slices_S207x30_S207x1_0_29) : Arr F S207x30 .f32 → Arr F S207x1 .f32),
    StableHlo.unary main_v23 main_v24 (broadcastInDim S207x207 ![0, 1] bcast_S207x1_S207x207_0_1 : Arr F S207x1 .f32 → Arr F S207x207 .f32),
    StableHlo.binary main_v22 main_v24 main_v25 (cmpf .oge : Arr F S207x207 .f32 → Arr F S207x207 .f32 → Arr F S207x207 .i1),
    StableHlo.nullary main_cst_6 (constant S_ .f32 0x00000000#32) ]
/-- 3 operations of `_where`, in order. -/
abbrev main_part0_ops4 : List (HloOp τ sig (Elt F)) :=
  [ StableHlo.TRef.unary (.of main_cst_6 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S207x207, .f32⟩) (broadcastInDim S207x207 ![] bcast_S_S207x207),
    StableHlo.TRef.ternary (.of main_v25 : StableHlo.TRef sig ⟨S207x207, .i1⟩) (.of main_v22 : StableHlo.TRef sig ⟨S207x207, .f32⟩) (.of main_call2_v1 : StableHlo.TRef sig ⟨S207x207, .f32⟩) (.of main_v26 : StableHlo.TRef sig ⟨S207x207, .f32⟩) select ]
/-- 9 operations of one part of the program, in order. -/
abbrev main_part0_ops5 : List (HloOp τ sig (Elt F)) :=
  [ StableHlo.nullary main_cst_7 (constant S_ .f32 0x00000000#32),
    StableHlo.binary main_v26 main_cst_7 main_v27 ((fun x v => Host.reduceAdd x v reducesTo_S207x207_S207_d1 h_S_) : Arr F S207x207 .f32 → Arr F S_ .f32 → Arr F S207 .f32),
    StableHlo.nullary main_cst_8 (constant S_ .f32 0x00000000#32),
    StableHlo.unary main_cst_8 main_v28 (broadcastInDim S207 ![] bcast_S_S207 : Arr F S_ .f32 → Arr F S207 .f32),
    StableHlo.binary main_v27 main_v28 main_v29 (cmpf .ogt : Arr F S207 .f32 → Arr F S207 .f32 → Arr F S207 .i1),
    StableHlo.nullary main_cst_9 (constant S_ .f32 0x3F800000#32),
    StableHlo.unary main_cst_9 main_v30 (broadcastInDim S207 ![] bcast_S_S207 : Arr F S_ .f32 → Arr F S207 .f32),
    StableHlo.binary main_v30 main_v27 main_v31 (Host.divf : Arr F S207 .f32 → Arr F S207 .f32 → Arr F S207 .f32),
    StableHlo.nullary main_cst_10 (constant S_ .f32 0x00000000#32) ]
/-- 3 operations of `_where_0`, in order. -/
abbrev main_part0_ops6 : List (HloOp τ sig (Elt F)) :=
  [ StableHlo.TRef.unary (.of main_cst_10 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S207, .f32⟩) (broadcastInDim S207 ![] bcast_S_S207),
    StableHlo.TRef.ternary (.of main_v29 : StableHlo.TRef sig ⟨S207, .i1⟩) (.of main_v31 : StableHlo.TRef sig ⟨S207, .f32⟩) (.of main_call3_v1 : StableHlo.TRef sig ⟨S207, .f32⟩) (.of main_v32 : StableHlo.TRef sig ⟨S207, .f32⟩) select ]
/-- 4 operations of one part of the program, in order. -/
abbrev main_part0_ops7 : List (HloOp τ sig (Elt F)) :=
  [ StableHlo.unary main_v32 main_v33 (broadcastInDim S207x1 ![0] bcast_S207_S207x1_0 : Arr F S207 .f32 → Arr F S207x1 .f32),
    StableHlo.unary main_v33 main_v34 (broadcastInDim S207x207 ![0, 1] bcast_S207x1_S207x207_0_1 : Arr F S207x1 .f32 → Arr F S207x207 .f32),
    StableHlo.binary main_v34 main_v26 main_v35 (mulf : Arr F S207x207 .f32 → Arr F S207x207 .f32 → Arr F S207x207 .f32),
    StableHlo.unary main_arg0 main_v36 ((transpose S12x16x207x2 [1, 0, 2, 3] · transposes_S16x12x207x2_S12x16x207x2_1_0_2_3) : Arr F S16x12x207x2 .f32 → Arr F S12x16x207x2 .f32) ]
/-- The first part of the program runs its lists in order. -/
theorem main_part0_chain (c : Dev nD) : main_part0 (F := F) c = (Pipeline.chainK
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part0_ops6 ]
  (StableHlo.seq main_part0_ops7) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 16 operations of one part of the program, in order. -/
abbrev main_part1_ops0 : List (HloOp τ sig (Elt F)) :=
  [ StableHlo.nullary main_cst_11 (constant S_ .f32 0x00000000#32),
    StableHlo.unary main_cst_11 main_v37 (broadcastInDim S16x207x64 ![] bcast_S_S16x207x64 : Arr F S_ .f32 → Arr F S16x207x64 .f32),
    StableHlo.nullary main_cst_12 (constant S_ .f32 0x00000000#32),
    StableHlo.unary main_cst_12 main_v38 (broadcastInDim S12x16x207x64 ![] bcast_S_S12x16x207x64 : Arr F S_ .f32 → Arr F S12x16x207x64 .f32),
    StableHlo.nullary main_c_13 (constantI S_ 32 0#32),
    StableHlo.nullary main_c_14 (constantI S_ 32 0#32),
    StableHlo.unary main_v36 main_v39_0 id,
    StableHlo.unary main_v35 main_v39_1 id,
    StableHlo.unary main_arg1 main_v39_2 id,
    StableHlo.unary main_arg2 main_v39_3 id,
    StableHlo.unary main_arg3 main_v39_4 id,
    StableHlo.unary main_arg4 main_v39_5 id,
    StableHlo.unary main_c_14 main_v39_6 id,
    StableHlo.unary main_c_13 main_v39_7 id,
    StableHlo.unary main_v37 main_v39_8 id,
    StableHlo.unary main_v38 main_v39_9 id ]
/-- 11 operations of one part of the program, in order. -/
abbrev main_part1_ops1 : List (HloOp τ sig (Elt F)) :=
  [ StableHlo.nullary main_c_15 (constantI S_ 32 0#32),
    StableHlo.nullary main_c_16 (constantI S_ 32 0#32),
    StableHlo.unary main_v39_9 main_v40_0 id,
    StableHlo.unary main_v35 main_v40_1 id,
    StableHlo.unary main_arg5 main_v40_2 id,
    StableHlo.unary main_arg6 main_v40_3 id,
    StableHlo.unary main_arg7 main_v40_4 id,
    StableHlo.unary main_arg8 main_v40_5 id,
    StableHlo.unary main_c_16 main_v40_6 id,
    StableHlo.unary main_c_15 main_v40_7 id,
    StableHlo.unary main_v37 main_v40_8 id ]
/-- 23 operations of one part of the program, in order. -/
abbrev main_part1_ops2 : List (HloOp τ sig (Elt F)) :=
  [ StableHlo.nullary main_cst_17 (constant S_ .f32 0x00000000#32),
    StableHlo.unary main_cst_17 main_v41 (broadcastInDim S16x207x1 ![] bcast_S_S16x207x1 : Arr F S_ .f32 → Arr F S16x207x1 .f32),
    StableHlo.nullary main_cst_18 (constant S_ .f32 0x00000000#32),
    StableHlo.unary main_cst_18 main_v42 (broadcastInDim S16x12x207x1 ![] bcast_S_S16x12x207x1 : Arr F S_ .f32 → Arr F S16x12x207x1 .f32),
    StableHlo.nullary main_c_19 (constantI S_ 32 0#32),
    StableHlo.nullary main_c_20 (constantI S_ 32 0#32),
    StableHlo.unary main_v35 main_v43_0 id,
    StableHlo.unary main_arg9 main_v43_1 id,
    StableHlo.unary main_arg10 main_v43_2 id,
    StableHlo.unary main_arg11 main_v43_3 id,
    StableHlo.unary main_arg12 main_v43_4 id,
    StableHlo.unary main_arg13 main_v43_5 id,
    StableHlo.unary main_arg14 main_v43_6 id,
    StableHlo.unary main_arg15 main_v43_7 id,
    StableHlo.unary main_arg16 main_v43_8 id,
    StableHlo.unary main_arg17 main_v43_9 id,
    StableHlo.unary main_arg18 main_v43_10 id,
    StableHlo.unary main_c_20 main_v43_11 id,
    StableHlo.unary main_c_19 main_v43_12 id,
    StableHlo.unary main_v39_8 main_v43_13 id,
    StableHlo.unary main_v40_8 main_v43_14 id,
    StableHlo.unary main_v41 main_v43_15 id,
    StableHlo.unary main_v42 main_v43_16 id ]
/-- The second part of the program runs its lists in order. -/
theorem main_part1_chain (c : Dev nD) : main_part1 (F := F) c = (Pipeline.chain
  [ StableHlo.seq main_part1_ops0,
    HostLoop.enter 1,
    StableHlo.seq main_part1_ops1,
    HostLoop.enter 2,
    StableHlo.seq main_part1_ops2,
    HostLoop.enter 3 ] : Prog (TpuEff nD τ sig (Elt F) (HostLoop.Sig (Pipeline.Sig Λ₀ (Fin 0) fun p => (pcfgs (F := F) p).Adm) 4) .tc) PUnit) := by
  rewrite [StableHlo.chain_seq_cons, Pipeline.chain_cons, StableHlo.chain_seq_cons, Pipeline.chain_cons, StableHlo.chain_seq_cons, Pipeline.chain_cons]
  chain_rfl

/-- The program runs the lists of its two parts in order. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part1_ops0,
    HostLoop.enter 1,
    StableHlo.seq main_part1_ops1,
    HostLoop.enter 2,
    StableHlo.seq main_part1_ops2,
    HostLoop.enter 3 ] : Prog (TpuEff nD τ sig (Elt F) (HostLoop.Sig (Pipeline.Sig Λ₀ (Fin 0) fun p => (pcfgs (F := F) p).Adm) 4) .tc) PUnit) := by
  show (main_part0 (F := F) c >>= fun _ => main_part1 (F := F) c) = _
  rewrite [main_part1_chain, main_part0_chain, Pipeline.chainK_bind_chain]
  chain_rfl

/-- The program's stretches, each with the lists of the two parts that make it up. -/
abbrev main_groups (c : Dev nD) : List (StableHlo.Group nD τ sig (Elt F) (HostLoop.Sig (Pipeline.Sig Λ₀ (Fin 0) fun p => (pcfgs (F := F) p).Adm) 4)) :=
  [ .ops [main_part0_ops0],
    .prog (HostLoop.enter 0),
    .ops [main_part0_ops1],
    .ops [main_part0_ops2],
    .ops [main_part0_ops3],
    .ops [main_part0_ops4],
    .ops [main_part0_ops5],
    .ops [main_part0_ops6],
    .ops [main_part0_ops7, main_part1_ops0],
    .prog (HostLoop.enter 1),
    .ops [main_part1_ops1],
    .prog (HostLoop.enter 2),
    .ops [main_part1_ops2],
    .prog (HostLoop.enter 3) ]

/-- Cut into those lists, the stretches are the parts' lists in order. -/
theorem main_chain_cut (c : Dev nD) : (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part1_ops0,
    HostLoop.enter 1,
    StableHlo.seq main_part1_ops1,
    HostLoop.enter 2,
    StableHlo.seq main_part1_ops2,
    HostLoop.enter 3 ] : Prog (TpuEff nD τ sig (Elt F) (HostLoop.Sig (Pipeline.Sig Λ₀ (Fin 0) fun p => (pcfgs (F := F) p).Adm) 4) .tc) PUnit) = Pipeline.chain ((main_groups (F := F) c).flatMap StableHlo.Group.cut) := by
  chain_rfl

/-- Joined again, they are the program's stretches. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    HostLoop.enter 1,
    StableHlo.seq hostOps0_8,
    HostLoop.enter 2,
    StableHlo.seq hostOps0_9,
    HostLoop.enter 3 ] : Prog (TpuEff nD τ sig (Elt F) (HostLoop.Sig (Pipeline.Sig Λ₀ (Fin 0) fun p => (pcfgs (F := F) p).Adm) 4) .tc) PUnit) := by
  chain_rfl

/-- The program runs its stretches and its four loops in order. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    HostLoop.enter 1,
    StableHlo.seq hostOps0_8,
    HostLoop.enter 2,
    StableHlo.seq hostOps0_9,
    HostLoop.enter 3 ] : Prog (TpuEff nD τ sig (Elt F) (HostLoop.Sig (Pipeline.Sig Λ₀ (Fin 0) fun p => (pcfgs (F := F) p).Adm) 4) .tc) PUnit) :=
  (main_chain_windows (F := F) c).trans <| (main_chain_cut (F := F) c).trans <|
    (StableHlo.chain_cut_eq_whole (main_groups (F := F) c)).trans (main_chain_whole (F := F) c)

/-- 2 operations of the body of loop 0, in order. -/
abbrev while0Ops0 : List (HloOp τ sig (Elt F)) :=
  [ StableHlo.nullary main_while0b_c_28 (constantI S_ 32 1#32),
    StableHlo.binary main_v3_6 main_while0b_c_28 main_while0b_v44 (addi : Arr F S_ .i32 → Arr F S_ .i32 → Arr F S_ .i32) ]
/-- Each of them touches the TensorCore's buffers only. -/
theorem while0Ops0_sub : (while0Ops0 : List (HloOp τ sig (Elt F))).Forall fun op => op.bufs ⊆ StableHlo.tcRefs τ sig :=
  ⟨nullary_bufs_sub .., binary_bufs_sub ..⟩
/-- 10 operations of `dynamic_index_in_dim`, in order. -/
abbrev while0Ops0_1 : List (HloOp τ sig (Elt F)) :=
  [ StableHlo.TRef.nullary (.of main_while0b_call0_c : StableHlo.TRef sig ⟨S_, .i32⟩) (constantI S_ 32 0#32),
    StableHlo.TRef.binary (.of main_v3_6 : StableHlo.TRef sig ⟨S_, .i32⟩) (.of main_while0b_call0_c : StableHlo.TRef sig ⟨S_, .i32⟩) (.of main_while0b_call0_v0 : StableHlo.TRef sig ⟨S_, .i1⟩) (cmpi .slt),
    StableHlo.TRef.unary (.of main_v3_6 : StableHlo.TRef sig ⟨S_, .i32⟩) (.of main_while0b_call0_v1 : StableHlo.TRef sig ⟨S_, .i32⟩) id,
    StableHlo.TRef.nullary (.of main_while0b_call0_c_0 : StableHlo.TRef sig ⟨S_, .i32⟩) (constantI S_ 32 12#32),
    StableHlo.TRef.binary (.of main_while0b_call0_v1 : StableHlo.TRef sig ⟨S_, .i32⟩) (.of main_while0b_call0_c_0 : StableHlo.TRef sig ⟨S_, .i32⟩) (.of main_while0b_call0_v2 : StableHlo.TRef sig ⟨S_, .i32⟩) addi,
    StableHlo.TRef.ternary (.of main_while0b_call0_v0 : StableHlo.TRef sig ⟨S_, .i1⟩) (.of main_while0b_call0_v2 : StableHlo.TRef sig ⟨S_, .i32⟩) (.of main_v3_6 : StableHlo.TRef sig ⟨S_, .i32⟩) (.of main_while0b_call0_v3 : StableHlo.TRef sig ⟨S_, .i32⟩) select,
    StableHlo.TRef.nullary (.of main_while0b_call0_c_1 : StableHlo.TRef sig ⟨S_, .i32⟩) (constantI S_ 32 0#32),
    StableHlo.TRef.nullary (.of main_while0b_call0_c_2 : StableHlo.TRef sig ⟨S_, .i32⟩) (constantI S_ 32 0#32),
    StableHlo.TRef.unaryIndexed (.of main_v3_0 : StableHlo.TRef sig ⟨S12x3312x2, .f32⟩) ![(.of main_while0b_call0_v3 : StableHlo.TRef sig ⟨S_, .i32⟩), (.of main_while0b_call0_c_1 : StableHlo.TRef sig ⟨S_, .i32⟩), (.of main_while0b_call0_c_2 : StableHlo.TRef sig ⟨S_, .i32⟩)] (.of main_while0b_call0_v4 : StableHlo.TRef sig ⟨S1x3312x2, .f32⟩) (fun x i => Host.dynamicSlice S1x3312x2 x (fun k => (i k (Shape.Idx.first h_S_)).toInt) sliceFits_S12x3312x2_S1x3312x2),
    StableHlo.TRef.reshape (.of main_while0b_call0_v4 : StableHlo.TRef sig ⟨S1x3312x2, .f32⟩) (.of main_while0b_v45 : StableHlo.TRef sig ⟨S3312x2, .f32⟩) rfl shapeCasts_S1x3312x2_S3312x2 ]
/-- Each of them touches the TensorCore's buffers only. -/
theorem while0Ops0_1_sub : (while0Ops0_1 : List (HloOp τ sig (Elt F))).Forall fun op => op.bufs ⊆ StableHlo.tcRefs τ sig :=
  ⟨nullary_bufs_sub .., binary_bufs_sub .., unary_bufs_sub .., nullary_bufs_sub .., binary_bufs_sub .., ternary_bufs_sub .., nullary_bufs_sub .., nullary_bufs_sub .., unaryIndexed_bufs_sub .., reshape_bufs_sub ..⟩
/-- 48 operations of the body of loop 0, in order. -/
abbrev while0Ops0_2 : List (HloOp τ sig (Elt F)) :=
  ( StableHlo.unary main_v3_1 main_while0b_v46 ((transpose S2x192 [1, 0] · transposes_S192x2_S2x192_1_0) : Arr F S192x2 .f32 → Arr F S2x192 .f32)
  :: StableHlo.binary main_while0b_v45 main_while0b_v46 main_while0b_v47 ((fun l r => Host.dotGeneral dot_S3312x2_S2x192_S3312x192_1_0_0_1_n_n none l r) : Arr F S3312x2 .f32 → Arr F S2x192 .f32 → Arr F S3312x192 .f32)
  :: StableHlo.unary main_v3_2 main_while0b_v48 (broadcastInDim S1x192 ![1] bcast_S192_S1x192_1 : Arr F S192 .f32 → Arr F S1x192 .f32)
  :: StableHlo.unary main_while0b_v48 main_while0b_v49 (broadcastInDim S3312x192 ![0, 1] bcast_S1x192_S3312x192_0_1 : Arr F S1x192 .f32 → Arr F S3312x192 .f32)
  :: StableHlo.binary main_while0b_v47 main_while0b_v49 main_while0b_v50 (addf : Arr F S3312x192 .f32 → Arr F S3312x192 .f32 → Arr F S3312x192 .f32)
  :: StableHlo.unary main_v3_3 main_while0b_v51 ((transpose S64x192 [1, 0] · transposes_S192x64_S64x192_1_0) : Arr F S192x64 .f32 → Arr F S64x192 .f32)
  :: StableHlo.binary main_v3_7 main_while0b_v51 main_while0b_v52 ((fun l r => Host.dotGeneral dot_S3312x64_S64x192_S3312x192_1_0_0_1_n_n none l r) : Arr F S3312x64 .f32 → Arr F S64x192 .f32 → Arr F S3312x192 .f32)
  :: StableHlo.unary main_v3_4 main_while0b_v53 (broadcastInDim S1x192 ![1] bcast_S192_S1x192_1 : Arr F S192 .f32 → Arr F S1x192 .f32)
  :: StableHlo.unary main_while0b_v53 main_while0b_v54 (broadcastInDim S3312x192 ![0, 1] bcast_S1x192_S3312x192_0_1 : Arr F S1x192 .f32 → Arr F S3312x192 .f32)
  :: StableHlo.binary main_while0b_v52 main_while0b_v54 main_while0b_v55 (addf : Arr F S3312x192 .f32 → Arr F S3312x192 .f32 → Arr F S3312x192 .f32)
  :: StableHlo.unary main_while0b_v50 main_while0b_v56 ((extractStridedSlice S3312x64 ![0, 0] · slices_S3312x192_S3312x64_0_0) : Arr F S3312x192 .f32 → Arr F S3312x64 .f32)
  :: StableHlo.unary main_while0b_v50 main_while0b_v57 ((extractStridedSlice S3312x64 ![0, 64] · slices_S3312x192_S3312x64_0_64) : Arr F S3312x192 .f32 → Arr F S3312x64 .f32)
  :: StableHlo.unary main_while0b_v50 main_while0b_v58 ((extractStridedSlice S3312x64 ![0, 128] · slices_S3312x192_S3312x64_0_128) : Arr F S3312x192 .f32 → Arr F S3312x64 .f32)
  :: StableHlo.unary main_while0b_v55 main_while0b_v59 ((extractStridedSlice S3312x64 ![0, 0] · slices_S3312x192_S3312x64_0_0) : Arr F S3312x192 .f32 → Arr F S3312x64 .f32)
  :: StableHlo.unary main_while0b_v55 main_while0b_v60 ((extractStridedSlice S3312x64 ![0, 64] · slices_S3312x192_S3312x64_0_64) : Arr F S3312x192 .f32 → Arr F S3312x64 .f32)
  :: StableHlo.unary main_while0b_v55 main_while0b_v61 ((extractStridedSlice S3312x64 ![0, 128] · slices_S3312x192_S3312x64_0_128) : Arr F S3312x192 .f32 → Arr F S3312x64 .f32)
  :: StableHlo.binary main_while0b_v56 main_while0b_v59 main_while0b_v62 (addf : Arr F S3312x64 .f32 → Arr F S3312x64 .f32 → Arr F S3312x64 .f32)
  :: StableHlo.unary main_while0b_v62 main_while0b_v63 (Host.negf : Arr F S3312x64 .f32 → Arr F S3312x64 .f32)
  :: StableHlo.unary main_while0b_v63 main_while0b_v64 (Host.exp : Arr F S3312x64 .f32 → Arr F S3312x64 .f32)
  :: StableHlo.nullary main_while0b_cst_29 (constant S_ .f32 0x3F800000#32)
  :: StableHlo.unary main_while0b_cst_29 main_while0b_v65 (broadcastInDim S3312x64 ![] bcast_S_S3312x64 : Arr F S_ .f32 → Arr F S3312x64 .f32)
  :: StableHlo.binary main_while0b_v65 main_while0b_v64 main_while0b_v66 (addf : Arr F S3312x64 .f32 → Arr F S3312x64 .f32 → Arr F S3312x64 .f32)
  :: StableHlo.nullary main_while0b_cst_30 (constant S_ .f32 0x3F800000#32)
  :: StableHlo.unary main_while0b_cst_30 main_while0b_v67 (broadcastInDim S3312x64 ![] bcast_S_S3312x64 : Arr F S_ .f32 → Arr F S3312x64 .f32)
  :: StableHlo.binary main_while0b_v67 main_while0b_v66 main_while0b_v68 (Host.divf : Arr F S3312x64 .f32 → Arr F S3312x64 .f32 → Arr F S3312x64 .f32)
  :: StableHlo.binary main_while0b_v57 main_while0b_v60 main_while0b_v69 (addf : Arr F S3312x64 .f32 → Arr F S3312x64 .f32 → Arr F S3312x64 .f32)
  :: StableHlo.unary main_while0b_v69 main_while0b_v70 (Host.negf : Arr F S3312x64 .f32 → Arr F S3312x64 .f32)
  :: StableHlo.unary main_while0b_v70 main_while0b_v71 (Host.exp : Arr F S3312x64 .f32 → Arr F S3312x64 .f32)
  :: StableHlo.nullary main_while0b_cst_31 (constant S_ .f32 0x3F800000#32)
  :: StableHlo.unary main_while0b_cst_31 main_while0b_v72 (broadcastInDim S3312x64 ![] bcast_S_S3312x64 : Arr F S_ .f32 → Arr F S3312x64 .f32)
  :: StableHlo.binary main_while0b_v72 main_while0b_v71 main_while0b_v73 (addf : Arr F S3312x64 .f32 → Arr F S3312x64 .f32 → Arr F S3312x64 .f32)
  :: StableHlo.nullary main_while0b_cst_32 (constant S_ .f32 0x3F800000#32)
  :: StableHlo.unary main_while0b_cst_32 main_while0b_v74 (broadcastInDim S3312x64 ![] bcast_S_S3312x64 : Arr F S_ .f32 → Arr F S3312x64 .f32)
  :: StableHlo.binary main_while0b_v74 main_while0b_v73 main_while0b_v75 (Host.divf : Arr F S3312x64 .f32 → Arr F S3312x64 .f32 → Arr F S3312x64 .f32)
  :: StableHlo.binary main_while0b_v68 main_while0b_v61 main_while0b_v76 (mulf : Arr F S3312x64 .f32 → Arr F S3312x64 .f32 → Arr F S3312x64 .f32)
  :: StableHlo.binary main_while0b_v58 main_while0b_v76 main_while0b_v77 (addf : Arr F S3312x64 .f32 → Arr F S3312x64 .f32 → Arr F S3312x64 .f32)
  :: StableHlo.unary main_while0b_v77 main_while0b_v78 (Host.tanh : Arr F S3312x64 .f32 → Arr F S3312x64 .f32)
  :: StableHlo.nullary main_while0b_cst_33 (constant S_ .f32 0x3F800000#32)
  :: StableHlo.unary main_while0b_cst_33 main_while0b_v79 (broadcastInDim S3312x64 ![] bcast_S_S3312x64 : Arr F S_ .f32 → Arr F S3312x64 .f32)
  :: StableHlo.binary main_while0b_v79 main_while0b_v75 main_while0b_v80 (subf : Arr F S3312x64 .f32 → Arr F S3312x64 .f32 → Arr F S3312x64 .f32)
  :: StableHlo.binary main_while0b_v80 main_while0b_v78 main_while0b_v81 (mulf : Arr F S3312x64 .f32 → Arr F S3312x64 .f32 → Arr F S3312x64 .f32)
  :: StableHlo.binary main_while0b_v75 main_v3_7 main_while0b_v82 (mulf : Arr F S3312x64 .f32 → Arr F S3312x64 .f32 → Arr F S3312x64 .f32)
  :: StableHlo.binary main_while0b_v81 main_while0b_v82 main_while0b_v83 (addf : Arr F S3312x64 .f32 → Arr F S3312x64 .f32 → Arr F S3312x64 .f32)
  :: StableHlo.nullary main_while0b_c_34 (constantI S_ 32 1#32)
  :: StableHlo.binary main_v3_5 main_while0b_c_34 main_while0b_v84 (addi : Arr F S_ .i32 → Arr F S_ .i32 → Arr F S_ .i32)
  :: StableHlo.unary main_while0b_v84 main_v3_5 id
  :: StableHlo.unary main_while0b_v44 main_v3_6 id
  :: StableHlo.unary main_while0b_v83 main_v3_7 id
  :: [] )
/-- Each of them touches the TensorCore's buffers only. -/
theorem while0Ops0_2_sub : (while0Ops0_2 : List (HloOp τ sig (Elt F))).Forall fun op => op.bufs ⊆ StableHlo.tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., binary_bufs_sub .., unary_bufs_sub .., unary_bufs_sub .., unary_bufs_sub ..⟩
/-- The body of loop 0 runs its stretches in order. -/
theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 4) .tc) PUnit) := by
  rewrite [StableHlo.chain_seq_cons, Pipeline.chain_cons, StableHlo.chain_seq_cons]
  chain_rfl

/-- 2 operations of the body of loop 1, in order. -/
abbrev while1Ops0 : List (HloOp τ sig (Elt F)) :=
  [ StableHlo.nullary main_while1b_c_30 (constantI S_ 32 1#32),
    StableHlo.binary main_v39_7 main_while1b_c_30 main_while1b_v44 (addi : Arr F S_ .i32 → Arr F S_ .i32 → Arr F S_ .i32) ]
/-- Each of them touches the TensorCore's buffers only. -/
theorem while1Ops0_sub : (while1Ops0 : List (HloOp τ sig (Elt F))).Forall fun op => op.bufs ⊆ StableHlo.tcRefs τ sig :=
  ⟨nullary_bufs_sub .., binary_bufs_sub ..⟩
/-- 11 operations of `dynamic_index_in_dim_1`, in order. -/
abbrev while1Ops0_1 : List (HloOp τ sig (Elt F)) :=
  [ StableHlo.TRef.nullary (.of main_while1b_call4_c : StableHlo.TRef sig ⟨S_, .i32⟩) (constantI S_ 32 0#32),
    StableHlo.TRef.binary (.of main_v39_7 : StableHlo.TRef sig ⟨S_, .i32⟩) (.of main_while1b_call4_c : StableHlo.TRef sig ⟨S_, .i32⟩) (.of main_while1b_call4_v0 : StableHlo.TRef sig ⟨S_, .i1⟩) (cmpi .slt),
    StableHlo.TRef.unary (.of main_v39_7 : StableHlo.TRef sig ⟨S_, .i32⟩) (.of main_while1b_call4_v1 : StableHlo.TRef sig ⟨S_, .i32⟩) id,
    StableHlo.TRef.nullary (.of main_while1b_call4_c_0 : StableHlo.TRef sig ⟨S_, .i32⟩) (constantI S_ 32 12#32),
    StableHlo.TRef.binary (.of main_while1b_call4_v1 : StableHlo.TRef sig ⟨S_, .i32⟩) (.of main_while1b_call4_c_0 : StableHlo.TRef sig ⟨S_, .i32⟩) (.of main_while1b_call4_v2 : StableHlo.TRef sig ⟨S_, .i32⟩) addi,
    StableHlo.TRef.ternary (.of main_while1b_call4_v0 : StableHlo.TRef sig ⟨S_, .i1⟩) (.of main_while1b_call4_v2 : StableHlo.TRef sig ⟨S_, .i32⟩) (.of main_v39_7 : StableHlo.TRef sig ⟨S_, .i32⟩) (.of main_while1b_call4_v3 : StableHlo.TRef sig ⟨S_, .i32⟩) select,
    StableHlo.TRef.nullary (.of main_while1b_call4_c_1 : StableHlo.TRef sig ⟨S_, .i32⟩) (constantI S_ 32 0#32),
    StableHlo.TRef.nullary (.of main_while1b_call4_c_2 : StableHlo.TRef sig ⟨S_, .i32⟩) (constantI S_ 32 0#32),
    StableHlo.TRef.nullary (.of main_while1b_call4_c_3 : StableHlo.TRef sig ⟨S_, .i32⟩) (constantI S_ 32 0#32),
    StableHlo.TRef.unaryIndexed (.of main_v39_0 : StableHlo.TRef sig ⟨S12x16x207x2, .f32⟩) ![(.of main_while1b_call4_v3 : StableHlo.TRef sig ⟨S_, .i32⟩), (.of main_while1b_call4_c_1 : StableHlo.TRef sig ⟨S_, .i32⟩), (.of main_while1b_call4_c_2 : StableHlo.TRef sig ⟨S_, .i32⟩), (.of main_while1b_call4_c_3 : StableHlo.TRef sig ⟨S_, .i32⟩)] (.of main_while1b_call4_v4 : StableHlo.TRef sig ⟨S1x16x207x2, .f32⟩) (fun x i => Host.dynamicSlice S1x16x207x2 x (fun k => (i k (Shape.Idx.first h_S_)).toInt) sliceFits_S12x16x207x2_S1x16x207x2),
    StableHlo.TRef.reshape (.of main_while1b_call4_v4 : StableHlo.TRef sig ⟨S1x16x207x2, .f32⟩) (.of main_while1b_v45 : StableHlo.TRef sig ⟨S16x207x2, .f32⟩) rfl shapeCasts_S1x16x207x2_S16x207x2 ]
/-- Each of them touches the TensorCore's buffers only. -/
theorem while1Ops0_1_sub : (while1Ops0_1 : List (HloOp τ sig (Elt F))).Forall fun op => op.bufs ⊆ StableHlo.tcRefs τ sig :=
  ⟨nullary_bufs_sub .., binary_bufs_sub .., unary_bufs_sub .., nullary_bufs_sub .., binary_bufs_sub .., ternary_bufs_sub .., nullary_bufs_sub .., nullary_bufs_sub .., nullary_bufs_sub .., unaryIndexed_bufs_sub .., reshape_bufs_sub ..⟩
/-- 60 operations of the body of loop 1, in order. -/
abbrev while1Ops0_2 : List (HloOp τ sig (Elt F)) :=
  ( StableHlo.binary main_while1b_v45 main_v39_8 main_while1b_v46 ((fun a b => concatenate S16x207x66 2 [⟨S16x207x2, a⟩, ⟨S16x207x64, b⟩] concatenates_S16x207x2_S16x207x64_S16x207x66_d2) : Arr F S16x207x2 .f32 → Arr F S16x207x64 .f32 → Arr F S16x207x66 .f32)
  :: StableHlo.unary main_while1b_v46 main_while1b_v47 ((transpose S207x66x16 [1, 2, 0] · transposes_S16x207x66_S207x66x16_1_2_0) : Arr F S16x207x66 .f32 → Arr F S207x66x16 .f32)
  :: StableHlo.reshape main_while1b_v47 main_while1b_v48 rfl shapeCasts_S207x66x16_S207x1056
  :: StableHlo.binary main_v39_1 main_while1b_v48 main_while1b_v49 ((fun l r => Host.dotGeneral dot_S207x207_S207x1056_S207x1056_1_0_0_1_n_n none l r) : Arr F S207x207 .f32 → Arr F S207x1056 .f32 → Arr F S207x1056 .f32)
  :: StableHlo.binary main_v39_1 main_while1b_v49 main_while1b_v50 ((fun l r => Host.dotGeneral dot_S207x207_S207x1056_S207x1056_1_0_0_1_n_n none l r) : Arr F S207x207 .f32 → Arr F S207x1056 .f32 → Arr F S207x1056 .f32)
  :: StableHlo.nullary main_while1b_cst_31 (constant S_ .f32 0x40000000#32)
  :: StableHlo.unary main_while1b_cst_31 main_while1b_v51 (broadcastInDim S207x1056 ![] bcast_S_S207x1056 : Arr F S_ .f32 → Arr F S207x1056 .f32)
  :: StableHlo.binary main_while1b_v51 main_while1b_v50 main_while1b_v52 (mulf : Arr F S207x1056 .f32 → Arr F S207x1056 .f32 → Arr F S207x1056 .f32)
  :: StableHlo.binary main_while1b_v52 main_while1b_v48 main_while1b_v53 (subf : Arr F S207x1056 .f32 → Arr F S207x1056 .f32 → Arr F S207x1056 .f32)
  :: StableHlo.unary main_while1b_v48 main_while1b_v54 (broadcastInDim S1x207x1056 ![1, 2] bcast_S207x1056_S1x207x1056_1_2 : Arr F S207x1056 .f32 → Arr F S1x207x1056 .f32)
  :: StableHlo.unary main_while1b_v49 main_while1b_v55 (broadcastInDim S1x207x1056 ![1, 2] bcast_S207x1056_S1x207x1056_1_2 : Arr F S207x1056 .f32 → Arr F S1x207x1056 .f32)
  :: StableHlo.unary main_while1b_v53 main_while1b_v56 (broadcastInDim S1x207x1056 ![1, 2] bcast_S207x1056_S1x207x1056_1_2 : Arr F S207x1056 .f32 → Arr F S1x207x1056 .f32)
  :: StableHlo.nary ![main_while1b_v54, main_while1b_v55, main_while1b_v56] main_while1b_v57 (fun u => (concatenate S3x207x1056 0 [⟨S1x207x1056, (u 0 : Arr F S1x207x1056 .f32)⟩, ⟨S1x207x1056, (u 1 : Arr F S1x207x1056 .f32)⟩, ⟨S1x207x1056, (u 2 : Arr F S1x207x1056 .f32)⟩] concatenates_S1x207x1056_S1x207x1056_S1x207x1056_S3x207x1056_d0 : Arr F S3x207x1056 .f32))
  :: StableHlo.reshape main_while1b_v57 main_while1b_v58 rfl shapeCasts_S3x207x1056_S3x207x66x16
  :: StableHlo.unary main_while1b_v58 main_while1b_v59 ((transpose S16x207x66x3 [3, 1, 2, 0] · transposes_S3x207x66x16_S16x207x66x3_3_1_2_0) : Arr F S3x207x66x16 .f32 → Arr F S16x207x66x3 .f32)
  :: StableHlo.reshape main_while1b_v59 main_while1b_v60 rfl shapeCasts_S16x207x66x3_S3312x198
  :: StableHlo.binary main_while1b_v60 main_v39_2 main_while1b_v61 ((fun l r => Host.dotGeneral dot_S3312x198_S198x128_S3312x128_1_0_0_1_n_n none l r) : Arr F S3312x198 .f32 → Arr F S198x128 .f32 → Arr F S3312x128 .f32)
  :: StableHlo.unary main_v39_3 main_while1b_v62 (broadcastInDim S1x128 ![1] bcast_S128_S1x128_1 : Arr F S128 .f32 → Arr F S1x128 .f32)
  :: StableHlo.unary main_while1b_v62 main_while1b_v63 (broadcastInDim S3312x128 ![0, 1] bcast_S1x128_S3312x128_0_1 : Arr F S1x128 .f32 → Arr F S3312x128 .f32)
  :: StableHlo.binary main_while1b_v61 main_while1b_v63 main_while1b_v64 (addf : Arr F S3312x128 .f32 → Arr F S3312x128 .f32 → Arr F S3312x128 .f32)
  :: StableHlo.reshape main_while1b_v64 main_while1b_v65 rfl shapeCasts_S3312x128_S16x207x128
  :: StableHlo.unary main_while1b_v65 main_while1b_v66 (Host.negf : Arr F S16x207x128 .f32 → Arr F S16x207x128 .f32)
  :: StableHlo.unary main_while1b_v66 main_while1b_v67 (Host.exp : Arr F S16x207x128 .f32 → Arr F S16x207x128 .f32)
  :: StableHlo.nullary main_while1b_cst_32 (constant S_ .f32 0x3F800000#32)
  :: StableHlo.unary main_while1b_cst_32 main_while1b_v68 (broadcastInDim S16x207x128 ![] bcast_S_S16x207x128 : Arr F S_ .f32 → Arr F S16x207x128 .f32)
  :: StableHlo.binary main_while1b_v68 main_while1b_v67 main_while1b_v69 (addf : Arr F S16x207x128 .f32 → Arr F S16x207x128 .f32 → Arr F S16x207x128 .f32)
  :: StableHlo.nullary main_while1b_cst_33 (constant S_ .f32 0x3F800000#32)
  :: StableHlo.unary main_while1b_cst_33 main_while1b_v70 (broadcastInDim S16x207x128 ![] bcast_S_S16x207x128 : Arr F S_ .f32 → Arr F S16x207x128 .f32)
  :: StableHlo.binary main_while1b_v70 main_while1b_v69 main_while1b_v71 (Host.divf : Arr F S16x207x128 .f32 → Arr F S16x207x128 .f32 → Arr F S16x207x128 .f32)
  :: StableHlo.unary main_while1b_v71 main_while1b_v72 ((extractStridedSlice S16x207x64 ![0, 0, 0] · slices_S16x207x128_S16x207x64_0_0_0) : Arr F S16x207x128 .f32 → Arr F S16x207x64 .f32)
  :: StableHlo.unary main_while1b_v71 main_while1b_v73 ((extractStridedSlice S16x207x64 ![0, 0, 64] · slices_S16x207x128_S16x207x64_0_0_64) : Arr F S16x207x128 .f32 → Arr F S16x207x64 .f32)
  :: StableHlo.binary main_while1b_v72 main_v39_8 main_while1b_v74 (mulf : Arr F S16x207x64 .f32 → Arr F S16x207x64 .f32 → Arr F S16x207x64 .f32)
  :: StableHlo.binary main_while1b_v45 main_while1b_v74 main_while1b_v75 ((fun a b => concatenate S16x207x66 2 [⟨S16x207x2, a⟩, ⟨S16x207x64, b⟩] concatenates_S16x207x2_S16x207x64_S16x207x66_d2) : Arr F S16x207x2 .f32 → Arr F S16x207x64 .f32 → Arr F S16x207x66 .f32)
  :: StableHlo.unary main_while1b_v75 main_while1b_v76 ((transpose S207x66x16 [1, 2, 0] · transposes_S16x207x66_S207x66x16_1_2_0) : Arr F S16x207x66 .f32 → Arr F S207x66x16 .f32)
  :: StableHlo.reshape main_while1b_v76 main_while1b_v77 rfl shapeCasts_S207x66x16_S207x1056
  :: StableHlo.binary main_v39_1 main_while1b_v77 main_while1b_v78 ((fun l r => Host.dotGeneral dot_S207x207_S207x1056_S207x1056_1_0_0_1_n_n none l r) : Arr F S207x207 .f32 → Arr F S207x1056 .f32 → Arr F S207x1056 .f32)
  :: StableHlo.binary main_v39_1 main_while1b_v78 main_while1b_v79 ((fun l r => Host.dotGeneral dot_S207x207_S207x1056_S207x1056_1_0_0_1_n_n none l r) : Arr F S207x207 .f32 → Arr F S207x1056 .f32 → Arr F S207x1056 .f32)
  :: StableHlo.nullary main_while1b_cst_34 (constant S_ .f32 0x40000000#32)
  :: StableHlo.unary main_while1b_cst_34 main_while1b_v80 (broadcastInDim S207x1056 ![] bcast_S_S207x1056 : Arr F S_ .f32 → Arr F S207x1056 .f32)
  :: StableHlo.binary main_while1b_v80 main_while1b_v79 main_while1b_v81 (mulf : Arr F S207x1056 .f32 → Arr F S207x1056 .f32 → Arr F S207x1056 .f32)
  :: StableHlo.binary main_while1b_v81 main_while1b_v77 main_while1b_v82 (subf : Arr F S207x1056 .f32 → Arr F S207x1056 .f32 → Arr F S207x1056 .f32)
  :: StableHlo.unary main_while1b_v77 main_while1b_v83 (broadcastInDim S1x207x1056 ![1, 2] bcast_S207x1056_S1x207x1056_1_2 : Arr F S207x1056 .f32 → Arr F S1x207x1056 .f32)
  :: StableHlo.unary main_while1b_v78 main_while1b_v84 (broadcastInDim S1x207x1056 ![1, 2] bcast_S207x1056_S1x207x1056_1_2 : Arr F S207x1056 .f32 → Arr F S1x207x1056 .f32)
  :: StableHlo.unary main_while1b_v82 main_while1b_v85 (broadcastInDim S1x207x1056 ![1, 2] bcast_S207x1056_S1x207x1056_1_2 : Arr F S207x1056 .f32 → Arr F S1x207x1056 .f32)
  :: StableHlo.nary ![main_while1b_v83, main_while1b_v84, main_while1b_v85] main_while1b_v86 (fun u => (concatenate S3x207x1056 0 [⟨S1x207x1056, (u 0 : Arr F S1x207x1056 .f32)⟩, ⟨S1x207x1056, (u 1 : Arr F S1x207x1056 .f32)⟩, ⟨S1x207x1056, (u 2 : Arr F S1x207x1056 .f32)⟩] concatenates_S1x207x1056_S1x207x1056_S1x207x1056_S3x207x1056_d0 : Arr F S3x207x1056 .f32))
  :: StableHlo.reshape main_while1b_v86 main_while1b_v87 rfl shapeCasts_S3x207x1056_S3x207x66x16
  :: StableHlo.unary main_while1b_v87 main_while1b_v88 ((transpose S16x207x66x3 [3, 1, 2, 0] · transposes_S3x207x66x16_S16x207x66x3_3_1_2_0) : Arr F S3x207x66x16 .f32 → Arr F S16x207x66x3 .f32)
  :: StableHlo.reshape main_while1b_v88 main_while1b_v89 rfl shapeCasts_S16x207x66x3_S3312x198
  :: StableHlo.binary main_while1b_v89 main_v39_4 main_while1b_v90 ((fun l r => Host.dotGeneral dot_S3312x198_S198x64_S3312x64_1_0_0_1_n_n none l r) : Arr F S3312x198 .f32 → Arr F S198x64 .f32 → Arr F S3312x64 .f32)
  :: StableHlo.unary main_v39_5 main_while1b_v91 (broadcastInDim S1x64 ![1] bcast_S64_S1x64_1 : Arr F S64 .f32 → Arr F S1x64 .f32)
  :: StableHlo.unary main_while1b_v91 main_while1b_v92 (broadcastInDim S3312x64 ![0, 1] bcast_S1x64_S3312x64_0_1 : Arr F S1x64 .f32 → Arr F S3312x64 .f32)
  :: StableHlo.binary main_while1b_v90 main_while1b_v92 main_while1b_v93 (addf : Arr F S3312x64 .f32 → Arr F S3312x64 .f32 → Arr F S3312x64 .f32)
  :: StableHlo.reshape main_while1b_v93 main_while1b_v94 rfl shapeCasts_S3312x64_S16x207x64
  :: StableHlo.unary main_while1b_v94 main_while1b_v95 (Host.tanh : Arr F S16x207x64 .f32 → Arr F S16x207x64 .f32)
  :: StableHlo.binary main_while1b_v73 main_v39_8 main_while1b_v96 (mulf : Arr F S16x207x64 .f32 → Arr F S16x207x64 .f32 → Arr F S16x207x64 .f32)
  :: StableHlo.nullary main_while1b_cst_35 (constant S_ .f32 0x3F800000#32)
  :: StableHlo.unary main_while1b_cst_35 main_while1b_v97 (broadcastInDim S16x207x64 ![] bcast_S_S16x207x64 : Arr F S_ .f32 → Arr F S16x207x64 .f32)
  :: StableHlo.binary main_while1b_v97 main_while1b_v73 main_while1b_v98 (subf : Arr F S16x207x64 .f32 → Arr F S16x207x64 .f32 → Arr F S16x207x64 .f32)
  :: StableHlo.binary main_while1b_v98 main_while1b_v95 main_while1b_v99 (mulf : Arr F S16x207x64 .f32 → Arr F S16x207x64 .f32 → Arr F S16x207x64 .f32)
  :: StableHlo.binary main_while1b_v96 main_while1b_v99 main_while1b_v100 (addf : Arr F S16x207x64 .f32 → Arr F S16x207x64 .f32 → Arr F S16x207x64 .f32)
  :: [] )
/-- Each of them touches the TensorCore's buffers only. -/
theorem while1Ops0_2_sub : (while1Ops0_2 : List (HloOp τ sig (Elt F))).Forall fun op => op.bufs ⊆ StableHlo.tcRefs τ sig :=
  ⟨binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., binary_bufs_sub .., nullary_bufs_sub .., unary_bufs_sub .., binary_bufs_sub .., binary_bufs_sub .., binary_bufs_sub ..⟩
/-- 11 operations of `dynamic_update_index_in_dim`, in order. -/
abbrev while1Ops0_3 : List (HloOp τ sig (Elt F)) :=
  [ StableHlo.TRef.unary (.of main_while1b_v100 : StableHlo.TRef sig ⟨S16x207x64, .f32⟩) (.of main_while1b_call5_v0 : StableHlo.TRef sig ⟨S1x16x207x64, .f32⟩) (broadcastInDim S1x16x207x64 ![1, 2, 3] bcast_S16x207x64_S1x16x207x64_1_2_3),
    StableHlo.TRef.nullary (.of main_while1b_call5_c : StableHlo.TRef sig ⟨S_, .i32⟩) (constantI S_ 32 0#32),
    StableHlo.TRef.binary (.of main_v39_7 : StableHlo.TRef sig ⟨S_, .i32⟩) (.of main_while1b_call5_c : StableHlo.TRef sig ⟨S_, .i32⟩) (.of main_while1b_call5_v1 : StableHlo.TRef sig ⟨S_, .i1⟩) (cmpi .slt),
    StableHlo.TRef.unary (.of main_v39_7 : StableHlo.TRef sig ⟨S_, .i32⟩) (.of main_while1b_call5_v2 : StableHlo.TRef sig ⟨S_, .i32⟩) id,
    StableHlo.TRef.nullary (.of main_while1b_call5_c_0 : StableHlo.TRef sig ⟨S_, .i32⟩) (constantI S_ 32 12#32),
    StableHlo.TRef.binary (.of main_while1b_call5_v2 : StableHlo.TRef sig ⟨S_, .i32⟩) (.of main_while1b_call5_c_0 : StableHlo.TRef sig ⟨S_, .i32⟩) (.of main_while1b_call5_v3 : StableHlo.TRef sig ⟨S_, .i32⟩) addi,
    StableHlo.TRef.ternary (.of main_while1b_call5_v1 : StableHlo.TRef sig ⟨S_, .i1⟩) (.of main_while1b_call5_v3 : StableHlo.TRef sig ⟨S_, .i32⟩) (.of main_v39_7 : StableHlo.TRef sig ⟨S_, .i32⟩) (.of main_while1b_call5_v4 : StableHlo.TRef sig ⟨S_, .i32⟩) select,
    StableHlo.TRef.nullary (.of main_while1b_call5_c_1 : StableHlo.TRef sig ⟨S_, .i32⟩) (constantI S_ 32 0#32),
    StableHlo.TRef.nullary (.of main_while1b_call5_c_2 : StableHlo.TRef sig ⟨S_, .i32⟩) (constantI S_ 32 0#32),
    StableHlo.TRef.nullary (.of main_while1b_call5_c_3 : StableHlo.TRef sig ⟨S_, .i32⟩) (constantI S_ 32 0#32),
    StableHlo.TRef.binaryIndexed (.of main_v39_9 : StableHlo.TRef sig ⟨S12x16x207x64, .f32⟩) (.of main_while1b_call5_v0 : StableHlo.TRef sig ⟨S1x16x207x64, .f32⟩) ![(.of main_while1b_call5_v4 : StableHlo.TRef sig ⟨S_, .i32⟩), (.of main_while1b_call5_c_1 : StableHlo.TRef sig ⟨S_, .i32⟩), (.of main_while1b_call5_c_2 : StableHlo.TRef sig ⟨S_, .i32⟩), (.of main_while1b_call5_c_3 : StableHlo.TRef sig ⟨S_, .i32⟩)] (.of main_while1b_v101 : StableHlo.TRef sig ⟨S12x16x207x64, .f32⟩) (fun x u i => Host.dynamicUpdateSlice x u (fun k => (i k (Shape.Idx.first h_S_)).toInt) updateFits_S12x16x207x64_S1x16x207x64) ]
/-- Each of them touches the TensorCore's buffers only. -/
theorem while1Ops0_3_sub : (while1Ops0_3 : List (HloOp τ sig (Elt F))).Forall fun op => op.bufs ⊆ StableHlo.tcRefs τ sig :=
  ⟨unary_bufs_sub .., nullary_bufs_sub .., binary_bufs_sub .., unary_bufs_sub .., nullary_bufs_sub .., binary_bufs_sub .., ternary_bufs_sub .., nullary_bufs_sub .., nullary_bufs_sub .., nullary_bufs_sub .., binaryIndexed_bufs_sub ..⟩
/-- 6 operations of the body of loop 1, in order. -/
abbrev while1Ops0_4 : List (HloOp τ sig (Elt F)) :=
  [ StableHlo.nullary main_while1b_c_36 (constantI S_ 32 1#32),
    StableHlo.binary main_v39_6 main_while1b_c_36 main_while1b_v102 (addi : Arr F S_ .i32 → Arr F S_ .i32 → Arr F S_ .i32),
    StableHlo.unary main_while1b_v102 main_v39_6 id,
    StableHlo.unary main_while1b_v44 main_v39_7 id,
    StableHlo.unary main_while1b_v100 main_v39_8 id,
    StableHlo.unary main_while1b_v101 main_v39_9 id ]
/-- Each of them touches the TensorCore's buffers only. -/
theorem while1Ops0_4_sub : (while1Ops0_4 : List (HloOp τ sig (Elt F))).Forall fun op => op.bufs ⊆ StableHlo.tcRefs τ sig :=
  ⟨nullary_bufs_sub .., binary_bufs_sub .., unary_bufs_sub .., unary_bufs_sub .., unary_bufs_sub .., unary_bufs_sub ..⟩
/-- The body of loop 1 runs its stretches in order. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4 ] : Prog (TpuEff nD τ sig (Elt F) (HostLoop.Sig (Pipeline.Sig Λ₀ (Fin 0) fun p => (pcfgs (F := F) p).Adm) 4) .tc) PUnit) := by
  rewrite [StableHlo.chain_seq_cons, Pipeline.chain_cons, StableHlo.chain_seq_cons, Pipeline.chain_cons, StableHlo.chain_seq_cons]
  chain_rfl

/-- 2 operations of the body of loop 2, in order. -/
abbrev while2Ops0 : List (HloOp τ sig (Elt F)) :=
  [ StableHlo.nullary main_while2b_c_29 (constantI S_ 32 1#32),
    StableHlo.binary main_v40_7 main_while2b_c_29 main_while2b_v44 (addi : Arr F S_ .i32 → Arr F S_ .i32 → Arr F S_ .i32) ]
/-- Each of them touches the TensorCore's buffers only. -/
theorem while2Ops0_sub : (while2Ops0 : List (HloOp τ sig (Elt F))).Forall fun op => op.bufs ⊆ StableHlo.tcRefs τ sig :=
  ⟨nullary_bufs_sub .., binary_bufs_sub ..⟩
/-- 11 operations of `dynamic_index_in_dim_2`, in order. -/
abbrev while2Ops0_1 : List (HloOp τ sig (Elt F)) :=
  [ StableHlo.TRef.nullary (.of main_while2b_call6_c : StableHlo.TRef sig ⟨S_, .i32⟩) (constantI S_ 32 0#32),
    StableHlo.TRef.binary (.of main_v40_7 : StableHlo.TRef sig ⟨S_, .i32⟩) (.of main_while2b_call6_c : StableHlo.TRef sig ⟨S_, .i32⟩) (.of main_while2b_call6_v0 : StableHlo.TRef sig ⟨S_, .i1⟩) (cmpi .slt),
    StableHlo.TRef.unary (.of main_v40_7 : StableHlo.TRef sig ⟨S_, .i32⟩) (.of main_while2b_call6_v1 : StableHlo.TRef sig ⟨S_, .i32⟩) id,
    StableHlo.TRef.nullary (.of main_while2b_call6_c_0 : StableHlo.TRef sig ⟨S_, .i32⟩) (constantI S_ 32 12#32),
    StableHlo.TRef.binary (.of main_while2b_call6_v1 : StableHlo.TRef sig ⟨S_, .i32⟩) (.of main_while2b_call6_c_0 : StableHlo.TRef sig ⟨S_, .i32⟩) (.of main_while2b_call6_v2 : StableHlo.TRef sig ⟨S_, .i32⟩) addi,
    StableHlo.TRef.ternary (.of main_while2b_call6_v0 : StableHlo.TRef sig ⟨S_, .i1⟩) (.of main_while2b_call6_v2 : StableHlo.TRef sig ⟨S_, .i32⟩) (.of main_v40_7 : StableHlo.TRef sig ⟨S_, .i32⟩) (.of main_while2b_call6_v3 : StableHlo.TRef sig ⟨S_, .i32⟩) select,
    StableHlo.TRef.nullary (.of main_while2b_call6_c_1 : StableHlo.TRef sig ⟨S_, .i32⟩) (constantI S_ 32 0#32),
    StableHlo.TRef.nullary (.of main_while2b_call6_c_2 : StableHlo.TRef sig ⟨S_, .i32⟩) (constantI S_ 32 0#32),
    StableHlo.TRef.nullary (.of main_while2b_call6_c_3 : StableHlo.TRef sig ⟨S_, .i32⟩) (constantI S_ 32 0#32),
    StableHlo.TRef.unaryIndexed (.of main_v40_0 : StableHlo.TRef sig ⟨S12x16x207x64, .f32⟩) ![(.of main_while2b_call6_v3 : StableHlo.TRef sig ⟨S_, .i32⟩), (.of main_while2b_call6_c_1 : StableHlo.TRef sig ⟨S_, .i32⟩), (.of main_while2b_call6_c_2 : StableHlo.TRef sig ⟨S_, .i32⟩), (.of main_while2b_call6_c_3 : StableHlo.TRef sig ⟨S_, .i32⟩)] (.of main_while2b_call6_v4 : StableHlo.TRef sig ⟨S1x16x207x64, .f32⟩) (fun x i => Host.dynamicSlice S1x16x207x64 x (fun k => (i k (Shape.Idx.first h_S_)).toInt) sliceFits_S12x16x207x64_S1x16x207x64),
    StableHlo.TRef.reshape (.of main_while2b_call6_v4 : StableHlo.TRef sig ⟨S1x16x207x64, .f32⟩) (.of main_while2b_v45 : StableHlo.TRef sig ⟨S16x207x64, .f32⟩) rfl shapeCasts_S1x16x207x64_S16x207x64 ]
/-- Each of them touches the TensorCore's buffers only. -/
theorem while2Ops0_1_sub : (while2Ops0_1 : List (HloOp τ sig (Elt F))).Forall fun op => op.bufs ⊆ StableHlo.tcRefs τ sig :=
  ⟨nullary_bufs_sub .., binary_bufs_sub .., unary_bufs_sub .., nullary_bufs_sub .., binary_bufs_sub .., ternary_bufs_sub .., nullary_bufs_sub .., nullary_bufs_sub .., nullary_bufs_sub .., unaryIndexed_bufs_sub .., reshape_bufs_sub ..⟩
set_option maxHeartbeats 40000000 in
/-- 65 operations of the body of loop 2, in order. -/
abbrev while2Ops0_2 : List (HloOp τ sig (Elt F)) :=
  ( StableHlo.binary main_while2b_v45 main_v40_8 main_while2b_v46 ((fun a b => concatenate S16x207x128 2 [⟨S16x207x64, a⟩, ⟨S16x207x64, b⟩] concatenates_S16x207x64_S16x207x64_S16x207x128_d2) : Arr F S16x207x64 .f32 → Arr F S16x207x64 .f32 → Arr F S16x207x128 .f32)
  :: StableHlo.unary main_while2b_v46 main_while2b_v47 ((transpose S207x128x16 [1, 2, 0] · transposes_S16x207x128_S207x128x16_1_2_0) : Arr F S16x207x128 .f32 → Arr F S207x128x16 .f32)
  :: StableHlo.reshape main_while2b_v47 main_while2b_v48 rfl shapeCasts_S207x128x16_S207x2048
  :: StableHlo.binary main_v40_1 main_while2b_v48 main_while2b_v49 ((fun l r => Host.dotGeneral dot_S207x207_S207x2048_S207x2048_1_0_0_1_n_n none l r) : Arr F S207x207 .f32 → Arr F S207x2048 .f32 → Arr F S207x2048 .f32)
  :: StableHlo.binary main_v40_1 main_while2b_v49 main_while2b_v50 ((fun l r => Host.dotGeneral dot_S207x207_S207x2048_S207x2048_1_0_0_1_n_n none l r) : Arr F S207x207 .f32 → Arr F S207x2048 .f32 → Arr F S207x2048 .f32)
  :: StableHlo.nullary main_while2b_cst_30 (constant S_ .f32 0x40000000#32)
  :: StableHlo.unary main_while2b_cst_30 main_while2b_v51 (broadcastInDim S207x2048 ![] bcast_S_S207x2048 : Arr F S_ .f32 → Arr F S207x2048 .f32)
  :: StableHlo.binary main_while2b_v51 main_while2b_v50 main_while2b_v52 (mulf : Arr F S207x2048 .f32 → Arr F S207x2048 .f32 → Arr F S207x2048 .f32)
  :: StableHlo.binary main_while2b_v52 main_while2b_v48 main_while2b_v53 (subf : Arr F S207x2048 .f32 → Arr F S207x2048 .f32 → Arr F S207x2048 .f32)
  :: StableHlo.unary main_while2b_v48 main_while2b_v54 (broadcastInDim S1x207x2048 ![1, 2] bcast_S207x2048_S1x207x2048_1_2 : Arr F S207x2048 .f32 → Arr F S1x207x2048 .f32)
  :: StableHlo.unary main_while2b_v49 main_while2b_v55 (broadcastInDim S1x207x2048 ![1, 2] bcast_S207x2048_S1x207x2048_1_2 : Arr F S207x2048 .f32 → Arr F S1x207x2048 .f32)
  :: StableHlo.unary main_while2b_v53 main_while2b_v56 (broadcastInDim S1x207x2048 ![1, 2] bcast_S207x2048_S1x207x2048_1_2 : Arr F S207x2048 .f32 → Arr F S1x207x2048 .f32)
  :: StableHlo.nary ![main_while2b_v54, main_while2b_v55, main_while2b_v56] main_while2b_v57 (fun u => (concatenate S3x207x2048 0 [⟨S1x207x2048, (u 0 : Arr F S1x207x2048 .f32)⟩, ⟨S1x207x2048, (u 1 : Arr F S1x207x2048 .f32)⟩, ⟨S1x207x2048, (u 2 : Arr F S1x207x2048 .f32)⟩] concatenates_S1x207x2048_S1x207x2048_S1x207x2048_S3x207x2048_d0 : Arr F S3x207x2048 .f32))
  :: StableHlo.reshape main_while2b_v57 main_while2b_v58 rfl shapeCasts_S3x207x2048_S3x207x128x16
  :: StableHlo.unary main_while2b_v58 main_while2b_v59 ((transpose S16x207x128x3 [3, 1, 2, 0] · transposes_S3x207x128x16_S16x207x128x3_3_1_2_0) : Arr F S3x207x128x16 .f32 → Arr F S16x207x128x3 .f32)
  :: StableHlo.reshape main_while2b_v59 main_while2b_v60 rfl shapeCasts_S16x207x128x3_S3312x384
  :: StableHlo.binary main_while2b_v60 main_v40_2 main_while2b_v61 ((fun l r => Host.dotGeneral dot_S3312x384_S384x128_S3312x128_1_0_0_1_n_n none l r) : Arr F S3312x384 .f32 → Arr F S384x128 .f32 → Arr F S3312x128 .f32)
  :: StableHlo.unary main_v40_3 main_while2b_v62 (broadcastInDim S1x128 ![1] bcast_S128_S1x128_1 : Arr F S128 .f32 → Arr F S1x128 .f32)
  :: StableHlo.unary main_while2b_v62 main_while2b_v63 (broadcastInDim S3312x128 ![0, 1] bcast_S1x128_S3312x128_0_1 : Arr F S1x128 .f32 → Arr F S3312x128 .f32)
  :: StableHlo.binary main_while2b_v61 main_while2b_v63 main_while2b_v64 (addf : Arr F S3312x128 .f32 → Arr F S3312x128 .f32 → Arr F S3312x128 .f32)
  :: StableHlo.reshape main_while2b_v64 main_while2b_v65 rfl shapeCasts_S3312x128_S16x207x128
  :: StableHlo.unary main_while2b_v65 main_while2b_v66 (Host.negf : Arr F S16x207x128 .f32 → Arr F S16x207x128 .f32)
  :: StableHlo.unary main_while2b_v66 main_while2b_v67 (Host.exp : Arr F S16x207x128 .f32 → Arr F S16x207x128 .f32)
  :: StableHlo.nullary main_while2b_cst_31 (constant S_ .f32 0x3F800000#32)
  :: StableHlo.unary main_while2b_cst_31 main_while2b_v68 (broadcastInDim S16x207x128 ![] bcast_S_S16x207x128 : Arr F S_ .f32 → Arr F S16x207x128 .f32)
  :: StableHlo.binary main_while2b_v68 main_while2b_v67 main_while2b_v69 (addf : Arr F S16x207x128 .f32 → Arr F S16x207x128 .f32 → Arr F S16x207x128 .f32)
  :: StableHlo.nullary main_while2b_cst_32 (constant S_ .f32 0x3F800000#32)
  :: StableHlo.unary main_while2b_cst_32 main_while2b_v70 (broadcastInDim S16x207x128 ![] bcast_S_S16x207x128 : Arr F S_ .f32 → Arr F S16x207x128 .f32)
  :: StableHlo.binary main_while2b_v70 main_while2b_v69 main_while2b_v71 (Host.divf : Arr F S16x207x128 .f32 → Arr F S16x207x128 .f32 → Arr F S16x207x128 .f32)
  :: StableHlo.unary main_while2b_v71 main_while2b_v72 ((extractStridedSlice S16x207x64 ![0, 0, 0] · slices_S16x207x128_S16x207x64_0_0_0) : Arr F S16x207x128 .f32 → Arr F S16x207x64 .f32)
  :: StableHlo.unary main_while2b_v71 main_while2b_v73 ((extractStridedSlice S16x207x64 ![0, 0, 64] · slices_S16x207x128_S16x207x64_0_0_64) : Arr F S16x207x128 .f32 → Arr F S16x207x64 .f32)
  :: StableHlo.binary main_while2b_v72 main_v40_8 main_while2b_v74 (mulf : Arr F S16x207x64 .f32 → Arr F S16x207x64 .f32 → Arr F S16x207x64 .f32)
  :: StableHlo.binary main_while2b_v45 main_while2b_v74 main_while2b_v75 ((fun a b => concatenate S16x207x128 2 [⟨S16x207x64, a⟩, ⟨S16x207x64, b⟩] concatenates_S16x207x64_S16x207x64_S16x207x128_d2) : Arr F S16x207x64 .f32 → Arr F S16x207x64 .f32 → Arr F S16x207x128 .f32)
  :: StableHlo.unary main_while2b_v75 main_while2b_v76 ((transpose S207x128x16 [1, 2, 0] · transposes_S16x207x128_S207x128x16_1_2_0) : Arr F S16x207x128 .f32 → Arr F S207x128x16 .f32)
  :: StableHlo.reshape main_while2b_v76 main_while2b_v77 rfl shapeCasts_S207x128x16_S207x2048
  :: StableHlo.binary main_v40_1 main_while2b_v77 main_while2b_v78 ((fun l r => Host.dotGeneral dot_S207x207_S207x2048_S207x2048_1_0_0_1_n_n none l r) : Arr F S207x207 .f32 → Arr F S207x2048 .f32 → Arr F S207x2048 .f32)
  :: StableHlo.binary main_v40_1 main_while2b_v78 main_while2b_v79 ((fun l r => Host.dotGeneral dot_S207x207_S207x2048_S207x2048_1_0_0_1_n_n none l r) : Arr F S207x207 .f32 → Arr F S207x2048 .f32 → Arr F S207x2048 .f32)
  :: StableHlo.nullary main_while2b_cst_33 (constant S_ .f32 0x40000000#32)
  :: StableHlo.unary main_while2b_cst_33 main_while2b_v80 (broadcastInDim S207x2048 ![] bcast_S_S207x2048 : Arr F S_ .f32 → Arr F S207x2048 .f32)
  :: StableHlo.binary main_while2b_v80 main_while2b_v79 main_while2b_v81 (mulf : Arr F S207x2048 .f32 → Arr F S207x2048 .f32 → Arr F S207x2048 .f32)
  :: StableHlo.binary main_while2b_v81 main_while2b_v77 main_while2b_v82 (subf : Arr F S207x2048 .f32 → Arr F S207x2048 .f32 → Arr F S207x2048 .f32)
  :: StableHlo.unary main_while2b_v77 main_while2b_v83 (broadcastInDim S1x207x2048 ![1, 2] bcast_S207x2048_S1x207x2048_1_2 : Arr F S207x2048 .f32 → Arr F S1x207x2048 .f32)
  :: StableHlo.unary main_while2b_v78 main_while2b_v84 (broadcastInDim S1x207x2048 ![1, 2] bcast_S207x2048_S1x207x2048_1_2 : Arr F S207x2048 .f32 → Arr F S1x207x2048 .f32)
  :: StableHlo.unary main_while2b_v82 main_while2b_v85 (broadcastInDim S1x207x2048 ![1, 2] bcast_S207x2048_S1x207x2048_1_2 : Arr F S207x2048 .f32 → Arr F S1x207x2048 .f32)
  :: StableHlo.nary ![main_while2b_v83, main_while2b_v84, main_while2b_v85] main_while2b_v86 (fun u => (concatenate S3x207x2048 0 [⟨S1x207x2048, (u 0 : Arr F S1x207x2048 .f32)⟩, ⟨S1x207x2048, (u 1 : Arr F S1x207x2048 .f32)⟩, ⟨S1x207x2048, (u 2 : Arr F S1x207x2048 .f32)⟩] concatenates_S1x207x2048_S1x207x2048_S1x207x2048_S3x207x2048_d0 : Arr F S3x207x2048 .f32))
  :: StableHlo.reshape main_while2b_v86 main_while2b_v87 rfl shapeCasts_S3x207x2048_S3x207x128x16
  :: StableHlo.unary main_while2b_v87 main_while2b_v88 ((transpose S16x207x128x3 [3, 1, 2, 0] · transposes_S3x207x128x16_S16x207x128x3_3_1_2_0) : Arr F S3x207x128x16 .f32 → Arr F S16x207x128x3 .f32)
  :: StableHlo.reshape main_while2b_v88 main_while2b_v89 rfl shapeCasts_S16x207x128x3_S3312x384
  :: StableHlo.binary main_while2b_v89 main_v40_4 main_while2b_v90 ((fun l r => Host.dotGeneral dot_S3312x384_S384x64_S3312x64_1_0_0_1_n_n none l r) : Arr F S3312x384 .f32 → Arr F S384x64 .f32 → Arr F S3312x64 .f32)
  :: StableHlo.unary main_v40_5 main_while2b_v91 (broadcastInDim S1x64 ![1] bcast_S64_S1x64_1 : Arr F S64 .f32 → Arr F S1x64 .f32)
  :: StableHlo.unary main_while2b_v91 main_while2b_v92 (broadcastInDim S3312x64 ![0, 1] bcast_S1x64_S3312x64_0_1 : Arr F S1x64 .f32 → Arr F S3312x64 .f32)
  :: StableHlo.binary main_while2b_v90 main_while2b_v92 main_while2b_v93 (addf : Arr F S3312x64 .f32 → Arr F S3312x64 .f32 → Arr F S3312x64 .f32)
  :: StableHlo.reshape main_while2b_v93 main_while2b_v94 rfl shapeCasts_S3312x64_S16x207x64
  :: StableHlo.unary main_while2b_v94 main_while2b_v95 (Host.tanh : Arr F S16x207x64 .f32 → Arr F S16x207x64 .f32)
  :: StableHlo.binary main_while2b_v73 main_v40_8 main_while2b_v96 (mulf : Arr F S16x207x64 .f32 → Arr F S16x207x64 .f32 → Arr F S16x207x64 .f32)
  :: StableHlo.nullary main_while2b_cst_34 (constant S_ .f32 0x3F800000#32)
  :: StableHlo.unary main_while2b_cst_34 main_while2b_v97 (broadcastInDim S16x207x64 ![] bcast_S_S16x207x64 : Arr F S_ .f32 → Arr F S16x207x64 .f32)
  :: StableHlo.binary main_while2b_v97 main_while2b_v73 main_while2b_v98 (subf : Arr F S16x207x64 .f32 → Arr F S16x207x64 .f32 → Arr F S16x207x64 .f32)
  :: StableHlo.binary main_while2b_v98 main_while2b_v95 main_while2b_v99 (mulf : Arr F S16x207x64 .f32 → Arr F S16x207x64 .f32 → Arr F S16x207x64 .f32)
  :: StableHlo.binary main_while2b_v96 main_while2b_v99 main_while2b_v100 (addf : Arr F S16x207x64 .f32 → Arr F S16x207x64 .f32 → Arr F S16x207x64 .f32)
  :: StableHlo.nullary main_while2b_c_35 (constantI S_ 32 1#32)
  :: StableHlo.binary main_v40_6 main_while2b_c_35 main_while2b_v101 (addi : Arr F S_ .i32 → Arr F S_ .i32 → Arr F S_ .i32)
  :: StableHlo.unary main_while2b_v101 main_v40_6 id
  :: StableHlo.unary main_while2b_v44 main_v40_7 id
  :: StableHlo.unary main_while2b_v100 main_v40_8 id
  :: [] )
set_option maxHeartbeats 40000000 in
/-- Each of them touches the TensorCore's buffers only. -/
theorem while2Ops0_2_sub : (while2Ops0_2 : List (HloOp τ sig (Elt F))).Forall fun op => op.bufs ⊆ StableHlo.tcRefs τ sig :=
  ⟨binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., binary_bufs_sub .., nullary_bufs_sub .., unary_bufs_sub .., binary_bufs_sub .., binary_bufs_sub .., binary_bufs_sub .., nullary_bufs_sub .., binary_bufs_sub .., unary_bufs_sub .., unary_bufs_sub .., unary_bufs_sub ..⟩
/-- The body of loop 2 runs its stretches in order. -/
theorem while2_body_chain : main_while2_body (F := F) = (Pipeline.chain
  [ StableHlo.seq while2Ops0,
    StableHlo.seq while2Ops0_1,
    StableHlo.seq while2Ops0_2 ] : Prog (TpuEff nD τ sig (Elt F) (HostLoop.Sig (Pipeline.Sig Λ₀ (Fin 0) fun p => (pcfgs (F := F) p).Adm) 4) .tc) PUnit) := by
  rewrite [StableHlo.chain_seq_cons, Pipeline.chain_cons, StableHlo.chain_seq_cons]
  chain_rfl

set_option maxHeartbeats 40000000 in
/-- 126 operations of the body of loop 3, in order. -/
abbrev while3Ops0 : List (HloOp τ sig (Elt F)) :=
  ( StableHlo.nullary main_while3b_c_37 (constantI S_ 32 1#32)
  :: StableHlo.binary main_v43_12 main_while3b_c_37 main_while3b_v44 (addi : Arr F S_ .i32 → Arr F S_ .i32 → Arr F S_ .i32)
  :: StableHlo.binary main_v43_15 main_v43_13 main_while3b_v45 ((fun a b => concatenate S16x207x65 2 [⟨S16x207x1, a⟩, ⟨S16x207x64, b⟩] concatenates_S16x207x1_S16x207x64_S16x207x65_d2) : Arr F S16x207x1 .f32 → Arr F S16x207x64 .f32 → Arr F S16x207x65 .f32)
  :: StableHlo.unary main_while3b_v45 main_while3b_v46 ((transpose S207x65x16 [1, 2, 0] · transposes_S16x207x65_S207x65x16_1_2_0) : Arr F S16x207x65 .f32 → Arr F S207x65x16 .f32)
  :: StableHlo.reshape main_while3b_v46 main_while3b_v47 rfl shapeCasts_S207x65x16_S207x1040
  :: StableHlo.binary main_v43_0 main_while3b_v47 main_while3b_v48 ((fun l r => Host.dotGeneral dot_S207x207_S207x1040_S207x1040_1_0_0_1_n_n none l r) : Arr F S207x207 .f32 → Arr F S207x1040 .f32 → Arr F S207x1040 .f32)
  :: StableHlo.binary main_v43_0 main_while3b_v48 main_while3b_v49 ((fun l r => Host.dotGeneral dot_S207x207_S207x1040_S207x1040_1_0_0_1_n_n none l r) : Arr F S207x207 .f32 → Arr F S207x1040 .f32 → Arr F S207x1040 .f32)
  :: StableHlo.nullary main_while3b_cst_38 (constant S_ .f32 0x40000000#32)
  :: StableHlo.unary main_while3b_cst_38 main_while3b_v50 (broadcastInDim S207x1040 ![] bcast_S_S207x1040 : Arr F S_ .f32 → Arr F S207x1040 .f32)
  :: StableHlo.binary main_while3b_v50 main_while3b_v49 main_while3b_v51 (mulf : Arr F S207x1040 .f32 → Arr F S207x1040 .f32 → Arr F S207x1040 .f32)
  :: StableHlo.binary main_while3b_v51 main_while3b_v47 main_while3b_v52 (subf : Arr F S207x1040 .f32 → Arr F S207x1040 .f32 → Arr F S207x1040 .f32)
  :: StableHlo.unary main_while3b_v47 main_while3b_v53 (broadcastInDim S1x207x1040 ![1, 2] bcast_S207x1040_S1x207x1040_1_2 : Arr F S207x1040 .f32 → Arr F S1x207x1040 .f32)
  :: StableHlo.unary main_while3b_v48 main_while3b_v54 (broadcastInDim S1x207x1040 ![1, 2] bcast_S207x1040_S1x207x1040_1_2 : Arr F S207x1040 .f32 → Arr F S1x207x1040 .f32)
  :: StableHlo.unary main_while3b_v52 main_while3b_v55 (broadcastInDim S1x207x1040 ![1, 2] bcast_S207x1040_S1x207x1040_1_2 : Arr F S207x1040 .f32 → Arr F S1x207x1040 .f32)
  :: StableHlo.nary ![main_while3b_v53, main_while3b_v54, main_while3b_v55] main_while3b_v56 (fun u => (concatenate S3x207x1040 0 [⟨S1x207x1040, (u 0 : Arr F S1x207x1040 .f32)⟩, ⟨S1x207x1040, (u 1 : Arr F S1x207x1040 .f32)⟩, ⟨S1x207x1040, (u 2 : Arr F S1x207x1040 .f32)⟩] concatenates_S1x207x1040_S1x207x1040_S1x207x1040_S3x207x1040_d0 : Arr F S3x207x1040 .f32))
  :: StableHlo.reshape main_while3b_v56 main_while3b_v57 rfl shapeCasts_S3x207x1040_S3x207x65x16
  :: StableHlo.unary main_while3b_v57 main_while3b_v58 ((transpose S16x207x65x3 [3, 1, 2, 0] · transposes_S3x207x65x16_S16x207x65x3_3_1_2_0) : Arr F S3x207x65x16 .f32 → Arr F S16x207x65x3 .f32)
  :: StableHlo.reshape main_while3b_v58 main_while3b_v59 rfl shapeCasts_S16x207x65x3_S3312x195
  :: StableHlo.binary main_while3b_v59 main_v43_1 main_while3b_v60 ((fun l r => Host.dotGeneral dot_S3312x195_S195x128_S3312x128_1_0_0_1_n_n none l r) : Arr F S3312x195 .f32 → Arr F S195x128 .f32 → Arr F S3312x128 .f32)
  :: StableHlo.unary main_v43_2 main_while3b_v61 (broadcastInDim S1x128 ![1] bcast_S128_S1x128_1 : Arr F S128 .f32 → Arr F S1x128 .f32)
  :: StableHlo.unary main_while3b_v61 main_while3b_v62 (broadcastInDim S3312x128 ![0, 1] bcast_S1x128_S3312x128_0_1 : Arr F S1x128 .f32 → Arr F S3312x128 .f32)
  :: StableHlo.binary main_while3b_v60 main_while3b_v62 main_while3b_v63 (addf : Arr F S3312x128 .f32 → Arr F S3312x128 .f32 → Arr F S3312x128 .f32)
  :: StableHlo.reshape main_while3b_v63 main_while3b_v64 rfl shapeCasts_S3312x128_S16x207x128
  :: StableHlo.unary main_while3b_v64 main_while3b_v65 (Host.negf : Arr F S16x207x128 .f32 → Arr F S16x207x128 .f32)
  :: StableHlo.unary main_while3b_v65 main_while3b_v66 (Host.exp : Arr F S16x207x128 .f32 → Arr F S16x207x128 .f32)
  :: StableHlo.nullary main_while3b_cst_39 (constant S_ .f32 0x3F800000#32)
  :: StableHlo.unary main_while3b_cst_39 main_while3b_v67 (broadcastInDim S16x207x128 ![] bcast_S_S16x207x128 : Arr F S_ .f32 → Arr F S16x207x128 .f32)
  :: StableHlo.binary main_while3b_v67 main_while3b_v66 main_while3b_v68 (addf : Arr F S16x207x128 .f32 → Arr F S16x207x128 .f32 → Arr F S16x207x128 .f32)
  :: StableHlo.nullary main_while3b_cst_40 (constant S_ .f32 0x3F800000#32)
  :: StableHlo.unary main_while3b_cst_40 main_while3b_v69 (broadcastInDim S16x207x128 ![] bcast_S_S16x207x128 : Arr F S_ .f32 → Arr F S16x207x128 .f32)
  :: StableHlo.binary main_while3b_v69 main_while3b_v68 main_while3b_v70 (Host.divf : Arr F S16x207x128 .f32 → Arr F S16x207x128 .f32 → Arr F S16x207x128 .f32)
  :: StableHlo.unary main_while3b_v70 main_while3b_v71 ((extractStridedSlice S16x207x64 ![0, 0, 0] · slices_S16x207x128_S16x207x64_0_0_0) : Arr F S16x207x128 .f32 → Arr F S16x207x64 .f32)
  :: StableHlo.unary main_while3b_v70 main_while3b_v72 ((extractStridedSlice S16x207x64 ![0, 0, 64] · slices_S16x207x128_S16x207x64_0_0_64) : Arr F S16x207x128 .f32 → Arr F S16x207x64 .f32)
  :: StableHlo.binary main_while3b_v71 main_v43_13 main_while3b_v73 (mulf : Arr F S16x207x64 .f32 → Arr F S16x207x64 .f32 → Arr F S16x207x64 .f32)
  :: StableHlo.binary main_v43_15 main_while3b_v73 main_while3b_v74 ((fun a b => concatenate S16x207x65 2 [⟨S16x207x1, a⟩, ⟨S16x207x64, b⟩] concatenates_S16x207x1_S16x207x64_S16x207x65_d2) : Arr F S16x207x1 .f32 → Arr F S16x207x64 .f32 → Arr F S16x207x65 .f32)
  :: StableHlo.unary main_while3b_v74 main_while3b_v75 ((transpose S207x65x16 [1, 2, 0] · transposes_S16x207x65_S207x65x16_1_2_0) : Arr F S16x207x65 .f32 → Arr F S207x65x16 .f32)
  :: StableHlo.reshape main_while3b_v75 main_while3b_v76 rfl shapeCasts_S207x65x16_S207x1040
  :: StableHlo.binary main_v43_0 main_while3b_v76 main_while3b_v77 ((fun l r => Host.dotGeneral dot_S207x207_S207x1040_S207x1040_1_0_0_1_n_n none l r) : Arr F S207x207 .f32 → Arr F S207x1040 .f32 → Arr F S207x1040 .f32)
  :: StableHlo.binary main_v43_0 main_while3b_v77 main_while3b_v78 ((fun l r => Host.dotGeneral dot_S207x207_S207x1040_S207x1040_1_0_0_1_n_n none l r) : Arr F S207x207 .f32 → Arr F S207x1040 .f32 → Arr F S207x1040 .f32)
  :: StableHlo.nullary main_while3b_cst_41 (constant S_ .f32 0x40000000#32)
  :: StableHlo.unary main_while3b_cst_41 main_while3b_v79 (broadcastInDim S207x1040 ![] bcast_S_S207x1040 : Arr F S_ .f32 → Arr F S207x1040 .f32)
  :: StableHlo.binary main_while3b_v79 main_while3b_v78 main_while3b_v80 (mulf : Arr F S207x1040 .f32 → Arr F S207x1040 .f32 → Arr F S207x1040 .f32)
  :: StableHlo.binary main_while3b_v80 main_while3b_v76 main_while3b_v81 (subf : Arr F S207x1040 .f32 → Arr F S207x1040 .f32 → Arr F S207x1040 .f32)
  :: StableHlo.unary main_while3b_v76 main_while3b_v82 (broadcastInDim S1x207x1040 ![1, 2] bcast_S207x1040_S1x207x1040_1_2 : Arr F S207x1040 .f32 → Arr F S1x207x1040 .f32)
  :: StableHlo.unary main_while3b_v77 main_while3b_v83 (broadcastInDim S1x207x1040 ![1, 2] bcast_S207x1040_S1x207x1040_1_2 : Arr F S207x1040 .f32 → Arr F S1x207x1040 .f32)
  :: StableHlo.unary main_while3b_v81 main_while3b_v84 (broadcastInDim S1x207x1040 ![1, 2] bcast_S207x1040_S1x207x1040_1_2 : Arr F S207x1040 .f32 → Arr F S1x207x1040 .f32)
  :: StableHlo.nary ![main_while3b_v82, main_while3b_v83, main_while3b_v84] main_while3b_v85 (fun u => (concatenate S3x207x1040 0 [⟨S1x207x1040, (u 0 : Arr F S1x207x1040 .f32)⟩, ⟨S1x207x1040, (u 1 : Arr F S1x207x1040 .f32)⟩, ⟨S1x207x1040, (u 2 : Arr F S1x207x1040 .f32)⟩] concatenates_S1x207x1040_S1x207x1040_S1x207x1040_S3x207x1040_d0 : Arr F S3x207x1040 .f32))
  :: StableHlo.reshape main_while3b_v85 main_while3b_v86 rfl shapeCasts_S3x207x1040_S3x207x65x16
  :: StableHlo.unary main_while3b_v86 main_while3b_v87 ((transpose S16x207x65x3 [3, 1, 2, 0] · transposes_S3x207x65x16_S16x207x65x3_3_1_2_0) : Arr F S3x207x65x16 .f32 → Arr F S16x207x65x3 .f32)
  :: StableHlo.reshape main_while3b_v87 main_while3b_v88 rfl shapeCasts_S16x207x65x3_S3312x195
  :: StableHlo.binary main_while3b_v88 main_v43_3 main_while3b_v89 ((fun l r => Host.dotGeneral dot_S3312x195_S195x64_S3312x64_1_0_0_1_n_n none l r) : Arr F S3312x195 .f32 → Arr F S195x64 .f32 → Arr F S3312x64 .f32)
  :: StableHlo.unary main_v43_4 main_while3b_v90 (broadcastInDim S1x64 ![1] bcast_S64_S1x64_1 : Arr F S64 .f32 → Arr F S1x64 .f32)
  :: StableHlo.unary main_while3b_v90 main_while3b_v91 (broadcastInDim S3312x64 ![0, 1] bcast_S1x64_S3312x64_0_1 : Arr F S1x64 .f32 → Arr F S3312x64 .f32)
  :: StableHlo.binary main_while3b_v89 main_while3b_v91 main_while3b_v92 (addf : Arr F S3312x64 .f32 → Arr F S3312x64 .f32 → Arr F S3312x64 .f32)
  :: StableHlo.reshape main_while3b_v92 main_while3b_v93 rfl shapeCasts_S3312x64_S16x207x64
  :: StableHlo.unary main_while3b_v93 main_while3b_v94 (Host.tanh : Arr F S16x207x64 .f32 → Arr F S16x207x64 .f32)
  :: StableHlo.binary main_while3b_v72 main_v43_13 main_while3b_v95 (mulf : Arr F S16x207x64 .f32 → Arr F S16x207x64 .f32 → Arr F S16x207x64 .f32)
  :: StableHlo.nullary main_while3b_cst_42 (constant S_ .f32 0x3F800000#32)
  :: StableHlo.unary main_while3b_cst_42 main_while3b_v96 (broadcastInDim S16x207x64 ![] bcast_S_S16x207x64 : Arr F S_ .f32 → Arr F S16x207x64 .f32)
  :: StableHlo.binary main_while3b_v96 main_while3b_v72 main_while3b_v97 (subf : Arr F S16x207x64 .f32 → Arr F S16x207x64 .f32 → Arr F S16x207x64 .f32)
  :: StableHlo.binary main_while3b_v97 main_while3b_v94 main_while3b_v98 (mulf : Arr F S16x207x64 .f32 → Arr F S16x207x64 .f32 → Arr F S16x207x64 .f32)
  :: StableHlo.binary main_while3b_v95 main_while3b_v98 main_while3b_v99 (addf : Arr F S16x207x64 .f32 → Arr F S16x207x64 .f32 → Arr F S16x207x64 .f32)
  :: StableHlo.binary main_while3b_v99 main_v43_14 main_while3b_v100 ((fun a b => concatenate S16x207x128 2 [⟨S16x207x64, a⟩, ⟨S16x207x64, b⟩] concatenates_S16x207x64_S16x207x64_S16x207x128_d2) : Arr F S16x207x64 .f32 → Arr F S16x207x64 .f32 → Arr F S16x207x128 .f32)
  :: StableHlo.unary main_while3b_v100 main_while3b_v101 ((transpose S207x128x16 [1, 2, 0] · transposes_S16x207x128_S207x128x16_1_2_0) : Arr F S16x207x128 .f32 → Arr F S207x128x16 .f32)
  :: StableHlo.reshape main_while3b_v101 main_while3b_v102 rfl shapeCasts_S207x128x16_S207x2048
  :: StableHlo.binary main_v43_0 main_while3b_v102 main_while3b_v103 ((fun l r => Host.dotGeneral dot_S207x207_S207x2048_S207x2048_1_0_0_1_n_n none l r) : Arr F S207x207 .f32 → Arr F S207x2048 .f32 → Arr F S207x2048 .f32)
  :: StableHlo.binary main_v43_0 main_while3b_v103 main_while3b_v104 ((fun l r => Host.dotGeneral dot_S207x207_S207x2048_S207x2048_1_0_0_1_n_n none l r) : Arr F S207x207 .f32 → Arr F S207x2048 .f32 → Arr F S207x2048 .f32)
  :: StableHlo.nullary main_while3b_cst_43 (constant S_ .f32 0x40000000#32)
  :: StableHlo.unary main_while3b_cst_43 main_while3b_v105 (broadcastInDim S207x2048 ![] bcast_S_S207x2048 : Arr F S_ .f32 → Arr F S207x2048 .f32)
  :: StableHlo.binary main_while3b_v105 main_while3b_v104 main_while3b_v106 (mulf : Arr F S207x2048 .f32 → Arr F S207x2048 .f32 → Arr F S207x2048 .f32)
  :: StableHlo.binary main_while3b_v106 main_while3b_v102 main_while3b_v107 (subf : Arr F S207x2048 .f32 → Arr F S207x2048 .f32 → Arr F S207x2048 .f32)
  :: StableHlo.unary main_while3b_v102 main_while3b_v108 (broadcastInDim S1x207x2048 ![1, 2] bcast_S207x2048_S1x207x2048_1_2 : Arr F S207x2048 .f32 → Arr F S1x207x2048 .f32)
  :: StableHlo.unary main_while3b_v103 main_while3b_v109 (broadcastInDim S1x207x2048 ![1, 2] bcast_S207x2048_S1x207x2048_1_2 : Arr F S207x2048 .f32 → Arr F S1x207x2048 .f32)
  :: StableHlo.unary main_while3b_v107 main_while3b_v110 (broadcastInDim S1x207x2048 ![1, 2] bcast_S207x2048_S1x207x2048_1_2 : Arr F S207x2048 .f32 → Arr F S1x207x2048 .f32)
  :: StableHlo.nary ![main_while3b_v108, main_while3b_v109, main_while3b_v110] main_while3b_v111 (fun u => (concatenate S3x207x2048 0 [⟨S1x207x2048, (u 0 : Arr F S1x207x2048 .f32)⟩, ⟨S1x207x2048, (u 1 : Arr F S1x207x2048 .f32)⟩, ⟨S1x207x2048, (u 2 : Arr F S1x207x2048 .f32)⟩] concatenates_S1x207x2048_S1x207x2048_S1x207x2048_S3x207x2048_d0 : Arr F S3x207x2048 .f32))
  :: StableHlo.reshape main_while3b_v111 main_while3b_v112 rfl shapeCasts_S3x207x2048_S3x207x128x16
  :: StableHlo.unary main_while3b_v112 main_while3b_v113 ((transpose S16x207x128x3 [3, 1, 2, 0] · transposes_S3x207x128x16_S16x207x128x3_3_1_2_0) : Arr F S3x207x128x16 .f32 → Arr F S16x207x128x3 .f32)
  :: StableHlo.reshape main_while3b_v113 main_while3b_v114 rfl shapeCasts_S16x207x128x3_S3312x384
  :: StableHlo.binary main_while3b_v114 main_v43_5 main_while3b_v115 ((fun l r => Host.dotGeneral dot_S3312x384_S384x128_S3312x128_1_0_0_1_n_n none l r) : Arr F S3312x384 .f32 → Arr F S384x128 .f32 → Arr F S3312x128 .f32)
  :: StableHlo.unary main_v43_6 main_while3b_v116 (broadcastInDim S1x128 ![1] bcast_S128_S1x128_1 : Arr F S128 .f32 → Arr F S1x128 .f32)
  :: StableHlo.unary main_while3b_v116 main_while3b_v117 (broadcastInDim S3312x128 ![0, 1] bcast_S1x128_S3312x128_0_1 : Arr F S1x128 .f32 → Arr F S3312x128 .f32)
  :: StableHlo.binary main_while3b_v115 main_while3b_v117 main_while3b_v118 (addf : Arr F S3312x128 .f32 → Arr F S3312x128 .f32 → Arr F S3312x128 .f32)
  :: StableHlo.reshape main_while3b_v118 main_while3b_v119 rfl shapeCasts_S3312x128_S16x207x128
  :: StableHlo.unary main_while3b_v119 main_while3b_v120 (Host.negf : Arr F S16x207x128 .f32 → Arr F S16x207x128 .f32)
  :: StableHlo.unary main_while3b_v120 main_while3b_v121 (Host.exp : Arr F S16x207x128 .f32 → Arr F S16x207x128 .f32)
  :: StableHlo.nullary main_while3b_cst_44 (constant S_ .f32 0x3F800000#32)
  :: StableHlo.unary main_while3b_cst_44 main_while3b_v122 (broadcastInDim S16x207x128 ![] bcast_S_S16x207x128 : Arr F S_ .f32 → Arr F S16x207x128 .f32)
  :: StableHlo.binary main_while3b_v122 main_while3b_v121 main_while3b_v123 (addf : Arr F S16x207x128 .f32 → Arr F S16x207x128 .f32 → Arr F S16x207x128 .f32)
  :: StableHlo.nullary main_while3b_cst_45 (constant S_ .f32 0x3F800000#32)
  :: StableHlo.unary main_while3b_cst_45 main_while3b_v124 (broadcastInDim S16x207x128 ![] bcast_S_S16x207x128 : Arr F S_ .f32 → Arr F S16x207x128 .f32)
  :: StableHlo.binary main_while3b_v124 main_while3b_v123 main_while3b_v125 (Host.divf : Arr F S16x207x128 .f32 → Arr F S16x207x128 .f32 → Arr F S16x207x128 .f32)
  :: StableHlo.unary main_while3b_v125 main_while3b_v126 ((extractStridedSlice S16x207x64 ![0, 0, 0] · slices_S16x207x128_S16x207x64_0_0_0) : Arr F S16x207x128 .f32 → Arr F S16x207x64 .f32)
  :: StableHlo.unary main_while3b_v125 main_while3b_v127 ((extractStridedSlice S16x207x64 ![0, 0, 64] · slices_S16x207x128_S16x207x64_0_0_64) : Arr F S16x207x128 .f32 → Arr F S16x207x64 .f32)
  :: StableHlo.binary main_while3b_v126 main_v43_14 main_while3b_v128 (mulf : Arr F S16x207x64 .f32 → Arr F S16x207x64 .f32 → Arr F S16x207x64 .f32)
  :: StableHlo.binary main_while3b_v99 main_while3b_v128 main_while3b_v129 ((fun a b => concatenate S16x207x128 2 [⟨S16x207x64, a⟩, ⟨S16x207x64, b⟩] concatenates_S16x207x64_S16x207x64_S16x207x128_d2) : Arr F S16x207x64 .f32 → Arr F S16x207x64 .f32 → Arr F S16x207x128 .f32)
  :: StableHlo.unary main_while3b_v129 main_while3b_v130 ((transpose S207x128x16 [1, 2, 0] · transposes_S16x207x128_S207x128x16_1_2_0) : Arr F S16x207x128 .f32 → Arr F S207x128x16 .f32)
  :: StableHlo.reshape main_while3b_v130 main_while3b_v131 rfl shapeCasts_S207x128x16_S207x2048
  :: StableHlo.binary main_v43_0 main_while3b_v131 main_while3b_v132 ((fun l r => Host.dotGeneral dot_S207x207_S207x2048_S207x2048_1_0_0_1_n_n none l r) : Arr F S207x207 .f32 → Arr F S207x2048 .f32 → Arr F S207x2048 .f32)
  :: StableHlo.binary main_v43_0 main_while3b_v132 main_while3b_v133 ((fun l r => Host.dotGeneral dot_S207x207_S207x2048_S207x2048_1_0_0_1_n_n none l r) : Arr F S207x207 .f32 → Arr F S207x2048 .f32 → Arr F S207x2048 .f32)
  :: StableHlo.nullary main_while3b_cst_46 (constant S_ .f32 0x40000000#32)
  :: StableHlo.unary main_while3b_cst_46 main_while3b_v134 (broadcastInDim S207x2048 ![] bcast_S_S207x2048 : Arr F S_ .f32 → Arr F S207x2048 .f32)
  :: StableHlo.binary main_while3b_v134 main_while3b_v133 main_while3b_v135 (mulf : Arr F S207x2048 .f32 → Arr F S207x2048 .f32 → Arr F S207x2048 .f32)
  :: StableHlo.binary main_while3b_v135 main_while3b_v131 main_while3b_v136 (subf : Arr F S207x2048 .f32 → Arr F S207x2048 .f32 → Arr F S207x2048 .f32)
  :: StableHlo.unary main_while3b_v131 main_while3b_v137 (broadcastInDim S1x207x2048 ![1, 2] bcast_S207x2048_S1x207x2048_1_2 : Arr F S207x2048 .f32 → Arr F S1x207x2048 .f32)
  :: StableHlo.unary main_while3b_v132 main_while3b_v138 (broadcastInDim S1x207x2048 ![1, 2] bcast_S207x2048_S1x207x2048_1_2 : Arr F S207x2048 .f32 → Arr F S1x207x2048 .f32)
  :: StableHlo.unary main_while3b_v136 main_while3b_v139 (broadcastInDim S1x207x2048 ![1, 2] bcast_S207x2048_S1x207x2048_1_2 : Arr F S207x2048 .f32 → Arr F S1x207x2048 .f32)
  :: StableHlo.nary ![main_while3b_v137, main_while3b_v138, main_while3b_v139] main_while3b_v140 (fun u => (concatenate S3x207x2048 0 [⟨S1x207x2048, (u 0 : Arr F S1x207x2048 .f32)⟩, ⟨S1x207x2048, (u 1 : Arr F S1x207x2048 .f32)⟩, ⟨S1x207x2048, (u 2 : Arr F S1x207x2048 .f32)⟩] concatenates_S1x207x2048_S1x207x2048_S1x207x2048_S3x207x2048_d0 : Arr F S3x207x2048 .f32))
  :: StableHlo.reshape main_while3b_v140 main_while3b_v141 rfl shapeCasts_S3x207x2048_S3x207x128x16
  :: StableHlo.unary main_while3b_v141 main_while3b_v142 ((transpose S16x207x128x3 [3, 1, 2, 0] · transposes_S3x207x128x16_S16x207x128x3_3_1_2_0) : Arr F S3x207x128x16 .f32 → Arr F S16x207x128x3 .f32)
  :: StableHlo.reshape main_while3b_v142 main_while3b_v143 rfl shapeCasts_S16x207x128x3_S3312x384
  :: StableHlo.binary main_while3b_v143 main_v43_7 main_while3b_v144 ((fun l r => Host.dotGeneral dot_S3312x384_S384x64_S3312x64_1_0_0_1_n_n none l r) : Arr F S3312x384 .f32 → Arr F S384x64 .f32 → Arr F S3312x64 .f32)
  :: StableHlo.unary main_v43_8 main_while3b_v145 (broadcastInDim S1x64 ![1] bcast_S64_S1x64_1 : Arr F S64 .f32 → Arr F S1x64 .f32)
  :: StableHlo.unary main_while3b_v145 main_while3b_v146 (broadcastInDim S3312x64 ![0, 1] bcast_S1x64_S3312x64_0_1 : Arr F S1x64 .f32 → Arr F S3312x64 .f32)
  :: StableHlo.binary main_while3b_v144 main_while3b_v146 main_while3b_v147 (addf : Arr F S3312x64 .f32 → Arr F S3312x64 .f32 → Arr F S3312x64 .f32)
  :: StableHlo.reshape main_while3b_v147 main_while3b_v148 rfl shapeCasts_S3312x64_S16x207x64
  :: StableHlo.unary main_while3b_v148 main_while3b_v149 (Host.tanh : Arr F S16x207x64 .f32 → Arr F S16x207x64 .f32)
  :: StableHlo.binary main_while3b_v127 main_v43_14 main_while3b_v150 (mulf : Arr F S16x207x64 .f32 → Arr F S16x207x64 .f32 → Arr F S16x207x64 .f32)
  :: StableHlo.nullary main_while3b_cst_47 (constant S_ .f32 0x3F800000#32)
  :: StableHlo.unary main_while3b_cst_47 main_while3b_v151 (broadcastInDim S16x207x64 ![] bcast_S_S16x207x64 : Arr F S_ .f32 → Arr F S16x207x64 .f32)
  :: StableHlo.binary main_while3b_v151 main_while3b_v127 main_while3b_v152 (subf : Arr F S16x207x64 .f32 → Arr F S16x207x64 .f32 → Arr F S16x207x64 .f32)
  :: StableHlo.binary main_while3b_v152 main_while3b_v149 main_while3b_v153 (mulf : Arr F S16x207x64 .f32 → Arr F S16x207x64 .f32 → Arr F S16x207x64 .f32)
  :: StableHlo.binary main_while3b_v150 main_while3b_v153 main_while3b_v154 (addf : Arr F S16x207x64 .f32 → Arr F S16x207x64 .f32 → Arr F S16x207x64 .f32)
  :: StableHlo.binary main_while3b_v154 main_v43_9 main_while3b_v155 ((fun l r => Host.dotGeneral dot_S16x207x64_S64x1_S16x207x1_2_0_01_1_n_n none l r) : Arr F S16x207x64 .f32 → Arr F S64x1 .f32 → Arr F S16x207x1 .f32)
  :: StableHlo.unary main_v43_10 main_while3b_v156 (broadcastInDim S1x1x1 ![2] bcast_S1_S1x1x1_2 : Arr F S1 .f32 → Arr F S1x1x1 .f32)
  :: StableHlo.unary main_while3b_v156 main_while3b_v157 (broadcastInDim S16x207x1 ![0, 1, 2] bcast_S1x1x1_S16x207x1_0_1_2 : Arr F S1x1x1 .f32 → Arr F S16x207x1 .f32)
  :: StableHlo.binary main_while3b_v155 main_while3b_v157 main_while3b_v158 (addf : Arr F S16x207x1 .f32 → Arr F S16x207x1 .f32 → Arr F S16x207x1 .f32)
  :: [] )
set_option maxHeartbeats 40000000 in
/-- Each of them touches the TensorCore's buffers only. -/
theorem while3Ops0_sub : (while3Ops0 : List (HloOp τ sig (Elt F))).Forall fun op => op.bufs ⊆ StableHlo.tcRefs τ sig :=
  ⟨nullary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., binary_bufs_sub .., nullary_bufs_sub .., unary_bufs_sub .., binary_bufs_sub .., binary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub ..⟩
/-- 11 operations of `dynamic_update_index_in_dim_3`, in order. -/
abbrev while3Ops0_1 : List (HloOp τ sig (Elt F)) :=
  [ StableHlo.TRef.unary (.of main_while3b_v158 : StableHlo.TRef sig ⟨S16x207x1, .f32⟩) (.of main_while3b_call7_v0 : StableHlo.TRef sig ⟨S16x1x207x1, .f32⟩) (broadcastInDim S16x1x207x1 ![0, 2, 3] bcast_S16x207x1_S16x1x207x1_0_2_3),
    StableHlo.TRef.nullary (.of main_while3b_call7_c : StableHlo.TRef sig ⟨S_, .i32⟩) (constantI S_ 32 0#32),
    StableHlo.TRef.binary (.of main_v43_12 : StableHlo.TRef sig ⟨S_, .i32⟩) (.of main_while3b_call7_c : StableHlo.TRef sig ⟨S_, .i32⟩) (.of main_while3b_call7_v1 : StableHlo.TRef sig ⟨S_, .i1⟩) (cmpi .slt),
    StableHlo.TRef.unary (.of main_v43_12 : StableHlo.TRef sig ⟨S_, .i32⟩) (.of main_while3b_call7_v2 : StableHlo.TRef sig ⟨S_, .i32⟩) id,
    StableHlo.TRef.nullary (.of main_while3b_call7_c_0 : StableHlo.TRef sig ⟨S_, .i32⟩) (constantI S_ 32 12#32),
    StableHlo.TRef.binary (.of main_while3b_call7_v2 : StableHlo.TRef sig ⟨S_, .i32⟩) (.of main_while3b_call7_c_0 : StableHlo.TRef sig ⟨S_, .i32⟩) (.of main_while3b_call7_v3 : StableHlo.TRef sig ⟨S_, .i32⟩) addi,
    StableHlo.TRef.ternary (.of main_while3b_call7_v1 : StableHlo.TRef sig ⟨S_, .i1⟩) (.of main_while3b_call7_v3 : StableHlo.TRef sig ⟨S_, .i32⟩) (.of main_v43_12 : StableHlo.TRef sig ⟨S_, .i32⟩) (.of main_while3b_call7_v4 : StableHlo.TRef sig ⟨S_, .i32⟩) select,
    StableHlo.TRef.nullary (.of main_while3b_call7_c_1 : StableHlo.TRef sig ⟨S_, .i32⟩) (constantI S_ 32 0#32),
    StableHlo.TRef.nullary (.of main_while3b_call7_c_2 : StableHlo.TRef sig ⟨S_, .i32⟩) (constantI S_ 32 0#32),
    StableHlo.TRef.nullary (.of main_while3b_call7_c_3 : StableHlo.TRef sig ⟨S_, .i32⟩) (constantI S_ 32 0#32),
    StableHlo.TRef.binaryIndexed (.of main_v43_16 : StableHlo.TRef sig ⟨S16x12x207x1, .f32⟩) (.of main_while3b_call7_v0 : StableHlo.TRef sig ⟨S16x1x207x1, .f32⟩) ![(.of main_while3b_call7_c_1 : StableHlo.TRef sig ⟨S_, .i32⟩), (.of main_while3b_call7_v4 : StableHlo.TRef sig ⟨S_, .i32⟩), (.of main_while3b_call7_c_2 : StableHlo.TRef sig ⟨S_, .i32⟩), (.of main_while3b_call7_c_3 : StableHlo.TRef sig ⟨S_, .i32⟩)] (.of main_while3b_v159 : StableHlo.TRef sig ⟨S16x12x207x1, .f32⟩) (fun x u i => Host.dynamicUpdateSlice x u (fun k => (i k (Shape.Idx.first h_S_)).toInt) updateFits_S16x12x207x1_S16x1x207x1) ]
/-- Each of them touches the TensorCore's buffers only. -/
theorem while3Ops0_1_sub : (while3Ops0_1 : List (HloOp τ sig (Elt F))).Forall fun op => op.bufs ⊆ StableHlo.tcRefs τ sig :=
  ⟨unary_bufs_sub .., nullary_bufs_sub .., binary_bufs_sub .., unary_bufs_sub .., nullary_bufs_sub .., binary_bufs_sub .., ternary_bufs_sub .., nullary_bufs_sub .., nullary_bufs_sub .., nullary_bufs_sub .., binaryIndexed_bufs_sub ..⟩
/-- 8 operations of the body of loop 3, in order. -/
abbrev while3Ops0_2 : List (HloOp τ sig (Elt F)) :=
  [ StableHlo.nullary main_while3b_c_48 (constantI S_ 32 1#32),
    StableHlo.binary main_v43_11 main_while3b_c_48 main_while3b_v160 (addi : Arr F S_ .i32 → Arr F S_ .i32 → Arr F S_ .i32),
    StableHlo.unary main_while3b_v160 main_v43_11 id,
    StableHlo.unary main_while3b_v44 main_v43_12 id,
    StableHlo.unary main_while3b_v99 main_v43_13 id,
    StableHlo.unary main_while3b_v154 main_v43_14 id,
    StableHlo.unary main_while3b_v158 main_v43_15 id,
    StableHlo.unary main_while3b_v159 main_v43_16 id ]
/-- Each of them touches the TensorCore's buffers only. -/
theorem while3Ops0_2_sub : (while3Ops0_2 : List (HloOp τ sig (Elt F))).Forall fun op => op.bufs ⊆ StableHlo.tcRefs τ sig :=
  ⟨nullary_bufs_sub .., binary_bufs_sub .., unary_bufs_sub .., unary_bufs_sub .., unary_bufs_sub .., unary_bufs_sub .., unary_bufs_sub .., unary_bufs_sub ..⟩
/-- The body of loop 3 runs its stretches in order. -/
theorem while3_body_chain : main_while3_body (F := F) = (Pipeline.chain
  [ StableHlo.seq while3Ops0,
    StableHlo.seq while3Ops0_1,
    StableHlo.seq while3Ops0_2 ] : Prog (TpuEff nD τ sig (Elt F) (HostLoop.Sig (Pipeline.Sig Λ₀ (Fin 0) fun p => (pcfgs (F := F) p).Adm) 4) .tc) PUnit) := by
  rewrite [StableHlo.chain_seq_cons, Pipeline.chain_cons, StableHlo.chain_seq_cons]
  chain_rfl

/-- The two operations of time loop 0's exit test: the bound twelve, and the comparison of the counter with it. -/
abbrev cond0Ops : List (HloOp τ sig (Elt F)) :=
  [ StableHlo.nullary main_while0c_c_28 (constantI S_ 32 12#32),
    StableHlo.binary main_v3_5 main_while0c_c_28 main_while0c_v44 (cmpi .slt : Arr F S_ .i32 → Arr F S_ .i32 → Arr F S_ .i1) ]

/-- The two operations of time loop 1's exit test: the bound twelve, and the comparison of the counter with it. -/
abbrev cond1Ops : List (HloOp τ sig (Elt F)) :=
  [ StableHlo.nullary main_while1c_c_30 (constantI S_ 32 12#32),
    StableHlo.binary main_v39_6 main_while1c_c_30 main_while1c_v44 (cmpi .slt : Arr F S_ .i32 → Arr F S_ .i32 → Arr F S_ .i1) ]

/-- The two operations of time loop 2's exit test: the bound twelve, and the comparison of the counter with it. -/
abbrev cond2Ops : List (HloOp τ sig (Elt F)) :=
  [ StableHlo.nullary main_while2c_c_29 (constantI S_ 32 12#32),
    StableHlo.binary main_v40_6 main_while2c_c_29 main_while2c_v44 (cmpi .slt : Arr F S_ .i32 → Arr F S_ .i32 → Arr F S_ .i1) ]

/-- The two operations of time loop 3's exit test: the bound twelve, and the comparison of the counter with it. -/
abbrev cond3Ops : List (HloOp τ sig (Elt F)) :=
  [ StableHlo.nullary main_while3c_c_37 (constantI S_ 32 12#32),
    StableHlo.binary main_v43_11 main_while3c_c_37 main_while3c_v44 (cmpi .slt : Arr F S_ .i32 → Arr F S_ .i32 → Arr F S_ .i1) ]

end Cert.ReferenceIdeal.Gen
-- ==== Proof.RefCells.lean ====
/-
  The reference's mathematics as functions of arrays: one step of the recurrent pass, the latent adjacency and its
  sparsified random-walk normalisation, the diffusion-convolution cell at each input width, and one step of the encoder
  and of the decoder.
-/
module

public import proofs.«01_k».proof.Proof.RefLists

@[expose] public section

noncomputable section

namespace Cert.Proof.Ref

open Idealize.ShloMosaic Cert.ReferenceIdeal Cert.ReferenceIdeal.Gen

variable {F : FTy → Type} [FloatOps F]

/-- The scalar one. -/
def one : Vec F S_ .f32 := constant S_ .f32 0x3F800000#32
/-- The scalar two. -/
def two : Vec F S_ .f32 := constant S_ .f32 0x40000000#32
/-- The scalar zero. -/
def zero : Vec F S_ .f32 := constant S_ .f32 0x00000000#32

/-- The index of a time step as the indexing functions of the program normalise it: a negative one counts from the end. -/
def stepIndex (t : Vec F S_ .i32) : Vec F S_ .i32 :=
  select (cmpi .slt t (constantI S_ 32 0#32)) (addi t (constantI S_ 32 12#32)) t

/-! ## The recurrent pass -/

/-- The rows of time step `t`. -/
def frameRows (xt : Vec F S12x3312x2 .f32) (t : Vec F S_ .i32) : Vec F S3312x2 .f32 :=
  shapeCast S3312x2 (Host.dynamicSlice S1x3312x2 xt
    (fun k => ((![stepIndex t, constantI S_ 32 0#32, constantI S_ 32 0#32] : Fin 3 → Vec F S_ .i32) k (Shape.Idx.first h_S_)).toInt)
    sliceFits_S12x3312x2_S1x3312x2) shapeCasts_S1x3312x2_S3312x2

/-- The logistic function on the rows' features. -/
def sigmRows (x : Vec F S3312x64 .f32) : Vec F S3312x64 .f32 :=
  Host.divf (broadcastInDim S3312x64 ![] bcast_S_S3312x64 one)
    (addf (broadcastInDim S3312x64 ![] bcast_S_S3312x64 one) (Host.exp (Host.negf x)))

/-- The input's affine image. -/
def gateIn (x : Vec F S3312x2 .f32) (wih : Vec F S192x2 .f32) (bih : Vec F S192 .f32) : Vec F S3312x192 .f32 :=
  addf (Host.dotGeneral dot_S3312x2_S2x192_S3312x192_1_0_0_1_n_n none x (transpose S2x192 [1, 0] wih transposes_S192x2_S2x192_1_0))
    (broadcastInDim S3312x192 ![0, 1] bcast_S1x192_S3312x192_0_1 (broadcastInDim S1x192 ![1] bcast_S192_S1x192_1 bih))

/-- The state's affine image. -/
def gateState (h : Vec F S3312x64 .f32) (whh : Vec F S192x64 .f32) (bhh : Vec F S192 .f32) : Vec F S3312x192 .f32 :=
  addf (Host.dotGeneral dot_S3312x64_S64x192_S3312x192_1_0_0_1_n_n none h (transpose S64x192 [1, 0] whh transposes_S192x64_S64x192_1_0))
    (broadcastInDim S3312x192 ![0, 1] bcast_S1x192_S3312x192_0_1 (broadcastInDim S1x192 ![1] bcast_S192_S1x192_1 bhh))

/-- The first, second and third block of sixty-four columns. -/
def part0 (g : Vec F S3312x192 .f32) : Vec F S3312x64 .f32 := extractStridedSlice S3312x64 ![0, 0] g slices_S3312x192_S3312x64_0_0
def part1 (g : Vec F S3312x192 .f32) : Vec F S3312x64 .f32 := extractStridedSlice S3312x64 ![0, 64] g slices_S3312x192_S3312x64_0_64
def part2 (g : Vec F S3312x192 .f32) : Vec F S3312x64 .f32 := extractStridedSlice S3312x64 ![0, 128] g slices_S3312x192_S3312x64_0_128

/-- The new state from the two affine images and the old state. -/
def gruMix (gi gh : Vec F S3312x192 .f32) (h : Vec F S3312x64 .f32) : Vec F S3312x64 .f32 :=
  addf
    (mulf (subf (broadcastInDim S3312x64 ![] bcast_S_S3312x64 one) (sigmRows (addf (part1 gi) (part1 gh))))
      (Host.tanh (addf (part2 gi) (mulf (sigmRows (addf (part0 gi) (part0 gh))) (part2 gh)))))
    (mulf (sigmRows (addf (part1 gi) (part1 gh))) h)

/-- One step of the recurrent pass on the rows `x`. -/
def gru (x : Vec F S3312x2 .f32) (wih : Vec F S192x2 .f32) (bih : Vec F S192 .f32) (whh : Vec F S192x64 .f32)
    (bhh : Vec F S192 .f32) (h : Vec F S3312x64 .f32) : Vec F S3312x64 .f32 :=
  gruMix (gateIn x wih bih) (gateState h whh bhh) h

/-! ## The support -/

/-- The rectified scores of every pair of nodes. -/
def scores (h : Vec F S3312x64 .f32) (wk wq : Vec F S64x32 .f32) : Vec F S16x207x207 .f32 :=
  maximumf (Host.dotGeneral dot_S16x207x32_S16x207x32_S16x207x207_2_2_1_1_0_0 none
      (Host.dotGeneral dot_S16x207x64_S64x32_S16x207x32_2_0_01_1_n_n none (shapeCast S16x207x64 h shapeCasts_S3312x64_S16x207x64) wk)
      (Host.dotGeneral dot_S16x207x64_S64x32_S16x207x32_2_0_01_1_n_n none (shapeCast S16x207x64 h shapeCasts_S3312x64_S16x207x64) wq))
    (broadcastInDim S16x207x207 ![] bcast_S_S16x207x207 zero)

/-- A value per row, written along the row. -/
def alongRow (v : Vec F S16x207 .f32) : Vec F S16x207x207 .f32 :=
  broadcastInDim S16x207x207 ![0, 1, 2] bcast_S16x207x1_S16x207x207_0_1_2 (broadcastInDim S16x207x1 ![0, 1] bcast_S16x207_S16x207x1_0_1 v)

/-- The exponentials of the scores less their row's largest. -/
def expScores (a : Vec F S16x207x207 .f32) : Vec F S16x207x207 .f32 :=
  Host.exp (subf a (alongRow
    (maximumf (broadcastInDim S16x207 ![] bcast_S_S16x207 (constant S_ .f32 0xFF800000#32))
      (Host.reduce FloatOps.maximumf a (constant S_ .f32 0xFF800000#32) reducesTo_S16x207x207_S16x207_d2 h_S_))))

/-- The softmax of each row. -/
def softmax (a : Vec F S16x207x207 .f32) : Vec F S16x207x207 .f32 :=
  Host.divf (expScores a) (alongRow (Host.reduceAdd (expScores a) zero reducesTo_S16x207x207_S16x207_d2 h_S_))

/-- The mean over the batch. -/
def mean (p : Vec F S16x207x207 .f32) : Vec F S207x207 .f32 :=
  Host.divf (Host.reduceAdd p zero reducesTo_S16x207x207_S207x207_d0 h_S_)
    (broadcastInDim S207x207 ![] bcast_S_S207x207 (constant S_ .f32 0x41800000#32))

/-- The thirtieth largest of each row. -/
def threshold (adj : Vec F S207x207 .f32) : Vec F S207x1 .f32 :=
  extractStridedSlice S207x1 ![0, 29] (Host.topK S207x30 1 (FloatOps.cmpfTotal .gt) adj sliceFits_S207x207_S207x30).1 slices_S207x30_S207x1_0_29

/-- The entries not below their row's threshold; the others zero. -/
def kept (adj : Vec F S207x207 .f32) : Vec F S207x207 .f32 :=
  select (cmpf .oge adj (broadcastInDim S207x207 ![0, 1] bcast_S207x1_S207x207_0_1 (threshold adj))) adj
    (broadcastInDim S207x207 ![] bcast_S_S207x207 zero)

/-- Each row's sum. -/
def degree (a : Vec F S207x207 .f32) : Vec F S207 .f32 := Host.reduceAdd a zero reducesTo_S207x207_S207_d1 h_S_

/-- The reciprocal of a positive degree; zero where it is not. -/
def invDegree (d : Vec F S207 .f32) : Vec F S207 .f32 :=
  select (cmpf .ogt d (broadcastInDim S207 ![] bcast_S_S207 zero)) (Host.divf (broadcastInDim S207 ![] bcast_S_S207 one) d)
    (broadcastInDim S207 ![] bcast_S_S207 zero)

/-- Each row divided by its degree. -/
def normalised (a : Vec F S207x207 .f32) : Vec F S207x207 .f32 :=
  mulf (broadcastInDim S207x207 ![0, 1] bcast_S207x1_S207x207_0_1 (broadcastInDim S207x1 ![0] bcast_S207_S207x1_0 (invDegree (degree a)))) a

/-- The support: the mean softmax, sparsified and normalised. -/
def support (h : Vec F S3312x64 .f32) (wk wq : Vec F S64x32 .f32) : Vec F S207x207 .f32 :=
  normalised (kept (mean (softmax (scores h wk wq))))

/-! ## The cells -/

/-- The logistic function on the gates. -/
def sigmGates (x : Vec F S16x207x128 .f32) : Vec F S16x207x128 .f32 :=
  Host.divf (broadcastInDim S16x207x128 ![] bcast_S_S16x207x128 one)
    (addf (broadcastInDim S16x207x128 ![] bcast_S_S16x207x128 one) (Host.exp (Host.negf x)))

/-- The reset gate. -/
def resetGate (g : Vec F S16x207x128 .f32) : Vec F S16x207x64 .f32 := extractStridedSlice S16x207x64 ![0, 0, 0] g slices_S16x207x128_S16x207x64_0_0_0
/-- The update gate. -/
def updateGate (g : Vec F S16x207x128 .f32) : Vec F S16x207x64 .f32 := extractStridedSlice S16x207x64 ![0, 0, 64] g slices_S16x207x128_S16x207x64_0_0_64

/-- The new state from the update gate, the candidate and the old state. -/
def blend (u c h : Vec F S16x207x64 .f32) : Vec F S16x207x64 .f32 :=
  addf (mulf u h) (mulf (subf (broadcastInDim S16x207x64 ![] bcast_S_S16x207x64 one) u) c)

/-- The input and the state beside it, node by node: width 2 and sixty-four. -/
def flat2 (x : Vec F S16x207x2 .f32) (h : Vec F S16x207x64 .f32) : Vec F S207x1056 .f32 :=
  shapeCast S207x1056 (transpose S207x66x16 [1, 2, 0]
    (concatenate S16x207x66 2 [⟨S16x207x2, x⟩, ⟨S16x207x64, h⟩] concatenates_S16x207x2_S16x207x64_S16x207x66_d2)
    transposes_S16x207x66_S207x66x16_1_2_0) shapeCasts_S207x66x16_S207x1056

/-- The support applied. -/
def spread2 (S : Vec F S207x207 .f32) (y : Vec F S207x1056 .f32) : Vec F S207x1056 .f32 :=
  Host.dotGeneral dot_S207x207_S207x1056_S207x1056_1_0_0_1_n_n none S y

/-- The second diffusion term from the zeroth and the first. -/
def second2 (S : Vec F S207x207 .f32) (y z : Vec F S207x1056 .f32) : Vec F S207x1056 .f32 :=
  subf (mulf (broadcastInDim S207x1056 ![] bcast_S_S207x1056 two) (spread2 S z)) y

/-- Three arrays stacked. -/
def stack2 (y z v : Vec F S1x207x1056 .f32) : Vec F S3x207x1056 .f32 :=
  concatenate S3x207x1056 0 [⟨S1x207x1056, y⟩, ⟨S1x207x1056, z⟩, ⟨S1x207x1056, v⟩]
    concatenates_S1x207x1056_S1x207x1056_S1x207x1056_S3x207x1056_d0

/-- Three diffusion terms, one feature row per batch entry and node. -/
def rows2 (y z v : Vec F S207x1056 .f32) : Vec F S3312x198 .f32 :=
  shapeCast S3312x198 (transpose S16x207x66x3 [3, 1, 2, 0]
    (shapeCast S3x207x66x16
      (stack2 (broadcastInDim S1x207x1056 ![1, 2] bcast_S207x1056_S1x207x1056_1_2 y)
        (broadcastInDim S1x207x1056 ![1, 2] bcast_S207x1056_S1x207x1056_1_2 z)
        (broadcastInDim S1x207x1056 ![1, 2] bcast_S207x1056_S1x207x1056_1_2 v))
      shapeCasts_S3x207x1056_S3x207x66x16)
    transposes_S3x207x66x16_S16x207x66x3_3_1_2_0) shapeCasts_S16x207x66x3_S3312x198

/-- The three diffusion terms of the input beside the state. -/
def terms2 (S : Vec F S207x207 .f32) (x : Vec F S16x207x2 .f32) (h : Vec F S16x207x64 .f32) : Vec F S3312x198 .f32 :=
  rows2 (flat2 x h) (spread2 S (flat2 x h)) (second2 S (flat2 x h) (spread2 S (flat2 x h)))

/-- The diffusion convolution to 128 features. -/
def conv2x128 (S : Vec F S207x207 .f32) (x : Vec F S16x207x2 .f32) (h : Vec F S16x207x64 .f32) (W : Vec F S198x128 .f32)
    (b : Vec F S128 .f32) : Vec F S16x207x128 .f32 :=
  shapeCast S16x207x128 (addf (Host.dotGeneral dot_S3312x198_S198x128_S3312x128_1_0_0_1_n_n none (terms2 S x h) W)
    (broadcastInDim S3312x128 ![0, 1] bcast_S1x128_S3312x128_0_1 (broadcastInDim S1x128 ![1] bcast_S128_S1x128_1 b)))
    shapeCasts_S3312x128_S16x207x128

/-- The diffusion convolution to 64 features. -/
def conv2x64 (S : Vec F S207x207 .f32) (x : Vec F S16x207x2 .f32) (h : Vec F S16x207x64 .f32) (W : Vec F S198x64 .f32)
    (b : Vec F S64 .f32) : Vec F S16x207x64 .f32 :=
  shapeCast S16x207x64 (addf (Host.dotGeneral dot_S3312x198_S198x64_S3312x64_1_0_0_1_n_n none (terms2 S x h) W)
    (broadcastInDim S3312x64 ![0, 1] bcast_S1x64_S3312x64_0_1 (broadcastInDim S1x64 ![1] bcast_S64_S1x64_1 b)))
    shapeCasts_S3312x64_S16x207x64

/-- The gates of a cell of input width 2. -/
def gates2 (S : Vec F S207x207 .f32) (x : Vec F S16x207x2 .f32) (h : Vec F S16x207x64 .f32) (Wg : Vec F S198x128 .f32)
    (bg : Vec F S128 .f32) : Vec F S16x207x128 .f32 :=
  sigmGates (conv2x128 S x h Wg bg)

/-- The state after a cell of input width 2, given its gates. -/
def after2 (S : Vec F S207x207 .f32) (x : Vec F S16x207x2 .f32) (h : Vec F S16x207x64 .f32) (g : Vec F S16x207x128 .f32)
    (Wc : Vec F S198x64 .f32) (bc : Vec F S64 .f32) : Vec F S16x207x64 .f32 :=
  blend (updateGate g) (Host.tanh (conv2x64 S x (mulf (resetGate g) h) Wc bc)) h

/-- A cell of input width 2. -/
def cell2 (S : Vec F S207x207 .f32) (x : Vec F S16x207x2 .f32) (h : Vec F S16x207x64 .f32) (Wg : Vec F S198x128 .f32)
    (bg : Vec F S128 .f32) (Wc : Vec F S198x64 .f32) (bc : Vec F S64 .f32) : Vec F S16x207x64 .f32 :=
  after2 S x h (gates2 S x h Wg bg) Wc bc

/-- The input and the state beside it, node by node: width 64 and sixty-four. -/
def flat64 (x : Vec F S16x207x64 .f32) (h : Vec F S16x207x64 .f32) : Vec F S207x2048 .f32 :=
  shapeCast S207x2048 (transpose S207x128x16 [1, 2, 0]
    (concatenate S16x207x128 2 [⟨S16x207x64, x⟩, ⟨S16x207x64, h⟩] concatenates_S16x207x64_S16x207x64_S16x207x128_d2)
    transposes_S16x207x128_S207x128x16_1_2_0) shapeCasts_S207x128x16_S207x2048

/-- The support applied. -/
def spread64 (S : Vec F S207x207 .f32) (y : Vec F S207x2048 .f32) : Vec F S207x2048 .f32 :=
  Host.dotGeneral dot_S207x207_S207x2048_S207x2048_1_0_0_1_n_n none S y

/-- The second diffusion term from the zeroth and the first. -/
def second64 (S : Vec F S207x207 .f32) (y z : Vec F S207x2048 .f32) : Vec F S207x2048 .f32 :=
  subf (mulf (broadcastInDim S207x2048 ![] bcast_S_S207x2048 two) (spread64 S z)) y

/-- Three arrays stacked. -/
def stack64 (y z v : Vec F S1x207x2048 .f32) : Vec F S3x207x2048 .f32 :=
  concatenate S3x207x2048 0 [⟨S1x207x2048, y⟩, ⟨S1x207x2048, z⟩, ⟨S1x207x2048, v⟩]
    concatenates_S1x207x2048_S1x207x2048_S1x207x2048_S3x207x2048_d0

/-- Three diffusion terms, one feature row per batch entry and node. -/
def rows64 (y z v : Vec F S207x2048 .f32) : Vec F S3312x384 .f32 :=
  shapeCast S3312x384 (transpose S16x207x128x3 [3, 1, 2, 0]
    (shapeCast S3x207x128x16
      (stack64 (broadcastInDim S1x207x2048 ![1, 2] bcast_S207x2048_S1x207x2048_1_2 y)
        (broadcastInDim S1x207x2048 ![1, 2] bcast_S207x2048_S1x207x2048_1_2 z)
        (broadcastInDim S1x207x2048 ![1, 2] bcast_S207x2048_S1x207x2048_1_2 v))
      shapeCasts_S3x207x2048_S3x207x128x16)
    transposes_S3x207x128x16_S16x207x128x3_3_1_2_0) shapeCasts_S16x207x128x3_S3312x384

/-- The three diffusion terms of the input beside the state. -/
def terms64 (S : Vec F S207x207 .f32) (x : Vec F S16x207x64 .f32) (h : Vec F S16x207x64 .f32) : Vec F S3312x384 .f32 :=
  rows64 (flat64 x h) (spread64 S (flat64 x h)) (second64 S (flat64 x h) (spread64 S (flat64 x h)))

/-- The diffusion convolution to 128 features. -/
def conv64x128 (S : Vec F S207x207 .f32) (x : Vec F S16x207x64 .f32) (h : Vec F S16x207x64 .f32) (W : Vec F S384x128 .f32)
    (b : Vec F S128 .f32) : Vec F S16x207x128 .f32 :=
  shapeCast S16x207x128 (addf (Host.dotGeneral dot_S3312x384_S384x128_S3312x128_1_0_0_1_n_n none (terms64 S x h) W)
    (broadcastInDim S3312x128 ![0, 1] bcast_S1x128_S3312x128_0_1 (broadcastInDim S1x128 ![1] bcast_S128_S1x128_1 b)))
    shapeCasts_S3312x128_S16x207x128

/-- The diffusion convolution to 64 features. -/
def conv64x64 (S : Vec F S207x207 .f32) (x : Vec F S16x207x64 .f32) (h : Vec F S16x207x64 .f32) (W : Vec F S384x64 .f32)
    (b : Vec F S64 .f32) : Vec F S16x207x64 .f32 :=
  shapeCast S16x207x64 (addf (Host.dotGeneral dot_S3312x384_S384x64_S3312x64_1_0_0_1_n_n none (terms64 S x h) W)
    (broadcastInDim S3312x64 ![0, 1] bcast_S1x64_S3312x64_0_1 (broadcastInDim S1x64 ![1] bcast_S64_S1x64_1 b)))
    shapeCasts_S3312x64_S16x207x64

/-- The gates of a cell of input width 64. -/
def gates64 (S : Vec F S207x207 .f32) (x : Vec F S16x207x64 .f32) (h : Vec F S16x207x64 .f32) (Wg : Vec F S384x128 .f32)
    (bg : Vec F S128 .f32) : Vec F S16x207x128 .f32 :=
  sigmGates (conv64x128 S x h Wg bg)

/-- The state after a cell of input width 64, given its gates. -/
def after64 (S : Vec F S207x207 .f32) (x : Vec F S16x207x64 .f32) (h : Vec F S16x207x64 .f32) (g : Vec F S16x207x128 .f32)
    (Wc : Vec F S384x64 .f32) (bc : Vec F S64 .f32) : Vec F S16x207x64 .f32 :=
  blend (updateGate g) (Host.tanh (conv64x64 S x (mulf (resetGate g) h) Wc bc)) h

/-- A cell of input width 64. -/
def cell64 (S : Vec F S207x207 .f32) (x : Vec F S16x207x64 .f32) (h : Vec F S16x207x64 .f32) (Wg : Vec F S384x128 .f32)
    (bg : Vec F S128 .f32) (Wc : Vec F S384x64 .f32) (bc : Vec F S64 .f32) : Vec F S16x207x64 .f32 :=
  after64 S x h (gates64 S x h Wg bg) Wc bc

/-- The input and the state beside it, node by node: width 1 and sixty-four. -/
def flat1 (x : Vec F S16x207x1 .f32) (h : Vec F S16x207x64 .f32) : Vec F S207x1040 .f32 :=
  shapeCast S207x1040 (transpose S207x65x16 [1, 2, 0]
    (concatenate S16x207x65 2 [⟨S16x207x1, x⟩, ⟨S16x207x64, h⟩] concatenates_S16x207x1_S16x207x64_S16x207x65_d2)
    transposes_S16x207x65_S207x65x16_1_2_0) shapeCasts_S207x65x16_S207x1040

/-- The support applied. -/
def spread1 (S : Vec F S207x207 .f32) (y : Vec F S207x1040 .f32) : Vec F S207x1040 .f32 :=
  Host.dotGeneral dot_S207x207_S207x1040_S207x1040_1_0_0_1_n_n none S y

/-- The second diffusion term from the zeroth and the first. -/
def second1 (S : Vec F S207x207 .f32) (y z : Vec F S207x1040 .f32) : Vec F S207x1040 .f32 :=
  subf (mulf (broadcastInDim S207x1040 ![] bcast_S_S207x1040 two) (spread1 S z)) y

/-- Three arrays stacked. -/
def stack1 (y z v : Vec F S1x207x1040 .f32) : Vec F S3x207x1040 .f32 :=
  concatenate S3x207x1040 0 [⟨S1x207x1040, y⟩, ⟨S1x207x1040, z⟩, ⟨S1x207x1040, v⟩]
    concatenates_S1x207x1040_S1x207x1040_S1x207x1040_S3x207x1040_d0

/-- Three diffusion terms, one feature row per batch entry and node. -/
def rows1 (y z v : Vec F S207x1040 .f32) : Vec F S3312x195 .f32 :=
  shapeCast S3312x195 (transpose S16x207x65x3 [3, 1, 2, 0]
    (shapeCast S3x207x65x16
      (stack1 (broadcastInDim S1x207x1040 ![1, 2] bcast_S207x1040_S1x207x1040_1_2 y)
        (broadcastInDim S1x207x1040 ![1, 2] bcast_S207x1040_S1x207x1040_1_2 z)
        (broadcastInDim S1x207x1040 ![1, 2] bcast_S207x1040_S1x207x1040_1_2 v))
      shapeCasts_S3x207x1040_S3x207x65x16)
    transposes_S3x207x65x16_S16x207x65x3_3_1_2_0) shapeCasts_S16x207x65x3_S3312x195

/-- The three diffusion terms of the input beside the state. -/
def terms1 (S : Vec F S207x207 .f32) (x : Vec F S16x207x1 .f32) (h : Vec F S16x207x64 .f32) : Vec F S3312x195 .f32 :=
  rows1 (flat1 x h) (spread1 S (flat1 x h)) (second1 S (flat1 x h) (spread1 S (flat1 x h)))

/-- The diffusion convolution to 128 features. -/
def conv1x128 (S : Vec F S207x207 .f32) (x : Vec F S16x207x1 .f32) (h : Vec F S16x207x64 .f32) (W : Vec F S195x128 .f32)
    (b : Vec F S128 .f32) : Vec F S16x207x128 .f32 :=
  shapeCast S16x207x128 (addf (Host.dotGeneral dot_S3312x195_S195x128_S3312x128_1_0_0_1_n_n none (terms1 S x h) W)
    (broadcastInDim S3312x128 ![0, 1] bcast_S1x128_S3312x128_0_1 (broadcastInDim S1x128 ![1] bcast_S128_S1x128_1 b)))
    shapeCasts_S3312x128_S16x207x128

/-- The diffusion convolution to 64 features. -/
def conv1x64 (S : Vec F S207x207 .f32) (x : Vec F S16x207x1 .f32) (h : Vec F S16x207x64 .f32) (W : Vec F S195x64 .f32)
    (b : Vec F S64 .f32) : Vec F S16x207x64 .f32 :=
  shapeCast S16x207x64 (addf (Host.dotGeneral dot_S3312x195_S195x64_S3312x64_1_0_0_1_n_n none (terms1 S x h) W)
    (broadcastInDim S3312x64 ![0, 1] bcast_S1x64_S3312x64_0_1 (broadcastInDim S1x64 ![1] bcast_S64_S1x64_1 b)))
    shapeCasts_S3312x64_S16x207x64

/-- The gates of a cell of input width 1. -/
def gates1 (S : Vec F S207x207 .f32) (x : Vec F S16x207x1 .f32) (h : Vec F S16x207x64 .f32) (Wg : Vec F S195x128 .f32)
    (bg : Vec F S128 .f32) : Vec F S16x207x128 .f32 :=
  sigmGates (conv1x128 S x h Wg bg)

/-- The state after a cell of input width 1, given its gates. -/
def after1 (S : Vec F S207x207 .f32) (x : Vec F S16x207x1 .f32) (h : Vec F S16x207x64 .f32) (g : Vec F S16x207x128 .f32)
    (Wc : Vec F S195x64 .f32) (bc : Vec F S64 .f32) : Vec F S16x207x64 .f32 :=
  blend (updateGate g) (Host.tanh (conv1x64 S x (mulf (resetGate g) h) Wc bc)) h

/-- A cell of input width 1. -/
def cell1 (S : Vec F S207x207 .f32) (x : Vec F S16x207x1 .f32) (h : Vec F S16x207x64 .f32) (Wg : Vec F S195x128 .f32)
    (bg : Vec F S128 .f32) (Wc : Vec F S195x64 .f32) (bc : Vec F S64 .f32) : Vec F S16x207x64 .f32 :=
  after1 S x h (gates1 S x h Wg bg) Wc bc

/-! ## The encoder's input and the decoder's output -/

/-- The nodes' inputs at time step `t`. -/
def frameNodes (xt : Vec F S12x16x207x2 .f32) (t : Vec F S_ .i32) : Vec F S16x207x2 .f32 :=
  shapeCast S16x207x2 (Host.dynamicSlice S1x16x207x2 xt
    (fun k => ((![stepIndex t, constantI S_ 32 0#32, constantI S_ 32 0#32, constantI S_ 32 0#32] : Fin 4 → Vec F S_ .i32) k
      (Shape.Idx.first h_S_)).toInt)
    sliceFits_S12x16x207x2_S1x16x207x2) shapeCasts_S1x16x207x2_S16x207x2

/-- The states at time step `t`. -/
def frameStates (hs : Vec F S12x16x207x64 .f32) (t : Vec F S_ .i32) : Vec F S16x207x64 .f32 :=
  shapeCast S16x207x64 (Host.dynamicSlice S1x16x207x64 hs
    (fun k => ((![stepIndex t, constantI S_ 32 0#32, constantI S_ 32 0#32, constantI S_ 32 0#32] : Fin 4 → Vec F S_ .i32) k
      (Shape.Idx.first h_S_)).toInt)
    sliceFits_S12x16x207x64_S1x16x207x64) shapeCasts_S1x16x207x64_S16x207x64

/-- The states with the one of time step `t` replaced. -/
def putState (hs : Vec F S12x16x207x64 .f32) (h : Vec F S16x207x64 .f32) (t : Vec F S_ .i32) : Vec F S12x16x207x64 .f32 :=
  Host.dynamicUpdateSlice hs (broadcastInDim S1x16x207x64 ![1, 2, 3] bcast_S16x207x64_S1x16x207x64_1_2_3 h)
    (fun k => ((![stepIndex t, constantI S_ 32 0#32, constantI S_ 32 0#32, constantI S_ 32 0#32] : Fin 4 → Vec F S_ .i32) k
      (Shape.Idx.first h_S_)).toInt) updateFits_S12x16x207x64_S1x16x207x64

/-- The projection of the decoder's state to one value per node. -/
def project (h : Vec F S16x207x64 .f32) (pw : Vec F S64x1 .f32) (pb : Vec F S1 .f32) : Vec F S16x207x1 .f32 :=
  addf (Host.dotGeneral dot_S16x207x64_S64x1_S16x207x1_2_0_01_1_n_n none h pw)
    (broadcastInDim S16x207x1 ![0, 1, 2] bcast_S1x1x1_S16x207x1_0_1_2 (broadcastInDim S1x1x1 ![2] bcast_S1_S1x1x1_2 pb))

/-- The output with its row `t` replaced. -/
def putStep (o : Vec F S16x12x207x1 .f32) (p : Vec F S16x207x1 .f32) (t : Vec F S_ .i32) : Vec F S16x12x207x1 .f32 :=
  Host.dynamicUpdateSlice o (broadcastInDim S16x1x207x1 ![0, 2, 3] bcast_S16x207x1_S16x1x207x1_0_2_3 p)
    (fun k => ((![constantI S_ 32 0#32, stepIndex t, constantI S_ 32 0#32, constantI S_ 32 0#32] : Fin 4 → Vec F S_ .i32) k
      (Shape.Idx.first h_S_)).toInt) updateFits_S16x12x207x1_S16x1x207x1

end Cert.Proof.Ref
-- ==== Proof.RefSteps.lean ====
/-
  One trip of each of the reference's loops, read at the buffers it carries.
-/
module

public import proofs.«01_k».proof.Proof.RefCells
public import Idealize.ShloMosaic.Lib.StableHlo.RunRead

@[expose] public section

noncomputable section

namespace Cert.Proof.Ref

open Idealize.ShloMosaic Cert.ReferenceIdeal Cert.ReferenceIdeal.Gen

variable {F : FTy → Type} [FloatOps F]

/-! ## The recurrent pass -/

/-- The contents after one trip of the recurrent pass. -/
def trip0 (V : Valuation τ sig (Elt F)) : Valuation τ sig (Elt F) :=
  StableHlo.after while0Ops0_2 (StableHlo.after while0Ops0_1 (StableHlo.after while0Ops0 (StableHlo.after cond0Ops V)))

/-- The lookup of a time step's rows. -/
theorem frame0 (V : Valuation τ sig (Elt F)) :
    StableHlo.after while0Ops0_1 V (Proc.devRef .tc main_while0b_v45)
      = frameRows (V (Proc.devRef .tc main_v3_0)) (V (Proc.devRef .tc main_v3_6)) := by
  after_reads_simp
  refine congrArg (fun st => shapeCast S3312x2 (Host.dynamicSlice S1x3312x2 (V (Proc.devRef .tc main_v3_0)) st
    sliceFits_S12x3312x2_S1x3312x2) shapeCasts_S1x3312x2_S3312x2) (funext fun k => ?_)
  match k with
  | 0 => after_reads_simp; rfl
  | 1 => after_reads_simp; rfl
  | 2 => after_reads_simp; rfl

/-- The step's arithmetic. -/
theorem step0 (V : Valuation τ sig (Elt F)) :
    StableHlo.after while0Ops0_2 V (Proc.devRef .tc main_v3_7) =
      gru (V (Proc.devRef .tc main_while0b_v45)) (V (Proc.devRef .tc main_v3_1)) (V (Proc.devRef .tc main_v3_2))
        (V (Proc.devRef .tc main_v3_3)) (V (Proc.devRef .tc main_v3_4)) (V (Proc.devRef .tc main_v3_7)) := by
  after_reads_simp
  rfl

/-- The state after one trip of the loop of the recurrent layer over the rows. -/
theorem trip0_state (V : Valuation τ sig (Elt F)) :
    trip0 V (Proc.devRef .tc main_v3_7) =
      gru (frameRows (V (Proc.devRef .tc main_v3_0)) (V (Proc.devRef .tc main_v3_6))) (V (Proc.devRef .tc main_v3_1)) (V (Proc.devRef .tc main_v3_2)) (V (Proc.devRef .tc main_v3_3))
        (V (Proc.devRef .tc main_v3_4)) (V (Proc.devRef .tc main_v3_7)) := by
  unfold trip0
  rw [step0, frame0]
  after_reads_simp

/-- One trip of the loop of the recurrent layer over the rows adds one to its counters. -/
theorem trip0_next (V : Valuation τ sig (Elt F)) :
    trip0 V (Proc.devRef .tc main_v3_5) = addi (V (Proc.devRef .tc main_v3_5)) (constantI S_ 32 1#32)
      ∧ trip0 V (Proc.devRef .tc main_v3_6) = addi (V (Proc.devRef .tc main_v3_6)) (constantI S_ 32 1#32) := by
  unfold trip0
  constructor <;> (after_reads_simp; rfl)

/-! ## The encoder's first layer -/

/-- A stretch of the trip. -/
abbrev encGates0 : List (HloOp τ sig (Elt F)) := (while1Ops0_2.drop 0).take 29
/-- A stretch of the trip. -/
abbrev encState0 : List (HloOp τ sig (Elt F)) := (while1Ops0_2.drop 29).take 31

/-- Operations of the encoder's first-layer loop, cut into shorter stretches. -/
theorem while1Ops0_2_split (V : Valuation τ sig (Elt F)) : StableHlo.after while1Ops0_2 V = StableHlo.after encState0 (StableHlo.after encGates0 (V)) := rfl

/-- The gates of a cell, from the buffers it reads. -/
theorem encGates0_at (V : Valuation τ sig (Elt F)) :
    StableHlo.after encGates0 V (Proc.devRef .tc main_while1b_v71) = gates2 (V (Proc.devRef .tc main_v39_1)) (V (Proc.devRef .tc main_while1b_v45)) (V (Proc.devRef .tc main_v39_8)) (V (Proc.devRef .tc main_v39_2)) (V (Proc.devRef .tc main_v39_3)) := by
  after_reads_simp
  rfl

/-- The state after a cell, from the buffers it reads. -/
theorem encState0_at (V : Valuation τ sig (Elt F)) :
    StableHlo.after encState0 V (Proc.devRef .tc main_while1b_v100) = after2 (V (Proc.devRef .tc main_v39_1)) (V (Proc.devRef .tc main_while1b_v45)) (V (Proc.devRef .tc main_v39_8)) (V (Proc.devRef .tc main_while1b_v71)) (V (Proc.devRef .tc main_v39_4)) (V (Proc.devRef .tc main_v39_5)) := by
  after_reads_simp
  rfl

/-- The step's arithmetic: the layer's state. -/
theorem step1_state (V : Valuation τ sig (Elt F)) :
    StableHlo.after while1Ops0_2 V (Proc.devRef .tc main_while1b_v100) = cell2 (V (Proc.devRef .tc main_v39_1)) (V (Proc.devRef .tc main_while1b_v45)) (V (Proc.devRef .tc main_v39_8)) (V (Proc.devRef .tc main_v39_2)) (V (Proc.devRef .tc main_v39_3)) (V (Proc.devRef .tc main_v39_4)) (V (Proc.devRef .tc main_v39_5)) := by
  rw [while1Ops0_2_split, encState0_at, encGates0_at]
  after_reads_simp
  rfl

/-- The lookup of a time step's features. -/
theorem frame1 (V : Valuation τ sig (Elt F)) :
    StableHlo.after while1Ops0_1 V (Proc.devRef .tc main_while1b_v45) = frameNodes (V (Proc.devRef .tc main_v39_0)) (V (Proc.devRef .tc main_v39_7)) := by
  after_reads_simp
  refine congrArg (fun st => shapeCast S16x207x2 (Host.dynamicSlice S1x16x207x2 (V (Proc.devRef .tc main_v39_0)) st
    sliceFits_S12x16x207x2_S1x16x207x2) shapeCasts_S1x16x207x2_S16x207x2) (funext fun k => ?_)
  match k with
  | 0 => after_reads_simp; rfl
  | 1 => after_reads_simp; rfl
  | 2 => after_reads_simp; rfl
  | 3 => after_reads_simp; rfl

set_option maxHeartbeats 1600000 in
/-- The layer's state stored among the states. -/
theorem put1 (V : Valuation τ sig (Elt F)) :
    StableHlo.after while1Ops0_3 V (Proc.devRef .tc main_while1b_v101) = putState (V (Proc.devRef .tc main_v39_9)) (V (Proc.devRef .tc main_while1b_v100)) (V (Proc.devRef .tc main_v39_7)) := by
  after_reads_simp
  refine congrArg (fun st => Host.dynamicUpdateSlice (V (Proc.devRef .tc main_v39_9)) (broadcastInDim S1x16x207x64 ![1, 2, 3] bcast_S16x207x64_S1x16x207x64_1_2_3 (V (Proc.devRef .tc main_while1b_v100)))
    st updateFits_S12x16x207x64_S1x16x207x64) (funext fun k => ?_)
  match k with
  | 0 => after_reads_simp; rfl
  | 1 => after_reads_simp; rfl
  | 2 => after_reads_simp; rfl
  | 3 => after_reads_simp; rfl

/-- The contents after one trip of the encoder's first layer. -/
def trip1 (V : Valuation τ sig (Elt F)) : Valuation τ sig (Elt F) :=
  StableHlo.after while1Ops0_4 (StableHlo.after while1Ops0_3 (StableHlo.after while1Ops0_2 (StableHlo.after while1Ops0_1
    (StableHlo.after while1Ops0 (StableHlo.after cond1Ops V)))))

/-- The state after one trip of the encoder's first-layer loop. -/
theorem trip1_state (V : Valuation τ sig (Elt F)) :
    trip1 V (Proc.devRef .tc main_v39_8) = cell2 (V (Proc.devRef .tc main_v39_1)) (frameNodes (V (Proc.devRef .tc main_v39_0)) (V (Proc.devRef .tc main_v39_7))) (V (Proc.devRef .tc main_v39_8)) (V (Proc.devRef .tc main_v39_2)) (V (Proc.devRef .tc main_v39_3)) (V (Proc.devRef .tc main_v39_4)) (V (Proc.devRef .tc main_v39_5)) := by
  have hc : ∀ W : Valuation τ sig (Elt F), StableHlo.after while1Ops0_4 (StableHlo.after while1Ops0_3 W) (Proc.devRef .tc main_v39_8) = W (Proc.devRef .tc main_while1b_v100) := fun W => by
    after_reads_simp; rfl
  unfold trip1
  rw [hc, step1_state, frame1]
  after_reads_simp

/-- One trip of the encoder's first-layer loop stores its new state at its step. -/
theorem trip1_stored (V : Valuation τ sig (Elt F)) :
    trip1 V (Proc.devRef .tc main_v39_9) = putState (V (Proc.devRef .tc main_v39_9)) (trip1 V (Proc.devRef .tc main_v39_8)) (V (Proc.devRef .tc main_v39_7)) := by
  rw [trip1_state]
  have hc : ∀ W : Valuation τ sig (Elt F), StableHlo.after while1Ops0_4 W (Proc.devRef .tc main_v39_9) = W (Proc.devRef .tc main_while1b_v101) := fun W => by
    after_reads_simp; rfl
  unfold trip1
  rw [hc, put1, step1_state, frame1]
  after_reads_simp

/-- One trip of the encoder's first-layer loop adds one to its counters. -/
theorem trip1_next (V : Valuation τ sig (Elt F)) :
    trip1 V (Proc.devRef .tc main_v39_6) = addi (V (Proc.devRef .tc main_v39_6)) (constantI S_ 32 1#32)
      ∧ trip1 V (Proc.devRef .tc main_v39_7) = addi (V (Proc.devRef .tc main_v39_7)) (constantI S_ 32 1#32) := by
  unfold trip1
  constructor <;> (after_reads_simp; rfl)

/-! ## The encoder's second layer -/

/-- A stretch of the trip. -/
abbrev encGates1 : List (HloOp τ sig (Elt F)) := (while2Ops0_2.drop 0).take 29
/-- A stretch of the trip. -/
abbrev encState1 : List (HloOp τ sig (Elt F)) := (while2Ops0_2.drop 29).take 31
/-- A stretch of the trip. -/
abbrev encCopies : List (HloOp τ sig (Elt F)) := (while2Ops0_2.drop 60).take 5

/-- Operations of the encoder's second-layer loop, cut into shorter stretches. -/
theorem while2Ops0_2_split (V : Valuation τ sig (Elt F)) : StableHlo.after while2Ops0_2 V = StableHlo.after encCopies (StableHlo.after encState1 (StableHlo.after encGates1 (V))) := rfl

/-- The gates of a cell, from the buffers it reads. -/
theorem encGates1_at (V : Valuation τ sig (Elt F)) :
    StableHlo.after encGates1 V (Proc.devRef .tc main_while2b_v71) = gates64 (V (Proc.devRef .tc main_v40_1)) (V (Proc.devRef .tc main_while2b_v45)) (V (Proc.devRef .tc main_v40_8)) (V (Proc.devRef .tc main_v40_2)) (V (Proc.devRef .tc main_v40_3)) := by
  after_reads_simp
  rfl

/-- The state after a cell, from the buffers it reads. -/
theorem encState1_at (V : Valuation τ sig (Elt F)) :
    StableHlo.after encState1 V (Proc.devRef .tc main_while2b_v100) = after64 (V (Proc.devRef .tc main_v40_1)) (V (Proc.devRef .tc main_while2b_v45)) (V (Proc.devRef .tc main_v40_8)) (V (Proc.devRef .tc main_while2b_v71)) (V (Proc.devRef .tc main_v40_4)) (V (Proc.devRef .tc main_v40_5)) := by
  after_reads_simp
  rfl

/-- The step's arithmetic: the layer's state. -/
theorem step2_state (V : Valuation τ sig (Elt F)) :
    StableHlo.after while2Ops0_2 V (Proc.devRef .tc main_v40_8) = cell64 (V (Proc.devRef .tc main_v40_1)) (V (Proc.devRef .tc main_while2b_v45)) (V (Proc.devRef .tc main_v40_8)) (V (Proc.devRef .tc main_v40_2)) (V (Proc.devRef .tc main_v40_3)) (V (Proc.devRef .tc main_v40_4)) (V (Proc.devRef .tc main_v40_5)) := by
  rw [while2Ops0_2_split]
  have h : ∀ W : Valuation τ sig (Elt F), StableHlo.after encCopies W (Proc.devRef .tc main_v40_8) = W (Proc.devRef .tc main_while2b_v100) := fun W => by
    after_reads_simp; rfl
  rw [h, encState1_at, encGates1_at]
  after_reads_simp
  rfl

/-- The lookup of a time step's features. -/
theorem frame2 (V : Valuation τ sig (Elt F)) :
    StableHlo.after while2Ops0_1 V (Proc.devRef .tc main_while2b_v45) = frameStates (V (Proc.devRef .tc main_v40_0)) (V (Proc.devRef .tc main_v40_7)) := by
  after_reads_simp
  refine congrArg (fun st => shapeCast S16x207x64 (Host.dynamicSlice S1x16x207x64 (V (Proc.devRef .tc main_v40_0)) st
    sliceFits_S12x16x207x64_S1x16x207x64) shapeCasts_S1x16x207x64_S16x207x64) (funext fun k => ?_)
  match k with
  | 0 => after_reads_simp; rfl
  | 1 => after_reads_simp; rfl
  | 2 => after_reads_simp; rfl
  | 3 => after_reads_simp; rfl

/-- The contents after one trip of the encoder's second layer. -/
def trip2 (V : Valuation τ sig (Elt F)) : Valuation τ sig (Elt F) :=
  StableHlo.after while2Ops0_2 (StableHlo.after while2Ops0_1 (StableHlo.after while2Ops0 (StableHlo.after cond2Ops V)))

/-- The state after one trip of the encoder's second-layer loop. -/
theorem trip2_state (V : Valuation τ sig (Elt F)) :
    trip2 V (Proc.devRef .tc main_v40_8) = cell64 (V (Proc.devRef .tc main_v40_1)) (frameStates (V (Proc.devRef .tc main_v40_0)) (V (Proc.devRef .tc main_v40_7))) (V (Proc.devRef .tc main_v40_8)) (V (Proc.devRef .tc main_v40_2)) (V (Proc.devRef .tc main_v40_3)) (V (Proc.devRef .tc main_v40_4)) (V (Proc.devRef .tc main_v40_5)) := by
  unfold trip2
  rw [step2_state, frame2]
  after_reads_simp

/-- One trip of the encoder's second-layer loop adds one to its counters. -/
theorem trip2_next (V : Valuation τ sig (Elt F)) :
    trip2 V (Proc.devRef .tc main_v40_6) = addi (V (Proc.devRef .tc main_v40_6)) (constantI S_ 32 1#32)
      ∧ trip2 V (Proc.devRef .tc main_v40_7) = addi (V (Proc.devRef .tc main_v40_7)) (constantI S_ 32 1#32) := by
  unfold trip2
  constructor <;> (after_reads_simp; rfl)

/-! ## The decoder's two cells -/

/-- A stretch of the trip. -/
abbrev decIndex : List (HloOp τ sig (Elt F)) := (while3Ops0.drop 0).take 2
/-- A stretch of the trip. -/
abbrev decGates0 : List (HloOp τ sig (Elt F)) := (while3Ops0.drop 2).take 29
/-- A stretch of the trip. -/
abbrev decState0 : List (HloOp τ sig (Elt F)) := (while3Ops0.drop 31).take 31
/-- A stretch of the trip. -/
abbrev decGates1 : List (HloOp τ sig (Elt F)) := (while3Ops0.drop 62).take 29
/-- A stretch of the trip. -/
abbrev decState1 : List (HloOp τ sig (Elt F)) := (while3Ops0.drop 91).take 31
/-- A stretch of the trip. -/
abbrev decProject : List (HloOp τ sig (Elt F)) := (while3Ops0.drop 122).take 4

/-- Operations of the decoder's loop, cut into shorter stretches. -/
theorem while3Ops0_split (V : Valuation τ sig (Elt F)) : StableHlo.after while3Ops0 V = StableHlo.after decProject (StableHlo.after decState1 (StableHlo.after decGates1 (StableHlo.after decState0 (StableHlo.after decGates0 (StableHlo.after decIndex (V)))))) := rfl

/-- The gates of a cell, from the buffers it reads. -/
theorem decGates0_at (V : Valuation τ sig (Elt F)) :
    StableHlo.after decGates0 V (Proc.devRef .tc main_while3b_v70) = gates1 (V (Proc.devRef .tc main_v43_0)) (V (Proc.devRef .tc main_v43_15)) (V (Proc.devRef .tc main_v43_13)) (V (Proc.devRef .tc main_v43_1)) (V (Proc.devRef .tc main_v43_2)) := by
  after_reads_simp
  rfl

/-- The state after a cell, from the buffers it reads. -/
theorem decState0_at (V : Valuation τ sig (Elt F)) :
    StableHlo.after decState0 V (Proc.devRef .tc main_while3b_v99) = after1 (V (Proc.devRef .tc main_v43_0)) (V (Proc.devRef .tc main_v43_15)) (V (Proc.devRef .tc main_v43_13)) (V (Proc.devRef .tc main_while3b_v70)) (V (Proc.devRef .tc main_v43_3)) (V (Proc.devRef .tc main_v43_4)) := by
  after_reads_simp
  rfl

/-- The gates of a cell, from the buffers it reads. -/
theorem decGates1_at (V : Valuation τ sig (Elt F)) :
    StableHlo.after decGates1 V (Proc.devRef .tc main_while3b_v125) = gates64 (V (Proc.devRef .tc main_v43_0)) (V (Proc.devRef .tc main_while3b_v99)) (V (Proc.devRef .tc main_v43_14)) (V (Proc.devRef .tc main_v43_5)) (V (Proc.devRef .tc main_v43_6)) := by
  after_reads_simp
  rfl

/-- The state after a cell, from the buffers it reads. -/
theorem decState1_at (V : Valuation τ sig (Elt F)) :
    StableHlo.after decState1 V (Proc.devRef .tc main_while3b_v154) = after64 (V (Proc.devRef .tc main_v43_0)) (V (Proc.devRef .tc main_while3b_v99)) (V (Proc.devRef .tc main_v43_14)) (V (Proc.devRef .tc main_while3b_v125)) (V (Proc.devRef .tc main_v43_7)) (V (Proc.devRef .tc main_v43_8)) := by
  after_reads_simp
  rfl

/-- The step's arithmetic: the first layer's state. -/
theorem step3_state0 (V : Valuation τ sig (Elt F)) :
    StableHlo.after while3Ops0 V (Proc.devRef .tc main_while3b_v99) = cell1 (V (Proc.devRef .tc main_v43_0)) (V (Proc.devRef .tc main_v43_15)) (V (Proc.devRef .tc main_v43_13)) (V (Proc.devRef .tc main_v43_1)) (V (Proc.devRef .tc main_v43_2)) (V (Proc.devRef .tc main_v43_3)) (V (Proc.devRef .tc main_v43_4)) := by
  rw [while3Ops0_split]
  have h : ∀ W : Valuation τ sig (Elt F), StableHlo.after decProject (StableHlo.after decState1 (StableHlo.after decGates1 W)) (Proc.devRef .tc main_while3b_v99)
      = W (Proc.devRef .tc main_while3b_v99) := fun W => by after_reads_simp
  rw [h, decState0_at, decGates0_at]
  after_reads_simp
  rfl

/-- The step's arithmetic: the second layer's state. -/
theorem step3_state1 (V : Valuation τ sig (Elt F)) :
    StableHlo.after while3Ops0 V (Proc.devRef .tc main_while3b_v154) = cell64 (V (Proc.devRef .tc main_v43_0)) (cell1 (V (Proc.devRef .tc main_v43_0)) (V (Proc.devRef .tc main_v43_15)) (V (Proc.devRef .tc main_v43_13)) (V (Proc.devRef .tc main_v43_1)) (V (Proc.devRef .tc main_v43_2)) (V (Proc.devRef .tc main_v43_3)) (V (Proc.devRef .tc main_v43_4))) (V (Proc.devRef .tc main_v43_14)) (V (Proc.devRef .tc main_v43_5)) (V (Proc.devRef .tc main_v43_6)) (V (Proc.devRef .tc main_v43_7)) (V (Proc.devRef .tc main_v43_8)) := by
  rw [while3Ops0_split]
  have h : ∀ W : Valuation τ sig (Elt F), StableHlo.after decProject W (Proc.devRef .tc main_while3b_v154) = W (Proc.devRef .tc main_while3b_v154) := fun W => by
    after_reads_simp
  have h98 : ∀ W : Valuation τ sig (Elt F), StableHlo.after decGates1 W (Proc.devRef .tc main_while3b_v99) = W (Proc.devRef .tc main_while3b_v99) := fun W => by after_reads_simp
  rw [h, decState1_at, decGates1_at, h98, decState0_at, decGates0_at]
  after_reads_simp
  rfl

/-- The step's arithmetic: the projected value. -/
theorem step3_project (V : Valuation τ sig (Elt F)) :
    StableHlo.after while3Ops0 V (Proc.devRef .tc main_while3b_v158) = project (cell64 (V (Proc.devRef .tc main_v43_0)) (cell1 (V (Proc.devRef .tc main_v43_0)) (V (Proc.devRef .tc main_v43_15)) (V (Proc.devRef .tc main_v43_13)) (V (Proc.devRef .tc main_v43_1)) (V (Proc.devRef .tc main_v43_2)) (V (Proc.devRef .tc main_v43_3)) (V (Proc.devRef .tc main_v43_4))) (V (Proc.devRef .tc main_v43_14)) (V (Proc.devRef .tc main_v43_5)) (V (Proc.devRef .tc main_v43_6)) (V (Proc.devRef .tc main_v43_7)) (V (Proc.devRef .tc main_v43_8))) (V (Proc.devRef .tc main_v43_9)) (V (Proc.devRef .tc main_v43_10)) := by
  have h : ∀ W : Valuation τ sig (Elt F), StableHlo.after decProject W (Proc.devRef .tc main_while3b_v158)
      = project (W (Proc.devRef .tc main_while3b_v154)) (W (Proc.devRef .tc main_v43_9)) (W (Proc.devRef .tc main_v43_10)) := fun W => by
    after_reads_simp; rfl
  have h' : ∀ W : Valuation τ sig (Elt F), StableHlo.after decProject W (Proc.devRef .tc main_while3b_v154) = W (Proc.devRef .tc main_while3b_v154) := fun W => by
    after_reads_simp
  have h2 := step3_state1 V
  rw [while3Ops0_split, h'] at h2
  rw [while3Ops0_split, h, h2]
  after_reads_simp

/-- The output's row written. -/
theorem put3 (V : Valuation τ sig (Elt F)) :
    StableHlo.after while3Ops0_1 V (Proc.devRef .tc main_while3b_v159) = putStep (V (Proc.devRef .tc main_v43_16)) (V (Proc.devRef .tc main_while3b_v158)) (V (Proc.devRef .tc main_v43_12)) := by
  after_reads_simp
  refine congrArg (fun st => Host.dynamicUpdateSlice (V (Proc.devRef .tc main_v43_16)) (broadcastInDim S16x1x207x1 ![0, 2, 3] bcast_S16x207x1_S16x1x207x1_0_2_3 (V (Proc.devRef .tc main_while3b_v158)))
    st updateFits_S16x12x207x1_S16x1x207x1) (funext fun k => ?_)
  match k with
  | 0 => after_reads_simp; rfl
  | 1 => after_reads_simp; rfl
  | 2 => after_reads_simp; rfl
  | 3 => after_reads_simp; rfl

/-- The contents after one trip of the decoder. -/
def trip3 (V : Valuation τ sig (Elt F)) : Valuation τ sig (Elt F) :=
  StableHlo.after while3Ops0_2 (StableHlo.after while3Ops0_1 (StableHlo.after while3Ops0 (StableHlo.after cond3Ops V)))

/-- The states and the prediction after one trip of the decoder's loop. -/
theorem trip3_states (V : Valuation τ sig (Elt F)) :
    trip3 V (Proc.devRef .tc main_v43_13) = cell1 (V (Proc.devRef .tc main_v43_0)) (V (Proc.devRef .tc main_v43_15)) (V (Proc.devRef .tc main_v43_13)) (V (Proc.devRef .tc main_v43_1)) (V (Proc.devRef .tc main_v43_2)) (V (Proc.devRef .tc main_v43_3)) (V (Proc.devRef .tc main_v43_4))
    ∧ trip3 V (Proc.devRef .tc main_v43_14) = cell64 (V (Proc.devRef .tc main_v43_0)) (cell1 (V (Proc.devRef .tc main_v43_0)) (V (Proc.devRef .tc main_v43_15)) (V (Proc.devRef .tc main_v43_13)) (V (Proc.devRef .tc main_v43_1)) (V (Proc.devRef .tc main_v43_2)) (V (Proc.devRef .tc main_v43_3)) (V (Proc.devRef .tc main_v43_4))) (V (Proc.devRef .tc main_v43_14)) (V (Proc.devRef .tc main_v43_5)) (V (Proc.devRef .tc main_v43_6)) (V (Proc.devRef .tc main_v43_7)) (V (Proc.devRef .tc main_v43_8))
    ∧ trip3 V (Proc.devRef .tc main_v43_15) = project (cell64 (V (Proc.devRef .tc main_v43_0)) (cell1 (V (Proc.devRef .tc main_v43_0)) (V (Proc.devRef .tc main_v43_15)) (V (Proc.devRef .tc main_v43_13)) (V (Proc.devRef .tc main_v43_1)) (V (Proc.devRef .tc main_v43_2)) (V (Proc.devRef .tc main_v43_3)) (V (Proc.devRef .tc main_v43_4))) (V (Proc.devRef .tc main_v43_14)) (V (Proc.devRef .tc main_v43_5)) (V (Proc.devRef .tc main_v43_6)) (V (Proc.devRef .tc main_v43_7)) (V (Proc.devRef .tc main_v43_8))) (V (Proc.devRef .tc main_v43_9)) (V (Proc.devRef .tc main_v43_10)) := by
  have hc : ∀ W : Valuation τ sig (Elt F), StableHlo.after while3Ops0_2 (StableHlo.after while3Ops0_1 W) (Proc.devRef .tc main_v43_13) = W (Proc.devRef .tc main_while3b_v99)
      ∧ StableHlo.after while3Ops0_2 (StableHlo.after while3Ops0_1 W) (Proc.devRef .tc main_v43_14) = W (Proc.devRef .tc main_while3b_v154)
      ∧ StableHlo.after while3Ops0_2 (StableHlo.after while3Ops0_1 W) (Proc.devRef .tc main_v43_15) = W (Proc.devRef .tc main_while3b_v158) := fun W => by
    refine ⟨?_, ?_, ?_⟩ <;> (after_reads_simp; rfl)
  unfold trip3
  rw [(hc _).1, (hc _).2.1, (hc _).2.2, step3_state0, step3_state1, step3_project]
  refine ⟨?_, ?_, ?_⟩ <;> after_reads_simp

/-- One trip of the decoder's loop writes its prediction at its step. -/
theorem trip3_output (V : Valuation τ sig (Elt F)) :
    trip3 V (Proc.devRef .tc main_v43_16) = putStep (V (Proc.devRef .tc main_v43_16)) (trip3 V (Proc.devRef .tc main_v43_15)) (V (Proc.devRef .tc main_v43_12)) := by
  rw [(trip3_states V).2.2]
  have hc : ∀ W : Valuation τ sig (Elt F), StableHlo.after while3Ops0_2 W (Proc.devRef .tc main_v43_16) = W (Proc.devRef .tc main_while3b_v159) := fun W => by
    after_reads_simp; rfl
  unfold trip3
  rw [hc, put3, step3_project]
  after_reads_simp

/-- One trip of the decoder's loop adds one to its counters. -/
theorem trip3_next (V : Valuation τ sig (Elt F)) :
    trip3 V (Proc.devRef .tc main_v43_11) = addi (V (Proc.devRef .tc main_v43_11)) (constantI S_ 32 1#32)
      ∧ trip3 V (Proc.devRef .tc main_v43_12) = addi (V (Proc.devRef .tc main_v43_12)) (constantI S_ 32 1#32) := by
  unfold trip3
  constructor <;> (after_reads_simp; rfl)

/-- What a trip leaves alone. -/
theorem trip0_kept (V : Valuation τ sig (Elt F)) :
    trip0 V (Proc.devRef .tc main_v3_0) = (V (Proc.devRef .tc main_v3_0))
      ∧ trip0 V (Proc.devRef .tc main_v3_1) = (V (Proc.devRef .tc main_v3_1))
      ∧ trip0 V (Proc.devRef .tc main_v3_2) = (V (Proc.devRef .tc main_v3_2))
      ∧ trip0 V (Proc.devRef .tc main_v3_3) = (V (Proc.devRef .tc main_v3_3))
      ∧ trip0 V (Proc.devRef .tc main_v3_4) = (V (Proc.devRef .tc main_v3_4)) := by
  unfold trip0
  refine ⟨?_, ?_, ?_, ?_, ?_⟩ <;> after_reads_simp

/-- What a trip leaves alone. -/
theorem trip1_kept (V : Valuation τ sig (Elt F)) :
    trip1 V (Proc.devRef .tc main_v39_0) = (V (Proc.devRef .tc main_v39_0))
      ∧ trip1 V (Proc.devRef .tc main_v39_1) = (V (Proc.devRef .tc main_v39_1))
      ∧ trip1 V (Proc.devRef .tc main_v39_2) = (V (Proc.devRef .tc main_v39_2))
      ∧ trip1 V (Proc.devRef .tc main_v39_3) = (V (Proc.devRef .tc main_v39_3))
      ∧ trip1 V (Proc.devRef .tc main_v39_4) = (V (Proc.devRef .tc main_v39_4))
      ∧ trip1 V (Proc.devRef .tc main_v39_5) = (V (Proc.devRef .tc main_v39_5)) := by
  unfold trip1
  refine ⟨?_, ?_, ?_, ?_, ?_, ?_⟩ <;> after_reads_simp

/-- What a trip leaves alone. -/
theorem trip2_kept (V : Valuation τ sig (Elt F)) :
    trip2 V (Proc.devRef .tc main_v40_0) = (V (Proc.devRef .tc main_v40_0))
      ∧ trip2 V (Proc.devRef .tc main_v40_1) = (V (Proc.devRef .tc main_v40_1))
      ∧ trip2 V (Proc.devRef .tc main_v40_2) = (V (Proc.devRef .tc main_v40_2))
      ∧ trip2 V (Proc.devRef .tc main_v40_3) = (V (Proc.devRef .tc main_v40_3))
      ∧ trip2 V (Proc.devRef .tc main_v40_4) = (V (Proc.devRef .tc main_v40_4))
      ∧ trip2 V (Proc.devRef .tc main_v40_5) = (V (Proc.devRef .tc main_v40_5)) := by
  unfold trip2
  refine ⟨?_, ?_, ?_, ?_, ?_, ?_⟩ <;> after_reads_simp

/-- What a trip leaves alone. -/
theorem trip3_kept (V : Valuation τ sig (Elt F)) :
    trip3 V (Proc.devRef .tc main_v43_0) = (V (Proc.devRef .tc main_v43_0))
      ∧ trip3 V (Proc.devRef .tc main_v43_1) = (V (Proc.devRef .tc main_v43_1))
      ∧ trip3 V (Proc.devRef .tc main_v43_2) = (V (Proc.devRef .tc main_v43_2))
      ∧ trip3 V (Proc.devRef .tc main_v43_3) = (V (Proc.devRef .tc main_v43_3))
      ∧ trip3 V (Proc.devRef .tc main_v43_4) = (V (Proc.devRef .tc main_v43_4))
      ∧ trip3 V (Proc.devRef .tc main_v43_5) = (V (Proc.devRef .tc main_v43_5))
      ∧ trip3 V (Proc.devRef .tc main_v43_6) = (V (Proc.devRef .tc main_v43_6))
      ∧ trip3 V (Proc.devRef .tc main_v43_7) = (V (Proc.devRef .tc main_v43_7))
      ∧ trip3 V (Proc.devRef .tc main_v43_8) = (V (Proc.devRef .tc main_v43_8))
      ∧ trip3 V (Proc.devRef .tc main_v43_9) = (V (Proc.devRef .tc main_v43_9))
      ∧ trip3 V (Proc.devRef .tc main_v43_10) = (V (Proc.devRef .tc main_v43_10)) := by
  unfold trip3
  refine ⟨?_, ?_, ?_, ?_, ?_, ?_, ?_, ?_, ?_, ?_, ?_⟩ <;> after_reads_simp

end Cert.Proof.Ref
-- ==== Proof.RefRun.lean ====
/-
  The reference's run: four counted time loops with straight-line code before, between and after them. Every weakly fair
  execution ends, and each buffer ends at what the four loops, twelve trips each, leave in it.
-/
module

public import proofs.«01_k».proof.Proof.RefSteps
public import Idealize.ShloMosaic.Lib.Quiescent

@[expose] public section

noncomputable section

namespace Cert.Proof.Ref

open Idealize.ShloMosaic Idealize.ShloMosaic.TcCoe Cert.ReferenceIdeal Cert.ReferenceIdeal.Gen
open Idealize.ShloMosaic.StableHlo
open Idealize.ShloMosaic.Pipeline (CSeg Ticket PCfg ucRefs sub_ucRefs)
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (Option PUnit) ℕ

/-! ## The contents at each point -/

/-- The stretches of loop 0's body. -/
abbrev body0 : List (List (HloOp τ sig (Elt F))) := [while0Ops0, while0Ops0_1, while0Ops0_2]
/-- The stretches of loop 1's body. -/
abbrev body1 : List (List (HloOp τ sig (Elt F))) := [while1Ops0, while1Ops0_1, while1Ops0_2, while1Ops0_3, while1Ops0_4]
/-- The stretches of loop 2's body. -/
abbrev body2 : List (List (HloOp τ sig (Elt F))) := [while2Ops0, while2Ops0_1, while2Ops0_2]
/-- The stretches of loop 3's body. -/
abbrev body3 : List (List (HloOp τ sig (Elt F))) := [while3Ops0, while3Ops0_1, while3Ops0_2]
/-- The stretches between the first two loops. -/
abbrev between : List (List (HloOp τ sig (Elt F))) :=
  [hostOps0_1, hostOps0_2, hostOps0_3, hostOps0_4, hostOps0_5, hostOps0_6, hostOps0_7]

variable (m : (ℓ : Loc nD τ sig) → Buf (Elt F) ℓ)

/-- What the buffers hold as loop 0 is entered, -/
def entry0 (c : Dev nD) : Valuation τ sig (Elt F) := afterL [hostOps0] (launchContents m c)
/-- and after `k` trips of it. -/
def at0 (k : ℕ) (c : Dev nD) : Valuation τ sig (Elt F) := atTrip cond0Ops body0 (entry0 m) k c
/-- Before any trip, the loop of the recurrent layer over the rows holds what it entered with. -/
theorem at0_zero (c : Dev nD) : at0 m 0 c = entry0 m c := rfl
/-- One trip more of the loop of the recurrent layer over the rows. -/
theorem at0_succ (k : ℕ) (c : Dev nD) : at0 m (k + 1) c = trip0 (at0 m k c) := rfl
/-- What the buffers hold as loop 1 is entered, -/
def entry1 (c : Dev nD) : Valuation τ sig (Elt F) := afterL between (StableHlo.after cond0Ops (at0 m 12 c))
/-- and after `k` trips of it. -/
def at1 (k : ℕ) (c : Dev nD) : Valuation τ sig (Elt F) := atTrip cond1Ops body1 (entry1 m) k c
/-- Before any trip, the encoder's first-layer loop holds what it entered with. -/
theorem at1_zero (c : Dev nD) : at1 m 0 c = entry1 m c := rfl
/-- One trip more of the encoder's first-layer loop. -/
theorem at1_succ (k : ℕ) (c : Dev nD) : at1 m (k + 1) c = trip1 (at1 m k c) := rfl
/-- What the buffers hold as loop 2 is entered, -/
def entry2 (c : Dev nD) : Valuation τ sig (Elt F) := afterL [hostOps0_8] (StableHlo.after cond1Ops (at1 m 12 c))
/-- and after `k` trips of it. -/
def at2 (k : ℕ) (c : Dev nD) : Valuation τ sig (Elt F) := atTrip cond2Ops body2 (entry2 m) k c
/-- Before any trip, the encoder's second-layer loop holds what it entered with. -/
theorem at2_zero (c : Dev nD) : at2 m 0 c = entry2 m c := rfl
/-- One trip more of the encoder's second-layer loop. -/
theorem at2_succ (k : ℕ) (c : Dev nD) : at2 m (k + 1) c = trip2 (at2 m k c) := rfl
/-- What the buffers hold as loop 3 is entered, -/
def entry3 (c : Dev nD) : Valuation τ sig (Elt F) := afterL [hostOps0_9] (StableHlo.after cond2Ops (at2 m 12 c))
/-- and after `k` trips of it. -/
def at3 (k : ℕ) (c : Dev nD) : Valuation τ sig (Elt F) := atTrip cond3Ops body3 (entry3 m) k c
/-- Before any trip, the decoder's loop holds what it entered with. -/
theorem at3_zero (c : Dev nD) : at3 m 0 c = entry3 m c := rfl
/-- One trip more of the decoder's loop. -/
theorem at3_succ (k : ℕ) (c : Dev nD) : at3 m (k + 1) c = trip3 (at3 m k c) := rfl
/-- What the buffers hold at the end. -/
def final (c : Dev nD) : Valuation τ sig (Elt F) := StableHlo.after cond3Ops (at3 m 12 c)

/-! ## The counters -/

/-- The scalar `k`. -/
def word (k : ℕ) : Vec F S_ .i32 := constantI S_ 32 (BitVec.ofNat 32 k)

/-- A counter plus one is the next counter. -/
theorem word_succ (k : ℕ) : addi (word (F := F) k) (constantI S_ 32 1#32) = word (F := F) (k + 1) := by
  funext i
  show BitVec.ofNat 32 k + 1#32 = BitVec.ofNat 32 (k + 1)
  rw [BitVec.ofNat_add]

/-- A loop's test holds of its counter just below twelve. -/
theorem word_lt (k : ℕ) (hk : k ≤ 12) : IntOp.cmpi .slt (BitVec.ofNat 32 k) 12#32 = 1#1 ↔ k < 12 := by
  have h : ∀ j : Fin 13, IntOp.cmpi .slt (BitVec.ofNat 32 j.val) 12#32 = 1#1 ↔ j.val < 12 := by decide
  exact h ⟨k, by omega⟩

/-- Loop 0's counter and index after `k` trips. -/
theorem at0_counter (c : Dev nD) (k : ℕ) : at0 m k c (Proc.devRef .tc main_v3_5) = word k ∧ at0 m k c (Proc.devRef .tc main_v3_6) = word k := by
  induction k with
  | zero =>
    rw [at0_zero]
    unfold entry0
    simp only [afterL_cons, afterL_nil]
    constructor <;> (after_reads_simp; rfl)
  | succ k ih =>
    rw [at0_succ, (trip0_next _).1, (trip0_next _).2, ih.1, ih.2]
    exact ⟨word_succ k, word_succ k⟩

/-- Loop 1's counter and index after `k` trips. -/
theorem at1_counter (c : Dev nD) (k : ℕ) : at1 m k c (Proc.devRef .tc main_v39_6) = word k ∧ at1 m k c (Proc.devRef .tc main_v39_7) = word k := by
  induction k with
  | zero =>
    rw [at1_zero]
    unfold entry1
    simp only [afterL_cons, afterL_nil]
    constructor <;> (after_reads_simp; rfl)
  | succ k ih =>
    rw [at1_succ, (trip1_next _).1, (trip1_next _).2, ih.1, ih.2]
    exact ⟨word_succ k, word_succ k⟩

/-- Loop 2's counter and index after `k` trips. -/
theorem at2_counter (c : Dev nD) (k : ℕ) : at2 m k c (Proc.devRef .tc main_v40_6) = word k ∧ at2 m k c (Proc.devRef .tc main_v40_7) = word k := by
  induction k with
  | zero =>
    rw [at2_zero]
    unfold entry2
    simp only [afterL_cons, afterL_nil]
    constructor <;> (after_reads_simp; rfl)
  | succ k ih =>
    rw [at2_succ, (trip2_next _).1, (trip2_next _).2, ih.1, ih.2]
    exact ⟨word_succ k, word_succ k⟩

/-- Loop 3's counter and index after `k` trips. -/
theorem at3_counter (c : Dev nD) (k : ℕ) : at3 m k c (Proc.devRef .tc main_v43_11) = word k ∧ at3 m k c (Proc.devRef .tc main_v43_12) = word k := by
  induction k with
  | zero =>
    rw [at3_zero]
    unfold entry3
    simp only [afterL_cons, afterL_nil]
    constructor <;> (after_reads_simp; rfl)
  | succ k ih =>
    rw [at3_succ, (trip3_next _).1, (trip3_next _).2, ih.1, ih.2]
    exact ⟨word_succ k, word_succ k⟩

/-! ## The exit tests -/

section Run

/-- No pipeline, hence nothing admitted, no ticket and no level. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev Lset : GSem nD τ sig → Finset Unit := fun _ => ∅
abbrev lv : GSem nD τ sig → Unit → ℕ := fun _ _ => 0
/-- No two of the launch's cells are the same place. -/
theorem cellOf_inj : Function.Injective (Pipeline.cellOf (nD := nD) (τ := τ) (Pipeline.pin (pcfgs (F := F)) adm)) :=
  fun k => k.1.elim0

/-- What rides along beside the buffers. -/
abbrev Rest (c : Dev nD) : sProp 𝕄 := iprop(∃ W, owes (c : Thread nD τ) (0 : CellTallies nD τ sig Unit) W)

/-- Loop 0's exit test holds exactly before its twelfth trip has been made. -/
theorem test0 : LoopCond (pcfgs (F := F)) defs₀ Variants.none loops Rest main_while0_cond cond0Ops body0 (entry0 m) 12 := by
  intro k hk c bd
  have hctr := (at0_counter m c k).1
  unfold at0 at hctr
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (atTrip cond0Ops body0 (entry0 m) k c) main_v3_5 HostLoop.idx0)
        (HloOp.result _ (atTrip cond0Ops body0 (entry0 m) k c) main_while0c_c_28 HostLoop.idx0) = 1#1) (k < 12)
    rw [StableHlo.nullary_result_ne _ _ _ _ (by decide), StableHlo.nullary_result, hctr]
    exact word_lt k hk
  isplitl [Hb]; · iexact Hb
  isplitl [Hh]; · rw [StableHlo.after_cons, StableHlo.after_cons, StableHlo.after_nil]; iexact Hh
  iexact HR

/-- Loop 1's exit test holds exactly before its twelfth trip has been made. -/
theorem test1 : LoopCond (pcfgs (F := F)) defs₀ Variants.none loops Rest main_while1_cond cond1Ops body1 (entry1 m) 12 := by
  intro k hk c bd
  have hctr := (at1_counter m c k).1
  unfold at1 at hctr
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (atTrip cond1Ops body1 (entry1 m) k c) main_v39_6 HostLoop.idx0)
        (HloOp.result _ (atTrip cond1Ops body1 (entry1 m) k c) main_while1c_c_30 HostLoop.idx0) = 1#1) (k < 12)
    rw [StableHlo.nullary_result_ne _ _ _ _ (by decide), StableHlo.nullary_result, hctr]
    exact word_lt k hk
  isplitl [Hb]; · iexact Hb
  isplitl [Hh]; · rw [StableHlo.after_cons, StableHlo.after_cons, StableHlo.after_nil]; iexact Hh
  iexact HR

/-- Loop 2's exit test holds exactly before its twelfth trip has been made. -/
theorem test2 : LoopCond (pcfgs (F := F)) defs₀ Variants.none loops Rest main_while2_cond cond2Ops body2 (entry2 m) 12 := by
  intro k hk c bd
  have hctr := (at2_counter m c k).1
  unfold at2 at hctr
  unfold main_while2_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (atTrip cond2Ops body2 (entry2 m) k c) main_v40_6 HostLoop.idx0)
        (HloOp.result _ (atTrip cond2Ops body2 (entry2 m) k c) main_while2c_c_29 HostLoop.idx0) = 1#1) (k < 12)
    rw [StableHlo.nullary_result_ne _ _ _ _ (by decide), StableHlo.nullary_result, hctr]
    exact word_lt k hk
  isplitl [Hb]; · iexact Hb
  isplitl [Hh]; · rw [StableHlo.after_cons, StableHlo.after_cons, StableHlo.after_nil]; iexact Hh
  iexact HR

/-- Loop 3's exit test holds exactly before its twelfth trip has been made. -/
theorem test3 : LoopCond (pcfgs (F := F)) defs₀ Variants.none loops Rest main_while3_cond cond3Ops body3 (entry3 m) 12 := by
  intro k hk c bd
  have hctr := (at3_counter m c k).1
  unfold at3 at hctr
  unfold main_while3_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (atTrip cond3Ops body3 (entry3 m) k c) main_v43_11 HostLoop.idx0)
        (HloOp.result _ (atTrip cond3Ops body3 (entry3 m) k c) main_while3c_c_37 HostLoop.idx0) = 1#1) (k < 12)
    rw [StableHlo.nullary_result_ne _ _ _ _ (by decide), StableHlo.nullary_result, hctr]
    exact word_lt k hk
  isplitl [Hb]; · iexact Hb
  isplitl [Hh]; · rw [StableHlo.after_cons, StableHlo.after_cons, StableHlo.after_nil]; iexact Hh
  iexact HR

/-! ## The segments -/

/-- The operations before the first loop are plain ones: each writes one array. -/
theorem plain_start : Plain (F := F) (τ := τ) (sig := sig) [hostOps0] := Plain.cons hostOps0_sub Plain.nil
/-- So are those between the recurrent layer and the encoder. -/
theorem plain_between : Plain (F := F) between :=
  Plain.cons hostOps0_1_sub <| Plain.cons hostOps0_2_sub <| Plain.cons hostOps0_3_sub <| Plain.cons hostOps0_4_sub <|
    Plain.cons hostOps0_5_sub <| Plain.cons hostOps0_6_sub <| Plain.cons hostOps0_7_sub Plain.nil
/-- So are those between the encoder's two layers. -/
theorem plain_layers : Plain (F := F) (τ := τ) (sig := sig) [hostOps0_8] := Plain.cons hostOps0_8_sub Plain.nil
/-- So are those between the encoder and the decoder. -/
theorem plain_last : Plain (F := F) (τ := τ) (sig := sig) [hostOps0_9] := Plain.cons hostOps0_9_sub Plain.nil
/-- So are those of the loop of the recurrent layer over the rows. -/
theorem plain_body0 : Plain (F := F) body0 :=
  Plain.cons while0Ops0_sub <| Plain.cons while0Ops0_1_sub <| Plain.cons while0Ops0_2_sub Plain.nil
/-- So are those of the encoder's first-layer loop. -/
theorem plain_body1 : Plain (F := F) body1 :=
  Plain.cons while1Ops0_sub <| Plain.cons while1Ops0_1_sub <| Plain.cons while1Ops0_2_sub <| Plain.cons while1Ops0_3_sub <| Plain.cons while1Ops0_4_sub Plain.nil
/-- So are those of the encoder's second-layer loop. -/
theorem plain_body2 : Plain (F := F) body2 :=
  Plain.cons while2Ops0_sub <| Plain.cons while2Ops0_1_sub <| Plain.cons while2Ops0_2_sub Plain.nil
/-- So are those of the decoder's loop. -/
theorem plain_body3 : Plain (F := F) body3 :=
  Plain.cons while3Ops0_sub <| Plain.cons while3Ops0_1_sub <| Plain.cons while3Ops0_2_sub Plain.nil

/-- Loop 0 as one segment of twelve trips. -/
def seg0 : CSeg (pcfgs (F := F)) adm defs₀ Variants.none Lset lv loops tk :=
  loopSeg _ _ _ _ _ _ _ _ 0 main_while0_cond main_while0_body rfl cond0Ops body0 plain_body0 while0_body_chain 12 (entry0 m) Rest (test0 m)

/-- Loop 1 as one segment of twelve trips. -/
def seg1 : CSeg (pcfgs (F := F)) adm defs₀ Variants.none Lset lv loops tk :=
  loopSeg _ _ _ _ _ _ _ _ 1 main_while1_cond main_while1_body rfl cond1Ops body1 plain_body1 while1_body_chain 12 (entry1 m) Rest (test1 m)

/-- Loop 2 as one segment of twelve trips. -/
def seg2 : CSeg (pcfgs (F := F)) adm defs₀ Variants.none Lset lv loops tk :=
  loopSeg _ _ _ _ _ _ _ _ 2 main_while2_cond main_while2_body rfl cond2Ops body2 plain_body2 while2_body_chain 12 (entry2 m) Rest (test2 m)

/-- Loop 3 as one segment of twelve trips. -/
def seg3 : CSeg (pcfgs (F := F)) adm defs₀ Variants.none Lset lv loops tk :=
  loopSeg _ _ _ _ _ _ _ _ 3 main_while3_cond main_while3_body rfl cond3Ops body3 plain_body3 while3_body_chain 12 (entry3 m) Rest (test3 m)

/-- The whole program as segments. -/
def segments : List (CSeg (pcfgs (F := F)) adm defs₀ Variants.none Lset lv loops tk) :=
  segsOf _ _ _ _ _ _ _ _ Rest [hostOps0] plain_start (launchContents m)
    ++ seg0 m :: (segsOf _ _ _ _ _ _ _ _ Rest between plain_between (fun c => StableHlo.after cond0Ops (at0 m 12 c))
      ++ seg1 m :: (segsOf _ _ _ _ _ _ _ _ Rest [hostOps0_8] plain_layers (fun c => StableHlo.after cond1Ops (at1 m 12 c))
        ++ seg2 m :: (segsOf _ _ _ _ _ _ _ _ Rest [hostOps0_9] plain_last (fun c => StableHlo.after cond2Ops (at2 m 12 c))
          ++ [seg3 m])))

/-- The stretches and loops, one after the other, are the reference's program. -/
theorem segments_prog (c : Dev nD) : Pipeline.chain ((segments m).map CSeg.prog) = main (F := F) c := by
  rw [main_chain c]
  unfold segments
  rw [List.map_append, List.map_cons, List.map_append, List.map_cons, List.map_append, List.map_cons, List.map_append,
    segsOf_prog, segsOf_prog, segsOf_prog, segsOf_prog]
  rfl

/-- Each stretch or loop begins where the one before it ends, from the launch to the result. -/
theorem segments_chains :
    CSeg.Chains (fun c => iprop(held (c : Thread nD τ) (ucRefs τ sig) (launchContents m c) ∗ Rest (F := F) c)) (segments m)
      (fun c => iprop(held (c : Thread nD τ) (ucRefs τ sig) (final m c) ∗ ∃ W, owes (c : Thread nD τ) (0 : CellTallies nD τ sig Unit) W)) := by
  unfold segments
  exact CSeg.Chains.append (segsOf_chains _ _ _ _ _ _ _ _ Rest [hostOps0] plain_start _) ⟨fun _ => .rfl,
    CSeg.Chains.append (segsOf_chains _ _ _ _ _ _ _ _ Rest between plain_between _) ⟨fun _ => .rfl,
      CSeg.Chains.append (segsOf_chains _ _ _ _ _ _ _ _ Rest [hostOps0_8] plain_layers _) ⟨fun _ => .rfl,
        CSeg.Chains.append (segsOf_chains _ _ _ _ _ _ _ _ Rest [hostOps0_9] plain_last _) ⟨fun _ => .rfl, fun _ => .rfl⟩⟩⟩⟩

/-- Every weakly fair execution ends with the counters at zero and every tensor at `final`. -/
theorem run [∀ e, Nonempty (Elt F e)] (ρ : Dev nD → PrngReg) :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = final m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_inj defs₀ Variants.none Lset lv loops tk m ρ main (segments m)
    (fun c Q => by
      rw [← segments_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from
          by rw [BI.bigSep_emp_const])
        iempintro)
    (T₀ := fun c => iprop(held (c : Thread nD τ) (ucRefs τ sig) (launchContents m c) ∗ Rest c))
    (Tₙ := fun c => iprop(held (c : Thread nD τ) (ucRefs τ sig) (final m c)))
    (hch := segments_chains m)
    (hinit := by
      refine Pipeline.initEach Lset lv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h _ => ⟨fun c b hb => h c _ (devRef_mem_ucRefs b hb), sem_eq_zero_of_no_sems rfl s⟩)

end Run

end Cert.Proof.Ref
-- ==== Proof.RefFrame.lean ====
/-
  The reference leaves its arguments alone.
-/
module

public import proofs.«01_k».proof.Proof.RefRun

@[expose] public section

noncomputable section

namespace Cert.Proof.Ref

open Idealize.ShloMosaic Cert.ReferenceIdeal Cert.ReferenceIdeal.Gen
open Idealize.ShloMosaic.StableHlo

variable {F : FTy → Type} [FloatOps F]

/-- The arguments. -/
abbrev arguments : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

/-- The contents `W` hold in every argument what `V` holds there. -/
def Keeps (V W : Valuation τ sig (Elt F)) : Prop := ∀ r ∈ arguments, W (Proc.devRef .tc r) = V (Proc.devRef .tc r)

/-- Two stretches that keep the arguments, one after the other, keep them. -/
theorem Keeps.trans {V W X : Valuation τ sig (Elt F)} (h : Keeps V W) (h' : Keeps W X) : Keeps V X :=
  fun r hr => (h' r hr).trans (h r hr)

/-- The operations before the first loop keep the arguments. -/
theorem keeps_start (V : Valuation τ sig (Elt F)) : Keeps V (afterL [hostOps0] V) := by
  intro r hr
  simp only [arguments, List.mem_cons, List.not_mem_nil, or_false] at hr
  simp only [afterL_cons, afterL_nil]
  rcases hr with rfl | rfl | rfl | rfl | rfl | rfl | rfl | rfl | rfl | rfl | rfl | rfl | rfl | rfl | rfl | rfl | rfl | rfl | rfl | rfl | rfl | rfl | rfl | rfl | rfl <;> after_reads_simp

/-- The operations between the recurrent layer and the encoder keep the arguments. -/
theorem keeps_between (V : Valuation τ sig (Elt F)) : Keeps V (afterL between V) := by
  intro r hr
  simp only [arguments, List.mem_cons, List.not_mem_nil, or_false] at hr
  simp only [afterL_cons, afterL_nil]
  rcases hr with rfl | rfl | rfl | rfl | rfl | rfl | rfl | rfl | rfl | rfl | rfl | rfl | rfl | rfl | rfl | rfl | rfl | rfl | rfl | rfl | rfl | rfl | rfl | rfl | rfl <;> after_reads_simp

/-- The operations between the encoder's two layers keep the arguments. -/
theorem keeps_layers (V : Valuation τ sig (Elt F)) : Keeps V (afterL [hostOps0_8] V) := by
  intro r hr
  simp only [arguments, List.mem_cons, List.not_mem_nil, or_false] at hr
  simp only [afterL_cons, afterL_nil]
  rcases hr with rfl | rfl | rfl | rfl | rfl | rfl | rfl | rfl | rfl | rfl | rfl | rfl | rfl | rfl | rfl | rfl | rfl | rfl | rfl | rfl | rfl | rfl | rfl | rfl | rfl <;> after_reads_simp

/-- The operations between the encoder and the decoder keep the arguments. -/
theorem keeps_last (V : Valuation τ sig (Elt F)) : Keeps V (afterL [hostOps0_9] V) := by
  intro r hr
  simp only [arguments, List.mem_cons, List.not_mem_nil, or_false] at hr
  simp only [afterL_cons, afterL_nil]
  rcases hr with rfl | rfl | rfl | rfl | rfl | rfl | rfl | rfl | rfl | rfl | rfl | rfl | rfl | rfl | rfl | rfl | rfl | rfl | rfl | rfl | rfl | rfl | rfl | rfl | rfl <;> after_reads_simp

/-- The test of the loop of the recurrent layer over the rows keeps the arguments. -/
theorem keeps_test0 (V : Valuation τ sig (Elt F)) : Keeps V (StableHlo.after cond0Ops V) := by
  intro r hr
  simp only [arguments, List.mem_cons, List.not_mem_nil, or_false] at hr
  skip
  rcases hr with rfl | rfl | rfl | rfl | rfl | rfl | rfl | rfl | rfl | rfl | rfl | rfl | rfl | rfl | rfl | rfl | rfl | rfl | rfl | rfl | rfl | rfl | rfl | rfl | rfl <;> after_reads_simp

/-- One trip of the loop of the recurrent layer over the rows keeps the arguments. -/
theorem keeps_trip0 (V : Valuation τ sig (Elt F)) : Keeps V (trip0 V) := by
  intro r hr
  simp only [arguments, List.mem_cons, List.not_mem_nil, or_false] at hr
  unfold trip0
  rcases hr with rfl | rfl | rfl | rfl | rfl | rfl | rfl | rfl | rfl | rfl | rfl | rfl | rfl | rfl | rfl | rfl | rfl | rfl | rfl | rfl | rfl | rfl | rfl | rfl | rfl <;> after_reads_simp

/-- The test of the encoder's first-layer loop keeps the arguments. -/
theorem keeps_test1 (V : Valuation τ sig (Elt F)) : Keeps V (StableHlo.after cond1Ops V) := by
  intro r hr
  simp only [arguments, List.mem_cons, List.not_mem_nil, or_false] at hr
  skip
  rcases hr with rfl | rfl | rfl | rfl | rfl | rfl | rfl | rfl | rfl | rfl | rfl | rfl | rfl | rfl | rfl | rfl | rfl | rfl | rfl | rfl | rfl | rfl | rfl | rfl | rfl <;> after_reads_simp

/-- One trip of the encoder's first-layer loop keeps the arguments. -/
theorem keeps_trip1 (V : Valuation τ sig (Elt F)) : Keeps V (trip1 V) := by
  intro r hr
  simp only [arguments, List.mem_cons, List.not_mem_nil, or_false] at hr
  unfold trip1
  rcases hr with rfl | rfl | rfl | rfl | rfl | rfl | rfl | rfl | rfl | rfl | rfl | rfl | rfl | rfl | rfl | rfl | rfl | rfl | rfl | rfl | rfl | rfl | rfl | rfl | rfl <;> after_reads_simp

/-- The test of the encoder's second-layer loop keeps the arguments. -/
theorem keeps_test2 (V : Valuation τ sig (Elt F)) : Keeps V (StableHlo.after cond2Ops V) := by
  intro r hr
  simp only [arguments, List.mem_cons, List.not_mem_nil, or_false] at hr
  skip
  rcases hr with rfl | rfl | rfl | rfl | rfl | rfl | rfl | rfl | rfl | rfl | rfl | rfl | rfl | rfl | rfl | rfl | rfl | rfl | rfl | rfl | rfl | rfl | rfl | rfl | rfl <;> after_reads_simp

/-- One trip of the encoder's second-layer loop keeps the arguments. -/
theorem keeps_trip2 (V : Valuation τ sig (Elt F)) : Keeps V (trip2 V) := by
  intro r hr
  simp only [arguments, List.mem_cons, List.not_mem_nil, or_false] at hr
  unfold trip2
  rcases hr with rfl | rfl | rfl | rfl | rfl | rfl | rfl | rfl | rfl | rfl | rfl | rfl | rfl | rfl | rfl | rfl | rfl | rfl | rfl | rfl | rfl | rfl | rfl | rfl | rfl <;> after_reads_simp

/-- The test of the decoder's loop keeps the arguments. -/
theorem keeps_test3 (V : Valuation τ sig (Elt F)) : Keeps V (StableHlo.after cond3Ops V) := by
  intro r hr
  simp only [arguments, List.mem_cons, List.not_mem_nil, or_false] at hr
  skip
  rcases hr with rfl | rfl | rfl | rfl | rfl | rfl | rfl | rfl | rfl | rfl | rfl | rfl | rfl | rfl | rfl | rfl | rfl | rfl | rfl | rfl | rfl | rfl | rfl | rfl | rfl <;> after_reads_simp

/-- One trip of the decoder's loop keeps the arguments. -/
theorem keeps_trip3 (V : Valuation τ sig (Elt F)) : Keeps V (trip3 V) := by
  intro r hr
  simp only [arguments, List.mem_cons, List.not_mem_nil, or_false] at hr
  unfold trip3
  rcases hr with rfl | rfl | rfl | rfl | rfl | rfl | rfl | rfl | rfl | rfl | rfl | rfl | rfl | rfl | rfl | rfl | rfl | rfl | rfl | rfl | rfl | rfl | rfl | rfl | rfl <;> after_reads_simp

variable (m : (ℓ : Loc nD τ sig) → Buf (Elt F) ℓ)

/-- Any number of trips of the loop of the recurrent layer over the rows keeps the arguments. -/
theorem keeps_at0 (c : Dev nD) (k : ℕ) : Keeps (entry0 m c) (at0 m k c) := by
  induction k with
  | zero => exact fun _ _ => rfl
  | succ k ih => exact ih.trans (keeps_trip0 _)

/-- Any number of trips of the encoder's first-layer loop keeps the arguments. -/
theorem keeps_at1 (c : Dev nD) (k : ℕ) : Keeps (entry1 m c) (at1 m k c) := by
  induction k with
  | zero => exact fun _ _ => rfl
  | succ k ih => exact ih.trans (keeps_trip1 _)

/-- Any number of trips of the encoder's second-layer loop keeps the arguments. -/
theorem keeps_at2 (c : Dev nD) (k : ℕ) : Keeps (entry2 m c) (at2 m k c) := by
  induction k with
  | zero => exact fun _ _ => rfl
  | succ k ih => exact ih.trans (keeps_trip2 _)

/-- Any number of trips of the decoder's loop keeps the arguments. -/
theorem keeps_at3 (c : Dev nD) (k : ℕ) : Keeps (entry3 m c) (at3 m k c) := by
  induction k with
  | zero => exact fun _ _ => rfl
  | succ k ih => exact ih.trans (keeps_trip3 _)

/-- The run leaves every argument at what it held at the start. -/
theorem keeps_final (c : Dev nD) : Keeps (launchContents m c) (final m c) :=
  (keeps_start (launchContents m c)).trans <| (keeps_at0 m c 12).trans <| (keeps_test0 _).trans <| (keeps_between _).trans <|
    (keeps_at1 m c 12).trans <| (keeps_test1 _).trans <| (keeps_layers _).trans <| (keeps_at2 m c 12).trans <| (keeps_test2 _).trans <|
    (keeps_last _).trans <| (keeps_at3 m c 12).trans (keeps_test3 _)

end Cert.Proof.Ref
-- ==== Proof.KernelIdealCells.lean ====
/- The kernel's body as plain functions of its vectors: one product with the support matrix per
   width of the right side, one recurrent cell per shape of its inputs, the attention, the choice of
   the thirtieth largest entry, the support matrix, and the three loops over time as recursions.
   Everything is stated at any float instance; the loops' bodies are shown to be these functions in
   `Body`, and they are read entry by entry, at the ideal instance, in `Read`. -/
module

public import proofs.«01_k».proof.Proof.Gen.KernelIdeal
public import Idealize.ShloMosaic.Lib.ValueIdxCore

@[expose] public section

set_option maxRecDepth 16384

noncomputable section

namespace Cert.Proof.KernelIdeal

open Cert.KernelIdeal Cert.KernelIdeal.Gen
open Idealize.ShloMosaic Idealize.SL.Sem

variable {F : FTy → Type} [FloatOps F]

/-! ### The product with the support matrix, 64 columns a batch -/

/-- The rows of one batch entry lie inside the array of all rows (64 features). -/
theorem slicesRow64 (b : Fin 16) : S3328x64.Slices ![208 * b.val, 0] S208x64 := by
  refine ⟨rfl, fun a => ?_⟩
  fin_cases a
  · show 208 * b.val + 208 ≤ 3328
    omega
  · exact Nat.le_refl _

/-- The columns of one batch entry lie inside the array of entries side by side (64 features). -/
theorem slicesCol64 (b : Fin 2) : S208x128.Slices ![0, 64 * b.val] S208x64 := by
  refine ⟨rfl, fun a => ?_⟩
  fin_cases a
  · exact Nat.le_refl _
  · show 64 * b.val + 64 ≤ 128
    omega

/-- The 64-column block of batch `b`: rows `208 b` to `208 b + 207`. -/
def block64 (X : FVec F S3328x64 .f32) (b : Fin 16) : FVec F S208x64 .f32 :=
  extractStridedSlice S208x64 ![208 * b.val, 0] X (slicesRow64 b)

/-- 2 batches side by side: group `q`. -/
def beside64 (X : FVec F S3328x64 .f32) (q : Fin 8) : FVec F S208x128 .f32 :=
  concatenate S208x128 1 (List.ofFn fun j : Fin 2 => ⟨S208x64, block64 X ⟨2 * q.val + j.val, by omega⟩⟩)
    concatenates_S208x64_S208x64_S208x128_d1

/-- The support matrix times group `q`. -/
def group64 (S : FVec F S208x208 .f32) (X : FVec F S3328x64 .f32) (q : Fin 8) : FVec F S208x128 .f32 :=
  matmul dot_S208x208_S208x128_S208x128_1_0_0_1_n_n none S (beside64 X q) (constant S208x128 .f32 0x00000000#32)

/-- The support matrix applied to every batch's block of rows. -/
def spread64 (S : FVec F S208x208 .f32) (X : FVec F S3328x64 .f32) : FVec F S3328x64 .f32 :=
  concatenate S3328x64 0
    (List.ofFn fun b : Fin 16 => ⟨S208x64, extractStridedSlice S208x64 ![0, 64 * (b.val % 2)]
      (group64 S X ⟨b.val / 2, by omega⟩) (slicesCol64 ⟨b.val % 2, by omega⟩)⟩)
    concatenates_S208x64_S208x64_S208x64_S208x64_S208x64_S208x64_S208x64_S208x64_S208x64_S208x64_S208x64_S208x64_S208x64_S208x64_S208x64_S208x64_S3328x64_d0

/-- The second Chebyshev term, `2 S y − x`. -/
def second64 (S : FVec F S208x208 .f32) (X Y : FVec F S3328x64 .f32) : FVec F S3328x64 .f32 :=
  subf (mulf (broadcast S3328x64 (Scalar.ofBits .f32 0x40000000#32)) (spread64 S Y)) X

/-- The three Chebyshev terms side by side. -/
def stack64 (S : FVec F S208x208 .f32) (X : FVec F S3328x64 .f32) : FVec F S3328x192 .f32 :=
  concatenate S3328x192 1 [⟨S3328x64, X⟩, ⟨S3328x64, spread64 S X⟩, ⟨S3328x64, second64 S X (spread64 S X)⟩]
    concatenates_S3328x64_S3328x64_S3328x64_S3328x192_d1

/-! ### The product with the support matrix, 2 columns a batch -/

/-- The rows of one batch entry lie inside the array of all rows (2 features). -/
theorem slicesRow2 (b : Fin 16) : S3328x2.Slices ![208 * b.val, 0] S208x2 := by
  refine ⟨rfl, fun a => ?_⟩
  fin_cases a
  · show 208 * b.val + 208 ≤ 3328
    omega
  · exact Nat.le_refl _

/-- The columns of one batch entry lie inside the array of entries side by side (2 features). -/
theorem slicesCol2 (b : Fin 16) : S208x32.Slices ![0, 2 * b.val] S208x2 := by
  refine ⟨rfl, fun a => ?_⟩
  fin_cases a
  · exact Nat.le_refl _
  · show 2 * b.val + 2 ≤ 32
    omega

/-- The 2-column block of batch `b`: rows `208 b` to `208 b + 207`. -/
def block2 (X : FVec F S3328x2 .f32) (b : Fin 16) : FVec F S208x2 .f32 :=
  extractStridedSlice S208x2 ![208 * b.val, 0] X (slicesRow2 b)

/-- 16 batches side by side: group `q`. -/
def beside2 (X : FVec F S3328x2 .f32) (q : Fin 1) : FVec F S208x32 .f32 :=
  concatenate S208x32 1 (List.ofFn fun j : Fin 16 => ⟨S208x2, block2 X ⟨16 * q.val + j.val, by omega⟩⟩)
    concatenates_S208x2_S208x2_S208x2_S208x2_S208x2_S208x2_S208x2_S208x2_S208x2_S208x2_S208x2_S208x2_S208x2_S208x2_S208x2_S208x2_S208x32_d1

/-- The support matrix times group `q`. -/
def group2 (S : FVec F S208x208 .f32) (X : FVec F S3328x2 .f32) (q : Fin 1) : FVec F S208x32 .f32 :=
  matmul dot_S208x208_S208x32_S208x32_1_0_0_1_n_n none S (beside2 X q) (constant S208x32 .f32 0x00000000#32)

/-- The support matrix applied to every batch's block of rows. -/
def spread2 (S : FVec F S208x208 .f32) (X : FVec F S3328x2 .f32) : FVec F S3328x2 .f32 :=
  concatenate S3328x2 0
    (List.ofFn fun b : Fin 16 => ⟨S208x2, extractStridedSlice S208x2 ![0, 2 * (b.val % 16)]
      (group2 S X ⟨b.val / 16, by omega⟩) (slicesCol2 ⟨b.val % 16, by omega⟩)⟩)
    concatenates_S208x2_S208x2_S208x2_S208x2_S208x2_S208x2_S208x2_S208x2_S208x2_S208x2_S208x2_S208x2_S208x2_S208x2_S208x2_S208x2_S3328x2_d0

/-- The second Chebyshev term, `2 S y − x`. -/
def second2 (S : FVec F S208x208 .f32) (X Y : FVec F S3328x2 .f32) : FVec F S3328x2 .f32 :=
  subf (mulf (broadcast S3328x2 (Scalar.ofBits .f32 0x40000000#32)) (spread2 S Y)) X

/-- The three Chebyshev terms side by side. -/
def stack2 (S : FVec F S208x208 .f32) (X : FVec F S3328x2 .f32) : FVec F S3328x6 .f32 :=
  concatenate S3328x6 1 [⟨S3328x2, X⟩, ⟨S3328x2, spread2 S X⟩, ⟨S3328x2, second2 S X (spread2 S X)⟩]
    concatenates_S3328x2_S3328x2_S3328x2_S3328x6_d1

/-! ### The product with the support matrix, 1 column a batch -/

/-- The rows of one batch entry lie inside the array of all rows (1 features). -/
theorem slicesRow1 (b : Fin 16) : S3328x1.Slices ![208 * b.val, 0] S208x1 := by
  refine ⟨rfl, fun a => ?_⟩
  fin_cases a
  · show 208 * b.val + 208 ≤ 3328
    omega
  · exact Nat.le_refl _

/-- The columns of one batch entry lie inside the array of entries side by side (1 features). -/
theorem slicesCol1 (b : Fin 16) : S208x16.Slices ![0, 1 * b.val] S208x1 := by
  refine ⟨rfl, fun a => ?_⟩
  fin_cases a
  · exact Nat.le_refl _
  · show 1 * b.val + 1 ≤ 16
    omega

/-- The 1-column block of batch `b`: rows `208 b` to `208 b + 207`. -/
def block1 (X : FVec F S3328x1 .f32) (b : Fin 16) : FVec F S208x1 .f32 :=
  extractStridedSlice S208x1 ![208 * b.val, 0] X (slicesRow1 b)

/-- 16 batches side by side: group `q`. -/
def beside1 (X : FVec F S3328x1 .f32) (q : Fin 1) : FVec F S208x16 .f32 :=
  concatenate S208x16 1 (List.ofFn fun j : Fin 16 => ⟨S208x1, block1 X ⟨16 * q.val + j.val, by omega⟩⟩)
    concatenates_S208x1_S208x1_S208x1_S208x1_S208x1_S208x1_S208x1_S208x1_S208x1_S208x1_S208x1_S208x1_S208x1_S208x1_S208x1_S208x1_S208x16_d1

/-- The support matrix times group `q`. -/
def group1 (S : FVec F S208x208 .f32) (X : FVec F S3328x1 .f32) (q : Fin 1) : FVec F S208x16 .f32 :=
  matmul dot_S208x208_S208x16_S208x16_1_0_0_1_n_n none S (beside1 X q) (constant S208x16 .f32 0x00000000#32)

/-- The support matrix applied to every batch's block of rows. -/
def spread1 (S : FVec F S208x208 .f32) (X : FVec F S3328x1 .f32) : FVec F S3328x1 .f32 :=
  concatenate S3328x1 0
    (List.ofFn fun b : Fin 16 => ⟨S208x1, extractStridedSlice S208x1 ![0, 1 * (b.val % 16)]
      (group1 S X ⟨b.val / 16, by omega⟩) (slicesCol1 ⟨b.val % 16, by omega⟩)⟩)
    concatenates_S208x1_S208x1_S208x1_S208x1_S208x1_S208x1_S208x1_S208x1_S208x1_S208x1_S208x1_S208x1_S208x1_S208x1_S208x1_S208x1_S3328x1_d0

/-- The second Chebyshev term, `2 S y − x`. -/
def second1 (S : FVec F S208x208 .f32) (X Y : FVec F S3328x1 .f32) : FVec F S3328x1 .f32 :=
  subf (mulf (broadcast S3328x1 (Scalar.ofBits .f32 0x40000000#32)) (spread1 S Y)) X

/-- The three Chebyshev terms side by side. -/
def stack1 (S : FVec F S208x208 .f32) (X : FVec F S3328x1 .f32) : FVec F S3328x3 .f32 :=
  concatenate S3328x3 1 [⟨S3328x1, X⟩, ⟨S3328x1, spread1 S X⟩, ⟨S3328x1, second1 S X (spread1 S X)⟩]
    concatenates_S3328x1_S3328x1_S3328x1_S3328x3_d1

/-! ### The recurrent cell -/

/-- What a cell does with its two stacked inputs' products `gx`, `cx` (both with the input's stack). -/
def cellOf (S : FVec F S208x208 .f32) (gx : FVec F S3328x128 .f32) (cx : FVec F S3328x64 .f32)
    (wgh : FVec F S192x128 .f32) (bg : FVec F S1x128 .f32) (wch : FVec F S192x64 .f32) (bc : FVec F S1x64 .f32)
    (h : FVec F S3328x64 .f32) : FVec F S3328x64 .f32 :=
  let g : FVec F S3328x128 .f32 := logistic (addf
    (addf gx (matmul dot_S3328x192_S192x128_S3328x128_1_0_0_1_n_n none (stack64 S h) wgh (constant S3328x128 .f32 0x00000000#32)))
    (broadcastTo S3328x128 bg broadcasts_S1x128_S3328x128))
  let r : FVec F S3328x64 .f32 := extractStridedSlice S3328x64 ![0, 0] g slices_S3328x128_o0_0_S3328x64
  let u : FVec F S3328x64 .f32 := extractStridedSlice S3328x64 ![0, 64] g slices_S3328x128_o0_64_S3328x64
  let cand : FVec F S3328x64 .f32 := tanh (addf
    (addf cx (matmul dot_S3328x192_S192x64_S3328x64_1_0_0_1_n_n none (stack64 S (mulf r h)) wch (constant S3328x64 .f32 0x00000000#32)))
    (broadcastTo S3328x64 bc broadcasts_S1x64_S3328x64))
  addf (mulf u h) (mulf (subf (broadcast S3328x64 (Scalar.ofBits .f32 0x3F800000#32)) u) cand)

/-- The cell whose input has 64 columns. -/
def cell64 (S : FVec F S208x208 .f32) (wgx : FVec F S192x128 .f32) (wgh : FVec F S192x128 .f32) (bg : FVec F S1x128 .f32)
    (wcx : FVec F S192x64 .f32) (wch : FVec F S192x64 .f32) (bc : FVec F S1x64 .f32)
    (x : FVec F S3328x64 .f32) (h : FVec F S3328x64 .f32) : FVec F S3328x64 .f32 :=
  cellOf S (matmul dot_S3328x192_S192x128_S3328x128_1_0_0_1_n_n none (stack64 S x) wgx (constant S3328x128 .f32 0x00000000#32))
    (matmul dot_S3328x192_S192x64_S3328x64_1_0_0_1_n_n none (stack64 S x) wcx (constant S3328x64 .f32 0x00000000#32))
    wgh bg wch bc h

/-- The cell whose input has 2 columns. -/
def cell2 (S : FVec F S208x208 .f32) (wgx : FVec F S6x128 .f32) (wgh : FVec F S192x128 .f32) (bg : FVec F S1x128 .f32)
    (wcx : FVec F S6x64 .f32) (wch : FVec F S192x64 .f32) (bc : FVec F S1x64 .f32)
    (x : FVec F S3328x2 .f32) (h : FVec F S3328x64 .f32) : FVec F S3328x64 .f32 :=
  cellOf S (matmul dot_S3328x6_S6x128_S3328x128_1_0_0_1_n_n none (stack2 S x) wgx (constant S3328x128 .f32 0x00000000#32))
    (matmul dot_S3328x6_S6x64_S3328x64_1_0_0_1_n_n none (stack2 S x) wcx (constant S3328x64 .f32 0x00000000#32))
    wgh bg wch bc h

/-- The cell whose input has 1 column. -/
def cell1 (S : FVec F S208x208 .f32) (wgx : FVec F S3x128 .f32) (wgh : FVec F S192x128 .f32) (bg : FVec F S1x128 .f32)
    (wcx : FVec F S3x64 .f32) (wch : FVec F S192x64 .f32) (bc : FVec F S1x64 .f32)
    (x : FVec F S3328x1 .f32) (h : FVec F S3328x64 .f32) : FVec F S3328x64 .f32 :=
  cellOf S (matmul dot_S3328x3_S3x128_S3328x128_1_0_0_1_n_n none (stack1 S x) wgx (constant S3328x128 .f32 0x00000000#32))
    (matmul dot_S3328x3_S3x64_S3328x64_1_0_0_1_n_n none (stack1 S x) wcx (constant S3328x64 .f32 0x00000000#32))
    wgh bg wch bc h

/-! ### The gated recurrent unit -/

/-- One step of the gated recurrent unit on the rows `x`. -/
def gruStep (wih : FVec F S2x192 .f32) (whh : FVec F S64x192 .f32) (bih bhh : FVec F S1x192 .f32)
    (x : FVec F S3328x2 .f32) (h : FVec F S3328x64 .f32) : FVec F S3328x64 .f32 :=
  let gi : FVec F S3328x192 .f32 := addf (matmul dot_S3328x2_S2x192_S3328x192_1_0_0_1_n_n none x wih (constant S3328x192 .f32 0x00000000#32))
    (broadcastTo S3328x192 bih broadcasts_S1x192_S3328x192)
  let gh : FVec F S3328x192 .f32 := addf (matmul dot_S3328x64_S64x192_S3328x192_1_0_0_1_n_n none h whh (constant S3328x192 .f32 0x00000000#32))
    (broadcastTo S3328x192 bhh broadcasts_S1x192_S3328x192)
  let r : FVec F S3328x64 .f32 := logistic (addf (extractStridedSlice S3328x64 ![0, 0] gi slices_S3328x192_o0_0_S3328x64)
    (extractStridedSlice S3328x64 ![0, 0] gh slices_S3328x192_o0_0_S3328x64))
  let z : FVec F S3328x64 .f32 := logistic (addf (extractStridedSlice S3328x64 ![0, 64] gi slices_S3328x192_o0_64_S3328x64)
    (extractStridedSlice S3328x64 ![0, 64] gh slices_S3328x192_o0_64_S3328x64))
  let n : FVec F S3328x64 .f32 := tanh (addf (extractStridedSlice S3328x64 ![0, 128] gi slices_S3328x192_o0_128_S3328x64)
    (mulf r (extractStridedSlice S3328x64 ![0, 128] gh slices_S3328x192_o0_128_S3328x64)))
  addf (mulf (subf (broadcast S3328x64 (Scalar.ofBits .f32 0x3F800000#32)) z) n) (mulf z h)

/-! ### The attention -/

/-- The rows of one batch entry lie inside the array of all rows (32 features). -/
theorem slicesRow32 (b : Fin 16) : S3328x32.Slices ![208 * b.val, 0] S208x32 := by
  refine ⟨rfl, fun a => ?_⟩
  fin_cases a
  · show 208 * b.val + 208 ≤ 3328
    omega
  · exact Nat.le_refl _

/-- Which columns are nodes: the first 207. -/
def colMask : IVec S208x208 1 := cmpi .slt (iota .tc S208x208 32 [1] iota_S208x208_d1_w32) (broadcast S208x208 207#32)

/-- A row's largest entry, along the row. -/
def rowMax (x : FVec F S208x208 .f32) : FVec F S208x208 .f32 :=
  broadcastTo S208x208 (shapeCast S208x1 (multiReduction .maximumf [1] S208 x 0xFF800000#32 reduces_S208x208_S208 (.inl rfl) rfl)
    shapeCasts_S208_S208x1) broadcasts_S208x1_S208x208

/-- A batch's scores: the positive part of the products of keys and queries, with the padding's column put far below. -/
def scores (K Q : FVec F S3328x32 .f32) (b : Fin 16) : FVec F S208x208 .f32 :=
  select colMask (maximumf (matmul dot_S208x32_S208x32_S208x208_1_1_0_0_n_n none
      (extractStridedSlice S208x32 ![208 * b.val, 0] K (slicesRow32 b)) (extractStridedSlice S208x32 ![208 * b.val, 0] Q (slicesRow32 b))
      (constant S208x208 .f32 0x00000000#32)) (broadcast S208x208 (Scalar.ofBits .f32 0x00000000#32)))
    (broadcast S208x208 (Scalar.ofBits .f32 0xF149F2CA#32))

/-- The exponentials of a batch's scores, zero in the padding's column. -/
def expScores (K Q : FVec F S3328x32 .f32) (b : Fin 16) : FVec F S208x208 .f32 :=
  select colMask (exp (subf (scores K Q b) (rowMax (scores K Q b)))) (broadcast S208x208 (Scalar.ofBits .f32 0x00000000#32))

/-- A batch's attention: the exponentials over their row's sum. -/
def attention (K Q : FVec F S3328x32 .f32) (b : Fin 16) : FVec F S208x208 .f32 :=
  divf (expScores K Q b) (broadcastTo S208x208 (shapeCast S208x1
    (multiReduction .add [1] S208 (expScores K Q b) 0x00000000#32 reduces_S208x208_S208 (.inl rfl) rfl) shapeCasts_S208_S208x1)
    broadcasts_S208x1_S208x208)

/-- The first `n` batches' attentions added up. -/
def attentionSum (K Q : FVec F S3328x32 .f32) : (n : ℕ) → n ≤ 16 → FVec F S208x208 .f32
  | 0, _ => broadcast S208x208 (Scalar.ofBits .f32 0x00000000#32)
  | n + 1, h => addf (attentionSum K Q n (Nat.le_of_succ_le h)) (attention K Q ⟨n, h⟩)

/-- The batches' mean attention. -/
def meanAttention (K Q : FVec F S3328x32 .f32) : FVec F S208x208 .f32 :=
  mulf (attentionSum K Q 16 (Nat.le_refl _)) (broadcast S208x208 (Scalar.ofBits .f32 0x3D800000#32))

/-! ### The support matrix -/

/-- One round: every row's first largest entry becomes −1. -/
def dropMax (x : FVec F S208x208 .f32) : FVec F S208x208 .f32 :=
  select (cmpi .eq (iota .tc S208x208 32 [1] iota_S208x208_d1_w32)
      (broadcastTo S208x208 (shapeCast S208x1 (multiReductionI .minsi [1] S208
        (select (cmpf .oeq x (rowMax x)) (iota .tc S208x208 32 [1] iota_S208x208_d1_w32) (broadcast S208x208 208#32))
        2147483647#32 reduces_S208x208_S208 rfl) shapeCasts_S208_S208x1) broadcasts_S208x1_S208x208))
    (broadcast S208x208 (Scalar.ofBits .f32 0xBF800000#32)) x

/-- What is left after `n` rounds. -/
def dropped (A : FVec F S208x208 .f32) : ℕ → FVec F S208x208 .f32
  | 0 => select colMask A (broadcast S208x208 (Scalar.ofBits .f32 0xBF800000#32))
  | n + 1 => dropMax (dropped A n)

/-- The entries at least as large as the thirtieth largest of their row, the others zero. -/
def kept (A : FVec F S208x208 .f32) : FVec F S208x208 .f32 :=
  select (andi (andi (cmpf .oge A (rowMax (dropped A 29))) colMask)
      (cmpi .slt (iota .tc S208x208 32 [0] iota_S208x208_d0_w32) (broadcast S208x208 207#32)))
    A (broadcast S208x208 (Scalar.ofBits .f32 0x00000000#32))

/-- The sums of the rows. -/
def degree (A : FVec F S208x208 .f32) : FVec F S208x1 .f32 :=
  shapeCast S208x1 (multiReduction .add [1] S208 (kept A) 0x00000000#32 reduces_S208x208_S208 (.inl rfl) rfl) shapeCasts_S208_S208x1

/-- The support matrix: what is kept, every row over its sum where that is positive. -/
def support (A : FVec F S208x208 .f32) : FVec F S208x208 .f32 :=
  mulf (broadcastTo S208x208 (select (cmpf .ogt (degree A) (broadcast S208x1 (Scalar.ofBits .f32 0x00000000#32)))
      (divf (broadcast S208x1 (Scalar.ofBits .f32 0x3F800000#32)) (degree A)) (broadcast S208x1 (Scalar.ofBits .f32 0x00000000#32)))
    broadcasts_S208x1_S208x208) (kept A)

/-- The support matrix from the hidden state the gated recurrent unit ends in. -/
def supportOf (h : FVec F S3328x64 .f32) (wkey wquery : FVec F S64x32 .f32) : FVec F S208x208 .f32 :=
  support (meanAttention
    (matmul dot_S3328x64_S64x32_S3328x32_1_0_0_1_n_n none h wkey (constant S3328x32 .f32 0x00000000#32))
    (matmul dot_S3328x64_S64x32_S3328x32_1_0_0_1_n_n none h wquery (constant S3328x32 .f32 0x00000000#32)))

/-! ### The projection -/

/-- The projection of the second layer's state. -/
def project (pw : FVec F S1x64 .f32) (pb : FVec F S1x1 .f32) (h : FVec F S3328x64 .f32) : FVec F S3328x1 .f32 :=
  addf (shapeCast S3328x1 (multiReduction .add [1] S3328 (mulf h (broadcastTo S3328x64 pw broadcasts_S1x64_S3328x64)) 0x00000000#32
    reduces_S3328x64_S3328 (.inl rfl) rfl) shapeCasts_S3328_S3328x1) (broadcastTo S3328x1 pb broadcasts_S1x1_S3328x1)

/-- The projection written into column `t` of the result. -/
def writeCol (t : BitVec 32) (p : FVec F S3328x1 .f32) (o : FVec F S3328x12 .f32) : FVec F S3328x12 .f32 :=
  select (cmpi .eq (iota .tc S3328x12 32 [1] iota_S3328x12_d1_w32) (broadcast S3328x12 t))
    (broadcastTo S3328x12 (shapeCast S3328x1 p shapeCasts_S3328x1_S3328x1) broadcasts_S3328x1_S3328x12) o

/-! ### The loops over time -/

/-- The rows of step `k` of the input. -/
def frameAt (X : Vec F S12x3328x2 .f32) (k : ℕ) : FVec F S3328x2 .f32 :=
  fun j => X (ValueIdx.ix3 (⟨k % 12, Nat.mod_lt _ (by decide)⟩ : Fin 12) (j 0) (j 1))

/-- The hidden state before step `k` of the gated recurrent unit. -/
def gruFold (wih : FVec F S2x192 .f32) (whh : FVec F S64x192 .f32) (bih bhh : FVec F S1x192 .f32) (X : Vec F S12x3328x2 .f32) :
    ℕ → FVec F S3328x64 .f32
  | 0 => broadcast S3328x64 (Scalar.ofBits .f32 0x00000000#32)
  | k + 1 => gruStep wih whh bih bhh (frameAt X k) (gruFold wih whh bih bhh X k)

/-- The two layers' states before step `k` of the encoder. -/
def encFold (S : FVec F S208x208 .f32)
    (wgx : FVec F S6x128 .f32) (wgh : FVec F S192x128 .f32) (bg : FVec F S1x128 .f32)
    (wcx : FVec F S6x64 .f32) (wch : FVec F S192x64 .f32) (bc : FVec F S1x64 .f32)
    (wgx' : FVec F S192x128 .f32) (wgh' : FVec F S192x128 .f32) (bg' : FVec F S1x128 .f32)
    (wcx' : FVec F S192x64 .f32) (wch' : FVec F S192x64 .f32) (bc' : FVec F S1x64 .f32) (X : Vec F S12x3328x2 .f32) :
    ℕ → FVec F S3328x64 .f32 × FVec F S3328x64 .f32
  | 0 => (broadcast S3328x64 (Scalar.ofBits .f32 0x00000000#32), broadcast S3328x64 (Scalar.ofBits .f32 0x00000000#32))
  | k + 1 =>
    let p := encFold S wgx wgh bg wcx wch bc wgx' wgh' bg' wcx' wch' bc' X k
    let a := cell2 S wgx wgh bg wcx wch bc (frameAt X k) p.1
    (a, cell64 S wgx' wgh' bg' wcx' wch' bc' a p.2)

/-- The decoder's two states, its current value and the result's columns before step `k`. -/
def decFold (S : FVec F S208x208 .f32)
    (wgx : FVec F S3x128 .f32) (wgh : FVec F S192x128 .f32) (bg : FVec F S1x128 .f32)
    (wcx : FVec F S3x64 .f32) (wch : FVec F S192x64 .f32) (bc : FVec F S1x64 .f32)
    (wgx' : FVec F S192x128 .f32) (wgh' : FVec F S192x128 .f32) (bg' : FVec F S1x128 .f32)
    (wcx' : FVec F S192x64 .f32) (wch' : FVec F S192x64 .f32) (bc' : FVec F S1x64 .f32)
    (pw : FVec F S1x64 .f32) (pb : FVec F S1x1 .f32)
    (init : FVec F S3328x64 .f32 × FVec F S3328x64 .f32 × FVec F S3328x1 .f32 × FVec F S3328x12 .f32) :
    ℕ → FVec F S3328x64 .f32 × FVec F S3328x64 .f32 × FVec F S3328x1 .f32 × FVec F S3328x12 .f32
  | 0 => init
  | k + 1 =>
    let p := decFold S wgx wgh bg wcx wch bc wgx' wgh' bg' wcx' wch' bc' pw pb init k
    let a := cell1 S wgx wgh bg wcx wch bc p.2.2.1 p.1
    let b := cell64 S wgx' wgh' bg' wcx' wch' bc' a p.2.1
    (a, b, project pw pb b, writeCol (Scf.iv 0#32 1#32 k) (project pw pb b) p.2.2.2)

end Cert.Proof.KernelIdeal
-- ==== Proof.KernelIdealLoops.lean ====
module

public import proofs.«01_k».proof.Proof.KernelIdealCells
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.Value
public import Idealize.ShloMosaic.Lib.VecWindow
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ### What the loops read -/

/-- A trip's rows of the input, as the body loads and reshapes them. -/
theorem loaded_frame {κ : Kind} {sp : Space} (v : View sig κ sp S12x3328x2 .f32) (f : v.ty.Contents (Elt F)) (k : ℕ) (hk : k < 12)
    {off : Fin 3 → ℕ} (hoff : off = ![k, 0, 0]) (inb : ∀ a, off a + S1x3328x2.size a ≤ S12x3328x2.size a) :
    shapeCast S3328x2 (shapeCast S1x3328x2 (v.readAt (Elt F) (Rect.unit (s := S12x3328x2) off S1x3328x2.size inb).toLoadRect f)
      shapeCasts_S1x3328x2_S1x3328x2) shapeCasts_S1x3328x2_S3328x2 = frameAt (v.read (Elt F) f) k := by
  subst hoff
  refine (congrArg (fun r : S1x3328x2.Idx → Elt F .f32 => shapeCast S3328x2 r shapeCasts_S1x3328x2_S3328x2)
    (shapeCast_self (s := S1x3328x2) _ _)).trans ?_
  funext j
  refine (shapeCast_dropUnit_apply _ _ _ j).trans ?_
  refine congrArg (v.read (Elt F) f) (funext fun a => Fin.ext ?_)
  have hk' : k % 12 = k := Nat.mod_eq_of_lt hk
  fin_cases a
  · show k + 1 * 0 = k % 12
    omega
  · show 0 + 1 * (j 0).val = (j 0).val
    omega
  · show 0 + 1 * (j 1).val = (j 1).val
    omega

/-! ### The loops' trips as the functions of the body -/

set_option maxHeartbeats 4000000 in
/-- One trip of the first loop is a step of the gated recurrent unit. -/
theorem pay_gru (v0 : Vec F S2x192 .f32) (v2 : Vec F S64x192 .f32) (v4 v6 : Vec F S1x192 .f32) (acc : FVec F S3328x64 .f32)
    (x : Vec F S1x3328x2 .f32) :
    k0_pay245 v0 v2 v4 v6 acc x = gruStep v0 v2 v4 v6 (shapeCast S3328x2 (shapeCast S1x3328x2 x
      shapeCasts_S1x3328x2_S1x3328x2) shapeCasts_S1x3328x2_S3328x2) acc := by
  unfold k0_pay245 gruStep
  dsimp only
  rw [shapeCast_self v0, shapeCast_self v2, shapeCast_self v4, shapeCast_self v6]

set_option maxHeartbeats 4000000 in
set_option warn.classDefReducibility false in
/-- The first loop: before trip `k` the carried state is `gruFold … k`. -/
@[sl_loop] def loopGru (c : Dev nD) (E : Set ℕ) (arg0 : Memref sig .tc .vmem S12x3328x2 .f32) (harg0 : arg0.IsWhole) (arg1 : Memref sig .tc .vmem S2x192 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S6x128 .f32) (harg7 : arg7.IsWhole) (arg8 : Memref sig .tc .vmem S192x128 .f32) (harg8 : arg8.IsWhole) (arg9 : Memref sig .tc .vmem S1x128 .f32) (harg9 : arg9.IsWhole) (arg10 : Memref sig .tc .vmem S6x64 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S192x128 .f32) (harg13 : arg13.IsWhole) (arg14 : Memref sig .tc .vmem S192x128 .f32) (harg14 : arg14.IsWhole) (arg15 : Memref sig .tc .vmem S1x128 .f32) (harg15 : arg15.IsWhole) (arg16 : Memref sig .tc .vmem S192x64 .f32) (harg16 : arg16.IsWhole) (arg17 : Memref sig .tc .vmem S192x64 .f32) (harg17 : arg17.IsWhole) (arg18 : Memref sig .tc .vmem S1x64 .f32) (harg18 : arg18.IsWhole) (arg19 : Memref sig .tc .vmem S3x128 .f32) (harg19 : arg19.IsWhole) (arg20 : Memref sig .tc .vmem S192x128 .f32) (harg20 : arg20.IsWhole) (arg21 : Memref sig .tc .vmem S1x128 .f32) (harg21 : arg21.IsWhole) (arg22 : Memref sig .tc .vmem S3x64 .f32) (harg22 : arg22.IsWhole) (arg23 : Memref sig .tc .vmem S192x64 .f32) (harg23 : arg23.IsWhole) (arg24 : Memref sig .tc .vmem S1x64 .f32) (harg24 : arg24.IsWhole) (arg25 : Memref sig .tc .vmem S192x128 .f32) (harg25 : arg25.IsWhole) (arg26 : Memref sig .tc .vmem S192x128 .f32) (harg26 : arg26.IsWhole) (arg27 : Memref sig .tc .vmem S1x128 .f32) (harg27 : arg27.IsWhole) (arg28 : Memref sig .tc .vmem S192x64 .f32) (harg28 : arg28.IsWhole) (arg29 : Memref sig .tc .vmem S192x64 .f32) (harg29 : arg29.IsWhole) (arg30 : Memref sig .tc .vmem S1x64 .f32) (harg30 : arg30.IsWhole) (arg31 : Memref sig .tc .vmem S1x64 .f32) (harg31 : arg31.IsWhole) (arg32 : Memref sig .tc .vmem S1x1 .f32) (harg32 : arg32.IsWhole) (arg33 : Memref sig .tc .vmem S3328x12 .f32) (harg33 : arg33.IsWhole)
    (v0 : Vec F S2x192 .f32) (v2 : Vec F S64x192 .f32) (v4 v6 : Vec F S1x192 .f32) (f0 : BufTy.Contents (Elt F) arg0.view.ty) :
    LoopInvTy_k0_t1 (F := F) Unit ℕ (UR sig nD τ) ℕ Variants.none c none E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v0 v2 v4 v6 (k0_pay244 (F := F)) where
  inv k acc := iprop((arg0.view.loc (c : Thread nD τ) ↦[arg0.view.set]{fullShare} f0)
    ∗ ⌜acc = gruFold v0 v2 v4 v6 (arg0.view.read (Elt F) f0) k⌝)
  step k acc := by
    have hk : k.val < 12 := Nat.lt_of_lt_of_le k.isLt k0_t1_abs.2.1
    iintro ⟨H, %h⟩
    subst h
    unfold k0_t1_body
    sl_exec
    sl_step
    isplitl [H]; · iexact H
    ipureintro
    rw [pay_gru]
    show gruStep _ _ _ _ _ _ = gruStep _ _ _ _ _ _
    exact congrArg (fun r => gruStep _ _ _ _ r _) (loaded_frame _ _ _ hk (k0_off1_eq _) _)

set_option maxHeartbeats 8000000 in
set_option warn.classDefReducibility false in
/-- The second loop: before trip `k` the carried states are `encFold … k`. -/
@[sl_loop] def loopEnc (c : Dev nD) (E : Set ℕ) (arg0 : Memref sig .tc .vmem S12x3328x2 .f32) (harg0 : arg0.IsWhole) (arg1 : Memref sig .tc .vmem S2x192 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S6x128 .f32) (harg7 : arg7.IsWhole) (arg8 : Memref sig .tc .vmem S192x128 .f32) (harg8 : arg8.IsWhole) (arg9 : Memref sig .tc .vmem S1x128 .f32) (harg9 : arg9.IsWhole) (arg10 : Memref sig .tc .vmem S6x64 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S192x128 .f32) (harg13 : arg13.IsWhole) (arg14 : Memref sig .tc .vmem S192x128 .f32) (harg14 : arg14.IsWhole) (arg15 : Memref sig .tc .vmem S1x128 .f32) (harg15 : arg15.IsWhole) (arg16 : Memref sig .tc .vmem S192x64 .f32) (harg16 : arg16.IsWhole) (arg17 : Memref sig .tc .vmem S192x64 .f32) (harg17 : arg17.IsWhole) (arg18 : Memref sig .tc .vmem S1x64 .f32) (harg18 : arg18.IsWhole) (arg19 : Memref sig .tc .vmem S3x128 .f32) (harg19 : arg19.IsWhole) (arg20 : Memref sig .tc .vmem S192x128 .f32) (harg20 : arg20.IsWhole) (arg21 : Memref sig .tc .vmem S1x128 .f32) (harg21 : arg21.IsWhole) (arg22 : Memref sig .tc .vmem S3x64 .f32) (harg22 : arg22.IsWhole) (arg23 : Memref sig .tc .vmem S192x64 .f32) (harg23 : arg23.IsWhole) (arg24 : Memref sig .tc .vmem S1x64 .f32) (harg24 : arg24.IsWhole) (arg25 : Memref sig .tc .vmem S192x128 .f32) (harg25 : arg25.IsWhole) (arg26 : Memref sig .tc .vmem S192x128 .f32) (harg26 : arg26.IsWhole) (arg27 : Memref sig .tc .vmem S1x128 .f32) (harg27 : arg27.IsWhole) (arg28 : Memref sig .tc .vmem S192x64 .f32) (harg28 : arg28.IsWhole) (arg29 : Memref sig .tc .vmem S192x64 .f32) (harg29 : arg29.IsWhole) (arg30 : Memref sig .tc .vmem S1x64 .f32) (harg30 : arg30.IsWhole) (arg31 : Memref sig .tc .vmem S1x64 .f32) (harg31 : arg31.IsWhole) (arg32 : Memref sig .tc .vmem S1x1 .f32) (harg32 : arg32.IsWhole) (arg33 : Memref sig .tc .vmem S3328x12 .f32) (harg33 : arg33.IsWhole)
    (v695 : FVec F S208x208 .f32) (v697 : Vec F S6x128 .f32) (v699 : Vec F S192x128 .f32) (v701 : Vec F S1x128 .f32) (v703 : Vec F S6x64 .f32) (v705 : Vec F S192x64 .f32) (v707 : Vec F S1x64 .f32) (v709 : Vec F S192x128 .f32) (v711 : Vec F S192x128 .f32) (v713 : Vec F S1x128 .f32) (v715 : Vec F S192x64 .f32) (v717 : Vec F S192x64 .f32) (v719 : Vec F S1x64 .f32) (f0 : BufTy.Contents (Elt F) arg0.view.ty) :
    LoopInvTy_k0_t2 (F := F) Unit ℕ (UR sig nD τ) ℕ Variants.none c none E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v695 v697 v699 v701 v703 v705 v707 v709 v711 v713 v715 v717 v719 (k0_pay304 (F := F), k0_pay304 (F := F)) where
  inv k acc := iprop((arg0.view.loc (c : Thread nD τ) ↦[arg0.view.set]{fullShare} f0)
    ∗ ⌜acc = encFold v695 v697 v699 v701 v703 v705 v707 v709 v711 v713 v715 v717 v719 (arg0.view.read (Elt F) f0) k⌝)
  step k acc := by
    have hk : k.val < 12 := Nat.lt_of_lt_of_le k.isLt k0_t2_abs.2.1
    iintro ⟨H, %h⟩
    subst h
    unfold k0_t2_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    sl_exec
    sl_step
    isplitl [H]; · iexact H
    ipureintro
    simp only [encFold]
    rw [← loaded_frame arg0.view f0 k.val hk (k0_off2_eq k) (k0_off2_inb k)]
    rfl

set_option maxHeartbeats 8000000 in
set_option warn.classDefReducibility false in
/-- The third loop: before trip `k` the carried values are `decFold … k`. -/
@[sl_loop] def loopDec (c : Dev nD) (E : Set ℕ) (arg0 : Memref sig .tc .vmem S12x3328x2 .f32) (harg0 : arg0.IsWhole) (arg1 : Memref sig .tc .vmem S2x192 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S6x128 .f32) (harg7 : arg7.IsWhole) (arg8 : Memref sig .tc .vmem S192x128 .f32) (harg8 : arg8.IsWhole) (arg9 : Memref sig .tc .vmem S1x128 .f32) (harg9 : arg9.IsWhole) (arg10 : Memref sig .tc .vmem S6x64 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S192x128 .f32) (harg13 : arg13.IsWhole) (arg14 : Memref sig .tc .vmem S192x128 .f32) (harg14 : arg14.IsWhole) (arg15 : Memref sig .tc .vmem S1x128 .f32) (harg15 : arg15.IsWhole) (arg16 : Memref sig .tc .vmem S192x64 .f32) (harg16 : arg16.IsWhole) (arg17 : Memref sig .tc .vmem S192x64 .f32) (harg17 : arg17.IsWhole) (arg18 : Memref sig .tc .vmem S1x64 .f32) (harg18 : arg18.IsWhole) (arg19 : Memref sig .tc .vmem S3x128 .f32) (harg19 : arg19.IsWhole) (arg20 : Memref sig .tc .vmem S192x128 .f32) (harg20 : arg20.IsWhole) (arg21 : Memref sig .tc .vmem S1x128 .f32) (harg21 : arg21.IsWhole) (arg22 : Memref sig .tc .vmem S3x64 .f32) (harg22 : arg22.IsWhole) (arg23 : Memref sig .tc .vmem S192x64 .f32) (harg23 : arg23.IsWhole) (arg24 : Memref sig .tc .vmem S1x64 .f32) (harg24 : arg24.IsWhole) (arg25 : Memref sig .tc .vmem S192x128 .f32) (harg25 : arg25.IsWhole) (arg26 : Memref sig .tc .vmem S192x128 .f32) (harg26 : arg26.IsWhole) (arg27 : Memref sig .tc .vmem S1x128 .f32) (harg27 : arg27.IsWhole) (arg28 : Memref sig .tc .vmem S192x64 .f32) (harg28 : arg28.IsWhole) (arg29 : Memref sig .tc .vmem S192x64 .f32) (harg29 : arg29.IsWhole) (arg30 : Memref sig .tc .vmem S1x64 .f32) (harg30 : arg30.IsWhole) (arg31 : Memref sig .tc .vmem S1x64 .f32) (harg31 : arg31.IsWhole) (arg32 : Memref sig .tc .vmem S1x1 .f32) (harg32 : arg32.IsWhole) (arg33 : Memref sig .tc .vmem S3328x12 .f32) (harg33 : arg33.IsWhole)
    (v695 : FVec F S208x208 .f32) (v721 : Vec F S3x128 .f32) (v723 : Vec F S192x128 .f32) (v725 : Vec F S1x128 .f32) (v727 : Vec F S3x64 .f32) (v729 : Vec F S192x64 .f32) (v731 : Vec F S1x64 .f32) (v733 : Vec F S192x128 .f32) (v735 : Vec F S192x128 .f32) (v736 : Vec F S1x128 .f32) (v738 : Vec F S192x64 .f32) (v740 : Vec F S192x64 .f32) (v742 : Vec F S1x64 .f32) (v744 : Vec F S1x64 .f32) (v746 : Vec F S1x1 .f32) (f0 : BufTy.Contents (Elt F) arg0.view.ty)
    (init : FVec F S3328x64 .f32 × FVec F S3328x64 .f32 × FVec F S3328x1 .f32 × FVec F S3328x12 .f32) :
    LoopInvTy_k0_t3 (F := F) Unit ℕ (UR sig nD τ) ℕ Variants.none c none E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v695 v721 v723 v725 v727 v729 v731 v733 v735 v736 v738 v740 v742 v744 v746 init where
  inv k acc := iprop((arg0.view.loc (c : Thread nD τ) ↦[arg0.view.set]{fullShare} f0)
    ∗ ⌜acc = decFold v695 v721 v723 v725 v727 v729 v731 v733 v735 (shapeCast S1x128 v736 shapeCasts_S1x128_S1x128) (shapeCast S192x64 v738 shapeCasts_S192x64_S192x64) (shapeCast S192x64 v740 shapeCasts_S192x64_S192x64) (shapeCast S1x64 v742 shapeCasts_S1x64_S1x64) (shapeCast S1x64 v744 shapeCasts_S1x64_S1x64) (shapeCast S1x1 v746 shapeCasts_S1x1_S1x1) init k⌝)
  step k acc := by
    iintro ⟨H, %h⟩
    subst h
    unfold k0_t3_body
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    sl_exec
    sl_step
    isplitl [H]; · iexact H
    ipureintro
    simp only [decFold]
    rfl

end Cert.Proof.KernelIdeal

end
-- ==== Proof.KernelIdealBody.lean ====
module

public import proofs.«01_k».proof.Proof.KernelIdealLoops
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.Value
public import Idealize.ShloMosaic.Lib.VecWindow
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- What the body leaves in its result: the decoder's columns after twelve steps, over the support matrix of the gated
    recurrent unit's last state, from the encoder's last states. -/
def bodyOut (x0 : Vec F S12x3328x2 .f32) (x1 : Vec F S2x192 .f32) (x2 : Vec F S64x192 .f32) (x3 : Vec F S1x192 .f32) (x4 : Vec F S1x192 .f32) (x5 : Vec F S64x32 .f32) (x6 : Vec F S64x32 .f32) (x7 : Vec F S6x128 .f32) (x8 : Vec F S192x128 .f32) (x9 : Vec F S1x128 .f32) (x10 : Vec F S6x64 .f32) (x11 : Vec F S192x64 .f32) (x12 : Vec F S1x64 .f32) (x13 : Vec F S192x128 .f32) (x14 : Vec F S192x128 .f32) (x15 : Vec F S1x128 .f32) (x16 : Vec F S192x64 .f32) (x17 : Vec F S192x64 .f32) (x18 : Vec F S1x64 .f32) (x19 : Vec F S3x128 .f32) (x20 : Vec F S192x128 .f32) (x21 : Vec F S1x128 .f32) (x22 : Vec F S3x64 .f32) (x23 : Vec F S192x64 .f32) (x24 : Vec F S1x64 .f32) (x25 : Vec F S192x128 .f32) (x26 : Vec F S192x128 .f32) (x27 : Vec F S1x128 .f32) (x28 : Vec F S192x64 .f32) (x29 : Vec F S192x64 .f32) (x30 : Vec F S1x64 .f32) (x31 : Vec F S1x64 .f32) (x32 : Vec F S1x1 .f32) : Vec F S3328x12 .f32 :=
  let S := supportOf (gruFold x1 x2 x3 x4 x0 12) x5 x6
  let p := encFold S x7 x8 x9 x10 x11 x12 x13 x14 x15 x16 x17 x18 x0 12
  (decFold S x19 x20 x21 x22 x23 x24 x25 x26 x27 x28 x29 x30 x31 x32
    (p.1, p.2, broadcast S3328x1 (Scalar.ofBits .f32 0x00000000#32), broadcast S3328x12 (Scalar.ofBits .f32 0x00000000#32)) 12).2.2.2

set_option maxHeartbeats 1000000 in
/-- The kernel's body, leaves its operands as they were and in its result `bodyOut` of them. -/
theorem sound_kernel (c : Dev nD) (E : Set ℕ) (arg0 : Memref sig .tc .vmem S12x3328x2 .f32) (harg0 : arg0.IsWhole) (arg1 : Memref sig .tc .vmem S2x192 .f32) (harg1 : arg1.IsWhole) (arg2 : Memref sig .tc .vmem S64x192 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S64x32 .f32) (harg6 : arg6.IsWhole) (arg7 : Memref sig .tc .vmem S6x128 .f32) (harg7 : arg7.IsWhole) (arg8 : Memref sig .tc .vmem S192x128 .f32) (harg8 : arg8.IsWhole) (arg9 : Memref sig .tc .vmem S1x128 .f32) (harg9 : arg9.IsWhole) (arg10 : Memref sig .tc .vmem S6x64 .f32) (harg10 : arg10.IsWhole) (arg11 : Memref sig .tc .vmem S192x64 .f32) (harg11 : arg11.IsWhole) (arg12 : Memref sig .tc .vmem S1x64 .f32) (harg12 : arg12.IsWhole) (arg13 : Memref sig .tc .vmem S192x128 .f32) (harg13 : arg13.IsWhole) (arg14 : Memref sig .tc .vmem S192x128 .f32) (harg14 : arg14.IsWhole) (arg15 : Memref sig .tc .vmem S1x128 .f32) (harg15 : arg15.IsWhole) (arg16 : Memref sig .tc .vmem S192x64 .f32) (harg16 : arg16.IsWhole) (arg17 : Memref sig .tc .vmem S192x64 .f32) (harg17 : arg17.IsWhole) (arg18 : Memref sig .tc .vmem S1x64 .f32) (harg18 : arg18.IsWhole) (arg19 : Memref sig .tc .vmem S3x128 .f32) (harg19 : arg19.IsWhole) (arg20 : Memref sig .tc .vmem S192x128 .f32) (harg20 : arg20.IsWhole) (arg21 : Memref sig .tc .vmem S1x128 .f32) (harg21 : arg21.IsWhole) (arg22 : Memref sig .tc .vmem S3x64 .f32) (harg22 : arg22.IsWhole) (arg23 : Memref sig .tc .vmem S192x64 .f32) (harg23 : arg23.IsWhole) (arg24 : Memref sig .tc .vmem S1x64 .f32) (harg24 : arg24.IsWhole) (arg25 : Memref sig .tc .vmem S192x128 .f32) (harg25 : arg25.IsWhole) (arg26 : Memref sig .tc .vmem S192x128 .f32) (harg26 : arg26.IsWhole) (arg27 : Memref sig .tc .vmem S1x128 .f32) (harg27 : arg27.IsWhole) (arg28 : Memref sig .tc .vmem S192x64 .f32) (harg28 : arg28.IsWhole) (arg29 : Memref sig .tc .vmem S192x64 .f32) (harg29 : arg29.IsWhole) (arg30 : Memref sig .tc .vmem S1x64 .f32) (harg30 : arg30.IsWhole) (arg31 : Memref sig .tc .vmem S1x64 .f32) (harg31 : arg31.IsWhole) (arg32 : Memref sig .tc .vmem S1x1 .f32) (harg32 : arg32.IsWhole) (arg33 : Memref sig .tc .vmem S3328x12 .f32) (harg33 : arg33.IsWhole)
    (x0 : Vec F S12x3328x2 .f32) (x1 : Vec F S2x192 .f32) (x2 : Vec F S64x192 .f32) (x3 : Vec F S1x192 .f32) (x4 : Vec F S1x192 .f32) (x5 : Vec F S64x32 .f32) (x6 : Vec F S64x32 .f32) (x7 : Vec F S6x128 .f32) (x8 : Vec F S192x128 .f32) (x9 : Vec F S1x128 .f32) (x10 : Vec F S6x64 .f32) (x11 : Vec F S192x64 .f32) (x12 : Vec F S1x64 .f32) (x13 : Vec F S192x128 .f32) (x14 : Vec F S192x128 .f32) (x15 : Vec F S1x128 .f32) (x16 : Vec F S192x64 .f32) (x17 : Vec F S192x64 .f32) (x18 : Vec F S1x64 .f32) (x19 : Vec F S3x128 .f32) (x20 : Vec F S192x128 .f32) (x21 : Vec F S1x128 .f32) (x22 : Vec F S3x64 .f32) (x23 : Vec F S192x64 .f32) (x24 : Vec F S1x64 .f32) (x25 : Vec F S192x128 .f32) (x26 : Vec F S192x128 .f32) (x27 : Vec F S1x128 .f32) (x28 : Vec F S192x64 .f32) (x29 : Vec F S192x64 .f32) (x30 : Vec F S1x64 .f32) (x31 : Vec F S1x64 .f32) (x32 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ (∃ d, owns (c : Thread nD τ) arg33 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare (bodyOut x0 x1 x2 x3 x4 x5 x6 x7 x8 x9 x10 x11 x12 x13 x14 x15 x16 x17 x18 x19 x20 x21 x22 x23 x24 x25 x26 x27 x28 x29 x30 x31 x32)) -∗ K ⟨⟩))
      ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%d33, %f33, -, H33⟩, Hk⟩
  subst hf0
  have hr1 : arg1.view.readAt (Elt F) (Rect.unit (s := S2x192) ![0, 0] S2x192.size inb_S2x192_S2x192_0_0).toLoadRect f1 = x1 := (View.readAt_full _ _ _).trans hf1
  have hr2 : arg2.view.readAt (Elt F) (Rect.unit (s := S64x192) ![0, 0] S64x192.size inb_S64x192_S64x192_0_0).toLoadRect f2 = x2 := (View.readAt_full _ _ _).trans hf2
  have hr3 : arg3.view.readAt (Elt F) (Rect.unit (s := S1x192) ![0, 0] S1x192.size inb_S1x192_S1x192_0_0).toLoadRect f3 = x3 := (View.readAt_full _ _ _).trans hf3
  have hr4 : arg4.view.readAt (Elt F) (Rect.unit (s := S1x192) ![0, 0] S1x192.size inb_S1x192_S1x192_0_0).toLoadRect f4 = x4 := (View.readAt_full _ _ _).trans hf4
  have hr5 : arg5.view.readAt (Elt F) (Rect.unit (s := S64x32) ![0, 0] S64x32.size inb_S64x32_S64x32_0_0).toLoadRect f5 = x5 := (View.readAt_full _ _ _).trans hf5
  have hr6 : arg6.view.readAt (Elt F) (Rect.unit (s := S64x32) ![0, 0] S64x32.size inb_S64x32_S64x32_0_0).toLoadRect f6 = x6 := (View.readAt_full _ _ _).trans hf6
  have hr7 : arg7.view.readAt (Elt F) (Rect.unit (s := S6x128) ![0, 0] S6x128.size inb_S6x128_S6x128_0_0).toLoadRect f7 = x7 := (View.readAt_full _ _ _).trans hf7
  have hr8 : arg8.view.readAt (Elt F) (Rect.unit (s := S192x128) ![0, 0] S192x128.size inb_S192x128_S192x128_0_0).toLoadRect f8 = x8 := (View.readAt_full _ _ _).trans hf8
  have hr9 : arg9.view.readAt (Elt F) (Rect.unit (s := S1x128) ![0, 0] S1x128.size inb_S1x128_S1x128_0_0).toLoadRect f9 = x9 := (View.readAt_full _ _ _).trans hf9
  have hr10 : arg10.view.readAt (Elt F) (Rect.unit (s := S6x64) ![0, 0] S6x64.size inb_S6x64_S6x64_0_0).toLoadRect f10 = x10 := (View.readAt_full _ _ _).trans hf10
  have hr11 : arg11.view.readAt (Elt F) (Rect.unit (s := S192x64) ![0, 0] S192x64.size inb_S192x64_S192x64_0_0).toLoadRect f11 = x11 := (View.readAt_full _ _ _).trans hf11
  have hr12 : arg12.view.readAt (Elt F) (Rect.unit (s := S1x64) ![0, 0] S1x64.size inb_S1x64_S1x64_0_0).toLoadRect f12 = x12 := (View.readAt_full _ _ _).trans hf12
  have hr13 : arg13.view.readAt (Elt F) (Rect.unit (s := S192x128) ![0, 0] S192x128.size inb_S192x128_S192x128_0_0).toLoadRect f13 = x13 := (View.readAt_full _ _ _).trans hf13
  have hr14 : arg14.view.readAt (Elt F) (Rect.unit (s := S192x128) ![0, 0] S192x128.size inb_S192x128_S192x128_0_0).toLoadRect f14 = x14 := (View.readAt_full _ _ _).trans hf14
  have hr15 : arg15.view.readAt (Elt F) (Rect.unit (s := S1x128) ![0, 0] S1x128.size inb_S1x128_S1x128_0_0).toLoadRect f15 = x15 := (View.readAt_full _ _ _).trans hf15
  have hr16 : arg16.view.readAt (Elt F) (Rect.unit (s := S192x64) ![0, 0] S192x64.size inb_S192x64_S192x64_0_0).toLoadRect f16 = x16 := (View.readAt_full _ _ _).trans hf16
  have hr17 : arg17.view.readAt (Elt F) (Rect.unit (s := S192x64) ![0, 0] S192x64.size inb_S192x64_S192x64_0_0).toLoadRect f17 = x17 := (View.readAt_full _ _ _).trans hf17
  have hr18 : arg18.view.readAt (Elt F) (Rect.unit (s := S1x64) ![0, 0] S1x64.size inb_S1x64_S1x64_0_0).toLoadRect f18 = x18 := (View.readAt_full _ _ _).trans hf18
  have hr19 : arg19.view.readAt (Elt F) (Rect.unit (s := S3x128) ![0, 0] S3x128.size inb_S3x128_S3x128_0_0).toLoadRect f19 = x19 := (View.readAt_full _ _ _).trans hf19
  have hr20 : arg20.view.readAt (Elt F) (Rect.unit (s := S192x128) ![0, 0] S192x128.size inb_S192x128_S192x128_0_0).toLoadRect f20 = x20 := (View.readAt_full _ _ _).trans hf20
  have hr21 : arg21.view.readAt (Elt F) (Rect.unit (s := S1x128) ![0, 0] S1x128.size inb_S1x128_S1x128_0_0).toLoadRect f21 = x21 := (View.readAt_full _ _ _).trans hf21
  have hr22 : arg22.view.readAt (Elt F) (Rect.unit (s := S3x64) ![0, 0] S3x64.size inb_S3x64_S3x64_0_0).toLoadRect f22 = x22 := (View.readAt_full _ _ _).trans hf22
  have hr23 : arg23.view.readAt (Elt F) (Rect.unit (s := S192x64) ![0, 0] S192x64.size inb_S192x64_S192x64_0_0).toLoadRect f23 = x23 := (View.readAt_full _ _ _).trans hf23
  have hr24 : arg24.view.readAt (Elt F) (Rect.unit (s := S1x64) ![0, 0] S1x64.size inb_S1x64_S1x64_0_0).toLoadRect f24 = x24 := (View.readAt_full _ _ _).trans hf24
  have hr25 : arg25.view.readAt (Elt F) (Rect.unit (s := S192x128) ![0, 0] S192x128.size inb_S192x128_S192x128_0_0).toLoadRect f25 = x25 := (View.readAt_full _ _ _).trans hf25
  have hr26 : arg26.view.readAt (Elt F) (Rect.unit (s := S192x128) ![0, 0] S192x128.size inb_S192x128_S192x128_0_0).toLoadRect f26 = x26 := (View.readAt_full _ _ _).trans hf26
  have hr27 : arg27.view.readAt (Elt F) (Rect.unit (s := S1x128) ![0, 0] S1x128.size inb_S1x128_S1x128_0_0).toLoadRect f27 = x27 := (View.readAt_full _ _ _).trans hf27
  have hr28 : arg28.view.readAt (Elt F) (Rect.unit (s := S192x64) ![0, 0] S192x64.size inb_S192x64_S192x64_0_0).toLoadRect f28 = x28 := (View.readAt_full _ _ _).trans hf28
  have hr29 : arg29.view.readAt (Elt F) (Rect.unit (s := S192x64) ![0, 0] S192x64.size inb_S192x64_S192x64_0_0).toLoadRect f29 = x29 := (View.readAt_full _ _ _).trans hf29
  have hr30 : arg30.view.readAt (Elt F) (Rect.unit (s := S1x64) ![0, 0] S1x64.size inb_S1x64_S1x64_0_0).toLoadRect f30 = x30 := (View.readAt_full _ _ _).trans hf30
  have hr31 : arg31.view.readAt (Elt F) (Rect.unit (s := S1x64) ![0, 0] S1x64.size inb_S1x64_S1x64_0_0).toLoadRect f31 = x31 := (View.readAt_full _ _ _).trans hf31
  have hr32 : arg32.view.readAt (Elt F) (Rect.unit (s := S1x1) ![0, 0] S1x1.size inb_S1x1_S1x1_0_0).toLoadRect f32 = x32 := (View.readAt_full _ _ _).trans hf32
  sl_exec
  sl_step
  iapply Hk
  isplitl [H0]
  · iexists f0
    isplitr
    · ipureintro; exact rfl
    · iexact H0
  isplitl [H1]
  · iexists f1
    isplitr
    · ipureintro; exact hf1
    · iexact H1
  isplitl [H2]
  · iexists f2
    isplitr
    · ipureintro; exact hf2
    · iexact H2
  isplitl [H3]
  · iexists f3
    isplitr
    · ipureintro; exact hf3
    · iexact H3
  isplitl [H4]
  · iexists f4
    isplitr
    · ipureintro; exact hf4
    · iexact H4
  isplitl [H5]
  · iexists f5
    isplitr
    · ipureintro; exact hf5
    · iexact H5
  isplitl [H6]
  · iexists f6
    isplitr
    · ipureintro; exact hf6
    · iexact H6
  isplitl [H7]
  · iexists f7
    isplitr
    · ipureintro; exact hf7
    · iexact H7
  isplitl [H8]
  · iexists f8
    isplitr
    · ipureintro; exact hf8
    · iexact H8
  isplitl [H9]
  · iexists f9
    isplitr
    · ipureintro; exact hf9
    · iexact H9
  isplitl [H10]
  · iexists f10
    isplitr
    · ipureintro; exact hf10
    · iexact H10
  isplitl [H11]
  · iexists f11
    isplitr
    · ipureintro; exact hf11
    · iexact H11
  isplitl [H12]
  · iexists f12
    isplitr
    · ipureintro; exact hf12
    · iexact H12
  isplitl [H13]
  · iexists f13
    isplitr
    · ipureintro; exact hf13
    · iexact H13
  isplitl [H14]
  · iexists f14
    isplitr
    · ipureintro; exact hf14
    · iexact H14
  isplitl [H15]
  · iexists f15
    isplitr
    · ipureintro; exact hf15
    · iexact H15
  isplitl [H16]
  · iexists f16
    isplitr
    · ipureintro; exact hf16
    · iexact H16
  isplitl [H17]
  · iexists f17
    isplitr
    · ipureintro; exact hf17
    · iexact H17
  isplitl [H18]
  · iexists f18
    isplitr
    · ipureintro; exact hf18
    · iexact H18
  isplitl [H19]
  · iexists f19
    isplitr
    · ipureintro; exact hf19
    · iexact H19
  isplitl [H20]
  · iexists f20
    isplitr
    · ipureintro; exact hf20
    · iexact H20
  isplitl [H21]
  · iexists f21
    isplitr
    · ipureintro; exact hf21
    · iexact H21
  isplitl [H22]
  · iexists f22
    isplitr
    · ipureintro; exact hf22
    · iexact H22
  isplitl [H23]
  · iexists f23
    isplitr
    · ipureintro; exact hf23
    · iexact H23
  isplitl [H24]
  · iexists f24
    isplitr
    · ipureintro; exact hf24
    · iexact H24
  isplitl [H25]
  · iexists f25
    isplitr
    · ipureintro; exact hf25
    · iexact H25
  isplitl [H26]
  · iexists f26
    isplitr
    · ipureintro; exact hf26
    · iexact H26
  isplitl [H27]
  · iexists f27
    isplitr
    · ipureintro; exact hf27
    · iexact H27
  isplitl [H28]
  · iexists f28
    isplitr
    · ipureintro; exact hf28
    · iexact H28
  isplitl [H29]
  · iexists f29
    isplitr
    · ipureintro; exact hf29
    · iexact H29
  isplitl [H30]
  · iexists f30
    isplitr
    · ipureintro; exact hf30
    · iexact H30
  isplitl [H31]
  · iexists f31
    isplitr
    · ipureintro; exact hf31
    · iexact H31
  isplitl [H32]
  · iexists f32
    isplitr
    · ipureintro; exact hf32
    · iexact H32
  iexists _
  isplitr
  swap
  · iexact H33
  ipureintro
  refine (View.read_writes_full _ _ _ _ _).trans ?_
  refine Eq.trans (b := bodyOut (arg0.view.read (Elt F) f0) x1 x2 x3 x4 x5 x6 (shapeCast S6x128 x7 shapeCasts_S6x128_S6x128) (shapeCast S192x128 x8 shapeCasts_S192x128_S192x128) (shapeCast S1x128 x9 shapeCasts_S1x128_S1x128) (shapeCast S6x64 x10 shapeCasts_S6x64_S6x64) (shapeCast S192x64 x11 shapeCasts_S192x64_S192x64) (shapeCast S1x64 x12 shapeCasts_S1x64_S1x64) (shapeCast S192x128 x13 shapeCasts_S192x128_S192x128) (shapeCast S192x128 x14 shapeCasts_S192x128_S192x128) (shapeCast S1x128 x15 shapeCasts_S1x128_S1x128) (shapeCast S192x64 x16 shapeCasts_S192x64_S192x64) (shapeCast S192x64 x17 shapeCasts_S192x64_S192x64) (shapeCast S1x64 x18 shapeCasts_S1x64_S1x64) (shapeCast S3x128 x19 shapeCasts_S3x128_S3x128) (shapeCast S192x128 x20 shapeCasts_S192x128_S192x128) (shapeCast S1x128 x21 shapeCasts_S1x128_S1x128) (shapeCast S3x64 x22 shapeCasts_S3x64_S3x64) (shapeCast S192x64 x23 shapeCasts_S192x64_S192x64) (shapeCast S1x64 x24 shapeCasts_S1x64_S1x64) (shapeCast S192x128 x25 shapeCasts_S192x128_S192x128) (shapeCast S192x128 x26 shapeCasts_S192x128_S192x128) (shapeCast S1x128 x27 shapeCasts_S1x128_S1x128) (shapeCast S192x64 x28 shapeCasts_S192x64_S192x64) (shapeCast S192x64 x29 shapeCasts_S192x64_S192x64) (shapeCast S1x64 x30 shapeCasts_S1x64_S1x64) (shapeCast S1x64 x31 shapeCasts_S1x64_S1x64) (shapeCast S1x1 x32 shapeCasts_S1x1_S1x1)) ?_ (by simp only [shapeCast_self])
  delta bodyOut sound_kernel.sl.r_32
  dsimp only
  have hS : sound_kernel.sl.r_31 c arg0 x1 x2 x3 x4 x5 x6 f0 = supportOf (gruFold x1 x2 x3 x4 (View.read (Elt F) arg0.view f0) 12) x5 x6 := by
    rfl
  rw [hS]
  rfl

end Cert.Proof.KernelIdeal

end
-- ==== Proof.KernelIdealRun.lean ====
module

public import proofs.«01_k».proof.Proof.KernelIdealBody
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.Value
public import Idealize.ShloMosaic.Lib.VecWindow
public import Idealize.ShloMosaic.Lib.Tactic
public import Idealize.ShloMosaic.Lib.Quiescent
public import Idealize.ShloMosaic.Adequacy
public import Idealize.ShloMosaic.Init

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The region's proof data -/

/-- What the region's run is stated over: the windows' arrays as the host lines leave them, the inputs' blocks kept in
    their staging, the result's staging at the body's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => bodyOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t)
    | ⟨k + 34, h⟩ => absurd (show k + 34 < 34 from h) (by omega)
  Φ _ := Pipeline.ΦA spec0 c
  q _ := fullShare
  owed _ := 0

/-- Each operand's array holds what the program computed for it before the launch. -/
theorem A_eq (c : Dev nD) (w) : (dats m 0 c).A w = V m c (Pipeline.arrRef spec0 w) := by dsimp only [dats]

/-- The kernel's only step leaves its operand 0 as it found it. -/
theorem after0_0 (c : Dev nD) (t : Fin cfg0.N) : (dats m 0 c).after 0 t = iblk m c 0 t := by dsimp only [dats]
/-- Before the kernel's only step, operand 0 holds the block it reads. -/
theorem before0_0 (c : Dev nD) (t : Fin cfg0.N) (d) : (dats m 0 c).before 0 t d = iblk m c 0 t :=
  before0_0_of m (dats m 0 c) (A_eq m c 0) (after0_0 m c) t d
/-- The kernel's only step leaves its operand 1 as it found it. -/
theorem after0_1 (c : Dev nD) (t : Fin cfg0.N) : (dats m 0 c).after 1 t = iblk m c 1 t := by dsimp only [dats]
/-- Before the kernel's only step, operand 1 holds the block it reads. -/
theorem before0_1 (c : Dev nD) (t : Fin cfg0.N) (d) : (dats m 0 c).before 1 t d = iblk m c 1 t :=
  before0_1_of m (dats m 0 c) (A_eq m c 1) (after0_1 m c) t d
/-- The kernel's only step leaves its operand 2 as it found it. -/
theorem after0_2 (c : Dev nD) (t : Fin cfg0.N) : (dats m 0 c).after 2 t = iblk m c 2 t := by dsimp only [dats]
/-- Before the kernel's only step, operand 2 holds the block it reads. -/
theorem before0_2 (c : Dev nD) (t : Fin cfg0.N) (d) : (dats m 0 c).before 2 t d = iblk m c 2 t :=
  before0_2_of m (dats m 0 c) (A_eq m c 2) (after0_2 m c) t d
/-- The kernel's only step leaves its operand 3 as it found it. -/
theorem after0_3 (c : Dev nD) (t : Fin cfg0.N) : (dats m 0 c).after 3 t = iblk m c 3 t := by dsimp only [dats]
/-- Before the kernel's only step, operand 3 holds the block it reads. -/
theorem before0_3 (c : Dev nD) (t : Fin cfg0.N) (d) : (dats m 0 c).before 3 t d = iblk m c 3 t :=
  before0_3_of m (dats m 0 c) (A_eq m c 3) (after0_3 m c) t d
/-- The kernel's only step leaves its operand 4 as it found it. -/
theorem after0_4 (c : Dev nD) (t : Fin cfg0.N) : (dats m 0 c).after 4 t = iblk m c 4 t := by dsimp only [dats]
/-- Before the kernel's only step, operand 4 holds the block it reads. -/
theorem before0_4 (c : Dev nD) (t : Fin cfg0.N) (d) : (dats m 0 c).before 4 t d = iblk m c 4 t :=
  before0_4_of m (dats m 0 c) (A_eq m c 4) (after0_4 m c) t d
/-- The kernel's only step leaves its operand 5 as it found it. -/
theorem after0_5 (c : Dev nD) (t : Fin cfg0.N) : (dats m 0 c).after 5 t = iblk m c 5 t := by dsimp only [dats]
/-- Before the kernel's only step, operand 5 holds the block it reads. -/
theorem before0_5 (c : Dev nD) (t : Fin cfg0.N) (d) : (dats m 0 c).before 5 t d = iblk m c 5 t :=
  before0_5_of m (dats m 0 c) (A_eq m c 5) (after0_5 m c) t d
/-- The kernel's only step leaves its operand 6 as it found it. -/
theorem after0_6 (c : Dev nD) (t : Fin cfg0.N) : (dats m 0 c).after 6 t = iblk m c 6 t := by dsimp only [dats]
/-- Before the kernel's only step, operand 6 holds the block it reads. -/
theorem before0_6 (c : Dev nD) (t : Fin cfg0.N) (d) : (dats m 0 c).before 6 t d = iblk m c 6 t :=
  before0_6_of m (dats m 0 c) (A_eq m c 6) (after0_6 m c) t d
/-- The kernel's only step leaves its operand 7 as it found it. -/
theorem after0_7 (c : Dev nD) (t : Fin cfg0.N) : (dats m 0 c).after 7 t = iblk m c 7 t := by dsimp only [dats]
/-- Before the kernel's only step, operand 7 holds the block it reads. -/
theorem before0_7 (c : Dev nD) (t : Fin cfg0.N) (d) : (dats m 0 c).before 7 t d = iblk m c 7 t :=
  before0_7_of m (dats m 0 c) (A_eq m c 7) (after0_7 m c) t d
/-- The kernel's only step leaves its operand 8 as it found it. -/
theorem after0_8 (c : Dev nD) (t : Fin cfg0.N) : (dats m 0 c).after 8 t = iblk m c 8 t := by dsimp only [dats]
/-- Before the kernel's only step, operand 8 holds the block it reads. -/
theorem before0_8 (c : Dev nD) (t : Fin cfg0.N) (d) : (dats m 0 c).before 8 t d = iblk m c 8 t :=
  before0_8_of m (dats m 0 c) (A_eq m c 8) (after0_8 m c) t d
/-- The kernel's only step leaves its operand 9 as it found it. -/
theorem after0_9 (c : Dev nD) (t : Fin cfg0.N) : (dats m 0 c).after 9 t = iblk m c 9 t := by dsimp only [dats]
/-- Before the kernel's only step, operand 9 holds the block it reads. -/
theorem before0_9 (c : Dev nD) (t : Fin cfg0.N) (d) : (dats m 0 c).before 9 t d = iblk m c 9 t :=
  before0_9_of m (dats m 0 c) (A_eq m c 9) (after0_9 m c) t d
/-- The kernel's only step leaves its operand 10 as it found it. -/
theorem after0_10 (c : Dev nD) (t : Fin cfg0.N) : (dats m 0 c).after 10 t = iblk m c 10 t := by dsimp only [dats]
/-- Before the kernel's only step, operand 10 holds the block it reads. -/
theorem before0_10 (c : Dev nD) (t : Fin cfg0.N) (d) : (dats m 0 c).before 10 t d = iblk m c 10 t :=
  before0_10_of m (dats m 0 c) (A_eq m c 10) (after0_10 m c) t d
/-- The kernel's only step leaves its operand 11 as it found it. -/
theorem after0_11 (c : Dev nD) (t : Fin cfg0.N) : (dats m 0 c).after 11 t = iblk m c 11 t := by dsimp only [dats]
/-- Before the kernel's only step, operand 11 holds the block it reads. -/
theorem before0_11 (c : Dev nD) (t : Fin cfg0.N) (d) : (dats m 0 c).before 11 t d = iblk m c 11 t :=
  before0_11_of m (dats m 0 c) (A_eq m c 11) (after0_11 m c) t d
/-- The kernel's only step leaves its operand 12 as it found it. -/
theorem after0_12 (c : Dev nD) (t : Fin cfg0.N) : (dats m 0 c).after 12 t = iblk m c 12 t := by dsimp only [dats]
/-- Before the kernel's only step, operand 12 holds the block it reads. -/
theorem before0_12 (c : Dev nD) (t : Fin cfg0.N) (d) : (dats m 0 c).before 12 t d = iblk m c 12 t :=
  before0_12_of m (dats m 0 c) (A_eq m c 12) (after0_12 m c) t d
/-- The kernel's only step leaves its operand 13 as it found it. -/
theorem after0_13 (c : Dev nD) (t : Fin cfg0.N) : (dats m 0 c).after 13 t = iblk m c 13 t := by dsimp only [dats]
/-- Before the kernel's only step, operand 13 holds the block it reads. -/
theorem before0_13 (c : Dev nD) (t : Fin cfg0.N) (d) : (dats m 0 c).before 13 t d = iblk m c 13 t :=
  before0_13_of m (dats m 0 c) (A_eq m c 13) (after0_13 m c) t d
/-- The kernel's only step leaves its operand 14 as it found it. -/
theorem after0_14 (c : Dev nD) (t : Fin cfg0.N) : (dats m 0 c).after 14 t = iblk m c 14 t := by dsimp only [dats]
/-- Before the kernel's only step, operand 14 holds the block it reads. -/
theorem before0_14 (c : Dev nD) (t : Fin cfg0.N) (d) : (dats m 0 c).before 14 t d = iblk m c 14 t :=
  before0_14_of m (dats m 0 c) (A_eq m c 14) (after0_14 m c) t d
/-- The kernel's only step leaves its operand 15 as it found it. -/
theorem after0_15 (c : Dev nD) (t : Fin cfg0.N) : (dats m 0 c).after 15 t = iblk m c 15 t := by dsimp only [dats]
/-- Before the kernel's only step, operand 15 holds the block it reads. -/
theorem before0_15 (c : Dev nD) (t : Fin cfg0.N) (d) : (dats m 0 c).before 15 t d = iblk m c 15 t :=
  before0_15_of m (dats m 0 c) (A_eq m c 15) (after0_15 m c) t d
/-- The kernel's only step leaves its operand 16 as it found it. -/
theorem after0_16 (c : Dev nD) (t : Fin cfg0.N) : (dats m 0 c).after 16 t = iblk m c 16 t := by dsimp only [dats]
/-- Before the kernel's only step, operand 16 holds the block it reads. -/
theorem before0_16 (c : Dev nD) (t : Fin cfg0.N) (d) : (dats m 0 c).before 16 t d = iblk m c 16 t :=
  before0_16_of m (dats m 0 c) (A_eq m c 16) (after0_16 m c) t d
/-- The kernel's only step leaves its operand 17 as it found it. -/
theorem after0_17 (c : Dev nD) (t : Fin cfg0.N) : (dats m 0 c).after 17 t = iblk m c 17 t := by dsimp only [dats]
/-- Before the kernel's only step, operand 17 holds the block it reads. -/
theorem before0_17 (c : Dev nD) (t : Fin cfg0.N) (d) : (dats m 0 c).before 17 t d = iblk m c 17 t :=
  before0_17_of m (dats m 0 c) (A_eq m c 17) (after0_17 m c) t d
/-- The kernel's only step leaves its operand 18 as it found it. -/
theorem after0_18 (c : Dev nD) (t : Fin cfg0.N) : (dats m 0 c).after 18 t = iblk m c 18 t := by dsimp only [dats]
/-- Before the kernel's only step, operand 18 holds the block it reads. -/
theorem before0_18 (c : Dev nD) (t : Fin cfg0.N) (d) : (dats m 0 c).before 18 t d = iblk m c 18 t :=
  before0_18_of m (dats m 0 c) (A_eq m c 18) (after0_18 m c) t d
/-- The kernel's only step leaves its operand 19 as it found it. -/
theorem after0_19 (c : Dev nD) (t : Fin cfg0.N) : (dats m 0 c).after 19 t = iblk m c 19 t := by dsimp only [dats]
/-- Before the kernel's only step, operand 19 holds the block it reads. -/
theorem before0_19 (c : Dev nD) (t : Fin cfg0.N) (d) : (dats m 0 c).before 19 t d = iblk m c 19 t :=
  before0_19_of m (dats m 0 c) (A_eq m c 19) (after0_19 m c) t d
/-- The kernel's only step leaves its operand 20 as it found it. -/
theorem after0_20 (c : Dev nD) (t : Fin cfg0.N) : (dats m 0 c).after 20 t = iblk m c 20 t := by dsimp only [dats]
/-- Before the kernel's only step, operand 20 holds the block it reads. -/
theorem before0_20 (c : Dev nD) (t : Fin cfg0.N) (d) : (dats m 0 c).before 20 t d = iblk m c 20 t :=
  before0_20_of m (dats m 0 c) (A_eq m c 20) (after0_20 m c) t d
/-- The kernel's only step leaves its operand 21 as it found it. -/
theorem after0_21 (c : Dev nD) (t : Fin cfg0.N) : (dats m 0 c).after 21 t = iblk m c 21 t := by dsimp only [dats]
/-- Before the kernel's only step, operand 21 holds the block it reads. -/
theorem before0_21 (c : Dev nD) (t : Fin cfg0.N) (d) : (dats m 0 c).before 21 t d = iblk m c 21 t :=
  before0_21_of m (dats m 0 c) (A_eq m c 21) (after0_21 m c) t d
/-- The kernel's only step leaves its operand 22 as it found it. -/
theorem after0_22 (c : Dev nD) (t : Fin cfg0.N) : (dats m 0 c).after 22 t = iblk m c 22 t := by dsimp only [dats]
/-- Before the kernel's only step, operand 22 holds the block it reads. -/
theorem before0_22 (c : Dev nD) (t : Fin cfg0.N) (d) : (dats m 0 c).before 22 t d = iblk m c 22 t :=
  before0_22_of m (dats m 0 c) (A_eq m c 22) (after0_22 m c) t d
/-- The kernel's only step leaves its operand 23 as it found it. -/
theorem after0_23 (c : Dev nD) (t : Fin cfg0.N) : (dats m 0 c).after 23 t = iblk m c 23 t := by dsimp only [dats]
/-- Before the kernel's only step, operand 23 holds the block it reads. -/
theorem before0_23 (c : Dev nD) (t : Fin cfg0.N) (d) : (dats m 0 c).before 23 t d = iblk m c 23 t :=
  before0_23_of m (dats m 0 c) (A_eq m c 23) (after0_23 m c) t d
/-- The kernel's only step leaves its operand 24 as it found it. -/
theorem after0_24 (c : Dev nD) (t : Fin cfg0.N) : (dats m 0 c).after 24 t = iblk m c 24 t := by dsimp only [dats]
/-- Before the kernel's only step, operand 24 holds the block it reads. -/
theorem before0_24 (c : Dev nD) (t : Fin cfg0.N) (d) : (dats m 0 c).before 24 t d = iblk m c 24 t :=
  before0_24_of m (dats m 0 c) (A_eq m c 24) (after0_24 m c) t d
/-- The kernel's only step leaves its operand 25 as it found it. -/
theorem after0_25 (c : Dev nD) (t : Fin cfg0.N) : (dats m 0 c).after 25 t = iblk m c 25 t := by dsimp only [dats]
/-- Before the kernel's only step, operand 25 holds the block it reads. -/
theorem before0_25 (c : Dev nD) (t : Fin cfg0.N) (d) : (dats m 0 c).before 25 t d = iblk m c 25 t :=
  before0_25_of m (dats m 0 c) (A_eq m c 25) (after0_25 m c) t d
/-- The kernel's only step leaves its operand 26 as it found it. -/
theorem after0_26 (c : Dev nD) (t : Fin cfg0.N) : (dats m 0 c).after 26 t = iblk m c 26 t := by dsimp only [dats]
/-- Before the kernel's only step, operand 26 holds the block it reads. -/
theorem before0_26 (c : Dev nD) (t : Fin cfg0.N) (d) : (dats m 0 c).before 26 t d = iblk m c 26 t :=
  before0_26_of m (dats m 0 c) (A_eq m c 26) (after0_26 m c) t d
/-- The kernel's only step leaves its operand 27 as it found it. -/
theorem after0_27 (c : Dev nD) (t : Fin cfg0.N) : (dats m 0 c).after 27 t = iblk m c 27 t := by dsimp only [dats]
/-- Before the kernel's only step, operand 27 holds the block it reads. -/
theorem before0_27 (c : Dev nD) (t : Fin cfg0.N) (d) : (dats m 0 c).before 27 t d = iblk m c 27 t :=
  before0_27_of m (dats m 0 c) (A_eq m c 27) (after0_27 m c) t d
/-- The kernel's only step leaves its operand 28 as it found it. -/
theorem after0_28 (c : Dev nD) (t : Fin cfg0.N) : (dats m 0 c).after 28 t = iblk m c 28 t := by dsimp only [dats]
/-- Before the kernel's only step, operand 28 holds the block it reads. -/
theorem before0_28 (c : Dev nD) (t : Fin cfg0.N) (d) : (dats m 0 c).before 28 t d = iblk m c 28 t :=
  before0_28_of m (dats m 0 c) (A_eq m c 28) (after0_28 m c) t d
/-- The kernel's only step leaves its operand 29 as it found it. -/
theorem after0_29 (c : Dev nD) (t : Fin cfg0.N) : (dats m 0 c).after 29 t = iblk m c 29 t := by dsimp only [dats]
/-- Before the kernel's only step, operand 29 holds the block it reads. -/
theorem before0_29 (c : Dev nD) (t : Fin cfg0.N) (d) : (dats m 0 c).before 29 t d = iblk m c 29 t :=
  before0_29_of m (dats m 0 c) (A_eq m c 29) (after0_29 m c) t d
/-- The kernel's only step leaves its operand 30 as it found it. -/
theorem after0_30 (c : Dev nD) (t : Fin cfg0.N) : (dats m 0 c).after 30 t = iblk m c 30 t := by dsimp only [dats]
/-- Before the kernel's only step, operand 30 holds the block it reads. -/
theorem before0_30 (c : Dev nD) (t : Fin cfg0.N) (d) : (dats m 0 c).before 30 t d = iblk m c 30 t :=
  before0_30_of m (dats m 0 c) (A_eq m c 30) (after0_30 m c) t d
/-- The kernel's only step leaves its operand 31 as it found it. -/
theorem after0_31 (c : Dev nD) (t : Fin cfg0.N) : (dats m 0 c).after 31 t = iblk m c 31 t := by dsimp only [dats]
/-- Before the kernel's only step, operand 31 holds the block it reads. -/
theorem before0_31 (c : Dev nD) (t : Fin cfg0.N) (d) : (dats m 0 c).before 31 t d = iblk m c 31 t :=
  before0_31_of m (dats m 0 c) (A_eq m c 31) (after0_31 m c) t d
/-- The kernel's only step leaves its operand 32 as it found it. -/
theorem after0_32 (c : Dev nD) (t : Fin cfg0.N) : (dats m 0 c).after 32 t = iblk m c 32 t := by dsimp only [dats]
/-- Before the kernel's only step, operand 32 holds the block it reads. -/
theorem before0_32 (c : Dev nD) (t : Fin cfg0.N) (d) : (dats m 0 c).before 32 t d = iblk m c 32 t :=
  before0_32_of m (dats m 0 c) (A_eq m c 32) (after0_32 m c) t d
/-- After the kernel's only step, operand 33, the result, holds what the kernel computes. -/
theorem after0_33 (c : Dev nD) (t : Fin cfg0.N) : (dats m 0 c).after 33 t = bodyOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) := by dsimp only [dats]

/-! ### The body's obligation -/

/-- What the body finds at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)) ∗ (∃ d, owns (c : Thread nD τ) (st0_21 t) fullShare ((dats m 0 c).before 21 t d)) ∗ (∃ d, owns (c : Thread nD τ) (st0_22 t) fullShare ((dats m 0 c).before 22 t d)) ∗ (∃ d, owns (c : Thread nD τ) (st0_23 t) fullShare ((dats m 0 c).before 23 t d)) ∗ (∃ d, owns (c : Thread nD τ) (st0_24 t) fullShare ((dats m 0 c).before 24 t d)) ∗ (∃ d, owns (c : Thread nD τ) (st0_25 t) fullShare ((dats m 0 c).before 25 t d)) ∗ (∃ d, owns (c : Thread nD τ) (st0_26 t) fullShare ((dats m 0 c).before 26 t d)) ∗ (∃ d, owns (c : Thread nD τ) (st0_27 t) fullShare ((dats m 0 c).before 27 t d)) ∗ (∃ d, owns (c : Thread nD τ) (st0_28 t) fullShare ((dats m 0 c).before 28 t d)) ∗ (∃ d, owns (c : Thread nD τ) (st0_29 t) fullShare ((dats m 0 c).before 29 t d)) ∗ (∃ d, owns (c : Thread nD τ) (st0_30 t) fullShare ((dats m 0 c).before 30 t d)) ∗ (∃ d, owns (c : Thread nD τ) (st0_31 t) fullShare ((dats m 0 c).before 31 t d)) ∗ (∃ d, owns (c : Thread nD τ) (st0_32 t) fullShare ((dats m 0 c).before 32 t d)) ∗ (∃ d, owns (c : Thread nD τ) (st0_33 t) fullShare ((dats m 0 c).before 33 t d)))

/-- What the body leaves at a point. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ owns (c : Thread nD τ) (st0_20 t) fullShare ((dats m 0 c).after 20 t) ∗ owns (c : Thread nD τ) (st0_21 t) fullShare ((dats m 0 c).after 21 t) ∗ owns (c : Thread nD τ) (st0_22 t) fullShare ((dats m 0 c).after 22 t) ∗ owns (c : Thread nD τ) (st0_23 t) fullShare ((dats m 0 c).after 23 t) ∗ owns (c : Thread nD τ) (st0_24 t) fullShare ((dats m 0 c).after 24 t) ∗ owns (c : Thread nD τ) (st0_25 t) fullShare ((dats m 0 c).after 25 t) ∗ owns (c : Thread nD τ) (st0_26 t) fullShare ((dats m 0 c).after 26 t) ∗ owns (c : Thread nD τ) (st0_27 t) fullShare ((dats m 0 c).after 27 t) ∗ owns (c : Thread nD τ) (st0_28 t) fullShare ((dats m 0 c).after 28 t) ∗ owns (c : Thread nD τ) (st0_29 t) fullShare ((dats m 0 c).after 29 t) ∗ owns (c : Thread nD τ) (st0_30 t) fullShare ((dats m 0 c).after 30 t) ∗ owns (c : Thread nD τ) (st0_31 t) fullShare ((dats m 0 c).after 31 t) ∗ owns (c : Thread nD τ) (st0_32 t) fullShare ((dats m 0 c).after 32 t) ∗ owns (c : Thread nD τ) (st0_33 t) fullShare ((dats m 0 c).after 33 t))

set_option maxHeartbeats 4000000 in
/-- The body's triple at a point of the grid. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  iintro ⟨HΦ, Hd, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, H33⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]
  · icases H33 with ⟨%d33, H33⟩
    iexists _
    iexact H33
  iintro ⟨H0, H1, H2, H3, H4, H5, H6, H7, H8, H9, H10, H11, H12, H13, H14, H15, H16, H17, H18, H19, H20, H21, H22, H23, H24, H25, H26, H27, H28, H29, H30, H31, H32, H33⟩
  isplitl [HΦ]; · iexact HΦ
  isplitl [Hd]; · iexact Hd
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

/-- The code a step of the launch calls is the kernel's body. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body's obligation: at every point of the grid its triple. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
set_option maxHeartbeats 800000 in
/-- Every weak-memory execution ends, with the counters at zero and the buffers at what the region and the host lines
    after it leave. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c w => by fin_cases w <;> rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.Proof.KernelIdeal

end
-- ==== Proof.Spec.lean ====
/-
  The network's mathematics on plain functions of a batch entry, a node and a feature: the two programs are both read
  as these functions, and what is left between them is how each one lays its arrays out.
-/
module

public import Idealize.ShloMosaic.PureOps.Ideal

@[expose] public section

noncomputable section

namespace Cert.Proof.Spec

open Idealize.ShloMosaic

/-- A feature of every node of every batch entry. -/
abbrev Nodes (w : ℕ) := Fin 16 → Fin 207 → Fin w → EReal
/-- A matrix over the nodes. -/
abbrev Adj := Fin 207 → Fin 207 → EReal
/-- The weights of one side of a diffusion convolution: diffusion term, feature in, feature out. -/
abbrev Wts (w o : ℕ) := Fin 3 → Fin w → Fin o → EReal

variable {w v o : ℕ}

/-- The support applied to every batch entry. -/
def spread (A : Adj) (X : Nodes w) : Nodes w := fun b n c => ∑ j : Fin 207, A n j * X b j c

/-- The three diffusion terms `X`, `A X` and `2 A (A X) − X`. -/
def term (A : Adj) (X : Nodes w) : Fin 3 → Nodes w
  | 0 => X
  | 1 => spread A X
  | 2 => fun b n c => 2 * spread A (spread A X) b n c - X b n c

/-- One side of a diffusion convolution. -/
def half (A : Adj) (X : Nodes w) (W : Wts w o) : Nodes o :=
  fun b n k => ∑ m : Fin 3, ∑ c : Fin w, term A X m b n c * W m c k

/-- The diffusion convolution of an input and a state. -/
def conv (A : Adj) (X : Nodes w) (H : Nodes v) (Wx : Wts w o) (Wh : Wts v o) (bias : Fin o → EReal) : Nodes o :=
  fun b n k => half A X Wx b n k + half A H Wh b n k + bias k

/-- The reset gate's feature `c` and the update gate's among the 128 gate features. -/
def lo (c : Fin 64) : Fin 128 := ⟨c.val, by omega⟩
def hi (c : Fin 64) : Fin 128 := ⟨64 + c.val, by omega⟩

/-- One recurrent cell. -/
def cell (A : Adj) (X : Nodes w) (H : Nodes 64) (Wgx : Wts w 128) (Wgh : Wts 64 128) (bg : Fin 128 → EReal)
    (Wcx : Wts w 64) (Wch : Wts 64 64) (bc : Fin 64 → EReal) : Nodes 64 :=
  fun b n c =>
    Ideal.logistic (conv A X H Wgx Wgh bg b n (hi c)) * H b n c
      + (1 - Ideal.logistic (conv A X H Wgx Wgh bg b n (hi c)))
        * Ideal.tanh (conv A X (fun b' n' c' => Ideal.logistic (conv A X H Wgx Wgh bg b' n' (lo c')) * H b' n' c') Wcx Wch bc b n c)

/-- Feature `c` of the first, second and third gate among the 192 features of the gated unit. -/
def p0 (c : Fin 64) : Fin 192 := ⟨c.val, by omega⟩
def p1 (c : Fin 64) : Fin 192 := ⟨64 + c.val, by omega⟩
def p2 (c : Fin 64) : Fin 192 := ⟨128 + c.val, by omega⟩

/-- An affine image of every node's features; the weights are indexed by feature out, feature in. -/
def affine (X : Nodes w) (W : Fin o → Fin w → EReal) (bias : Fin o → EReal) : Nodes o :=
  fun b n k => ∑ c : Fin w, X b n c * W k c + bias k

/-- One step of the gated recurrent unit. -/
def gru (Wih : Fin 192 → Fin 2 → EReal) (Whh : Fin 192 → Fin 64 → EReal) (bih bhh : Fin 192 → EReal)
    (X : Nodes 2) (H : Nodes 64) : Nodes 64 :=
  fun b n c =>
    let gi := affine X Wih bih b n
    let gh := affine H Whh bhh b n
    let z := Ideal.logistic (gi (p1 c) + gh (p1 c))
    (1 - z) * Ideal.tanh (gi (p2 c) + Ideal.logistic (gi (p0 c) + gh (p0 c)) * gh (p2 c)) + z * H b n c

/-- The projection of a state to one value a node. -/
def project (pw : Fin 64 → EReal) (pb : EReal) (H : Nodes 64) : Nodes 1 :=
  fun b n _ => ∑ c : Fin 64, H b n c * pw c + pb

/-! ### The support -/

/-- The rectified product of node `n`'s key and node `j`'s query. -/
def score (H : Nodes 64) (wk wq : Fin 64 → Fin 32 → EReal) (b : Fin 16) : Adj := fun n j =>
  max (∑ d : Fin 32, (∑ c : Fin 64, H b n c * wk c d) * (∑ c : Fin 64, H b j c * wq c d)) 0

/-- The exponentials of a matrix's entries less their row's largest. -/
def expo (s : Adj) : Adj := fun n j => Ideal.exp (s n j - Finset.univ.sup (s n))

/-- Every row divided by its sum. -/
def rowNormal (e : Adj) : Adj := fun n j => Ideal.div (e n j) (∑ k : Fin 207, e n k)

/-- The mean over the batch of the softmax of the scores. -/
def attention (H : Nodes 64) (wk wq : Fin 64 → Fin 32 → EReal) : Adj :=
  fun n j => (∑ b : Fin 16, rowNormal (expo (score H wk wq b)) n j) * ((1 / 16 : ℝ) : EReal)

/-- A value is the thirtieth largest of a row: fewer than thirty entries lie above it, and thirty or more reach it. -/
def IsThirtieth (r : Fin 207 → EReal) (t : EReal) : Prop :=
  (Finset.univ.filter (fun j => t < r j)).card < 30 ∧ 30 ≤ (Finset.univ.filter (fun j => t ≤ r j)).card

open Classical in
/-- The thirtieth largest value of a row. -/
def thirtieth (r : Fin 207 → EReal) : EReal := if h : ∃ t, IsThirtieth r t then Classical.choose h else 0

/-- The entries at least as large as the thirtieth largest of their row; the others zero. -/
def kept (A : Adj) : Adj := fun n j => if thirtieth (A n) ≤ A n j then A n j else 0

/-- The reciprocal of a positive number; zero for the others. -/
def recip (d : EReal) : EReal := if 0 < d then Ideal.div 1 d else 0

/-- Every row over its sum. -/
def normal (A : Adj) : Adj := fun n j => recip (∑ k : Fin 207, A n k) * A n j

/-- The support from the state the gated unit ends in. -/
def support (H : Nodes 64) (wk wq : Fin 64 → Fin 32 → EReal) : Adj := normal (kept (attention H wk wq))

/-! ### The network -/

/-- The gated unit's state before step `k`. -/
def gruFold (Wih : Fin 192 → Fin 2 → EReal) (Whh : Fin 192 → Fin 64 → EReal) (bih bhh : Fin 192 → EReal)
    (X : ℕ → Nodes 2) : ℕ → Nodes 64
  | 0 => fun _ _ _ => 0
  | k + 1 => gru Wih Whh bih bhh (X k) (gruFold Wih Whh bih bhh X k)

/-- The weights of a cell. -/
structure CellW (w : ℕ) where
  gx : Wts w 128
  gh : Wts 64 128
  gb : Fin 128 → EReal
  cx : Wts w 64
  ch : Wts 64 64
  cb : Fin 64 → EReal

/-- A cell with its weights in one record. -/
def CellW.run (W : CellW w) (A : Adj) (X : Nodes w) (H : Nodes 64) : Nodes 64 :=
  cell A X H W.gx W.gh W.gb W.cx W.ch W.cb

/-- The encoder's two states before step `k`. -/
def encFold (A : Adj) (W : CellW 2) (W' : CellW 64) (X : ℕ → Nodes 2) : ℕ → Nodes 64 × Nodes 64
  | 0 => (fun _ _ _ => 0, fun _ _ _ => 0)
  | k + 1 =>
    let p := encFold A W W' X k
    let a := W.run A (X k) p.1
    (a, W'.run A a p.2)

/-- The decoder's two states and its current value before step `k`. -/
def decFold (A : Adj) (W : CellW 1) (W' : CellW 64) (pw : Fin 64 → EReal) (pb : EReal) (init : Nodes 64 × Nodes 64) :
    ℕ → Nodes 64 × Nodes 64 × Nodes 1
  | 0 => (init.1, init.2, fun _ _ _ => 0)
  | k + 1 =>
    let p := decFold A W W' pw pb init k
    let a := W.run A p.2.2 p.1
    let b := W'.run A a p.2.1
    (a, b, project pw pb b)

end Cert.Proof.Spec
-- ==== Proof.KRead.lean ====
/-
  The kernel's products with the support, its stacked diffusion terms and its recurrent cell, read at the extended
  reals row by row: each is the network's function of the nodes' features its rows hold.
-/
module

public import proofs.«01_k».proof.Proof.KernelIdealCells
public import proofs.«01_k».proof.Proof.Spec
public import Idealize.ShloMosaic.Lib.Pointwise

@[expose] public section

set_option maxRecDepth 16384

noncomputable section

namespace Cert.Proof

open Idealize.ShloMosaic

/-- A sum over three blocks of `w` terms, block by block. -/
theorem sum_blocks {w K : ℕ} (hK : 3 * w = K) (f : Fin K → EReal) :
    ∑ k : Fin K, f k = ∑ m : Fin 3, ∑ c : Fin w, f ⟨w * m.val + c.val, by
      have := m.isLt; have := c.isLt; have : w * m.val + w ≤ w * 3 := by rw [← Nat.mul_succ]; exact Nat.mul_le_mul_left w m.isLt
      omega⟩ := by
  subst hK
  rw [← finProdFinEquiv.sum_comp, Fintype.sum_prod_type]
  refine Finset.sum_congr rfl fun m _ => Finset.sum_congr rfl fun c _ => congrArg f (Fin.ext ?_)
  show c.val + w * m.val = _
  exact Nat.add_comm _ _

/-- The float word of two. -/
theorem ofBits_two : Ideal.ofBits .f32 0x40000000#32 = 2 := by
  have h : Ideal.ofBits .f32 0x40000000#32 = ((2 : ℝ) : EReal) := by
    simp [Ideal.ofBits, Ideal.ieee]
    rw [← EReal.coe_mul]
    norm_num
  rw [h]; rfl

end Cert.Proof

namespace Cert.Proof.KernelIdeal

open Cert.KernelIdeal Cert.KernelIdeal.Gen
open Idealize.ShloMosaic
open Cert.Proof.Spec (Nodes Adj Wts)

/-- Row `r` of batch entry `b`. -/
def prow (b : Fin 16) (r : Fin 208) : Fin 3328 := ⟨208 * b.val + r.val, by omega⟩
/-- The row of node `n` of batch entry `b`. -/
def row (b : Fin 16) (n : Fin 207) : Fin 3328 := prow b n.castSucc

/-- The nodes' features an array of rows holds. -/
def nodes {w : ℕ} (X : FVec Ideal ⟨2, ![3328, w]⟩ .f32) : Nodes w := fun b n c => X (ix2 (row b n) c)

/-- The weights of one side of a diffusion convolution an array stacked by diffusion term holds. -/
def wts {w o K : ℕ} (hK : 3 * w = K) (W : FVec Ideal ⟨2, ![K, o]⟩ .f32) : Wts w o :=
  fun m c k => W (ix2 ⟨w * m.val + c.val, by
      have := m.isLt; have := c.isLt; have : w * m.val + w ≤ w * 3 := by rw [← Nat.mul_succ]; exact Nat.mul_le_mul_left w m.isLt
      omega⟩ k)

/-- A padded matrix over the nodes: zero in the padding's column. -/
structure Holds (S : FVec Ideal S208x208 .f32) (A : Adj) : Prop where
  inner : ∀ n j : Fin 207, S (ix2 n.castSucc j.castSucc) = A n j
  last : ∀ n : Fin 207, S (ix2 n.castSucc (Fin.last 207)) = 0

/-! ### 64 columns a batch -/

/-- The rows of one batch entry, 64 features a node, entry by entry. -/
theorem block64_apply (X : FVec Ideal S3328x64 .f32) (b : Fin 16) (r : Fin 208) (c : Fin 64) :
    block64 X b (ix2 r c) = X (ix2 (prow b r) c) := by
  pointwise [block64, prow]

/-- Batch entries put side by side, 64 features a node: each entry is one of the batch entry's own rows. -/
theorem beside64_apply (X : FVec Ideal S3328x64 .f32) (q : Fin 8) (r : Fin 208) (j : Fin 2) (c : Fin 64) :
    beside64 X q (ix2 r (⟨64 * j.val + c.val, by omega⟩ : Fin 128)) = X (ix2 (prow ⟨2 * q.val + j.val, by omega⟩ r) c) := by
  rw [← block64_apply X]
  exact Idealize.ShloMosaic.concatenate_ofFn_apply (s₁ := S208x64) (t := S208x128) 1 (fun j => block64 X ⟨2 * q.val + j.val, by omega⟩) _ rfl 64 rfl _ j
    (show (64 * j.val + c.val) / 64 = j.val by omega) (ix2 r c) (show c.val = (64 * j.val + c.val) % 64 by omega)
    (fun a ha => by match a with | 0 => rfl | 1 => exact absurd rfl ha)

/-- The support times batch entries side by side (64 features a node): a sum over the nodes. -/
theorem group64_apply (S : FVec Ideal S208x208 .f32) (X : FVec Ideal S3328x64 .f32) (q : Fin 8) (r : Fin 208) (k : Fin 128) :
    group64 S X q (ix2 r k) = ∑ p : Fin 208, S (ix2 r p) * beside64 X q (ix2 p k) := by
  pointwise [group64]

/-- The product with the support takes the rows of each batch entry by themselves. -/
theorem spread64_apply (S : FVec Ideal S208x208 .f32) (X : FVec Ideal S3328x64 .f32) (b : Fin 16) (r : Fin 208) (c : Fin 64) :
    spread64 S X (ix2 (prow b r) c) = ∑ p : Fin 208, S (ix2 r p) * X (ix2 (prow b p) c) := by
  have h : spread64 S X (ix2 (prow b r) c)
      = extractStridedSlice S208x64 ![0, 64 * (b.val % 2)] (group64 S X ⟨b.val / 2, by omega⟩) (slicesCol64 ⟨b.val % 2, by omega⟩) (ix2 r c) :=
    Idealize.ShloMosaic.concatenate_ofFn_apply (s₁ := S208x64) (t := S3328x64) 0
      (fun b : Fin 16 => extractStridedSlice S208x64 ![0, 64 * (b.val % 2)] (group64 S X ⟨b.val / 2, by omega⟩) (slicesCol64 ⟨b.val % 2, by omega⟩))
      _ rfl 208 rfl _ b
      (show (208 * b.val + r.val) / 208 = b.val by omega) (ix2 r c) (show r.val = (208 * b.val + r.val) % 208 by omega)
      (fun a ha => by match a with | 1 => rfl | 0 => exact absurd rfl ha)
  have h' : extractStridedSlice S208x64 ![0, 64 * (b.val % 2)] (group64 S X ⟨b.val / 2, by omega⟩) (slicesCol64 ⟨b.val % 2, by omega⟩) (ix2 r c)
      = group64 S X ⟨b.val / 2, by omega⟩ (ix2 r (⟨64 * (b.val % 2) + c.val, by omega⟩ : Fin 128)) := by
    pointwise
  rw [h, h', group64_apply]
  refine Finset.sum_congr rfl fun p _ => ?_
  rw [beside64_apply X ⟨b.val / 2, by omega⟩ p ⟨b.val % 2, by omega⟩ c]
  have e : (⟨2 * (b.val / 2) + b.val % 2, by omega⟩ : Fin 16) = b := Fin.ext (by show 2 * (b.val / 2) + b.val % 2 = b.val; omega)
  simp only [e]

/-- At the nodes it is the support applied: the padding's column adds nothing. -/
theorem nodes_spread64 {S : FVec Ideal S208x208 .f32} {A : Adj} (h : Holds S A) (X : FVec Ideal S3328x64 .f32) :
    nodes (spread64 S X) = Spec.spread A (nodes X) := by
  funext b n c
  show spread64 S X (ix2 (prow b n.castSucc) c) = _
  rw [spread64_apply, Fin.sum_univ_castSucc, h.last, zero_mul, add_zero]
  exact Finset.sum_congr rfl fun j _ => by rw [h.inner]; rfl

/-- The third diffusion term at the nodes, 64 features a node: twice the spread less the first. -/
theorem nodes_second64 {S : FVec Ideal S208x208 .f32} {A : Adj} (h : Holds S A) (X Y : FVec Ideal S3328x64 .f32) :
    nodes (second64 S X Y) = fun b n c => 2 * Spec.spread A (nodes Y) b n c - nodes X b n c := by
  rw [← nodes_spread64 h]
  funext b n c
  show second64 S X Y (ix2 (row b n) c) = 2 * spread64 S Y (ix2 (row b n) c) - X (ix2 (row b n) c)
  have e : second64 S X Y (ix2 (row b n) c) = Ideal.ofBits .f32 0x40000000#32 * spread64 S Y (ix2 (row b n) c) - X (ix2 (row b n) c) := by
    pointwise [second64]
  rw [e, ofBits_two]

/-- The three diffusion terms side by side, 64 features each, term by term. -/
theorem stack64_apply (S : FVec Ideal S208x208 .f32) (X : FVec Ideal S3328x64 .f32) (r : Fin 3328) (m : Fin 3) (c : Fin 64) :
    stack64 S X (ix2 r (⟨64 * m.val + c.val, by omega⟩ : Fin 192)) = (![X, spread64 S X, second64 S X (spread64 S X)] : Fin 3 → FVec Ideal S3328x64 .f32) m (ix2 r c) :=
  Idealize.ShloMosaic.concatenate_ofFn_apply (s₁ := S3328x64) (t := S3328x192) 1 ![X, spread64 S X, second64 S X (spread64 S X)]
    concatenates_S3328x64_S3328x64_S3328x64_S3328x192_d1 rfl 64 rfl _ m
    (show (64 * m.val + c.val) / 64 = m.val by omega) (ix2 r c) (show c.val = (64 * m.val + c.val) % 64 by omega)
    (fun a ha => by match a with | 0 => rfl | 1 => exact absurd rfl ha)

/-- Each of the three stacked arrays is the network's diffusion term of the nodes, 64 features a node. -/
theorem stack64_term {S : FVec Ideal S208x208 .f32} {A : Adj} (h : Holds S A) (X : FVec Ideal S3328x64 .f32) (b : Fin 16) (n : Fin 207)
    (m : Fin 3) (c : Fin 64) :
    (![X, spread64 S X, second64 S X (spread64 S X)] : Fin 3 → FVec Ideal S3328x64 .f32) m (ix2 (row b n) c) = Spec.term A (nodes X) m b n c := by
  match m with
  | 0 => rfl
  | 1 => exact congrFun (congrFun (congrFun (nodes_spread64 h X) b) n) c
  | 2 =>
    have e := congrFun (congrFun (congrFun (nodes_second64 h X (spread64 S X)) b) n) c
    rw [nodes_spread64 h] at e
    exact e

/-- The product of the stacked diffusion terms with stacked weights is one side of a diffusion convolution. -/
theorem stack64_half {o : ℕ} {S : FVec Ideal S208x208 .f32} {A : Adj} (h : Holds S A) (X : FVec Ideal S3328x64 .f32)
    (W : FVec Ideal ⟨2, ![192, o]⟩ .f32) (b : Fin 16) (n : Fin 207) (k : Fin o) :
    ∑ i : Fin 192, stack64 S X (ix2 (row b n) i) * W (ix2 i k) = Spec.half A (nodes X) (wts (w := 64) rfl W) b n k := by
  rw [sum_blocks (w := 64) rfl]
  refine Finset.sum_congr rfl fun m _ => Finset.sum_congr rfl fun c _ => ?_
  rw [stack64_apply, stack64_term h]
  rfl

/-! ### 2 columns a batch -/

/-- The rows of one batch entry, 2 features a node, entry by entry. -/
theorem block2_apply (X : FVec Ideal S3328x2 .f32) (b : Fin 16) (r : Fin 208) (c : Fin 2) :
    block2 X b (ix2 r c) = X (ix2 (prow b r) c) := by
  pointwise [block2, prow]

/-- Batch entries put side by side, 2 features a node: each entry is one of the batch entry's own rows. -/
theorem beside2_apply (X : FVec Ideal S3328x2 .f32) (q : Fin 1) (r : Fin 208) (j : Fin 16) (c : Fin 2) :
    beside2 X q (ix2 r (⟨2 * j.val + c.val, by omega⟩ : Fin 32)) = X (ix2 (prow ⟨16 * q.val + j.val, by omega⟩ r) c) := by
  rw [← block2_apply X]
  exact Idealize.ShloMosaic.concatenate_ofFn_apply (s₁ := S208x2) (t := S208x32) 1 (fun j => block2 X ⟨16 * q.val + j.val, by omega⟩) _ rfl 2 rfl _ j
    (show (2 * j.val + c.val) / 2 = j.val by omega) (ix2 r c) (show c.val = (2 * j.val + c.val) % 2 by omega)
    (fun a ha => by match a with | 0 => rfl | 1 => exact absurd rfl ha)

/-- The support times batch entries side by side (2 features a node): a sum over the nodes. -/
theorem group2_apply (S : FVec Ideal S208x208 .f32) (X : FVec Ideal S3328x2 .f32) (q : Fin 1) (r : Fin 208) (k : Fin 32) :
    group2 S X q (ix2 r k) = ∑ p : Fin 208, S (ix2 r p) * beside2 X q (ix2 p k) := by
  pointwise [group2]

/-- The product with the support takes the rows of each batch entry by themselves. -/
theorem spread2_apply (S : FVec Ideal S208x208 .f32) (X : FVec Ideal S3328x2 .f32) (b : Fin 16) (r : Fin 208) (c : Fin 2) :
    spread2 S X (ix2 (prow b r) c) = ∑ p : Fin 208, S (ix2 r p) * X (ix2 (prow b p) c) := by
  have h : spread2 S X (ix2 (prow b r) c)
      = extractStridedSlice S208x2 ![0, 2 * (b.val % 16)] (group2 S X ⟨b.val / 16, by omega⟩) (slicesCol2 ⟨b.val % 16, by omega⟩) (ix2 r c) :=
    Idealize.ShloMosaic.concatenate_ofFn_apply (s₁ := S208x2) (t := S3328x2) 0
      (fun b : Fin 16 => extractStridedSlice S208x2 ![0, 2 * (b.val % 16)] (group2 S X ⟨b.val / 16, by omega⟩) (slicesCol2 ⟨b.val % 16, by omega⟩))
      _ rfl 208 rfl _ b
      (show (208 * b.val + r.val) / 208 = b.val by omega) (ix2 r c) (show r.val = (208 * b.val + r.val) % 208 by omega)
      (fun a ha => by match a with | 1 => rfl | 0 => exact absurd rfl ha)
  have h' : extractStridedSlice S208x2 ![0, 2 * (b.val % 16)] (group2 S X ⟨b.val / 16, by omega⟩) (slicesCol2 ⟨b.val % 16, by omega⟩) (ix2 r c)
      = group2 S X ⟨b.val / 16, by omega⟩ (ix2 r (⟨2 * (b.val % 16) + c.val, by omega⟩ : Fin 32)) := by
    pointwise
  rw [h, h', group2_apply]
  refine Finset.sum_congr rfl fun p _ => ?_
  rw [beside2_apply X ⟨b.val / 16, by omega⟩ p ⟨b.val % 16, by omega⟩ c]
  have e : (⟨16 * (b.val / 16) + b.val % 16, by omega⟩ : Fin 16) = b := Fin.ext (by show 16 * (b.val / 16) + b.val % 16 = b.val; omega)
  simp only [e]

/-- At the nodes it is the support applied: the padding's column adds nothing. -/
theorem nodes_spread2 {S : FVec Ideal S208x208 .f32} {A : Adj} (h : Holds S A) (X : FVec Ideal S3328x2 .f32) :
    nodes (spread2 S X) = Spec.spread A (nodes X) := by
  funext b n c
  show spread2 S X (ix2 (prow b n.castSucc) c) = _
  rw [spread2_apply, Fin.sum_univ_castSucc, h.last, zero_mul, add_zero]
  exact Finset.sum_congr rfl fun j _ => by rw [h.inner]; rfl

/-- The third diffusion term at the nodes, 2 features a node: twice the spread less the first. -/
theorem nodes_second2 {S : FVec Ideal S208x208 .f32} {A : Adj} (h : Holds S A) (X Y : FVec Ideal S3328x2 .f32) :
    nodes (second2 S X Y) = fun b n c => 2 * Spec.spread A (nodes Y) b n c - nodes X b n c := by
  rw [← nodes_spread2 h]
  funext b n c
  show second2 S X Y (ix2 (row b n) c) = 2 * spread2 S Y (ix2 (row b n) c) - X (ix2 (row b n) c)
  have e : second2 S X Y (ix2 (row b n) c) = Ideal.ofBits .f32 0x40000000#32 * spread2 S Y (ix2 (row b n) c) - X (ix2 (row b n) c) := by
    pointwise [second2]
  rw [e, ofBits_two]

/-- The three diffusion terms side by side, 2 features each, term by term. -/
theorem stack2_apply (S : FVec Ideal S208x208 .f32) (X : FVec Ideal S3328x2 .f32) (r : Fin 3328) (m : Fin 3) (c : Fin 2) :
    stack2 S X (ix2 r (⟨2 * m.val + c.val, by omega⟩ : Fin 6)) = (![X, spread2 S X, second2 S X (spread2 S X)] : Fin 3 → FVec Ideal S3328x2 .f32) m (ix2 r c) :=
  Idealize.ShloMosaic.concatenate_ofFn_apply (s₁ := S3328x2) (t := S3328x6) 1 ![X, spread2 S X, second2 S X (spread2 S X)]
    concatenates_S3328x2_S3328x2_S3328x2_S3328x6_d1 rfl 2 rfl _ m
    (show (2 * m.val + c.val) / 2 = m.val by omega) (ix2 r c) (show c.val = (2 * m.val + c.val) % 2 by omega)
    (fun a ha => by match a with | 0 => rfl | 1 => exact absurd rfl ha)

/-- Each of the three stacked arrays is the network's diffusion term of the nodes, 2 features a node. -/
theorem stack2_term {S : FVec Ideal S208x208 .f32} {A : Adj} (h : Holds S A) (X : FVec Ideal S3328x2 .f32) (b : Fin 16) (n : Fin 207)
    (m : Fin 3) (c : Fin 2) :
    (![X, spread2 S X, second2 S X (spread2 S X)] : Fin 3 → FVec Ideal S3328x2 .f32) m (ix2 (row b n) c) = Spec.term A (nodes X) m b n c := by
  match m with
  | 0 => rfl
  | 1 => exact congrFun (congrFun (congrFun (nodes_spread2 h X) b) n) c
  | 2 =>
    have e := congrFun (congrFun (congrFun (nodes_second2 h X (spread2 S X)) b) n) c
    rw [nodes_spread2 h] at e
    exact e

/-- The product of the stacked diffusion terms with stacked weights is one side of a diffusion convolution. -/
theorem stack2_half {o : ℕ} {S : FVec Ideal S208x208 .f32} {A : Adj} (h : Holds S A) (X : FVec Ideal S3328x2 .f32)
    (W : FVec Ideal ⟨2, ![6, o]⟩ .f32) (b : Fin 16) (n : Fin 207) (k : Fin o) :
    ∑ i : Fin 6, stack2 S X (ix2 (row b n) i) * W (ix2 i k) = Spec.half A (nodes X) (wts (w := 2) rfl W) b n k := by
  rw [sum_blocks (w := 2) rfl]
  refine Finset.sum_congr rfl fun m _ => Finset.sum_congr rfl fun c _ => ?_
  rw [stack2_apply, stack2_term h]
  rfl

/-! ### 1 columns a batch -/

/-- The rows of one batch entry, 1 features a node, entry by entry. -/
theorem block1_apply (X : FVec Ideal S3328x1 .f32) (b : Fin 16) (r : Fin 208) (c : Fin 1) :
    block1 X b (ix2 r c) = X (ix2 (prow b r) c) := by
  obtain rfl : c = 0 := Subsingleton.elim _ _
  pointwise [block1, prow]

/-- Batch entries put side by side, 1 features a node: each entry is one of the batch entry's own rows. -/
theorem beside1_apply (X : FVec Ideal S3328x1 .f32) (q : Fin 1) (r : Fin 208) (j : Fin 16) (c : Fin 1) :
    beside1 X q (ix2 r (⟨1 * j.val + c.val, by omega⟩ : Fin 16)) = X (ix2 (prow ⟨16 * q.val + j.val, by omega⟩ r) c) := by
  rw [← block1_apply X]
  exact Idealize.ShloMosaic.concatenate_ofFn_apply (s₁ := S208x1) (t := S208x16) 1 (fun j => block1 X ⟨16 * q.val + j.val, by omega⟩) _ rfl 1 rfl _ j
    (show (1 * j.val + c.val) / 1 = j.val by omega) (ix2 r c) (show c.val = (1 * j.val + c.val) % 1 by omega)
    (fun a ha => by match a with | 0 => rfl | 1 => exact absurd rfl ha)

/-- The support times batch entries side by side (1 features a node): a sum over the nodes. -/
theorem group1_apply (S : FVec Ideal S208x208 .f32) (X : FVec Ideal S3328x1 .f32) (q : Fin 1) (r : Fin 208) (k : Fin 16) :
    group1 S X q (ix2 r k) = ∑ p : Fin 208, S (ix2 r p) * beside1 X q (ix2 p k) := by
  pointwise [group1]

/-- The product with the support takes the rows of each batch entry by themselves. -/
theorem spread1_apply (S : FVec Ideal S208x208 .f32) (X : FVec Ideal S3328x1 .f32) (b : Fin 16) (r : Fin 208) (c : Fin 1) :
    spread1 S X (ix2 (prow b r) c) = ∑ p : Fin 208, S (ix2 r p) * X (ix2 (prow b p) c) := by
  have h : spread1 S X (ix2 (prow b r) c)
      = extractStridedSlice S208x1 ![0, 1 * (b.val % 16)] (group1 S X ⟨b.val / 16, by omega⟩) (slicesCol1 ⟨b.val % 16, by omega⟩) (ix2 r c) :=
    Idealize.ShloMosaic.concatenate_ofFn_apply (s₁ := S208x1) (t := S3328x1) 0
      (fun b : Fin 16 => extractStridedSlice S208x1 ![0, 1 * (b.val % 16)] (group1 S X ⟨b.val / 16, by omega⟩) (slicesCol1 ⟨b.val % 16, by omega⟩))
      _ rfl 208 rfl _ b
      (show (208 * b.val + r.val) / 208 = b.val by omega) (ix2 r c) (show r.val = (208 * b.val + r.val) % 208 by omega)
      (fun a ha => by match a with | 1 => rfl | 0 => exact absurd rfl ha)
  have h' : extractStridedSlice S208x1 ![0, 1 * (b.val % 16)] (group1 S X ⟨b.val / 16, by omega⟩) (slicesCol1 ⟨b.val % 16, by omega⟩) (ix2 r c)
      = group1 S X ⟨b.val / 16, by omega⟩ (ix2 r (⟨1 * (b.val % 16) + c.val, by omega⟩ : Fin 16)) := by
    pointwise
  rw [h, h', group1_apply]
  refine Finset.sum_congr rfl fun p _ => ?_
  rw [beside1_apply X ⟨b.val / 16, by omega⟩ p ⟨b.val % 16, by omega⟩ c]
  have e : (⟨16 * (b.val / 16) + b.val % 16, by omega⟩ : Fin 16) = b := Fin.ext (by show 16 * (b.val / 16) + b.val % 16 = b.val; omega)
  simp only [e]

/-- At the nodes it is the support applied: the padding's column adds nothing. -/
theorem nodes_spread1 {S : FVec Ideal S208x208 .f32} {A : Adj} (h : Holds S A) (X : FVec Ideal S3328x1 .f32) :
    nodes (spread1 S X) = Spec.spread A (nodes X) := by
  funext b n c
  show spread1 S X (ix2 (prow b n.castSucc) c) = _
  rw [spread1_apply, Fin.sum_univ_castSucc, h.last, zero_mul, add_zero]
  exact Finset.sum_congr rfl fun j _ => by rw [h.inner]; rfl

/-- The third diffusion term at the nodes, 1 features a node: twice the spread less the first. -/
theorem nodes_second1 {S : FVec Ideal S208x208 .f32} {A : Adj} (h : Holds S A) (X Y : FVec Ideal S3328x1 .f32) :
    nodes (second1 S X Y) = fun b n c => 2 * Spec.spread A (nodes Y) b n c - nodes X b n c := by
  rw [← nodes_spread1 h]
  funext b n c
  show second1 S X Y (ix2 (row b n) c) = 2 * spread1 S Y (ix2 (row b n) c) - X (ix2 (row b n) c)
  have e : second1 S X Y (ix2 (row b n) c) = Ideal.ofBits .f32 0x40000000#32 * spread1 S Y (ix2 (row b n) c) - X (ix2 (row b n) c) := by
    pointwise [second1]
  rw [e, ofBits_two]

/-- The three diffusion terms side by side, 1 features each, term by term. -/
theorem stack1_apply (S : FVec Ideal S208x208 .f32) (X : FVec Ideal S3328x1 .f32) (r : Fin 3328) (m : Fin 3) (c : Fin 1) :
    stack1 S X (ix2 r (⟨1 * m.val + c.val, by omega⟩ : Fin 3)) = (![X, spread1 S X, second1 S X (spread1 S X)] : Fin 3 → FVec Ideal S3328x1 .f32) m (ix2 r c) :=
  Idealize.ShloMosaic.concatenate_ofFn_apply (s₁ := S3328x1) (t := S3328x3) 1 ![X, spread1 S X, second1 S X (spread1 S X)]
    concatenates_S3328x1_S3328x1_S3328x1_S3328x3_d1 rfl 1 rfl _ m
    (show (1 * m.val + c.val) / 1 = m.val by omega) (ix2 r c) (show c.val = (1 * m.val + c.val) % 1 by omega)
    (fun a ha => by match a with | 0 => rfl | 1 => exact absurd rfl ha)

/-- Each of the three stacked arrays is the network's diffusion term of the nodes, 1 features a node. -/
theorem stack1_term {S : FVec Ideal S208x208 .f32} {A : Adj} (h : Holds S A) (X : FVec Ideal S3328x1 .f32) (b : Fin 16) (n : Fin 207)
    (m : Fin 3) (c : Fin 1) :
    (![X, spread1 S X, second1 S X (spread1 S X)] : Fin 3 → FVec Ideal S3328x1 .f32) m (ix2 (row b n) c) = Spec.term A (nodes X) m b n c := by
  match m with
  | 0 => rfl
  | 1 => exact congrFun (congrFun (congrFun (nodes_spread1 h X) b) n) c
  | 2 =>
    have e := congrFun (congrFun (congrFun (nodes_second1 h X (spread1 S X)) b) n) c
    rw [nodes_spread1 h] at e
    exact e

/-- The product of the stacked diffusion terms with stacked weights is one side of a diffusion convolution. -/
theorem stack1_half {o : ℕ} {S : FVec Ideal S208x208 .f32} {A : Adj} (h : Holds S A) (X : FVec Ideal S3328x1 .f32)
    (W : FVec Ideal ⟨2, ![3, o]⟩ .f32) (b : Fin 16) (n : Fin 207) (k : Fin o) :
    ∑ i : Fin 3, stack1 S X (ix2 (row b n) i) * W (ix2 i k) = Spec.half A (nodes X) (wts (w := 1) rfl W) b n k := by
  rw [sum_blocks (w := 1) rfl]
  refine Finset.sum_congr rfl fun m _ => Finset.sum_congr rfl fun c _ => ?_
  rw [stack1_apply, stack1_term h]
  rfl

/-! ### The cell -/

/-- The gates of a cell. -/
def gatesOf (S : FVec Ideal S208x208 .f32) (gx : FVec Ideal S3328x128 .f32) (wgh : FVec Ideal S192x128 .f32) (bg : FVec Ideal S1x128 .f32)
    (h : FVec Ideal S3328x64 .f32) : FVec Ideal S3328x128 .f32 :=
  logistic (addf
    (addf gx (matmul dot_S3328x192_S192x128_S3328x128_1_0_0_1_n_n none (stack64 S h) wgh (constant S3328x128 .f32 0x00000000#32)))
    (broadcastTo S3328x128 bg broadcasts_S1x128_S3328x128))

/-- The reset gate times the state. -/
def resetOf (g : FVec Ideal S3328x128 .f32) (h : FVec Ideal S3328x64 .f32) : FVec Ideal S3328x64 .f32 :=
  mulf (extractStridedSlice S3328x64 ![0, 0] g slices_S3328x128_o0_0_S3328x64) h

/-- The kernel's two gates at the nodes: the logistic of the input's share, the state's share and the bias. -/
theorem nodes_gatesOf {S : FVec Ideal S208x208 .f32} {A : Adj} (hS : Holds S A) (gx : FVec Ideal S3328x128 .f32)
    (wgh : FVec Ideal S192x128 .f32) (bg : FVec Ideal S1x128 .f32) (h : FVec Ideal S3328x64 .f32) :
    nodes (gatesOf S gx wgh bg h) = fun b n k =>
      Ideal.logistic (nodes gx b n k + Spec.half A (nodes h) (wts (w := 64) rfl wgh) b n k + bg (ix2 0 k)) := by
  funext b n k
  rw [← stack64_half hS h wgh b n k]
  show gatesOf S gx wgh bg h (ix2 (row b n) k) = Ideal.logistic (gx (ix2 (row b n) k) + _ + _)
  pointwise [gatesOf]

/-- The reset state at the nodes: the first gate times the state. -/
theorem nodes_resetOf (g : FVec Ideal S3328x128 .f32) (h : FVec Ideal S3328x64 .f32) :
    nodes (resetOf g h) = fun b n c => nodes g b n (Spec.lo c) * nodes h b n c := by
  funext b n c
  show resetOf g h (ix2 (row b n) c) = g (ix2 (row b n) (Spec.lo c)) * h (ix2 (row b n) c)
  pointwise [resetOf, Spec.lo]

/-- The kernel's cell, entry by entry: the second gate mixes the old state with the candidate. -/
theorem cellOf_apply (S : FVec Ideal S208x208 .f32) (gx : FVec Ideal S3328x128 .f32) (cx : FVec Ideal S3328x64 .f32)
    (wgh : FVec Ideal S192x128 .f32) (bg : FVec Ideal S1x128 .f32) (wch : FVec Ideal S192x64 .f32) (bc : FVec Ideal S1x64 .f32)
    (h : FVec Ideal S3328x64 .f32) (r : Fin 3328) (c : Fin 64) :
    cellOf S gx cx wgh bg wch bc h (ix2 r c)
      = gatesOf S gx wgh bg h (ix2 r (Spec.hi c)) * h (ix2 r c) + (1 - gatesOf S gx wgh bg h (ix2 r (Spec.hi c)))
        * Ideal.tanh (cx (ix2 r c) + ∑ i : Fin 192, stack64 S (resetOf (gatesOf S gx wgh bg h) h) (ix2 r i) * wch (ix2 i c) + bc (ix2 0 c)) := by
  have e : cellOf S gx cx wgh bg wch bc h = addf (mulf (extractStridedSlice S3328x64 ![0, 64] (gatesOf S gx wgh bg h) slices_S3328x128_o0_64_S3328x64) h)
      (mulf (subf (broadcast S3328x64 (Scalar.ofBits .f32 0x3F800000#32)) (extractStridedSlice S3328x64 ![0, 64] (gatesOf S gx wgh bg h) slices_S3328x128_o0_64_S3328x64))
        (tanh (addf (addf cx (matmul dot_S3328x192_S192x64_S3328x64_1_0_0_1_n_n none (stack64 S (resetOf (gatesOf S gx wgh bg h) h)) wch (constant S3328x64 .f32 0x00000000#32)))
          (broadcastTo S3328x64 bc broadcasts_S1x64_S3328x64)))) := rfl
  rw [e]
  generalize gatesOf S gx wgh bg h = g
  generalize resetOf g h = g'
  pointwise [Spec.hi]

/-- What a cell does with its input's two products, at the nodes. -/
theorem nodes_cellOf {w : ℕ} {S : FVec Ideal S208x208 .f32} {A : Adj} (hS : Holds S A) (gx : FVec Ideal S3328x128 .f32) (cx : FVec Ideal S3328x64 .f32)
    (wgh : FVec Ideal S192x128 .f32) (bg : FVec Ideal S1x128 .f32) (wch : FVec Ideal S192x64 .f32) (bc : FVec Ideal S1x64 .f32)
    (h : FVec Ideal S3328x64 .f32) (X : Nodes w) (Wgx : Wts w 128) (Wcx : Wts w 64) (hg : nodes gx = Spec.half A X Wgx) (hc : nodes cx = Spec.half A X Wcx) :
    nodes (cellOf S gx cx wgh bg wch bc h) = Spec.cell A X (nodes h) Wgx (wts (w := 64) rfl wgh) (fun k => bg (ix2 0 k))
      Wcx (wts (w := 64) rfl wch) (fun k => bc (ix2 0 k)) := by
  funext b n c
  show cellOf S gx cx wgh bg wch bc h (ix2 (row b n) c) = _
  rw [cellOf_apply, stack64_half hS, nodes_resetOf, nodes_gatesOf hS, hg]
  have e : gatesOf S gx wgh bg h (ix2 (row b n) (Spec.hi c)) = _ := congrFun (congrFun (congrFun (nodes_gatesOf hS gx wgh bg h) b) n) (Spec.hi c)
  have e' : cx (ix2 (row b n) c) = _ := congrFun (congrFun (congrFun hc b) n) c
  rw [e, e', hg]
  rfl

/-- The cell whose input has 64 features. -/
theorem nodes_cell64 {S : FVec Ideal S208x208 .f32} {A : Adj} (hS : Holds S A) (wgx : FVec Ideal S192x128 .f32) (wgh : FVec Ideal S192x128 .f32) (bg : FVec Ideal S1x128 .f32)
    (wcx : FVec Ideal S192x64 .f32) (wch : FVec Ideal S192x64 .f32) (bc : FVec Ideal S1x64 .f32)
    (x : FVec Ideal S3328x64 .f32) (h : FVec Ideal S3328x64 .f32) :
    nodes (cell64 S wgx wgh bg wcx wch bc x h) = Spec.cell A (nodes x) (nodes h) (wts (w := 64) rfl wgx) (wts (w := 64) rfl wgh) (fun k => bg (ix2 0 k))
      (wts (w := 64) rfl wcx) (wts (w := 64) rfl wch) (fun k => bc (ix2 0 k)) := by
  refine nodes_cellOf hS _ _ wgh bg wch bc h (nodes x) _ _ ?_ ?_
  · funext b n k
    rw [← stack64_half hS x wgx b n k]
    show matmul dot_S3328x192_S192x128_S3328x128_1_0_0_1_n_n none (stack64 S x) wgx (constant S3328x128 .f32 0x00000000#32) (ix2 (row b n) k) = _
    pointwise
  · funext b n k
    rw [← stack64_half hS x wcx b n k]
    show matmul dot_S3328x192_S192x64_S3328x64_1_0_0_1_n_n none (stack64 S x) wcx (constant S3328x64 .f32 0x00000000#32) (ix2 (row b n) k) = _
    pointwise

/-- The cell whose input has 2 features. -/
theorem nodes_cell2 {S : FVec Ideal S208x208 .f32} {A : Adj} (hS : Holds S A) (wgx : FVec Ideal S6x128 .f32) (wgh : FVec Ideal S192x128 .f32) (bg : FVec Ideal S1x128 .f32)
    (wcx : FVec Ideal S6x64 .f32) (wch : FVec Ideal S192x64 .f32) (bc : FVec Ideal S1x64 .f32)
    (x : FVec Ideal S3328x2 .f32) (h : FVec Ideal S3328x64 .f32) :
    nodes (cell2 S wgx wgh bg wcx wch bc x h) = Spec.cell A (nodes x) (nodes h) (wts (w := 2) rfl wgx) (wts (w := 64) rfl wgh) (fun k => bg (ix2 0 k))
      (wts (w := 2) rfl wcx) (wts (w := 64) rfl wch) (fun k => bc (ix2 0 k)) := by
  refine nodes_cellOf hS _ _ wgh bg wch bc h (nodes x) _ _ ?_ ?_
  · funext b n k
    rw [← stack2_half hS x wgx b n k]
    show matmul dot_S3328x6_S6x128_S3328x128_1_0_0_1_n_n none (stack2 S x) wgx (constant S3328x128 .f32 0x00000000#32) (ix2 (row b n) k) = _
    pointwise
  · funext b n k
    rw [← stack2_half hS x wcx b n k]
    show matmul dot_S3328x6_S6x64_S3328x64_1_0_0_1_n_n none (stack2 S x) wcx (constant S3328x64 .f32 0x00000000#32) (ix2 (row b n) k) = _
    pointwise

/-- The cell whose input has 1 features. -/
theorem nodes_cell1 {S : FVec Ideal S208x208 .f32} {A : Adj} (hS : Holds S A) (wgx : FVec Ideal S3x128 .f32) (wgh : FVec Ideal S192x128 .f32) (bg : FVec Ideal S1x128 .f32)
    (wcx : FVec Ideal S3x64 .f32) (wch : FVec Ideal S192x64 .f32) (bc : FVec Ideal S1x64 .f32)
    (x : FVec Ideal S3328x1 .f32) (h : FVec Ideal S3328x64 .f32) :
    nodes (cell1 S wgx wgh bg wcx wch bc x h) = Spec.cell A (nodes x) (nodes h) (wts (w := 1) rfl wgx) (wts (w := 64) rfl wgh) (fun k => bg (ix2 0 k))
      (wts (w := 1) rfl wcx) (wts (w := 64) rfl wch) (fun k => bc (ix2 0 k)) := by
  refine nodes_cellOf hS _ _ wgh bg wch bc h (nodes x) _ _ ?_ ?_
  · funext b n k
    rw [← stack1_half hS x wgx b n k]
    show matmul dot_S3328x3_S3x128_S3328x128_1_0_0_1_n_n none (stack1 S x) wgx (constant S3328x128 .f32 0x00000000#32) (ix2 (row b n) k) = _
    pointwise
  · funext b n k
    rw [← stack1_half hS x wcx b n k]
    show matmul dot_S3328x3_S3x64_S3328x64_1_0_0_1_n_n none (stack1 S x) wcx (constant S3328x64 .f32 0x00000000#32) (ix2 (row b n) k) = _
    pointwise

end Cert.Proof.KernelIdeal
-- ==== Proof.KReadLoops.lean ====
/-
  The kernel's gated recurrent unit, its projection and its three loops over time, read at the extended reals at the
  nodes.
-/
module

public import proofs.«01_k».proof.Proof.KRead
public import Idealize.ShloMosaic.Lib.Pointwise.IndexBridge

@[expose] public section

set_option maxRecDepth 16384

noncomputable section

namespace Cert.Proof.KernelIdeal

open Cert.KernelIdeal Cert.KernelIdeal.Gen
open Idealize.ShloMosaic
open Cert.Proof.Spec (Nodes Adj Wts CellW)

/-! ### The gated recurrent unit -/

/-- The affine image of the input's rows. -/
def affIn (wih : FVec Ideal S2x192 .f32) (bih : FVec Ideal S1x192 .f32) (x : FVec Ideal S3328x2 .f32) : FVec Ideal S3328x192 .f32 :=
  addf (matmul dot_S3328x2_S2x192_S3328x192_1_0_0_1_n_n none x wih (constant S3328x192 .f32 0x00000000#32))
    (broadcastTo S3328x192 bih broadcasts_S1x192_S3328x192)

/-- The affine image of the state's rows. -/
def affState (whh : FVec Ideal S64x192 .f32) (bhh : FVec Ideal S1x192 .f32) (h : FVec Ideal S3328x64 .f32) : FVec Ideal S3328x192 .f32 :=
  addf (matmul dot_S3328x64_S64x192_S3328x192_1_0_0_1_n_n none h whh (constant S3328x192 .f32 0x00000000#32))
    (broadcastTo S3328x192 bhh broadcasts_S1x192_S3328x192)

/-- The recurrent layer's affine map of its input, at the nodes. -/
theorem affIn_apply (wih : FVec Ideal S2x192 .f32) (bih : FVec Ideal S1x192 .f32) (x : FVec Ideal S3328x2 .f32) (b : Fin 16) (n : Fin 207) (k : Fin 192) :
    affIn wih bih x (ix2 (row b n) k) = Spec.affine (nodes x) (fun k c => wih (ix2 c k)) (fun k => bih (ix2 0 k)) b n k := by
  have e : affIn wih bih x (ix2 (row b n) k) = ∑ c : Fin 2, x (ix2 (row b n) c) * wih (ix2 c k) + bih (ix2 0 k) := by
    pointwise [affIn]
  rw [e]; rfl

/-- The recurrent layer's affine map of its state, at the nodes. -/
theorem affState_apply (whh : FVec Ideal S64x192 .f32) (bhh : FVec Ideal S1x192 .f32) (h : FVec Ideal S3328x64 .f32) (b : Fin 16) (n : Fin 207) (k : Fin 192) :
    affState whh bhh h (ix2 (row b n) k) = Spec.affine (nodes h) (fun k c => whh (ix2 c k)) (fun k => bhh (ix2 0 k)) b n k := by
  have e : affState whh bhh h (ix2 (row b n) k) = ∑ c : Fin 64, h (ix2 (row b n) c) * whh (ix2 c k) + bhh (ix2 0 k) := by
    pointwise [affState]
  rw [e]; rfl

/-- One step of the recurrent layer, entry by entry. -/
theorem gruStep_apply (wih : FVec Ideal S2x192 .f32) (whh : FVec Ideal S64x192 .f32) (bih bhh : FVec Ideal S1x192 .f32)
    (x : FVec Ideal S3328x2 .f32) (h : FVec Ideal S3328x64 .f32) (r : Fin 3328) (c : Fin 64) :
    gruStep wih whh bih bhh x h (ix2 r c)
      = (1 - Ideal.logistic (affIn wih bih x (ix2 r (Spec.p1 c)) + affState whh bhh h (ix2 r (Spec.p1 c))))
          * Ideal.tanh (affIn wih bih x (ix2 r (Spec.p2 c))
            + Ideal.logistic (affIn wih bih x (ix2 r (Spec.p0 c)) + affState whh bhh h (ix2 r (Spec.p0 c))) * affState whh bhh h (ix2 r (Spec.p2 c)))
        + Ideal.logistic (affIn wih bih x (ix2 r (Spec.p1 c)) + affState whh bhh h (ix2 r (Spec.p1 c))) * h (ix2 r c) := by
  have e : gruStep wih whh bih bhh x h =
      addf (mulf (subf (broadcast S3328x64 (Scalar.ofBits .f32 0x3F800000#32))
          (logistic (addf (extractStridedSlice S3328x64 ![0, 64] (affIn wih bih x) slices_S3328x192_o0_64_S3328x64)
            (extractStridedSlice S3328x64 ![0, 64] (affState whh bhh h) slices_S3328x192_o0_64_S3328x64))))
        (tanh (addf (extractStridedSlice S3328x64 ![0, 128] (affIn wih bih x) slices_S3328x192_o0_128_S3328x64)
          (mulf (logistic (addf (extractStridedSlice S3328x64 ![0, 0] (affIn wih bih x) slices_S3328x192_o0_0_S3328x64)
              (extractStridedSlice S3328x64 ![0, 0] (affState whh bhh h) slices_S3328x192_o0_0_S3328x64)))
            (extractStridedSlice S3328x64 ![0, 128] (affState whh bhh h) slices_S3328x192_o0_128_S3328x64)))))
        (mulf (logistic (addf (extractStridedSlice S3328x64 ![0, 64] (affIn wih bih x) slices_S3328x192_o0_64_S3328x64)
            (extractStridedSlice S3328x64 ![0, 64] (affState whh bhh h) slices_S3328x192_o0_64_S3328x64))) h) := rfl
  rw [e]
  generalize affIn wih bih x = gi
  generalize affState whh bhh h = gh
  pointwise [Spec.p0, Spec.p1, Spec.p2]

/-- One step of the gated recurrent unit, at the nodes. -/
theorem nodes_gruStep (wih : FVec Ideal S2x192 .f32) (whh : FVec Ideal S64x192 .f32) (bih bhh : FVec Ideal S1x192 .f32)
    (x : FVec Ideal S3328x2 .f32) (h : FVec Ideal S3328x64 .f32) :
    nodes (gruStep wih whh bih bhh x h) = Spec.gru (fun k c => wih (ix2 c k)) (fun k c => whh (ix2 c k)) (fun k => bih (ix2 0 k))
      (fun k => bhh (ix2 0 k)) (nodes x) (nodes h) := by
  funext b n c
  show gruStep wih whh bih bhh x h (ix2 (row b n) c) = _
  rw [gruStep_apply, affIn_apply, affIn_apply, affIn_apply, affState_apply, affState_apply, affState_apply]
  rfl

/-- The array of zeros, at the nodes. -/
theorem nodes_zero {w : ℕ} : nodes (w := w) (broadcast ⟨2, ![3328, w]⟩ (Scalar.ofBits .f32 0x00000000#32) : FVec Ideal ⟨2, ![3328, w]⟩ .f32) = fun _ _ _ => 0 := by
  funext b n c
  exact Ideal.ofBits_zero_f32

/-- The gated unit's loop, at the nodes. -/
theorem nodes_gruFold (wih : FVec Ideal S2x192 .f32) (whh : FVec Ideal S64x192 .f32) (bih bhh : FVec Ideal S1x192 .f32)
    (X : Vec Ideal S12x3328x2 .f32) (k : ℕ) :
    nodes (gruFold wih whh bih bhh X k) = Spec.gruFold (fun k c => wih (ix2 c k)) (fun k c => whh (ix2 c k)) (fun k => bih (ix2 0 k))
      (fun k => bhh (ix2 0 k)) (fun k => nodes (frameAt X k)) k := by
  induction k with
  | zero => exact nodes_zero
  | succ k ih =>
    show nodes (gruStep wih whh bih bhh (frameAt X k) (gruFold wih whh bih bhh X k)) = _
    rw [nodes_gruStep, ih]
    rfl

/-! ### The encoder -/

/-- The weights of a cell as the kernel's arrays hold them. -/
def cellW {w K : ℕ} (hK : 3 * w = K) (wgx : FVec Ideal ⟨2, ![K, 128]⟩ .f32) (wgh : FVec Ideal S192x128 .f32) (bg : FVec Ideal S1x128 .f32)
    (wcx : FVec Ideal ⟨2, ![K, 64]⟩ .f32) (wch : FVec Ideal S192x64 .f32) (bc : FVec Ideal S1x64 .f32) : CellW w where
  gx := wts hK wgx
  gh := wts (w := 64) rfl wgh
  gb := fun k => bg (ix2 0 k)
  cx := wts hK wcx
  ch := wts (w := 64) rfl wch
  cb := fun k => bc (ix2 0 k)

/-- The encoder's loop, at the nodes. -/
theorem nodes_encFold {S : FVec Ideal S208x208 .f32} {A : Adj} (hS : Holds S A)
    (wgx : FVec Ideal S6x128 .f32) (wgh : FVec Ideal S192x128 .f32) (bg : FVec Ideal S1x128 .f32)
    (wcx : FVec Ideal S6x64 .f32) (wch : FVec Ideal S192x64 .f32) (bc : FVec Ideal S1x64 .f32)
    (wgx' : FVec Ideal S192x128 .f32) (wgh' : FVec Ideal S192x128 .f32) (bg' : FVec Ideal S1x128 .f32)
    (wcx' : FVec Ideal S192x64 .f32) (wch' : FVec Ideal S192x64 .f32) (bc' : FVec Ideal S1x64 .f32) (X : Vec Ideal S12x3328x2 .f32) (k : ℕ) :
    (nodes (encFold S wgx wgh bg wcx wch bc wgx' wgh' bg' wcx' wch' bc' X k).1, nodes (encFold S wgx wgh bg wcx wch bc wgx' wgh' bg' wcx' wch' bc' X k).2)
      = Spec.encFold A (cellW (w := 2) rfl wgx wgh bg wcx wch bc) (cellW (w := 64) rfl wgx' wgh' bg' wcx' wch' bc') (fun k => nodes (frameAt X k)) k := by
  induction k with
  | zero => exact congrArg₂ Prod.mk nodes_zero nodes_zero
  | succ k ih =>
    have e : Spec.encFold A (cellW (w := 2) rfl wgx wgh bg wcx wch bc) (cellW (w := 64) rfl wgx' wgh' bg' wcx' wch' bc') (fun k => nodes (frameAt X k)) (k + 1)
      = ((cellW (w := 2) rfl wgx wgh bg wcx wch bc).run A (nodes (frameAt X k)) (Spec.encFold A (cellW (w := 2) rfl wgx wgh bg wcx wch bc) (cellW (w := 64) rfl wgx' wgh' bg' wcx' wch' bc') (fun k => nodes (frameAt X k)) k).1,
        (cellW (w := 64) rfl wgx' wgh' bg' wcx' wch' bc').run A ((cellW (w := 2) rfl wgx wgh bg wcx wch bc).run A (nodes (frameAt X k)) (Spec.encFold A (cellW (w := 2) rfl wgx wgh bg wcx wch bc) (cellW (w := 64) rfl wgx' wgh' bg' wcx' wch' bc') (fun k => nodes (frameAt X k)) k).1)
          (Spec.encFold A (cellW (w := 2) rfl wgx wgh bg wcx wch bc) (cellW (w := 64) rfl wgx' wgh' bg' wcx' wch' bc') (fun k => nodes (frameAt X k)) k).2) := rfl
    rw [e, ← ih]
    show (nodes (cell2 S wgx wgh bg wcx wch bc (frameAt X k) _), nodes (cell64 S wgx' wgh' bg' wcx' wch' bc' (cell2 S wgx wgh bg wcx wch bc (frameAt X k) _) _)) = _
    rw [nodes_cell64 hS, nodes_cell2 hS]
    rfl

/-! ### The decoder -/

/-- The projection, at the nodes. -/
theorem nodes_project (pw : FVec Ideal S1x64 .f32) (pb : FVec Ideal S1x1 .f32) (h : FVec Ideal S3328x64 .f32) :
    nodes (project pw pb h) = Spec.project (fun c => pw (ix2 0 c)) (pb (ix2 0 0)) (nodes h) := by
  funext b n c
  obtain rfl : c = 0 := Subsingleton.elim _ _
  show project pw pb h (ix2 (row b n) 0) = ∑ c : Fin 64, h (ix2 (row b n) c) * pw (ix2 0 c) + pb (ix2 0 0)
  pointwise [project]

/-- A column of the result is the projection at its own step and what it was at the others. -/
theorem writeCol_apply (t : ℕ) (ht : t < 12) (p : FVec Ideal S3328x1 .f32) (o : FVec Ideal S3328x12 .f32) (r : Fin 3328) (j : Fin 12) :
    writeCol (Scf.iv 0#32 1#32 t) p o (ix2 r j) = if j.val = t then p (ix2 r 0) else o (ix2 r j) := by
  have e : writeCol (Scf.iv 0#32 1#32 t) p o (ix2 r j) = Scalar.select (IntOp.cmpi .eq (BitVec.ofNat 32 j.val) (Scf.iv 0#32 1#32 t)) (p (ix2 r 0)) (o (ix2 r j)) := by
    pointwise [writeCol]
  have h : ∀ t j : Fin 12, IntOp.cmpi .eq (BitVec.ofNat 32 j.val) (Scf.iv 0#32 1#32 t.val) = if j.val = t.val then 1#1 else 0#1 := by decide
  rw [e, h ⟨t, ht⟩ j]
  by_cases hj : j.val = t
  · simp [hj, Scalar.select]
  · simp [hj, Scalar.select]

section Decoder

variable {S : FVec Ideal S208x208 .f32} {A : Adj}
    (wgx : FVec Ideal S3x128 .f32) (wgh : FVec Ideal S192x128 .f32) (bg : FVec Ideal S1x128 .f32)
    (wcx : FVec Ideal S3x64 .f32) (wch : FVec Ideal S192x64 .f32) (bc : FVec Ideal S1x64 .f32)
    (wgx' : FVec Ideal S192x128 .f32) (wgh' : FVec Ideal S192x128 .f32) (bg' : FVec Ideal S1x128 .f32)
    (wcx' : FVec Ideal S192x64 .f32) (wch' : FVec Ideal S192x64 .f32) (bc' : FVec Ideal S1x64 .f32)
    (pw : FVec Ideal S1x64 .f32) (pb : FVec Ideal S1x1 .f32)
    (h0 h1 : FVec Ideal S3328x64 .f32)

/-- The decoder's arrays before step `k`, from its two states at the start. -/
abbrev dec (S : FVec Ideal S208x208 .f32) (k : ℕ) :=
  decFold S wgx wgh bg wcx wch bc wgx' wgh' bg' wcx' wch' bc' pw pb
    (h0, h1, broadcast S3328x1 (Scalar.ofBits .f32 0x00000000#32), broadcast S3328x12 (Scalar.ofBits .f32 0x00000000#32)) k

/-- The decoder's recursion on the nodes. -/
abbrev decSpec (A : Adj) (k : ℕ) :=
  Spec.decFold A (cellW (w := 1) rfl wgx wgh bg wcx wch bc) (cellW (w := 64) rfl wgx' wgh' bg' wcx' wch' bc') (fun c => pw (ix2 0 c)) (pb (ix2 0 0))
    (nodes h0, nodes h1) k

/-- The decoder's loop, at the nodes. -/
theorem nodes_decFold (hS : Holds S A) (k : ℕ) :
    (nodes (dec wgx wgh bg wcx wch bc wgx' wgh' bg' wcx' wch' bc' pw pb h0 h1 S k).1,
      nodes (dec wgx wgh bg wcx wch bc wgx' wgh' bg' wcx' wch' bc' pw pb h0 h1 S k).2.1,
      nodes (dec wgx wgh bg wcx wch bc wgx' wgh' bg' wcx' wch' bc' pw pb h0 h1 S k).2.2.1)
      = decSpec wgx wgh bg wcx wch bc wgx' wgh' bg' wcx' wch' bc' pw pb h0 h1 A k := by
  induction k with
  | zero => exact congrArg (fun z => (nodes h0, nodes h1, z)) nodes_zero
  | succ k ih =>
    generalize hD : dec wgx wgh bg wcx wch bc wgx' wgh' bg' wcx' wch' bc' pw pb h0 h1 S k = D at ih
    have e : dec wgx wgh bg wcx wch bc wgx' wgh' bg' wcx' wch' bc' pw pb h0 h1 S (k + 1)
        = (cell1 S wgx wgh bg wcx wch bc D.2.2.1 D.1, cell64 S wgx' wgh' bg' wcx' wch' bc' (cell1 S wgx wgh bg wcx wch bc D.2.2.1 D.1) D.2.1,
          project pw pb (cell64 S wgx' wgh' bg' wcx' wch' bc' (cell1 S wgx wgh bg wcx wch bc D.2.2.1 D.1) D.2.1),
          writeCol (Scf.iv 0#32 1#32 k) (project pw pb (cell64 S wgx' wgh' bg' wcx' wch' bc' (cell1 S wgx wgh bg wcx wch bc D.2.2.1 D.1) D.2.1)) D.2.2.2) := by
      rw [← hD]; rfl
    generalize hE : decSpec wgx wgh bg wcx wch bc wgx' wgh' bg' wcx' wch' bc' pw pb h0 h1 A k = E at ih
    have e' : decSpec wgx wgh bg wcx wch bc wgx' wgh' bg' wcx' wch' bc' pw pb h0 h1 A (k + 1)
        = ((cellW (w := 1) rfl wgx wgh bg wcx wch bc).run A E.2.2 E.1,
          (cellW (w := 64) rfl wgx' wgh' bg' wcx' wch' bc').run A ((cellW (w := 1) rfl wgx wgh bg wcx wch bc).run A E.2.2 E.1) E.2.1,
          Spec.project (fun c => pw (ix2 0 c)) (pb (ix2 0 0)) ((cellW (w := 64) rfl wgx' wgh' bg' wcx' wch' bc').run A ((cellW (w := 1) rfl wgx wgh bg wcx wch bc).run A E.2.2 E.1) E.2.1)) := by
      rw [← hE]; rfl
    rw [e, e', ← ih]
    dsimp only
    rw [nodes_project, nodes_cell64 hS, nodes_cell1 hS]
    rfl

/-- Column `t` of the result, once written, is the projection of step `t`. -/
theorem dec_out (hS : Holds S A) (b : Fin 16) (n : Fin 207) (t : Fin 12) (k : ℕ) (hk : k ≤ 12) (htk : t.val < k) :
    (dec wgx wgh bg wcx wch bc wgx' wgh' bg' wcx' wch' bc' pw pb h0 h1 S k).2.2.2 (ix2 (row b n) t)
      = (decSpec wgx wgh bg wcx wch bc wgx' wgh' bg' wcx' wch' bc' pw pb h0 h1 A (t.val + 1)).2.2 b n 0 := by
  induction k with
  | zero => exact absurd htk (Nat.not_lt_zero _)
  | succ k ih =>
    have e : (dec wgx wgh bg wcx wch bc wgx' wgh' bg' wcx' wch' bc' pw pb h0 h1 S (k + 1)).2.2.2
        = writeCol (Scf.iv 0#32 1#32 k) (dec wgx wgh bg wcx wch bc wgx' wgh' bg' wcx' wch' bc' pw pb h0 h1 S (k + 1)).2.2.1
          (dec wgx wgh bg wcx wch bc wgx' wgh' bg' wcx' wch' bc' pw pb h0 h1 S k).2.2.2 := rfl
    rw [e, writeCol_apply k (by omega)]
    by_cases h : t.val = k
    · rw [if_pos h, h, ← nodes_decFold wgx wgh bg wcx wch bc wgx' wgh' bg' wcx' wch' bc' pw pb h0 h1 hS (k + 1)]
      rfl
    · rw [if_neg h]
      exact ih (by omega) (by omega)

end Decoder

end Cert.Proof.KernelIdeal
-- ==== Proof.KPrep.lean ====
/-
  The weights as the kernel's host code prepares them: of a convolution's weights every third row, cut into the rows of
  the input and the rows of the state, the three diffusion terms stacked. Read entry by entry.
-/
module

public import proofs.«01_k».proof.Proof.KReadLoops
public import proofs.«01_k».proof.Proof.KernelIdealRun

@[expose] public section

set_option maxRecDepth 16384

noncomputable section

namespace Cert.Proof.KernelIdeal

open Cert.KernelIdeal Cert.KernelIdeal.Gen
open Idealize.ShloMosaic
open Cert.Proof.Spec (Nodes Adj Wts CellW)

/-- The shape of a matrix of `r` rows and `o` columns. -/
abbrev mat (r o : ℕ) : Shape := ⟨2, ![r, o]⟩

/-- Of a matrix every third row, from the row `m` on; of those the `n` rows after the first `off`. -/
abbrev thirdRows {F : FTy → Type} {g c o : ℕ} (n off m : ℕ) (W : Vec F (mat g o) .f32)
    (h : (mat g o).SlicesBy (![m, 0] : Fin 2 → ℕ) ![3, 1] (mat c o)) (hs : (mat c o).Slices ![off, 0] (mat n o)) : Vec F (mat n o) .f32 :=
  extractStridedSlice (mat n o) ![off, 0] (Host.slice (mat c o) ![m, 0] ![3, 1] W h) hs

/-- Those rows for `m` = 0, 1 and 2, stacked. -/
abbrev rows3 {F : FTy → Type} {g c o : ℕ} (n K off : ℕ) (W : Vec F (mat g o) .f32)
    (h0 : (mat g o).SlicesBy (![0, 0] : Fin 2 → ℕ) ![3, 1] (mat c o)) (h1 : (mat g o).SlicesBy (![1, 0] : Fin 2 → ℕ) ![3, 1] (mat c o))
    (h2 : (mat g o).SlicesBy (![2, 0] : Fin 2 → ℕ) ![3, 1] (mat c o)) (hs : (mat c o).Slices ![off, 0] (mat n o))
    (hc : Shape.Concatenates [mat n o, mat n o, mat n o] (mat K o) 0) : Vec F (mat K o) .f32 :=
  concatenate (mat K o) 0 [⟨mat n o, thirdRows n off 0 W h0 hs⟩, ⟨mat n o, thirdRows n off 1 W h1 hs⟩, ⟨mat n o, thirdRows n off 2 W h2 hs⟩] hc

/-- Entry by entry: the row `a` after the first `off` of every third row from `m` on is the matrix's row `3 * (off + a) + m`. -/
theorem thirdRows_apply {g c o : ℕ} (n off m : ℕ) (W : Vec Ideal (mat g o) .f32)
    (h : (mat g o).SlicesBy (![m, 0] : Fin 2 → ℕ) ![3, 1] (mat c o)) (hs : (mat c o).Slices ![off, 0] (mat n o))
    (a : Fin n) (k : Fin o) (q : Fin g) (hq : q.val = 3 * (off + a.val) + m) : thirdRows n off m W h hs (ix2 a k) = W (ix2 q k) := by
  refine (Host.slice_apply _ _ W h _).trans (congrArg W (funext fun b => Fin.ext ?_))
  match b with
  | 0 => show m + 3 * (off + a.val) = q.val
         omega
  | 1 => show 0 + 1 * (0 + k.val) = k.val
         omega

/-- Entry by entry: row `a` of the part `m` of the stack is the matrix's row `3 * (off + a) + m`. -/
theorem rows3_apply {g c o : ℕ} (n K off : ℕ) (W : Vec Ideal (mat g o) .f32)
    (h0 : (mat g o).SlicesBy (![0, 0] : Fin 2 → ℕ) ![3, 1] (mat c o)) (h1 : (mat g o).SlicesBy (![1, 0] : Fin 2 → ℕ) ![3, 1] (mat c o))
    (h2 : (mat g o).SlicesBy (![2, 0] : Fin 2 → ℕ) ![3, 1] (mat c o)) (hs : (mat c o).Slices ![off, 0] (mat n o))
    (hc : Shape.Concatenates [mat n o, mat n o, mat n o] (mat K o) 0)
    (m : Fin 3) (a : Fin n) (k : Fin o) (p : Fin K) (hp : p.val = n * m.val + a.val) (q : Fin g) (hq : q.val = 3 * (off + a.val) + m.val) :
    rows3 n K off W h0 h1 h2 hs hc (ix2 p k) = W (ix2 q k) := by
  have hn : 0 < n := lt_of_le_of_lt (Nat.zero_le _) a.isLt
  refine (concatenate_ofFn_apply (s₁ := mat n o) (t := mat K o) 0
    ![thirdRows n off 0 W h0 hs, thirdRows n off 1 W h1 hs, thirdRows n off 2 W h2 hs] hc rfl n rfl (ix2 p k) m
    (show p.val / n = m.val by rw [hp, Nat.mul_add_div hn, Nat.div_eq_of_lt a.isLt, Nat.add_zero]) (ix2 a k)
    (show a.val = p.val % n by rw [hp, Nat.mul_add_mod, Nat.mod_eq_of_lt a.isLt])
    (fun b hb => by match b with | 0 => exact absurd rfl hb | 1 => rfl)).trans ?_
  match m with
  | 0 => exact thirdRows_apply n off 0 W h0 hs a k q hq
  | 1 => exact thirdRows_apply n off 1 W h1 hs a k q hq
  | 2 => exact thirdRows_apply n off 2 W h2 hs a k q hq

/-- Of the gates' weights of a cell whose input has width 2: the input's rows, stacked by diffusion term. -/
def xRows2_128 {F : FTy → Type} (W : Vec F S198x128 .f32) : Vec F S6x128 .f32 :=
  rows3 2 6 0 W slicesBy_S198x128_S66x128_0s3_0s1 slicesBy_S198x128_S66x128_1s3_0s1 slicesBy_S198x128_S66x128_2s3_0s1
    slices_S66x128_S2x128_0_0 concatenates_S2x128_S2x128_S2x128_S6x128_d0

/-- Entry by entry: row `c` of term `m` is the weights' row `3 * (0 + c) + m`. -/
theorem xRows2_128_apply (W : Vec Ideal S198x128 .f32) (m : Fin 3) (c : Fin 2) (k : Fin 128) :
    xRows2_128 W (ix2 (⟨2 * m.val + c.val, by omega⟩ : Fin 6) k) = W (ix2 (⟨3 * (0 + c.val) + m.val, by omega⟩ : Fin 198) k) :=
  rows3_apply 2 6 0 W _ _ _ _
    concatenates_S2x128_S2x128_S2x128_S6x128_d0 m c k _ rfl _ rfl

/-- Of the gates' weights of a cell whose input has width 2: the state's rows, stacked by diffusion term. -/
def hRows2_128 {F : FTy → Type} (W : Vec F S198x128 .f32) : Vec F S192x128 .f32 :=
  rows3 64 192 2 W slicesBy_S198x128_S66x128_0s3_0s1 slicesBy_S198x128_S66x128_1s3_0s1 slicesBy_S198x128_S66x128_2s3_0s1
    slices_S66x128_S64x128_2_0 concatenates_S64x128_S64x128_S64x128_S192x128_d0

/-- Entry by entry: row `c` of term `m` is the weights' row `3 * (2 + c) + m`. -/
theorem hRows2_128_apply (W : Vec Ideal S198x128 .f32) (m : Fin 3) (c : Fin 64) (k : Fin 128) :
    hRows2_128 W (ix2 (⟨64 * m.val + c.val, by omega⟩ : Fin 192) k) = W (ix2 (⟨3 * (2 + c.val) + m.val, by omega⟩ : Fin 198) k) :=
  rows3_apply 64 192 2 W _ _ _ _
    concatenates_S64x128_S64x128_S64x128_S192x128_d0 m c k _ rfl _ rfl

/-- Of the candidate's weights of a cell whose input has width 2: the input's rows, stacked by diffusion term. -/
def xRows2_64 {F : FTy → Type} (W : Vec F S198x64 .f32) : Vec F S6x64 .f32 :=
  rows3 2 6 0 W slicesBy_S198x64_S66x64_0s3_0s1 slicesBy_S198x64_S66x64_1s3_0s1 slicesBy_S198x64_S66x64_2s3_0s1
    slices_S66x64_S2x64_0_0 concatenates_S2x64_S2x64_S2x64_S6x64_d0

/-- Entry by entry: row `c` of term `m` is the weights' row `3 * (0 + c) + m`. -/
theorem xRows2_64_apply (W : Vec Ideal S198x64 .f32) (m : Fin 3) (c : Fin 2) (k : Fin 64) :
    xRows2_64 W (ix2 (⟨2 * m.val + c.val, by omega⟩ : Fin 6) k) = W (ix2 (⟨3 * (0 + c.val) + m.val, by omega⟩ : Fin 198) k) :=
  rows3_apply 2 6 0 W _ _ _ _
    concatenates_S2x64_S2x64_S2x64_S6x64_d0 m c k _ rfl _ rfl

/-- Of the candidate's weights of a cell whose input has width 2: the state's rows, stacked by diffusion term. -/
def hRows2_64 {F : FTy → Type} (W : Vec F S198x64 .f32) : Vec F S192x64 .f32 :=
  rows3 64 192 2 W slicesBy_S198x64_S66x64_0s3_0s1 slicesBy_S198x64_S66x64_1s3_0s1 slicesBy_S198x64_S66x64_2s3_0s1
    slices_S66x64_S64x64_2_0 concatenates_S64x64_S64x64_S64x64_S192x64_d0

/-- Entry by entry: row `c` of term `m` is the weights' row `3 * (2 + c) + m`. -/
theorem hRows2_64_apply (W : Vec Ideal S198x64 .f32) (m : Fin 3) (c : Fin 64) (k : Fin 64) :
    hRows2_64 W (ix2 (⟨64 * m.val + c.val, by omega⟩ : Fin 192) k) = W (ix2 (⟨3 * (2 + c.val) + m.val, by omega⟩ : Fin 198) k) :=
  rows3_apply 64 192 2 W _ _ _ _
    concatenates_S64x64_S64x64_S64x64_S192x64_d0 m c k _ rfl _ rfl

/-- Of the gates' weights of a cell whose input has width 64: the input's rows, stacked by diffusion term. -/
def xRows64_128 {F : FTy → Type} (W : Vec F S384x128 .f32) : Vec F S192x128 .f32 :=
  rows3 64 192 0 W slicesBy_S384x128_S128x128_0s3_0s1 slicesBy_S384x128_S128x128_1s3_0s1 slicesBy_S384x128_S128x128_2s3_0s1
    slices_S128x128_S64x128_0_0 concatenates_S64x128_S64x128_S64x128_S192x128_d0

/-- Entry by entry: row `c` of term `m` is the weights' row `3 * (0 + c) + m`. -/
theorem xRows64_128_apply (W : Vec Ideal S384x128 .f32) (m : Fin 3) (c : Fin 64) (k : Fin 128) :
    xRows64_128 W (ix2 (⟨64 * m.val + c.val, by omega⟩ : Fin 192) k) = W (ix2 (⟨3 * (0 + c.val) + m.val, by omega⟩ : Fin 384) k) :=
  rows3_apply 64 192 0 W _ _ _ _
    concatenates_S64x128_S64x128_S64x128_S192x128_d0 m c k _ rfl _ rfl

/-- Of the gates' weights of a cell whose input has width 64: the state's rows, stacked by diffusion term. -/
def hRows64_128 {F : FTy → Type} (W : Vec F S384x128 .f32) : Vec F S192x128 .f32 :=
  rows3 64 192 64 W slicesBy_S384x128_S128x128_0s3_0s1 slicesBy_S384x128_S128x128_1s3_0s1 slicesBy_S384x128_S128x128_2s3_0s1
    slices_S128x128_S64x128_64_0 concatenates_S64x128_S64x128_S64x128_S192x128_d0

/-- Entry by entry: row `c` of term `m` is the weights' row `3 * (64 + c) + m`. -/
theorem hRows64_128_apply (W : Vec Ideal S384x128 .f32) (m : Fin 3) (c : Fin 64) (k : Fin 128) :
    hRows64_128 W (ix2 (⟨64 * m.val + c.val, by omega⟩ : Fin 192) k) = W (ix2 (⟨3 * (64 + c.val) + m.val, by omega⟩ : Fin 384) k) :=
  rows3_apply 64 192 64 W _ _ _ _
    concatenates_S64x128_S64x128_S64x128_S192x128_d0 m c k _ rfl _ rfl

/-- Of the candidate's weights of a cell whose input has width 64: the input's rows, stacked by diffusion term. -/
def xRows64_64 {F : FTy → Type} (W : Vec F S384x64 .f32) : Vec F S192x64 .f32 :=
  rows3 64 192 0 W slicesBy_S384x64_S128x64_0s3_0s1 slicesBy_S384x64_S128x64_1s3_0s1 slicesBy_S384x64_S128x64_2s3_0s1
    slices_S128x64_S64x64_0_0 concatenates_S64x64_S64x64_S64x64_S192x64_d0

/-- Entry by entry: row `c` of term `m` is the weights' row `3 * (0 + c) + m`. -/
theorem xRows64_64_apply (W : Vec Ideal S384x64 .f32) (m : Fin 3) (c : Fin 64) (k : Fin 64) :
    xRows64_64 W (ix2 (⟨64 * m.val + c.val, by omega⟩ : Fin 192) k) = W (ix2 (⟨3 * (0 + c.val) + m.val, by omega⟩ : Fin 384) k) :=
  rows3_apply 64 192 0 W _ _ _ _
    concatenates_S64x64_S64x64_S64x64_S192x64_d0 m c k _ rfl _ rfl

/-- Of the candidate's weights of a cell whose input has width 64: the state's rows, stacked by diffusion term. -/
def hRows64_64 {F : FTy → Type} (W : Vec F S384x64 .f32) : Vec F S192x64 .f32 :=
  rows3 64 192 64 W slicesBy_S384x64_S128x64_0s3_0s1 slicesBy_S384x64_S128x64_1s3_0s1 slicesBy_S384x64_S128x64_2s3_0s1
    slices_S128x64_S64x64_64_0 concatenates_S64x64_S64x64_S64x64_S192x64_d0

/-- Entry by entry: row `c` of term `m` is the weights' row `3 * (64 + c) + m`. -/
theorem hRows64_64_apply (W : Vec Ideal S384x64 .f32) (m : Fin 3) (c : Fin 64) (k : Fin 64) :
    hRows64_64 W (ix2 (⟨64 * m.val + c.val, by omega⟩ : Fin 192) k) = W (ix2 (⟨3 * (64 + c.val) + m.val, by omega⟩ : Fin 384) k) :=
  rows3_apply 64 192 64 W _ _ _ _
    concatenates_S64x64_S64x64_S64x64_S192x64_d0 m c k _ rfl _ rfl

/-- Of the gates' weights of a cell whose input has width 1: the input's rows, stacked by diffusion term. -/
def xRows1_128 {F : FTy → Type} (W : Vec F S195x128 .f32) : Vec F S3x128 .f32 :=
  rows3 1 3 0 W slicesBy_S195x128_S65x128_0s3_0s1 slicesBy_S195x128_S65x128_1s3_0s1 slicesBy_S195x128_S65x128_2s3_0s1
    slices_S65x128_S1x128_0_0 concatenates_S1x128_S1x128_S1x128_S3x128_d0

/-- Entry by entry: row `c` of term `m` is the weights' row `3 * (0 + c) + m`. -/
theorem xRows1_128_apply (W : Vec Ideal S195x128 .f32) (m : Fin 3) (c : Fin 1) (k : Fin 128) :
    xRows1_128 W (ix2 (⟨1 * m.val + c.val, by omega⟩ : Fin 3) k) = W (ix2 (⟨3 * (0 + c.val) + m.val, by omega⟩ : Fin 195) k) :=
  rows3_apply 1 3 0 W _ _ _ _
    concatenates_S1x128_S1x128_S1x128_S3x128_d0 m c k _ rfl _ rfl

/-- Of the gates' weights of a cell whose input has width 1: the state's rows, stacked by diffusion term. -/
def hRows1_128 {F : FTy → Type} (W : Vec F S195x128 .f32) : Vec F S192x128 .f32 :=
  rows3 64 192 1 W slicesBy_S195x128_S65x128_0s3_0s1 slicesBy_S195x128_S65x128_1s3_0s1 slicesBy_S195x128_S65x128_2s3_0s1
    slices_S65x128_S64x128_1_0 concatenates_S64x128_S64x128_S64x128_S192x128_d0

/-- Entry by entry: row `c` of term `m` is the weights' row `3 * (1 + c) + m`. -/
theorem hRows1_128_apply (W : Vec Ideal S195x128 .f32) (m : Fin 3) (c : Fin 64) (k : Fin 128) :
    hRows1_128 W (ix2 (⟨64 * m.val + c.val, by omega⟩ : Fin 192) k) = W (ix2 (⟨3 * (1 + c.val) + m.val, by omega⟩ : Fin 195) k) :=
  rows3_apply 64 192 1 W _ _ _ _
    concatenates_S64x128_S64x128_S64x128_S192x128_d0 m c k _ rfl _ rfl

/-- Of the candidate's weights of a cell whose input has width 1: the input's rows, stacked by diffusion term. -/
def xRows1_64 {F : FTy → Type} (W : Vec F S195x64 .f32) : Vec F S3x64 .f32 :=
  rows3 1 3 0 W slicesBy_S195x64_S65x64_0s3_0s1 slicesBy_S195x64_S65x64_1s3_0s1 slicesBy_S195x64_S65x64_2s3_0s1
    slices_S65x64_S1x64_0_0 concatenates_S1x64_S1x64_S1x64_S3x64_d0

/-- Entry by entry: row `c` of term `m` is the weights' row `3 * (0 + c) + m`. -/
theorem xRows1_64_apply (W : Vec Ideal S195x64 .f32) (m : Fin 3) (c : Fin 1) (k : Fin 64) :
    xRows1_64 W (ix2 (⟨1 * m.val + c.val, by omega⟩ : Fin 3) k) = W (ix2 (⟨3 * (0 + c.val) + m.val, by omega⟩ : Fin 195) k) :=
  rows3_apply 1 3 0 W _ _ _ _
    concatenates_S1x64_S1x64_S1x64_S3x64_d0 m c k _ rfl _ rfl

/-- Of the candidate's weights of a cell whose input has width 1: the state's rows, stacked by diffusion term. -/
def hRows1_64 {F : FTy → Type} (W : Vec F S195x64 .f32) : Vec F S192x64 .f32 :=
  rows3 64 192 1 W slicesBy_S195x64_S65x64_0s3_0s1 slicesBy_S195x64_S65x64_1s3_0s1 slicesBy_S195x64_S65x64_2s3_0s1
    slices_S65x64_S64x64_1_0 concatenates_S64x64_S64x64_S64x64_S192x64_d0

/-- Entry by entry: row `c` of term `m` is the weights' row `3 * (1 + c) + m`. -/
theorem hRows1_64_apply (W : Vec Ideal S195x64 .f32) (m : Fin 3) (c : Fin 64) (k : Fin 64) :
    hRows1_64 W (ix2 (⟨64 * m.val + c.val, by omega⟩ : Fin 192) k) = W (ix2 (⟨3 * (1 + c.val) + m.val, by omega⟩ : Fin 195) k) :=
  rows3_apply 64 192 1 W _ _ _ _
    concatenates_S64x64_S64x64_S64x64_S192x64_d0 m c k _ rfl _ rfl

end Cert.Proof.KernelIdeal
-- ==== Proof.KValue.lean ====
/-
  The kernel's result as a term of its arguments: each window of the one launch holds the whole of the array the host
  code prepared, the result array holds what the body leaves, and the host code after the launch cuts the result from it.
-/
module

public import proofs.«01_k».proof.Proof.KPrep
public import Idealize.ShloMosaic.Lib.StableHlo.RunRead

@[expose] public section

set_option maxRecDepth 16384
set_option maxHeartbeats 1000000

noncomputable section

namespace Cert.Proof.KernelIdeal

open Cert.KernelIdeal Cert.KernelIdeal.Gen
open Idealize.ShloMosaic Idealize.ShloMosaic.TcCoe

/-- The input as the kernel takes it: by time step, the nodes of each batch entry followed by one row of zeros. -/
def steps {F : FTy → Type} [FloatOps F] (x : Vec F S16x12x207x2 .f32) : Vec F S12x3328x2 .f32 :=
  shapeCast S12x3328x2 (pad S12x16x208x2 ![0, 0, 0, 0] ![0, 0, 1, 0] ![0, 0, 0, 0]
    (transpose S12x16x207x2 [1, 0, 2, 3] x transposes_S16x12x207x2_S12x16x207x2_1_0_2_3) (sitofp .f32 (constantI S_ 32 0#32))
    pads_S12x16x207x2_S12x16x208x2_000_000_010_000 h_S_) shapeCasts_S12x16x208x2_S12x3328x2

/-- The result as the host code cuts it from the launch's array: a batch entry's rows by time step, without its last row. -/
def cutOut {F : FTy → Type} (o : Vec F S3328x12 .f32) : Vec F S16x12x207x1 .f32 :=
  broadcastInDim S16x12x207x1 ![0, 1, 2] bcast_S16x12x207_S16x12x207x1_0_1_2
    (extractStridedSlice S16x12x207 ![0, 0, 0]
      (transpose S16x12x208 [0, 2, 1] (shapeCast S16x208x12 o shapeCasts_S3328x12_S16x208x12) transposes_S16x208x12_S16x12x208_0_2_1)
      slices_S16x12x208_S16x12x207_0_0_0)

variable {F : FTy → Type} [FloatOps F]
variable (m : (ℓ : Loc nD τ sig) → Buf (Elt F) ℓ)

/-! ### The arrays the host code prepares -/

/-- What the array v2 holds at the launch, written out of the program's arguments. -/
theorem V_v2 (c : Dev nD) : V m c main_v2 = steps (m ((c : Thread nD τ).loc main_arg0)) := by
  unfold V V0
  after_reads_simp
  rfl

/-- What the array v91 holds at the launch, written out of the program's arguments. -/
theorem V_v91 (c : Dev nD) : V m c main_v91 = transpose S2x192 [1, 0] (m ((c : Thread nD τ).loc main_arg19)) transposes_S192x2_S2x192_1_0 := by
  unfold V V0
  after_reads_simp

/-- What the array v92 holds at the launch, written out of the program's arguments. -/
theorem V_v92 (c : Dev nD) : V m c main_v92 = transpose S64x192 [1, 0] (m ((c : Thread nD τ).loc main_arg20)) transposes_S192x64_S64x192_1_0 := by
  unfold V V0
  after_reads_simp

/-- What the array v93 holds at the launch, written out of the program's arguments. -/
theorem V_v93 (c : Dev nD) : V m c main_v93 = broadcastInDim S1x192 ![1] bcast_S192_S1x192_1 (m ((c : Thread nD τ).loc main_arg21)) := by
  unfold V V0
  after_reads_simp

/-- What the array v94 holds at the launch, written out of the program's arguments. -/
theorem V_v94 (c : Dev nD) : V m c main_v94 = broadcastInDim S1x192 ![1] bcast_S192_S1x192_1 (m ((c : Thread nD τ).loc main_arg22)) := by
  unfold V V0
  after_reads_simp

/-- What the array v9 holds at the launch, written out of the program's arguments. -/
theorem V_v9 (c : Dev nD) : V m c main_v9 = xRows2_128 (m ((c : Thread nD τ).loc main_arg1)) := by
  unfold V V0
  after_reads_simp
  rfl

/-- What the array v13 holds at the launch, written out of the program's arguments. -/
theorem V_v13 (c : Dev nD) : V m c main_v13 = hRows2_128 (m ((c : Thread nD τ).loc main_arg1)) := by
  unfold V V0
  after_reads_simp
  rfl

/-- What the array v95 holds at the launch, written out of the program's arguments. -/
theorem V_v95 (c : Dev nD) : V m c main_v95 = broadcastInDim S1x128 ![1] bcast_S128_S1x128_1 (m ((c : Thread nD τ).loc main_arg2)) := by
  unfold V V0
  after_reads_simp

/-- What the array v20 holds at the launch, written out of the program's arguments. -/
theorem V_v20 (c : Dev nD) : V m c main_v20 = xRows2_64 (m ((c : Thread nD τ).loc main_arg3)) := by
  unfold V V0
  after_reads_simp
  rfl

/-- What the array v24 holds at the launch, written out of the program's arguments. -/
theorem V_v24 (c : Dev nD) : V m c main_v24 = hRows2_64 (m ((c : Thread nD τ).loc main_arg3)) := by
  unfold V V0
  after_reads_simp
  rfl

/-- What the array v96 holds at the launch, written out of the program's arguments. -/
theorem V_v96 (c : Dev nD) : V m c main_v96 = broadcastInDim S1x64 ![1] bcast_S64_S1x64_1 (m ((c : Thread nD τ).loc main_arg4)) := by
  unfold V V0
  after_reads_simp

/-- What the array v31 holds at the launch, written out of the program's arguments. -/
theorem V_v31 (c : Dev nD) : V m c main_v31 = xRows64_128 (m ((c : Thread nD τ).loc main_arg5)) := by
  unfold V V0
  after_reads_simp
  rfl

/-- What the array v35 holds at the launch, written out of the program's arguments. -/
theorem V_v35 (c : Dev nD) : V m c main_v35 = hRows64_128 (m ((c : Thread nD τ).loc main_arg5)) := by
  unfold V V0
  after_reads_simp
  rfl

/-- What the array v97 holds at the launch, written out of the program's arguments. -/
theorem V_v97 (c : Dev nD) : V m c main_v97 = broadcastInDim S1x128 ![1] bcast_S128_S1x128_1 (m ((c : Thread nD τ).loc main_arg6)) := by
  unfold V V0
  after_reads_simp

/-- What the array v42 holds at the launch, written out of the program's arguments. -/
theorem V_v42 (c : Dev nD) : V m c main_v42 = xRows64_64 (m ((c : Thread nD τ).loc main_arg7)) := by
  unfold V V0
  after_reads_simp
  rfl

/-- What the array v46 holds at the launch, written out of the program's arguments. -/
theorem V_v46 (c : Dev nD) : V m c main_v46 = hRows64_64 (m ((c : Thread nD τ).loc main_arg7)) := by
  unfold V V0
  after_reads_simp
  rfl

/-- What the array v98 holds at the launch, written out of the program's arguments. -/
theorem V_v98 (c : Dev nD) : V m c main_v98 = broadcastInDim S1x64 ![1] bcast_S64_S1x64_1 (m ((c : Thread nD τ).loc main_arg8)) := by
  unfold V V0
  after_reads_simp

/-- What the array v53 holds at the launch, written out of the program's arguments. -/
theorem V_v53 (c : Dev nD) : V m c main_v53 = xRows1_128 (m ((c : Thread nD τ).loc main_arg9)) := by
  unfold V V0
  after_reads_simp
  rfl

/-- What the array v57 holds at the launch, written out of the program's arguments. -/
theorem V_v57 (c : Dev nD) : V m c main_v57 = hRows1_128 (m ((c : Thread nD τ).loc main_arg9)) := by
  unfold V V0
  after_reads_simp
  rfl

/-- What the array v99 holds at the launch, written out of the program's arguments. -/
theorem V_v99 (c : Dev nD) : V m c main_v99 = broadcastInDim S1x128 ![1] bcast_S128_S1x128_1 (m ((c : Thread nD τ).loc main_arg10)) := by
  unfold V V0
  after_reads_simp

/-- What the array v64 holds at the launch, written out of the program's arguments. -/
theorem V_v64 (c : Dev nD) : V m c main_v64 = xRows1_64 (m ((c : Thread nD τ).loc main_arg11)) := by
  unfold V V0
  after_reads_simp
  rfl

/-- What the array v68 holds at the launch, written out of the program's arguments. -/
theorem V_v68 (c : Dev nD) : V m c main_v68 = hRows1_64 (m ((c : Thread nD τ).loc main_arg11)) := by
  unfold V V0
  after_reads_simp
  rfl

/-- What the array v100 holds at the launch, written out of the program's arguments. -/
theorem V_v100 (c : Dev nD) : V m c main_v100 = broadcastInDim S1x64 ![1] bcast_S64_S1x64_1 (m ((c : Thread nD τ).loc main_arg12)) := by
  unfold V V0
  after_reads_simp

/-- What the array v75 holds at the launch, written out of the program's arguments. -/
theorem V_v75 (c : Dev nD) : V m c main_v75 = xRows64_128 (m ((c : Thread nD τ).loc main_arg13)) := by
  unfold V V0
  after_reads_simp
  rfl

/-- What the array v79 holds at the launch, written out of the program's arguments. -/
theorem V_v79 (c : Dev nD) : V m c main_v79 = hRows64_128 (m ((c : Thread nD τ).loc main_arg13)) := by
  unfold V V0
  after_reads_simp
  rfl

/-- What the array v101 holds at the launch, written out of the program's arguments. -/
theorem V_v101 (c : Dev nD) : V m c main_v101 = broadcastInDim S1x128 ![1] bcast_S128_S1x128_1 (m ((c : Thread nD τ).loc main_arg14)) := by
  unfold V V0
  after_reads_simp

/-- What the array v86 holds at the launch, written out of the program's arguments. -/
theorem V_v86 (c : Dev nD) : V m c main_v86 = xRows64_64 (m ((c : Thread nD τ).loc main_arg15)) := by
  unfold V V0
  after_reads_simp
  rfl

/-- What the array v90 holds at the launch, written out of the program's arguments. -/
theorem V_v90 (c : Dev nD) : V m c main_v90 = hRows64_64 (m ((c : Thread nD τ).loc main_arg15)) := by
  unfold V V0
  after_reads_simp
  rfl

/-- What the array v102 holds at the launch, written out of the program's arguments. -/
theorem V_v102 (c : Dev nD) : V m c main_v102 = broadcastInDim S1x64 ![1] bcast_S64_S1x64_1 (m ((c : Thread nD τ).loc main_arg16)) := by
  unfold V V0
  after_reads_simp

/-- What the array v103 holds at the launch, written out of the program's arguments. -/
theorem V_v103 (c : Dev nD) : V m c main_v103 = transpose S1x64 [1, 0] (m ((c : Thread nD τ).loc main_arg17)) transposes_S64x1_S1x64_1_0 := by
  unfold V V0
  after_reads_simp

/-- What the array v104 holds at the launch, written out of the program's arguments. -/
theorem V_v104 (c : Dev nD) : V m c main_v104 = shapeCast S1x1 (m ((c : Thread nD τ).loc main_arg18)) shapeCasts_S1_S1x1 := by
  unfold V V0
  after_reads_simp
  rfl

/-! ### The windows' blocks -/

/-- What the kernel reads as its operand 0, written out of the program's arguments. -/
theorem iblk_0 (c : Dev nD) : iblk m c 0 t0_0 = steps (m ((c : Thread nD τ).loc main_arg0)) :=
  (Memref.read_access_unit_zero (Elt F) main_v2 (funext fun a => Nat.zero_mul _) (fun a => by fin_cases a <;> decide) _).trans (V_v2 m c)

/-- What the kernel reads as its operand 1, written out of the program's arguments. -/
theorem iblk_1 (c : Dev nD) : iblk m c 1 t0_0 = transpose S2x192 [1, 0] (m ((c : Thread nD τ).loc main_arg19)) transposes_S192x2_S2x192_1_0 :=
  (Memref.read_access_unit_zero (Elt F) main_v91 (funext fun a => Nat.zero_mul _) (fun a => by fin_cases a <;> decide) _).trans (V_v91 m c)

/-- What the kernel reads as its operand 2, written out of the program's arguments. -/
theorem iblk_2 (c : Dev nD) : iblk m c 2 t0_0 = transpose S64x192 [1, 0] (m ((c : Thread nD τ).loc main_arg20)) transposes_S192x64_S64x192_1_0 :=
  (Memref.read_access_unit_zero (Elt F) main_v92 (funext fun a => Nat.zero_mul _) (fun a => by fin_cases a <;> decide) _).trans (V_v92 m c)

/-- What the kernel reads as its operand 3, written out of the program's arguments. -/
theorem iblk_3 (c : Dev nD) : iblk m c 3 t0_0 = broadcastInDim S1x192 ![1] bcast_S192_S1x192_1 (m ((c : Thread nD τ).loc main_arg21)) :=
  (Memref.read_access_unit_zero (Elt F) main_v93 (funext fun a => Nat.zero_mul _) (fun a => by fin_cases a <;> decide) _).trans (V_v93 m c)

/-- What the kernel reads as its operand 4, written out of the program's arguments. -/
theorem iblk_4 (c : Dev nD) : iblk m c 4 t0_0 = broadcastInDim S1x192 ![1] bcast_S192_S1x192_1 (m ((c : Thread nD τ).loc main_arg22)) :=
  (Memref.read_access_unit_zero (Elt F) main_v94 (funext fun a => Nat.zero_mul _) (fun a => by fin_cases a <;> decide) _).trans (V_v94 m c)

/-- What the kernel reads as its operand 5, written out of the program's arguments. -/
theorem iblk_5 (c : Dev nD) : iblk m c 5 t0_0 = (m ((c : Thread nD τ).loc main_arg23)) :=
  (Memref.read_access_unit_zero (Elt F) main_arg23 (funext fun a => Nat.zero_mul _) (fun a => by fin_cases a <;> decide) _).trans (V_main_arg23 m c)

/-- What the kernel reads as its operand 6, written out of the program's arguments. -/
theorem iblk_6 (c : Dev nD) : iblk m c 6 t0_0 = (m ((c : Thread nD τ).loc main_arg24)) :=
  (Memref.read_access_unit_zero (Elt F) main_arg24 (funext fun a => Nat.zero_mul _) (fun a => by fin_cases a <;> decide) _).trans (V_main_arg24 m c)

/-- What the kernel reads as its operand 7, written out of the program's arguments. -/
theorem iblk_7 (c : Dev nD) : iblk m c 7 t0_0 = xRows2_128 (m ((c : Thread nD τ).loc main_arg1)) :=
  (Memref.read_access_unit_zero (Elt F) main_v9 (funext fun a => Nat.zero_mul _) (fun a => by fin_cases a <;> decide) _).trans (V_v9 m c)

/-- What the kernel reads as its operand 8, written out of the program's arguments. -/
theorem iblk_8 (c : Dev nD) : iblk m c 8 t0_0 = hRows2_128 (m ((c : Thread nD τ).loc main_arg1)) :=
  (Memref.read_access_unit_zero (Elt F) main_v13 (funext fun a => Nat.zero_mul _) (fun a => by fin_cases a <;> decide) _).trans (V_v13 m c)

/-- What the kernel reads as its operand 9, written out of the program's arguments. -/
theorem iblk_9 (c : Dev nD) : iblk m c 9 t0_0 = broadcastInDim S1x128 ![1] bcast_S128_S1x128_1 (m ((c : Thread nD τ).loc main_arg2)) :=
  (Memref.read_access_unit_zero (Elt F) main_v95 (funext fun a => Nat.zero_mul _) (fun a => by fin_cases a <;> decide) _).trans (V_v95 m c)

/-- What the kernel reads as its operand 10, written out of the program's arguments. -/
theorem iblk_10 (c : Dev nD) : iblk m c 10 t0_0 = xRows2_64 (m ((c : Thread nD τ).loc main_arg3)) :=
  (Memref.read_access_unit_zero (Elt F) main_v20 (funext fun a => Nat.zero_mul _) (fun a => by fin_cases a <;> decide) _).trans (V_v20 m c)

/-- What the kernel reads as its operand 11, written out of the program's arguments. -/
theorem iblk_11 (c : Dev nD) : iblk m c 11 t0_0 = hRows2_64 (m ((c : Thread nD τ).loc main_arg3)) :=
  (Memref.read_access_unit_zero (Elt F) main_v24 (funext fun a => Nat.zero_mul _) (fun a => by fin_cases a <;> decide) _).trans (V_v24 m c)

/-- What the kernel reads as its operand 12, written out of the program's arguments. -/
theorem iblk_12 (c : Dev nD) : iblk m c 12 t0_0 = broadcastInDim S1x64 ![1] bcast_S64_S1x64_1 (m ((c : Thread nD τ).loc main_arg4)) :=
  (Memref.read_access_unit_zero (Elt F) main_v96 (funext fun a => Nat.zero_mul _) (fun a => by fin_cases a <;> decide) _).trans (V_v96 m c)

/-- What the kernel reads as its operand 13, written out of the program's arguments. -/
theorem iblk_13 (c : Dev nD) : iblk m c 13 t0_0 = xRows64_128 (m ((c : Thread nD τ).loc main_arg5)) :=
  (Memref.read_access_unit_zero (Elt F) main_v31 (funext fun a => Nat.zero_mul _) (fun a => by fin_cases a <;> decide) _).trans (V_v31 m c)

/-- What the kernel reads as its operand 14, written out of the program's arguments. -/
theorem iblk_14 (c : Dev nD) : iblk m c 14 t0_0 = hRows64_128 (m ((c : Thread nD τ).loc main_arg5)) :=
  (Memref.read_access_unit_zero (Elt F) main_v35 (funext fun a => Nat.zero_mul _) (fun a => by fin_cases a <;> decide) _).trans (V_v35 m c)

/-- What the kernel reads as its operand 15, written out of the program's arguments. -/
theorem iblk_15 (c : Dev nD) : iblk m c 15 t0_0 = broadcastInDim S1x128 ![1] bcast_S128_S1x128_1 (m ((c : Thread nD τ).loc main_arg6)) :=
  (Memref.read_access_unit_zero (Elt F) main_v97 (funext fun a => Nat.zero_mul _) (fun a => by fin_cases a <;> decide) _).trans (V_v97 m c)

/-- What the kernel reads as its operand 16, written out of the program's arguments. -/
theorem iblk_16 (c : Dev nD) : iblk m c 16 t0_0 = xRows64_64 (m ((c : Thread nD τ).loc main_arg7)) :=
  (Memref.read_access_unit_zero (Elt F) main_v42 (funext fun a => Nat.zero_mul _) (fun a => by fin_cases a <;> decide) _).trans (V_v42 m c)

/-- What the kernel reads as its operand 17, written out of the program's arguments. -/
theorem iblk_17 (c : Dev nD) : iblk m c 17 t0_0 = hRows64_64 (m ((c : Thread nD τ).loc main_arg7)) :=
  (Memref.read_access_unit_zero (Elt F) main_v46 (funext fun a => Nat.zero_mul _) (fun a => by fin_cases a <;> decide) _).trans (V_v46 m c)

/-- What the kernel reads as its operand 18, written out of the program's arguments. -/
theorem iblk_18 (c : Dev nD) : iblk m c 18 t0_0 = broadcastInDim S1x64 ![1] bcast_S64_S1x64_1 (m ((c : Thread nD τ).loc main_arg8)) :=
  (Memref.read_access_unit_zero (Elt F) main_v98 (funext fun a => Nat.zero_mul _) (fun a => by fin_cases a <;> decide) _).trans (V_v98 m c)

/-- What the kernel reads as its operand 19, written out of the program's arguments. -/
theorem iblk_19 (c : Dev nD) : iblk m c 19 t0_0 = xRows1_128 (m ((c : Thread nD τ).loc main_arg9)) :=
  (Memref.read_access_unit_zero (Elt F) main_v53 (funext fun a => Nat.zero_mul _) (fun a => by fin_cases a <;> decide) _).trans (V_v53 m c)

/-- What the kernel reads as its operand 20, written out of the program's arguments. -/
theorem iblk_20 (c : Dev nD) : iblk m c 20 t0_0 = hRows1_128 (m ((c : Thread nD τ).loc main_arg9)) :=
  (Memref.read_access_unit_zero (Elt F) main_v57 (funext fun a => Nat.zero_mul _) (fun a => by fin_cases a <;> decide) _).trans (V_v57 m c)

/-- What the kernel reads as its operand 21, written out of the program's arguments. -/
theorem iblk_21 (c : Dev nD) : iblk m c 21 t0_0 = broadcastInDim S1x128 ![1] bcast_S128_S1x128_1 (m ((c : Thread nD τ).loc main_arg10)) :=
  (Memref.read_access_unit_zero (Elt F) main_v99 (funext fun a => Nat.zero_mul _) (fun a => by fin_cases a <;> decide) _).trans (V_v99 m c)

/-- What the kernel reads as its operand 22, written out of the program's arguments. -/
theorem iblk_22 (c : Dev nD) : iblk m c 22 t0_0 = xRows1_64 (m ((c : Thread nD τ).loc main_arg11)) :=
  (Memref.read_access_unit_zero (Elt F) main_v64 (funext fun a => Nat.zero_mul _) (fun a => by fin_cases a <;> decide) _).trans (V_v64 m c)

/-- What the kernel reads as its operand 23, written out of the program's arguments. -/
theorem iblk_23 (c : Dev nD) : iblk m c 23 t0_0 = hRows1_64 (m ((c : Thread nD τ).loc main_arg11)) :=
  (Memref.read_access_unit_zero (Elt F) main_v68 (funext fun a => Nat.zero_mul _) (fun a => by fin_cases a <;> decide) _).trans (V_v68 m c)

/-- What the kernel reads as its operand 24, written out of the program's arguments. -/
theorem iblk_24 (c : Dev nD) : iblk m c 24 t0_0 = broadcastInDim S1x64 ![1] bcast_S64_S1x64_1 (m ((c : Thread nD τ).loc main_arg12)) :=
  (Memref.read_access_unit_zero (Elt F) main_v100 (funext fun a => Nat.zero_mul _) (fun a => by fin_cases a <;> decide) _).trans (V_v100 m c)

/-- What the kernel reads as its operand 25, written out of the program's arguments. -/
theorem iblk_25 (c : Dev nD) : iblk m c 25 t0_0 = xRows64_128 (m ((c : Thread nD τ).loc main_arg13)) :=
  (Memref.read_access_unit_zero (Elt F) main_v75 (funext fun a => Nat.zero_mul _) (fun a => by fin_cases a <;> decide) _).trans (V_v75 m c)

/-- What the kernel reads as its operand 26, written out of the program's arguments. -/
theorem iblk_26 (c : Dev nD) : iblk m c 26 t0_0 = hRows64_128 (m ((c : Thread nD τ).loc main_arg13)) :=
  (Memref.read_access_unit_zero (Elt F) main_v79 (funext fun a => Nat.zero_mul _) (fun a => by fin_cases a <;> decide) _).trans (V_v79 m c)

/-- What the kernel reads as its operand 27, written out of the program's arguments. -/
theorem iblk_27 (c : Dev nD) : iblk m c 27 t0_0 = broadcastInDim S1x128 ![1] bcast_S128_S1x128_1 (m ((c : Thread nD τ).loc main_arg14)) :=
  (Memref.read_access_unit_zero (Elt F) main_v101 (funext fun a => Nat.zero_mul _) (fun a => by fin_cases a <;> decide) _).trans (V_v101 m c)

/-- What the kernel reads as its operand 28, written out of the program's arguments. -/
theorem iblk_28 (c : Dev nD) : iblk m c 28 t0_0 = xRows64_64 (m ((c : Thread nD τ).loc main_arg15)) :=
  (Memref.read_access_unit_zero (Elt F) main_v86 (funext fun a => Nat.zero_mul _) (fun a => by fin_cases a <;> decide) _).trans (V_v86 m c)

/-- What the kernel reads as its operand 29, written out of the program's arguments. -/
theorem iblk_29 (c : Dev nD) : iblk m c 29 t0_0 = hRows64_64 (m ((c : Thread nD τ).loc main_arg15)) :=
  (Memref.read_access_unit_zero (Elt F) main_v90 (funext fun a => Nat.zero_mul _) (fun a => by fin_cases a <;> decide) _).trans (V_v90 m c)

/-- What the kernel reads as its operand 30, written out of the program's arguments. -/
theorem iblk_30 (c : Dev nD) : iblk m c 30 t0_0 = broadcastInDim S1x64 ![1] bcast_S64_S1x64_1 (m ((c : Thread nD τ).loc main_arg16)) :=
  (Memref.read_access_unit_zero (Elt F) main_v102 (funext fun a => Nat.zero_mul _) (fun a => by fin_cases a <;> decide) _).trans (V_v102 m c)

/-- What the kernel reads as its operand 31, written out of the program's arguments. -/
theorem iblk_31 (c : Dev nD) : iblk m c 31 t0_0 = transpose S1x64 [1, 0] (m ((c : Thread nD τ).loc main_arg17)) transposes_S64x1_S1x64_1_0 :=
  (Memref.read_access_unit_zero (Elt F) main_v103 (funext fun a => Nat.zero_mul _) (fun a => by fin_cases a <;> decide) _).trans (V_v103 m c)

/-- What the kernel reads as its operand 32, written out of the program's arguments. -/
theorem iblk_32 (c : Dev nD) : iblk m c 32 t0_0 = shapeCast S1x1 (m ((c : Thread nD τ).loc main_arg18)) shapeCasts_S1_S1x1 :=
  (Memref.read_access_unit_zero (Elt F) main_v104 (funext fun a => Nat.zero_mul _) (fun a => by fin_cases a <;> decide) _).trans (V_v104 m c)

/-! ### The result -/

/-- The array the launch leaves, as a term of the arguments. -/
def launched (c : Dev nD) : Vec F S3328x12 .f32 :=
  bodyOut (steps (m ((c : Thread nD τ).loc main_arg0)))
    (transpose S2x192 [1, 0] (m ((c : Thread nD τ).loc main_arg19)) transposes_S192x2_S2x192_1_0)
    (transpose S64x192 [1, 0] (m ((c : Thread nD τ).loc main_arg20)) transposes_S192x64_S64x192_1_0)
    (broadcastInDim S1x192 ![1] bcast_S192_S1x192_1 (m ((c : Thread nD τ).loc main_arg21)))
    (broadcastInDim S1x192 ![1] bcast_S192_S1x192_1 (m ((c : Thread nD τ).loc main_arg22)))
    (m ((c : Thread nD τ).loc main_arg23))
    (m ((c : Thread nD τ).loc main_arg24))
    (xRows2_128 (m ((c : Thread nD τ).loc main_arg1)))
    (hRows2_128 (m ((c : Thread nD τ).loc main_arg1)))
    (broadcastInDim S1x128 ![1] bcast_S128_S1x128_1 (m ((c : Thread nD τ).loc main_arg2)))
    (xRows2_64 (m ((c : Thread nD τ).loc main_arg3)))
    (hRows2_64 (m ((c : Thread nD τ).loc main_arg3)))
    (broadcastInDim S1x64 ![1] bcast_S64_S1x64_1 (m ((c : Thread nD τ).loc main_arg4)))
    (xRows64_128 (m ((c : Thread nD τ).loc main_arg5)))
    (hRows64_128 (m ((c : Thread nD τ).loc main_arg5)))
    (broadcastInDim S1x128 ![1] bcast_S128_S1x128_1 (m ((c : Thread nD τ).loc main_arg6)))
    (xRows64_64 (m ((c : Thread nD τ).loc main_arg7)))
    (hRows64_64 (m ((c : Thread nD τ).loc main_arg7)))
    (broadcastInDim S1x64 ![1] bcast_S64_S1x64_1 (m ((c : Thread nD τ).loc main_arg8)))
    (xRows1_128 (m ((c : Thread nD τ).loc main_arg9)))
    (hRows1_128 (m ((c : Thread nD τ).loc main_arg9)))
    (broadcastInDim S1x128 ![1] bcast_S128_S1x128_1 (m ((c : Thread nD τ).loc main_arg10)))
    (xRows1_64 (m ((c : Thread nD τ).loc main_arg11)))
    (hRows1_64 (m ((c : Thread nD τ).loc main_arg11)))
    (broadcastInDim S1x64 ![1] bcast_S64_S1x64_1 (m ((c : Thread nD τ).loc main_arg12)))
    (xRows64_128 (m ((c : Thread nD τ).loc main_arg13)))
    (hRows64_128 (m ((c : Thread nD τ).loc main_arg13)))
    (broadcastInDim S1x128 ![1] bcast_S128_S1x128_1 (m ((c : Thread nD τ).loc main_arg14)))
    (xRows64_64 (m ((c : Thread nD τ).loc main_arg15)))
    (hRows64_64 (m ((c : Thread nD τ).loc main_arg15)))
    (broadcastInDim S1x64 ![1] bcast_S64_S1x64_1 (m ((c : Thread nD τ).loc main_arg16)))
    (transpose S1x64 [1, 0] (m ((c : Thread nD τ).loc main_arg17)) transposes_S64x1_S1x64_1_0)
    (shapeCast S1x1 (m ((c : Thread nD τ).loc main_arg18)) shapeCasts_S1_S1x1)

/-- The result's window is the whole of the result. -/
theorem read_result (c : Dev nD) (f : Buf (Elt F) ((c : Thread nD τ).loc main_v105)) : (win0_33.blk t0_0).view.read (Elt F) f = f :=
  Memref.read_access_unit_zero (Elt F) main_v105 (funext fun a => Nat.zero_mul _) (fun a => by fin_cases a <;> decide) f

/-- What the launch leaves in the result. -/
theorem flushed_33 (c : Dev nD) : (dats m 0 c).flushed 33 t0_0 = launched m c := by
  show (cfg0.win 33).cut _ ((dats m 0 c).after 33 t0_0) = _
  rw [after0_33, iblk_0, iblk_1, iblk_2, iblk_3, iblk_4, iblk_5, iblk_6, iblk_7, iblk_8, iblk_9, iblk_10, iblk_11, iblk_12, iblk_13, iblk_14, iblk_15, iblk_16, iblk_17, iblk_18, iblk_19, iblk_20, iblk_21, iblk_22, iblk_23, iblk_24, iblk_25, iblk_26, iblk_27, iblk_28, iblk_29, iblk_30, iblk_31, iblk_32]
  exact funext fun _ => rfl

/-- The result's array after the launch. -/
theorem arrAt_33 (c : Dev nD) : (dats m 0 c).arrAt 33 cfg0.N = launched m c := by
  have hw : ((cfg0.win 33).blk t0_0).view.read (Elt F) ((dats m 0 c).arrAt 33 cfg0.N) = (dats m 0 c).flushed 33 t0_0 := by
    rw [show cfg0.N = t0_0.val + 1 from rfl, (dats m 0 c).arrAt_succ (33 : Fin 34) t0_0, flush0_33, if_pos rfl]
    exact View.read_write_univ _ _
  rw [flushed_33] at hw
  exact (read_result c _).symm.trans hw

/-- The result after the host code that follows the launch. -/
theorem tail_result (c : Dev nD) :
    Pipeline.afterTail₀ cfgs (dats m) 0 (V0 m) [hostOps1] c main_v109 = cutOut (launched m c) := by
  unfold Pipeline.afterTail₀
  have h : Pipeline.withArrays (cfgs 0).spec c (V0 m c) (fun w => (dats m 0 c).arrAt w (cfgs 0).N) (Proc.devRef .tc main_v105) = launched m c :=
    ((dats m 0 c).withArrays_arrAt (by decide) (V0 m c) (A_eq m c) 33).trans (arrAt_33 m c)
  generalize Pipeline.withArrays (cfgs 0).spec c (V0 m c) (fun w => (dats m 0 c).arrAt w (cfgs 0).N) = W at h
  rw [← h]
  after_reads_simp
  rfl

/-- After a run the kernel's result holds that term. -/
theorem result_eq {r : PUnit × MemSt nD τ sig (Elt F)}
    (h : Pipeline.FramePost cfgs (dats m) 0 (Pipeline.afterTail₀ cfgs (dats m) 0 (V0 m) [hostOps1]) r) (c : Dev nD) :
    r.2.mem ((c : Thread nD τ).loc main_v109) = cutOut (launched m c) :=
  ((h c).2 main_v109 (by decide)).trans (tail_result m c)

end Cert.Proof.KernelIdeal
-- ==== Proof.Rank.lean ====
/-
  The thirtieth largest entry of a row, found in two ways: as the thirtieth of a sorted row, and as the largest entry
  left after twenty-nine rounds that each take the largest entry away.
-/
module

public import proofs.«01_k».proof.Proof.Spec
public import Idealize.ShloMosaic.Lib.Pointwise

@[expose] public section

noncomputable section

namespace Cert.Proof.Spec

/-- A row has one thirtieth largest value. -/
theorem IsThirtieth.unique {r : Fin 207 → EReal} {t u : EReal} (ht : IsThirtieth r t) (hu : IsThirtieth r u) : t = u := by
  have key : ∀ {a b : EReal}, IsThirtieth r a → IsThirtieth r b → ¬ a < b := by
    intro a b ha hb hab
    have hsub : Finset.univ.filter (fun j => b ≤ r j) ⊆ Finset.univ.filter (fun j => a < r j) := by
      intro j hj
      simp only [Finset.mem_filter, Finset.mem_univ, true_and] at hj ⊢
      exact lt_of_lt_of_le hab hj
    have := Finset.card_le_card hsub
    have h1 := ha.1
    have h2 := hb.2
    omega
  exact le_antisymm (not_lt.mp (key hu ht)) (not_lt.mp (key ht hu))

/-- Any value that is the thirtieth largest is `thirtieth`. -/
theorem thirtieth_eq {r : Fin 207 → EReal} {t : EReal} (h : IsThirtieth r t) : thirtieth r = t := by
  have hex : ∃ t, IsThirtieth r t := ⟨t, h⟩
  unfold thirtieth
  rw [dif_pos hex]
  exact (Classical.choose_spec hex).unique h

/-- The entry at place 29 of a row sorted from the largest down is the thirtieth largest. -/
theorem isThirtieth_sorted (r : Fin 207 → EReal) (p : Fin 207 → Fin 207) (hp : Function.Injective p)
    (hs : ∀ i j, i < j → r (p j) ≤ r (p i)) : IsThirtieth r (r (p 29)) := by
  have hsurj : Function.Surjective p := Finite.injective_iff_surjective.mp hp
  constructor
  · have hsub : Finset.univ.filter (fun j => r (p 29) < r j) ⊆ (Finset.univ.filter (fun i : Fin 207 => i < 29)).image p := by
      intro j hj
      simp only [Finset.mem_filter, Finset.mem_univ, true_and, Finset.mem_image] at hj ⊢
      obtain ⟨i, rfl⟩ := hsurj j
      refine ⟨i, ?_, rfl⟩
      by_contra hi
      rcases (not_lt.mp hi).lt_or_eq with h | h
      · exact absurd hj (not_lt.mpr (hs _ _ h))
      · rw [← h] at hj
        exact lt_irrefl _ hj
    have h1 := Finset.card_le_card hsub
    have h2 := Finset.card_image_le (s := Finset.univ.filter (fun i : Fin 207 => i < 29)) (f := p)
    have h3 : (Finset.univ.filter (fun i : Fin 207 => i < 29)).card = 29 := by decide
    omega
  · have hsub : (Finset.univ.filter (fun i : Fin 207 => i ≤ 29)).image p ⊆ Finset.univ.filter (fun j => r (p 29) ≤ r j) := by
      intro j hj
      simp only [Finset.mem_filter, Finset.mem_univ, true_and, Finset.mem_image] at hj ⊢
      obtain ⟨i, hi, rfl⟩ := hj
      rcases hi.lt_or_eq with h | h
      · exact hs _ _ h
      · rw [h]
    have h1 := Finset.card_le_card hsub
    have h2 := Finset.card_image_of_injective (Finset.univ.filter (fun i : Fin 207 => i ≤ 29)) hp
    have h3 : (Finset.univ.filter (fun i : Fin 207 => i ≤ 29)).card = 30 := by decide
    omega

/-- One round: an entry that is the largest becomes −1. -/
def Drops (x y : Fin 208 → EReal) : Prop := ∃ i, (∀ j, x j ≤ x i) ∧ y = Function.update x i (-1)

/-- After `k` rounds on a row of numbers not below zero, `k` of its largest entries are gone. -/
theorem drops_invariant (r : Fin 207 → EReal) (hr : ∀ j, 0 ≤ r j) (x : ℕ → Fin 208 → EReal)
    (h0 : ∀ j : Fin 207, x 0 j.castSucc = r j) (h0' : x 0 (Fin.last 207) = -1) (hx : ∀ k, Drops (x k) (x (k + 1))) :
    ∀ k ≤ 206, ∃ D : Finset (Fin 207), D.card = k ∧ (∀ j, x k j.castSucc = if j ∈ D then -1 else r j)
      ∧ x k (Fin.last 207) = -1 ∧ ∀ i ∈ D, ∀ j ∉ D, r j ≤ r i := by
  have hneg : (-1 : EReal) < 0 := by
    have : ((-1 : ℝ) : EReal) < ((0 : ℝ) : EReal) := EReal.coe_lt_coe_iff.mpr (by norm_num)
    simpa using this
  intro k
  induction k with
  | zero => intro _; exact ⟨∅, rfl, fun j => by simpa using h0 j, h0', fun i hi => by simp at hi⟩
  | succ k ih =>
    intro hk
    obtain ⟨D, hD, hval, hlast, hord⟩ := ih (by omega)
    obtain ⟨i, hi, hy⟩ := hx k
    have hex : ∃ j, j ∉ D := by
      by_contra hcon
      push Not at hcon
      have : D = Finset.univ := Finset.eq_univ_iff_forall.mpr hcon
      rw [this] at hD
      simp at hD
      omega
    obtain ⟨j0, hj0⟩ := hex
    have hi0 : 0 ≤ x k i := by
      refine le_trans (hr j0) ?_
      have := hi j0.castSucc
      rwa [hval, if_neg hj0] at this
    have hiL : i ≠ Fin.last 207 := by
      rintro rfl
      rw [hlast] at hi0
      exact absurd hi0 (not_le.mpr hneg)
    obtain ⟨i', rfl⟩ : ∃ i' : Fin 207, i'.castSucc = i := ⟨i.castPred hiL, by simp⟩
    have hiD : i' ∉ D := by
      intro hmem
      rw [hval, if_pos hmem] at hi0
      exact absurd hi0 (not_le.mpr hneg)
    refine ⟨insert i' D, by rw [Finset.card_insert_of_notMem hiD, hD], ?_, ?_, ?_⟩
    · intro j
      rw [hy]
      by_cases hji : j = i'
      · subst hji
        simp
      · rw [Function.update_of_ne (by simpa [Fin.castSucc_inj] using hji), hval]
        simp [hji]
    · rw [hy, Function.update_of_ne (Ne.symm hiL), hlast]
    · intro a ha j hj
      rw [Finset.mem_insert, not_or] at hj
      rcases Finset.mem_insert.mp ha with rfl | ha
      · have := hi j.castSucc
        rwa [hval, hval, if_neg hj.2, if_neg hiD] at this
      · exact hord a ha j hj.2

/-- After twenty-nine rounds the largest entry left is the thirtieth largest. -/
theorem isThirtieth_drops (r : Fin 207 → EReal) (hr : ∀ j, 0 ≤ r j) (x : ℕ → Fin 208 → EReal)
    (h0 : ∀ j : Fin 207, x 0 j.castSucc = r j) (h0' : x 0 (Fin.last 207) = -1) (hx : ∀ k, Drops (x k) (x (k + 1))) :
    IsThirtieth r (Finset.univ.sup (x 29)) := by
  obtain ⟨D, hD, hval, hlast, hord⟩ := drops_invariant r hr x h0 h0' hx 29 (by norm_num)
  have hneg : (-1 : EReal) < 0 := by
    have : ((-1 : ℝ) : EReal) < ((0 : ℝ) : EReal) := EReal.coe_lt_coe_iff.mpr (by norm_num)
    simpa using this
  have hne : (Finset.univ \ D).Nonempty := by
    rw [← Finset.card_pos, Finset.card_sdiff_of_subset (Finset.subset_univ _), hD]
    simp
  obtain ⟨j0, hj0, hmax⟩ := Finset.exists_max_image (Finset.univ \ D) r hne
  simp only [Finset.mem_sdiff, Finset.mem_univ, true_and] at hj0 hmax
  have hsup : Finset.univ.sup (x 29) = r j0 := by
    apply le_antisymm
    · refine Finset.sup_le fun j _ => ?_
      refine Fin.lastCases ?_ (fun j => ?_) j
      · rw [hlast]
        exact hneg.le.trans (hr j0)
      · rw [hval]
        split
        · exact hneg.le.trans (hr j0)
        · rename_i h
          exact hmax j h
    · have := Finset.le_sup (f := x 29) (Finset.mem_univ j0.castSucc)
      rwa [hval, if_neg hj0] at this
  rw [hsup]
  constructor
  · have hsub : Finset.univ.filter (fun j => r j0 < r j) ⊆ D := by
      intro j hj
      simp only [Finset.mem_filter, Finset.mem_univ, true_and] at hj
      by_contra h
      exact absurd hj (not_lt.mpr (hmax j h))
    have := Finset.card_le_card hsub
    omega
  · have hsub : insert j0 D ⊆ Finset.univ.filter (fun j => r j0 ≤ r j) := by
      intro j hj
      simp only [Finset.mem_filter, Finset.mem_univ, true_and]
      rcases Finset.mem_insert.mp hj with rfl | hj
      · exact le_rfl
      · exact hord j hj j0 hj0
    have := Finset.card_le_card hsub
    rw [Finset.card_insert_of_notMem hj0] at this
    omega

/-- Where every entry is the least value, the rounds take nothing but the −1 beside them. -/
theorem drops_bot (x : ℕ → Fin 208 → EReal) (h0 : ∀ j : Fin 207, x 0 j.castSucc = ⊥) (h0' : x 0 (Fin.last 207) = -1)
    (hx : ∀ k, Drops (x k) (x (k + 1))) (k : ℕ) : Finset.univ.sup (x k) = -1 := by
  have hbot : (-1 : EReal) ≠ ⊥ := by
    have : ((-1 : ℝ) : EReal) ≠ ⊥ := EReal.coe_ne_bot _
    simpa using this
  have hk : ∀ k, x k = x 0 := by
    intro k
    induction k with
    | zero => rfl
    | succ k ih =>
      obtain ⟨i, hi, hy⟩ := hx k
      rw [ih] at hi hy
      have : i = Fin.last 207 := by
        by_contra hne
        obtain ⟨i', rfl⟩ : ∃ i' : Fin 207, i'.castSucc = i := ⟨i.castPred hne, by simp⟩
        have := hi (Fin.last 207)
        rw [h0, h0', le_bot_iff] at this
        exact hbot this
      rw [hy, this, ← h0', Function.update_eq_self]
  rw [hk]
  apply le_antisymm
  · refine Finset.sup_le fun j _ => ?_
    refine Fin.lastCases ?_ (fun j => ?_) j
    · rw [h0']
    · rw [h0]
      exact bot_le
  · have := Finset.le_sup (f := x 0) (Finset.mem_univ (Fin.last 207))
    rwa [h0'] at this

/-- A row that is one value throughout has that value as its thirtieth largest. -/
theorem thirtieth_const (t : EReal) : thirtieth (fun _ => t) = t := by
  apply thirtieth_eq
  constructor
  · simp
  · simp

/-! ### What a row of the mean attention can be -/

open Idealize.ShloMosaic

/-- The exponential is nowhere below zero. -/
theorem exp_nonneg (x : EReal) : 0 ≤ Ideal.exp x := by
  induction x with
  | bot => exact le_rfl
  | top => exact le_top
  | coe r => exact EReal.coe_nonneg.mpr (Real.exp_pos r).le

/-- A row of the softmax of scores not below zero has no entry below zero, or is the least value throughout: the
    latter where its largest score is infinite. -/
theorem rowNormal_cases (s : Adj) (n : Fin 207) (hs : ∀ j, 0 ≤ s n j) :
    (∀ j, 0 ≤ rowNormal (expo s) n j) ∨ ∀ j, rowNormal (expo s) n j = ⊥ := by
  obtain ⟨j0, -, hj0⟩ := Finset.exists_mem_eq_sup (Finset.univ : Finset (Fin 207)) ⟨0, Finset.mem_univ _⟩ (s n)
  by_cases ht : Finset.univ.sup (s n) = ⊤
  · right
    have he : ∀ j, expo s n j = 0 := by
      intro j
      unfold expo
      rw [ht, EReal.sub_top]
      rfl
    intro j
    unfold rowNormal Ideal.div
    simp [he]
  · left
    have hb : s n j0 ≠ ⊥ := fun h => absurd (hs j0) (by rw [h]; simp)
    have h1 : expo s n j0 = 1 := by
      unfold expo
      rw [hj0]
      rw [hj0] at ht
      rw [EReal.sub_self ht hb]
      show ((Real.exp 0 : ℝ) : EReal) = 1
      rw [Real.exp_zero]
      rfl
    have hpos : (0 : EReal) < ∑ k, expo s n k :=
      lt_of_lt_of_le (by rw [h1]; exact zero_lt_one)
        (Finset.single_le_sum (f := fun k => expo s n k) (fun k _ => exp_nonneg _) (Finset.mem_univ j0))
    intro j
    unfold rowNormal Ideal.div
    rw [if_neg hpos.ne']
    exact mul_nonneg (exp_nonneg _) (EReal.inv_nonneg_of_nonneg hpos.le)

/-- A row of the mean attention has no entry below zero, or is the least value throughout. -/
theorem attention_cases (H : Nodes 64) (wk wq : Fin 64 → Fin 32 → EReal) (n : Fin 207) :
    (∀ j, 0 ≤ attention H wk wq n j) ∨ ∀ j, attention H wk wq n j = ⊥ := by
  have h16 : (0 : ℝ) < 1 / 16 := by norm_num
  by_cases hb : ∃ b, ∀ j, rowNormal (expo (score H wk wq b)) n j = ⊥
  · right
    obtain ⟨b, hb⟩ := hb
    intro j
    unfold attention
    rw [← Finset.add_sum_erase _ _ (Finset.mem_univ b), hb j, EReal.bot_add, EReal.bot_mul_coe_of_pos h16]
  · left
    push Not at hb
    intro j
    refine mul_nonneg (Finset.sum_nonneg fun b _ => ?_) (EReal.coe_nonneg.mpr h16.le)
    rcases rowNormal_cases (score H wk wq b) n (fun j => le_max_right _ _) with h | h
    · exact h j
    · obtain ⟨j', hj'⟩ := hb b
      exact absurd (h j') hj'

end Cert.Proof.Spec

end

end
-- ==== Proof.KSupport.lean ====
/-
  The kernel's attention and support read at the extended reals: on the rows and columns of nodes the support is the
  network's, and the padding's column is zero.
-/
module

public import proofs.«01_k».proof.Proof.KRead
public import proofs.«01_k».proof.Proof.Rank

@[expose] public section

set_option maxRecDepth 16384

noncomputable section

namespace Cert.Proof.KernelIdeal

open Idealize.ShloMosaic Cert.KernelIdeal Cert.Proof.Spec

/-! ### The constants -/

/-- The word of minus infinity is the least value. -/
theorem ofBits_negInf : Ideal.ofBits .f32 0xFF800000#32 = ⊥ := by simp [Ideal.ofBits, Ideal.ieee]

/-- The word of minus one. -/
theorem ofBits_negOne : Ideal.ofBits .f32 0xBF800000#32 = -1 := by
  have h : Ideal.ofBits .f32 0xBF800000#32 = ((-1 : ℝ) : EReal) := by
    simp [Ideal.ofBits, Ideal.ieee]
    try (rw [← EReal.coe_mul]; norm_num)
  rw [h]
  rfl

/-- The word of a sixteenth. -/
theorem ofBits_sixteenth : Ideal.ofBits .f32 0x3D800000#32 = ((1 / 16 : ℝ) : EReal) := by
  simp [Ideal.ofBits, Ideal.ieee]
  rw [← EReal.coe_mul]
  norm_num

/-- The number put at the padding's column is below zero. -/
theorem ofBits_low : Ideal.ofBits .f32 0xF149F2CA#32 ≤ 0 := by
  simp [Ideal.ofBits, Ideal.ieee]
  refine mul_nonneg (EReal.coe_nonneg.mpr (by norm_num)) ?_
  exact pow_nonneg (EReal.coe_nonneg.mpr (by norm_num)) _

/-! ### The row's largest entry -/

/-- A row's largest entry, read. -/
theorem rowMax_apply (x : FVec Ideal S208x208 .f32) (n j : Fin 208) :
    rowMax x (ix2 n j) = Finset.univ.sup (fun k : Fin 208 => x (ix2 n k)) := by
  pointwise [rowMax]
  rw [ofBits_negInf]
  rfl

/-- The mask of the columns of nodes. -/
theorem lt207 (j : Fin 207) : IntOp.cmpi .slt (BitVec.ofNat 32 (j.castSucc : Fin 208).val) 207#32 = 1#1 := by
  revert j
  decide

/-- The mask of the padding's column. -/
theorem lt207_last : IntOp.cmpi .slt (BitVec.ofNat 32 (Fin.last 207).val) 207#32 = 0#1 := by decide

/-! ### The scores and their softmax -/

variable (h : FVec Ideal S3328x64 .f32) (wk wq : FVec Ideal S64x32 .f32)

/-- The keys of the rows. -/
abbrev keys (h : FVec Ideal S3328x64 .f32) (w : FVec Ideal S64x32 .f32) : FVec Ideal S3328x32 .f32 :=
  matmul dot_S3328x64_S64x32_S3328x32_1_0_0_1_n_n none h w (constant S3328x32 .f32 0x00000000#32)

/-- A row's keys, read. -/
theorem keys_apply (w : FVec Ideal S64x32 .f32) (r : Fin 3328) (d : Fin 32) :
    keys h w (ix2 r d) = ∑ c : Fin 64, h (ix2 r c) * w (ix2 c d) := by pointwise [keys]

/-- The scores between nodes are the network's. -/
theorem scores_node (b : Fin 16) (n j : Fin 207) :
    scores (keys h wk) (keys h wq) b (ix2 n.castSucc j.castSucc)
      = Spec.score (nodes h) (fun c d => wk (ix2 c d)) (fun c d => wq (ix2 c d)) b n j := by
  have hk := keys_apply h wk
  have hq := keys_apply h wq
  generalize keys h wk = K at *
  generalize keys h wq = Q at *
  unfold scores
  pointwise [colMask]
  rw [lt207]
  show max _ 0 = _
  simp only [hk, hq]
  rfl

/-- The scores at the padding's column are not above zero. -/
theorem scores_last (K Q : FVec Ideal S3328x32 .f32) (b : Fin 16) (n : Fin 208) :
    scores K Q b (ix2 n (Fin.last 207)) ≤ 0 := by
  unfold scores
  pointwise [colMask]
  rw [show IntOp.cmpi .slt (BitVec.ofNat 32 (Fin.last 207).val) 207#32 = 0#1 from lt207_last]
  exact ofBits_low

/-- The largest of a row whose last entry is not above the others' is the largest of the others. -/
theorem sup_castSucc (x : Fin 208 → EReal) (hx : ∀ j : Fin 207, 0 ≤ x j.castSucc) (hl : x (Fin.last 207) ≤ 0) :
    Finset.univ.sup x = Finset.univ.sup (fun j : Fin 207 => x j.castSucc) := by
  apply le_antisymm
  · refine Finset.sup_le fun j _ => ?_
    refine Fin.lastCases ?_ (fun j => ?_) j
    · exact hl.trans ((hx 0).trans (Finset.le_sup (f := fun j : Fin 207 => x j.castSucc) (Finset.mem_univ 0)))
    · exact Finset.le_sup (f := fun j : Fin 207 => x j.castSucc) (Finset.mem_univ j)
  · exact Finset.sup_le fun j _ => Finset.le_sup (f := x) (Finset.mem_univ _)

/-- The exponentials between nodes are the network's. -/
theorem expScores_node (b : Fin 16) (n j : Fin 207) :
    expScores (keys h wk) (keys h wq) b (ix2 n.castSucc j.castSucc)
      = Spec.expo (Spec.score (nodes h) (fun c d => wk (ix2 c d)) (fun c d => wq (ix2 c d)) b) n j := by
  have hs := scores_node h wk wq b
  have hl := scores_last (keys h wk) (keys h wq) b n.castSucc
  unfold expScores
  generalize scores (keys h wk) (keys h wq) b = M at *
  have hM := rowMax_apply M n.castSucc j.castSucc
  generalize rowMax M = MM at *
  pointwise [colMask]
  rw [lt207]
  show Ideal.exp _ = _
  rw [hM, hs n j, sup_castSucc _ (fun j => by rw [hs n j]; exact le_max_right _ _) hl]
  simp only [hs]
  rfl

/-- The exponentials are zero in the padding's column. -/
theorem expScores_last (K Q : FVec Ideal S3328x32 .f32) (b : Fin 16) (n : Fin 208) :
    expScores K Q b (ix2 n (Fin.last 207)) = 0 := by
  unfold expScores
  generalize scores K Q b = M
  generalize rowMax M = MM
  pointwise [colMask]
  rw [show IntOp.cmpi .slt (BitVec.ofNat 32 (Fin.last 207).val) 207#32 = 0#1 from lt207_last]
  rfl

/-- A batch's attention between nodes is the network's. -/
theorem attention_node (b : Fin 16) (n j : Fin 207) :
    attention (keys h wk) (keys h wq) b (ix2 n.castSucc j.castSucc)
      = Spec.rowNormal (Spec.expo (Spec.score (nodes h) (fun c d => wk (ix2 c d)) (fun c d => wq (ix2 c d)) b)) n j := by
  have hs := expScores_node h wk wq b
  have hl := expScores_last (keys h wk) (keys h wq) b n.castSucc
  unfold attention
  generalize expScores (keys h wk) (keys h wq) b = M at *
  pointwise []
  rw [Fin.sum_univ_castSucc, hl, add_zero]
  simp only [hs]
  rfl

/-- The sum of the first batches' attentions, read. -/
theorem attentionSum_apply (K Q : FVec Ideal S3328x32 .f32) (i : S208x208.Idx) :
    ∀ (k : ℕ) (hk : k ≤ 16), attentionSum K Q k hk i = ∑ b : Fin k, attention K Q ⟨b.val, by omega⟩ i := by
  intro k
  induction k with
  | zero =>
    intro _
    show Ideal.ofBits .f32 0x00000000#32 = _
    rw [Ideal.ofBits_zero_f32]
    simp
  | succ k ih =>
    intro hk
    rw [Fin.sum_univ_castSucc]
    exact congrArg (· + _) (ih (Nat.le_of_succ_le hk))

/-- The mean attention between nodes is the network's. -/
theorem meanAttention_node (n j : Fin 207) :
    meanAttention (keys h wk) (keys h wq) (ix2 n.castSucc j.castSucc)
      = Spec.attention (nodes h) (fun c d => wk (ix2 c d)) (fun c d => wq (ix2 c d)) n j := by
  have hs := fun b => attention_node h wk wq b n j
  have hm := attentionSum_apply (keys h wk) (keys h wq) (ix2 n.castSucc j.castSucc) 16 (Nat.le_refl _)
  unfold meanAttention
  generalize attentionSum (keys h wk) (keys h wq) 16 _ = M at *
  pointwise []
  rw [hm, ofBits_sixteenth]
  unfold Spec.attention
  congr 1
  exact Finset.sum_congr rfl fun b _ => hs b

/-! ### The rounds -/

/-- The signed minimum of two words is the minimum of their integers. -/
theorem toInt_minsi (a b : BitVec 32) : (IntOp.minsi a b).toInt = min a.toInt b.toInt := by
  show (if a.slt b then a else b).toInt = _
  rcases lt_or_ge a.toInt b.toInt with h | h
  · rw [show a.slt b = true from decide_eq_true h, if_pos rfl, min_eq_left h.le]
  · rw [show a.slt b = false from decide_eq_false (not_lt.mpr h), if_neg Bool.false_ne_true, min_eq_right h]

/-- The least position among those that hold the largest entry: it is the position of a largest entry. -/
theorem argmax_word (x : Fin 208 → EReal) : ∃ i : Fin 208, (∀ j, x j ≤ x i)
    ∧ Finset.univ.fold IntOp.minsi 2147483647#32 (fun k : Fin 208 => if x k = Finset.univ.sup x then BitVec.ofNat 32 k.val else 208#32)
      = BitVec.ofNat 32 i.val := by
  obtain ⟨i0, -, hi0⟩ := Finset.exists_mem_eq_sup (Finset.univ : Finset (Fin 208)) ⟨0, Finset.mem_univ _⟩ x
  have hword : ∀ k : Fin 208, (BitVec.ofNat 32 k.val).toInt = k.val := by decide
  set v : Fin 208 → BitVec 32 := fun k => if x k = Finset.univ.sup x then BitVec.ofNat 32 k.val else 208#32 with hv
  have hint : (Finset.univ.fold IntOp.minsi 2147483647#32 v).toInt
      = Finset.univ.fold min ((2147483647#32 : BitVec 32).toInt) (fun k => (v k).toInt) :=
    (Finset.fold_hom (op := IntOp.minsi) (op' := (min : ℤ → ℤ → ℤ)) (m := BitVec.toInt) toInt_minsi).symm
  set W := Finset.univ.fold IntOp.minsi 2147483647#32 v with hW
  have hle := (Finset.le_fold_min (s := (Finset.univ : Finset (Fin 208))) (f := fun k => (v k).toInt)
    (b := (2147483647#32 : BitVec 32).toInt) W.toInt).mp hint.le
  have hi0' : W.toInt ≤ i0.val := by
    have := hle.2 i0 (Finset.mem_univ _)
    rwa [show v i0 = BitVec.ofNat 32 i0.val from if_pos hi0.symm, hword] at this
  rcases (Finset.fold_min_le (s := (Finset.univ : Finset (Fin 208))) (f := fun k => (v k).toInt)
    (b := (2147483647#32 : BitVec 32).toInt) W.toInt).mp hint.ge with hb | ⟨i, -, hi⟩
  · exfalso
    have : (2147483647#32 : BitVec 32).toInt = 2147483647 := by decide
    have := i0.isLt
    omega
  · have heq : v i = W := BitVec.eq_of_toInt_eq (le_antisymm hi (hle.2 i (Finset.mem_univ _)))
    have hmax : x i = Finset.univ.sup x := by
      by_contra hne
      have : v i = 208#32 := if_neg hne
      rw [heq] at this
      rw [this] at hi0'
      have h8 : (208#32 : BitVec 32).toInt = 208 := by decide
      have := i0.isLt
      omega
    refine ⟨i, fun j => by rw [hmax]; exact Finset.le_sup (Finset.mem_univ j), ?_⟩
    rw [← heq]
    exact if_pos hmax

/-- One round takes a largest entry of each row away. -/
theorem dropMax_drops (x : FVec Ideal S208x208 .f32) (n : Fin 208) :
    Spec.Drops (fun j => x (ix2 n j)) (fun j => dropMax x (ix2 n j)) := by
  have hM := rowMax_apply x n
  obtain ⟨i, hi, hw⟩ := argmax_word (fun j => x (ix2 n j))
  refine ⟨i, hi, funext fun j => ?_⟩
  show dropMax x (ix2 n j) = _
  unfold dropMax
  generalize rowMax x = M at *
  pointwise []
  simp only [hM]
  rw [hw, ofBits_negOne]
  have hcmp : ∀ a b : Fin 208, IntOp.cmpi .eq (BitVec.ofNat 32 a.val) (BitVec.ofNat 32 b.val) = if a = b then 1#1 else 0#1 := by
    intro a b
    have : (BitVec.ofNat 32 a.val = BitVec.ofNat 32 b.val) ↔ a = b := by
      constructor
      · intro hab
        have := congrArg BitVec.toNat hab
        simp only [BitVec.toNat_ofNat] at this
        have := a.isLt
        have := b.isLt
        exact Fin.ext (by omega)
      · rintro rfl; rfl
    by_cases hab : a = b
    · rw [if_pos hab]
      exact IntOp.cmpi_eq.mpr (this.mpr hab)
    · rw [if_neg hab]
      have h1 : IntOp.cmpi .eq (BitVec.ofNat 32 a.val) (BitVec.ofNat 32 b.val) ≠ 1#1 := fun h => hab (this.mp (IntOp.cmpi_eq.mp h))
      revert h1
      generalize IntOp.cmpi .eq (BitVec.ofNat 32 a.val) (BitVec.ofNat 32 b.val) = w
      revert w
      decide
  rw [hcmp]
  by_cases hj : j = i
  · subst hj
    rw [if_pos rfl, Function.update_self]
    rfl
  · rw [if_neg hj, Function.update_of_ne hj]
    rfl

/-- Before the first round: the row of nodes. -/
theorem dropped_zero (A : FVec Ideal S208x208 .f32) (n : Fin 208) (j : Fin 207) :
    dropped A 0 (ix2 n j.castSucc) = A (ix2 n j.castSucc) := by
  show select colMask A _ _ = _
  pointwise [colMask]
  rw [lt207]
  rfl

/-- Before the first round: the padding's column. -/
theorem dropped_last (A : FVec Ideal S208x208 .f32) (n : Fin 208) : dropped A 0 (ix2 n (Fin.last 207)) = -1 := by
  show select colMask A _ _ = _
  pointwise [colMask]
  rw [show IntOp.cmpi .slt (BitVec.ofNat 32 (Fin.last 207).val) 207#32 = 0#1 from lt207_last]
  exact ofBits_negOne

/-! ### The support -/

/-- An entry that is kept, or zero: the entries between nodes. -/
theorem kept_node (A : FVec Ideal S208x208 .f32) (n j : Fin 207) :
    kept A (ix2 n.castSucc j.castSucc)
      = if Finset.univ.sup (fun k => dropped A 29 (ix2 n.castSucc k)) ≤ A (ix2 n.castSucc j.castSucc)
        then A (ix2 n.castSucc j.castSucc) else 0 := by
  have hM := rowMax_apply (dropped A 29) n.castSucc j.castSucc
  unfold kept
  generalize rowMax (dropped A 29) = M at *
  pointwise [colMask]
  rw [lt207, lt207, hM]
  by_cases hle : Finset.univ.sup (fun k => dropped A 29 (ix2 n.castSucc k)) ≤ A (ix2 n.castSucc j.castSucc)
  · rw [decide_eq_true hle, if_pos hle]
    rfl
  · rw [decide_eq_false hle, if_neg hle]
    rfl

/-- Nothing is kept in the padding's column. -/
theorem kept_last (A : FVec Ideal S208x208 .f32) (n : Fin 208) : kept A (ix2 n (Fin.last 207)) = 0 := by
  unfold kept
  generalize rowMax (dropped A 29) = M
  pointwise [colMask]
  rw [show IntOp.cmpi .slt (BitVec.ofNat 32 (Fin.last 207).val) 207#32 = 0#1 from lt207_last]
  generalize BitVec.ofBool _ = u
  generalize IntOp.cmpi .slt (BitVec.ofNat 32 n.val) 207#32 = v
  have : IntOp.andi (IntOp.andi u 0#1) v = 0#1 := by
    revert u v
    decide
  rw [this]
  rfl

/-- The support, read from what is kept. -/
theorem support_apply (A : FVec Ideal S208x208 .f32) (n j : Fin 208) :
    support A (ix2 n j) = Spec.recip (∑ k : Fin 208, kept A (ix2 n k)) * kept A (ix2 n j) := by
  unfold support degree
  generalize kept A = M
  pointwise []
  rfl

/-- A row of the support between nodes: the normalised entries that reach the thirtieth largest. -/
theorem support_row (A : FVec Ideal S208x208 .f32) (a : Spec.Adj) (hA : ∀ n j : Fin 207, A (ix2 n.castSucc j.castSucc) = a n j)
    (n j : Fin 207) (hn : (∀ j, 0 ≤ a n j) ∨ ∀ j, a n j = ⊥) :
    support A (ix2 n.castSucc j.castSucc) = Spec.normal (Spec.kept a) n j := by
  have hsum : ∑ k : Fin 208, kept A (ix2 n.castSucc k) = ∑ k : Fin 207, kept A (ix2 n.castSucc k.castSucc) := by
    rw [Fin.sum_univ_castSucc, kept_last, add_zero]
  have hdrops : ∀ k, Spec.Drops (fun j => dropped A k (ix2 n.castSucc j)) (fun j => dropped A (k + 1) (ix2 n.castSucc j)) :=
    fun k => dropMax_drops (dropped A k) n.castSucc
  have h0 : ∀ j : Fin 207, dropped A 0 (ix2 n.castSucc j.castSucc) = a n j := fun j => by rw [dropped_zero, hA]
  have hl : dropped A 0 (ix2 n.castSucc (Fin.last 207)) = -1 := dropped_last A n.castSucc
  rw [support_apply, hsum]
  simp only [kept_node, hA]
  unfold Spec.normal Spec.kept
  rcases hn with hn | hn
  · have ht := Spec.thirtieth_eq (Spec.isThirtieth_drops (a n) hn (fun k j => dropped A k (ix2 n.castSucc j)) h0 hl hdrops)
    rw [ht]
  · have hs := Spec.drops_bot (fun k j => dropped A k (ix2 n.castSucc j)) (fun j => (h0 j).trans (hn j)) hl hdrops 29
    have hneg : ¬ (-1 : EReal) ≤ ⊥ := by
      rw [le_bot_iff]
      have : ((-1 : ℝ) : EReal) ≠ ⊥ := EReal.coe_ne_bot _
      simpa using this
    have hrow : a n = fun _ => ⊥ := funext hn
    have hbot : ∑ k : Fin 207, (⊥ : EReal) = ⊥ := by
      rw [← Finset.add_sum_erase _ _ (Finset.mem_univ (0 : Fin 207)), EReal.bot_add]
    simp only [hs, hrow, Spec.thirtieth_const, if_neg hneg, le_refl, if_true, hbot, mul_zero]
    unfold Spec.recip
    simp

/-- The kernel's support holds the network's support, with a column of zeros beside it. -/
theorem supportOf_holds :
    Holds (supportOf h wk wq) (Spec.support (nodes h) (fun c d => wk (ix2 c d)) (fun c d => wq (ix2 c d))) := by
  have hA := meanAttention_node h wk wq
  constructor
  · intro n j
    exact support_row _ _ hA n j (Spec.attention_cases _ _ _ n)
  · intro n
    show support (meanAttention (keys h wk) (keys h wq)) (ix2 n.castSucc (Fin.last 207)) = 0
    rw [support_apply, kept_last, mul_zero]

end Cert.Proof.KernelIdeal

end

end
-- ==== Proof.RRead.lean ====
/-
  The reference's diffusion convolution and its recurrent cell, read at the extended reals at the nodes: each is the
  network's function of the nodes' features its arrays hold.
-/
module

public import proofs.«01_k».proof.Proof.RefCells
public import proofs.«01_k».proof.Proof.Spec
public import Idealize.ShloMosaic.Lib.Pointwise

@[expose] public section

set_option maxRecDepth 16384

noncomputable section

namespace Cert.Proof.Ref

open Idealize.ShloMosaic Cert.ReferenceIdeal Cert.ReferenceIdeal.Gen
open Cert.Proof.Spec (Nodes Adj Wts CellW)

/-- Feature `c` of an input beside `64` further ones, its diffusion term `m`. -/
theorem featL {w C K : ℕ} (hC : w + 64 = C) (hK : 3 * C = K) (c : Fin w) (m : Fin 3) : 3 * c.val + m.val < K := by
  have := c.isLt; have := m.isLt; omega
/-- Feature `c` of the `64` beside the input's, its diffusion term `m`. -/
theorem featR {w C K : ℕ} (hC : w + 64 = C) (hK : 3 * C = K) (c : Fin 64) (m : Fin 3) : 3 * (w + c.val) + m.val < K := by
  have := c.isLt; have := m.isLt; omega

/-- A sum over the features of an input and a state, three diffusion terms each, side by side and term by term. -/
theorem sum_features {w C K : ℕ} (hC : w + 64 = C) (hK : 3 * C = K) (f : Fin K → EReal) :
    ∑ k : Fin K, f k = (∑ m : Fin 3, ∑ c : Fin w, f ⟨3 * c.val + m.val, featL hC hK c m⟩)
      + ∑ m : Fin 3, ∑ c : Fin 64, f ⟨3 * (w + c.val) + m.val, featR hC hK c m⟩ := by
  subst hC
  obtain rfl : K = (w + 64) * 3 := by omega
  rw [← finProdFinEquiv.sum_comp, Fintype.sum_prod_type, Fin.sum_univ_add, Finset.sum_comm (s := Finset.univ (α := Fin 3)) (t := Finset.univ (α := Fin w)),
    Finset.sum_comm (s := Finset.univ (α := Fin 3)) (t := Finset.univ (α := Fin 64))]
  refine congrArg₂ (· + ·) (Finset.sum_congr rfl fun c _ => Finset.sum_congr rfl fun m _ => congrArg f (Fin.ext ?_))
    (Finset.sum_congr rfl fun c _ => Finset.sum_congr rfl fun m _ => congrArg f (Fin.ext ?_))
  · show m.val + 3 * c.val = _
    exact Nat.add_comm _ _
  · show m.val + 3 * (w + c.val) = _
    exact Nat.add_comm _ _

/-- A diffusion term keeps to its feature. -/
theorem term_feature {w C : ℕ} (A : Adj) (X : Nodes w) (Y : Nodes C) (f : Fin w → Fin C) (h : ∀ b n c, Y b n (f c) = X b n c)
    (m : Fin 3) (b : Fin 16) (n : Fin 207) (c : Fin w) : Spec.term A Y m b n (f c) = Spec.term A X m b n c := by
  have h1 : ∀ b n c, Spec.spread A Y b n (f c) = Spec.spread A X b n c := fun b n c =>
    Finset.sum_congr rfl fun j _ => by rw [h]
  match m with
  | 0 => exact h b n c
  | 1 => exact h1 b n c
  | 2 =>
    have h2 : Spec.spread A (Spec.spread A Y) b n (f c) = Spec.spread A (Spec.spread A X) b n c :=
      Finset.sum_congr rfl fun j _ => by rw [h1]
    show 2 * _ - _ = 2 * _ - _
    rw [h2, h]

/-- The float word of two. -/
theorem ofBits_two : Ideal.ofBits .f32 0x40000000#32 = 2 := by
  have h : Ideal.ofBits .f32 0x40000000#32 = ((2 : ℝ) : EReal) := by
    simp [Ideal.ofBits, Ideal.ieee]
    rw [← EReal.coe_mul]
    norm_num
  rw [h]; rfl

/-- The row-major position of an index of two, three and four axes. -/
theorem pos2 {n0 n1 : ℕ} (a : Fin n0) (b : Fin n1) : ((⟨2, ![n0, n1]⟩ : Shape).rowMajor (ix2 a b) : ℕ) = a.val * n1 + b.val :=
  rowMajor_val2 _ n1 rfl
/-- The place of an index in a row-major array of 3 axes. -/
theorem pos3 {n0 n1 n2 : ℕ} (a : Fin n0) (b : Fin n1) (c : Fin n2) :
    ((⟨3, ![n0, n1, n2]⟩ : Shape).rowMajor (ix3 a b c) : ℕ) = a.val * (n1 * n2) + b.val * n2 + c.val :=
  rowMajor_val3 _ (n1 * n2) n2 rfl rfl
/-- The place of an index in a row-major array of 4 axes. -/
theorem pos4 {n0 n1 n2 n3 : ℕ} (a : Fin n0) (b : Fin n1) (c : Fin n2) (d : Fin n3) :
    ((⟨4, ![n0, n1, n2, n3]⟩ : Shape).rowMajor (ix4 a b c d) : ℕ) = a.val * (n1 * (n2 * n3)) + b.val * (n2 * n3) + c.val * n3 + d.val :=
  rowMajor_val4 _ (n1 * (n2 * n3)) (n2 * n3) n3 rfl rfl rfl

/-- The nodes' features an array holds. -/
def nodes {w : ℕ} (X : FVec Ideal ⟨3, ![16, 207, w]⟩ .f32) : Nodes w := fun b n c => X (ix3 b n c)

/-- A matrix over the nodes an array holds. -/
def adj (S : FVec Ideal S207x207 .f32) : Adj := fun n j => S (ix2 n j)

/-- The weights of the input's side, and of the state's. -/
def wtsL {w C K o : ℕ} (hC : w + 64 = C) (hK : 3 * C = K) (W : FVec Ideal ⟨2, ![K, o]⟩ .f32) : Wts w o :=
  fun m c k => W (ix2 ⟨3 * c.val + m.val, featL hC hK c m⟩ k)
def wtsR {w C K o : ℕ} (hC : w + 64 = C) (hK : 3 * C = K) (W : FVec Ideal ⟨2, ![K, o]⟩ .f32) : Wts 64 o :=
  fun m c k => W (ix2 ⟨3 * (w + c.val) + m.val, featR hC hK c m⟩ k)

/-- The row of node `n` of batch entry `b`. -/
def row (b : Fin 16) (n : Fin 207) : Fin 3312 := ⟨207 * b.val + n.val, by omega⟩

/-- The gates' squashing function is the logistic, entry by entry. -/
theorem sigmGates_apply (x : Vec Ideal S16x207x128 .f32) (j : S16x207x128.Idx) : sigmGates x j = Ideal.logistic (x j) := by
  have e : sigmGates x j = Ideal.div 1 (1 + Ideal.exp (-(x j))) := by
    pointwise [sigmGates, one]
  rw [e]; rfl

/-- The update gate is the second half of the gates. -/
theorem updateGate_apply (g : Vec Ideal S16x207x128 .f32) (b : Fin 16) (n : Fin 207) (c : Fin 64) :
    updateGate g (ix3 b n c) = g (ix3 b n (Spec.hi c)) := by
  pointwise [updateGate, Spec.hi]

/-- The reset gate is the first half of the gates. -/
theorem resetGate_apply (g : Vec Ideal S16x207x128 .f32) (b : Fin 16) (n : Fin 207) (c : Fin 64) :
    resetGate g (ix3 b n c) = g (ix3 b n (Spec.lo c)) := by
  pointwise [resetGate, Spec.lo]

/-- The reset state at the nodes: the reset gate times the state. -/
theorem nodes_reset (g : Vec Ideal S16x207x128 .f32) (h : Vec Ideal S16x207x64 .f32) :
    nodes (w := 64) (mulf (resetGate g) h : Vec Ideal S16x207x64 .f32) = fun b n c => nodes g b n (Spec.lo c) * nodes h b n c := by
  funext b n c
  show resetGate g (ix3 b n c) * h (ix3 b n c) = _
  rw [resetGate_apply]
  rfl

/-- The new state, entry by entry: the update gate mixes the old state with the candidate. -/
theorem blend_apply (u c h : Vec Ideal S16x207x64 .f32) (j : S16x207x64.Idx) : blend u c h j = u j * h j + (1 - u j) * c j := by
  pointwise [blend, one]

/-! ### An input of 64 features -/

/-- The input beside the state. -/
def both64 (x : Vec Ideal S16x207x64 .f32) (h : Vec Ideal S16x207x64 .f32) : Vec Ideal S16x207x128 .f32 :=
  concatenate S16x207x128 2 [⟨S16x207x64, x⟩, ⟨S16x207x64, h⟩] concatenates_S16x207x64_S16x207x64_S16x207x128_d2

/-- An input of 64 features beside a state: the first features are the input's. -/
theorem both64_left (x : Vec Ideal S16x207x64 .f32) (h : Vec Ideal S16x207x64 .f32) (b : Fin 16) (n : Fin 207) (c : Fin 64) :
    both64 x h (ix3 b n (⟨c.val, by omega⟩ : Fin 128)) = x (ix3 b n c) := by
  unfold both64
  rw [concatenate_pair_apply]
  split
  · refine congrArg x (funext fun a => ?_)
    match a with
    | 0 => rfl
    | 1 => rfl
    | 2 => rfl
  · rename_i hc
    exact absurd c.isLt hc

/-- An input of 64 features beside a state: the further features are the state's. -/
theorem both64_right (x : Vec Ideal S16x207x64 .f32) (h : Vec Ideal S16x207x64 .f32) (b : Fin 16) (n : Fin 207) (c : Fin 64) :
    both64 x h (ix3 b n (⟨64 + c.val, by omega⟩ : Fin 128)) = h (ix3 b n c) := by
  unfold both64
  rw [concatenate_pair_apply]
  split
  · rename_i hc
    exact absurd hc (by show ¬ 64 + c.val < 64; omega)
  · refine congrArg h (funext fun a => ?_)
    match a with
    | 0 => rfl
    | 1 => rfl
    | 2 => exact Fin.ext (by show 64 + c.val - 64 = c.val; omega)

/-- The column of feature `c` of batch entry `b`. -/
def col64 (c : Fin 128) (b : Fin 16) : Fin 2048 := ⟨16 * c.val + b.val, by omega⟩

/-- Features and batch entries merged into columns (input of 64 features), entry by entry. -/
theorem flat64_apply (x : Vec Ideal S16x207x64 .f32) (h : Vec Ideal S16x207x64 .f32) (b : Fin 16) (n : Fin 207) (c : Fin 128) :
    flat64 x h (ix2 n (col64 c b)) = both64 x h (ix3 b n c) := by
  have e : flat64 x h (ix2 n (col64 c b)) = transpose S207x128x16 [1, 2, 0] (both64 x h) transposes_S16x207x128_S207x128x16_1_2_0 (ix3 n c b) := by
    have h0 : flat64 x h = shapeCast S207x2048 (transpose S207x128x16 [1, 2, 0] (both64 x h) transposes_S16x207x128_S207x128x16_1_2_0) shapeCasts_S207x128x16_S207x2048 := rfl
    rw [h0]
    generalize transpose S207x128x16 [1, 2, 0] (both64 x h) transposes_S16x207x128_S207x128x16_1_2_0 = t
    have hk : ((S207x128x16 : Shape).rowMajor (ix3 n c b) : ℕ) = ((S207x2048 : Shape).rowMajor (ix2 n (col64 c b)) : ℕ) :=
      (pos3 n c b).trans (Eq.trans (by simp only [col64]; omega) (pos2 n (col64 c b)).symm)
    exact Idealize.ShloMosaic.shapeCast_apply _ _ _ _ hk
  rw [e]
  pointwise

/-- The flat array's nodes, feature by feature. -/
def unflat64 (y : Vec Ideal S207x2048 .f32) : Nodes 128 := fun b n c => y (ix2 n (col64 c b))

/-- The support times the merged columns is the network's spread (input of 64 features). -/
theorem unflat64_spread (S : Vec Ideal S207x207 .f32) (y : Vec Ideal S207x2048 .f32) : unflat64 (spread64 S y) = Spec.spread (adj S) (unflat64 y) := by
  funext b n c
  show spread64 S y (ix2 n (col64 c b)) = ∑ j : Fin 207, S (ix2 n j) * y (ix2 j (col64 c b))
  pointwise [spread64]

/-- The third diffusion term of the merged columns: twice the spread less the first (input of 64 features). -/
theorem unflat64_second (S : Vec Ideal S207x207 .f32) (y z : Vec Ideal S207x2048 .f32) :
    unflat64 (second64 S y z) = fun b n c => 2 * Spec.spread (adj S) (unflat64 z) b n c - unflat64 y b n c := by
  rw [← unflat64_spread]
  funext b n c
  show second64 S y z (ix2 n (col64 c b)) = 2 * spread64 S z (ix2 n (col64 c b)) - y (ix2 n (col64 c b))
  have e : second64 S y z (ix2 n (col64 c b)) = Ideal.ofBits .f32 0x40000000#32 * spread64 S z (ix2 n (col64 c b)) - y (ix2 n (col64 c b)) := by
    generalize hz : spread64 S z = sz
    have e0 : second64 S y z = (subf (mulf (broadcastInDim S207x2048 ![] bcast_S_S207x2048 (two (F := Ideal))) sz : FVec Ideal S207x2048 .f32) y : FVec Ideal S207x2048 .f32) := by rw [← hz]; rfl
    rw [e0]
    pointwise [two]
  rw [e, ofBits_two]

/-- The three diffusion terms stacked, term by term (input of 64 features). -/
theorem stack64_apply (y z v : Vec Ideal S1x207x2048 .f32) (m : Fin 3) (n : Fin 207) (k : Fin 2048) :
    stack64 y z v (ix3 m n k) = (![y, z, v] : Fin 3 → Vec Ideal S1x207x2048 .f32) m (ix3 0 n k) :=
  Idealize.ShloMosaic.concatenate_ofFn_apply (s₁ := S1x207x2048) (t := S3x207x2048) 0 ![y, z, v]
    concatenates_S1x207x2048_S1x207x2048_S1x207x2048_S3x207x2048_d0 rfl 1 rfl _ m
    (show m.val / 1 = m.val by omega) (ix3 0 n k) (show 0 = m.val % 1 by omega)
    (fun a ha => by match a with | 0 => exact absurd rfl ha | 1 => rfl | 2 => rfl)

/-- The stacked terms as rows, one a node of a batch entry (input of 64 features). -/
theorem rows64_apply (y z v : Vec Ideal S207x2048 .f32) (b : Fin 16) (n : Fin 207) (c : Fin 128) (m : Fin 3) :
    rows64 y z v (ix2 (row b n) (⟨3 * c.val + m.val, by omega⟩ : Fin 384)) = (![y, z, v] : Fin 3 → Vec Ideal S207x2048 .f32) m (ix2 n (col64 c b)) := by
  generalize hs : stack64 (broadcastInDim S1x207x2048 ![1, 2] bcast_S207x2048_S1x207x2048_1_2 y)
        (broadcastInDim S1x207x2048 ![1, 2] bcast_S207x2048_S1x207x2048_1_2 z)
        (broadcastInDim S1x207x2048 ![1, 2] bcast_S207x2048_S1x207x2048_1_2 v) = s
  have e : rows64 y z v (ix2 (row b n) (⟨3 * c.val + m.val, by omega⟩ : Fin 384))
      = transpose S16x207x128x3 [3, 1, 2, 0] (shapeCast S3x207x128x16 s shapeCasts_S3x207x2048_S3x207x128x16) transposes_S3x207x128x16_S16x207x128x3_3_1_2_0 (ix4 b n c m) := by
    unfold rows64
    rw [hs]
    generalize transpose S16x207x128x3 [3, 1, 2, 0] (shapeCast S3x207x128x16 s shapeCasts_S3x207x2048_S3x207x128x16) transposes_S3x207x128x16_S16x207x128x3_3_1_2_0 = t
    have hk : ((S16x207x128x3 : Shape).rowMajor (ix4 b n c m) : ℕ) = ((S3312x384 : Shape).rowMajor (ix2 (row b n) (⟨3 * c.val + m.val, by omega⟩ : Fin 384)) : ℕ) :=
      (pos4 b n c m).trans (Eq.trans (by simp only [row]; omega) (pos2 (row b n) (⟨3 * c.val + m.val, by omega⟩ : Fin 384)).symm)
    exact Idealize.ShloMosaic.shapeCast_apply _ _ _ _ hk
  have e1 : transpose S16x207x128x3 [3, 1, 2, 0] (shapeCast S3x207x128x16 s shapeCasts_S3x207x2048_S3x207x128x16) transposes_S3x207x128x16_S16x207x128x3_3_1_2_0 (ix4 b n c m)
      = shapeCast S3x207x128x16 s shapeCasts_S3x207x2048_S3x207x128x16 (ix4 m n c b) := by
    generalize shapeCast S3x207x128x16 s shapeCasts_S3x207x2048_S3x207x128x16 = t
    pointwise
  have e2 : shapeCast S3x207x128x16 s shapeCasts_S3x207x2048_S3x207x128x16 (ix4 m n c b) = s (ix3 m n (col64 c b)) := by
    have hk : ((S3x207x2048 : Shape).rowMajor (ix3 m n (col64 c b)) : ℕ) = ((S3x207x128x16 : Shape).rowMajor (ix4 m n c b) : ℕ) :=
      (pos3 m n (col64 c b)).trans (Eq.trans (by simp only [col64]; omega) (pos4 m n c b).symm)
    exact Idealize.ShloMosaic.shapeCast_apply _ _ _ _ hk
  rw [e, e1, e2, ← hs, stack64_apply]
  match m with
  | 0 => show broadcastInDim S1x207x2048 ![1, 2] bcast_S207x2048_S1x207x2048_1_2 y (ix3 0 n (col64 c b)) = y (ix2 n (col64 c b)); pointwise
  | 1 => show broadcastInDim S1x207x2048 ![1, 2] bcast_S207x2048_S1x207x2048_1_2 z (ix3 0 n (col64 c b)) = z (ix2 n (col64 c b)); pointwise
  | 2 => show broadcastInDim S1x207x2048 ![1, 2] bcast_S207x2048_S1x207x2048_1_2 v (ix3 0 n (col64 c b)) = v (ix2 n (col64 c b)); pointwise

/-- Each entry of the rows is one diffusion term of the network (input of 64 features). -/
theorem terms64_apply (S : Vec Ideal S207x207 .f32) (x : Vec Ideal S16x207x64 .f32) (h : Vec Ideal S16x207x64 .f32) (b : Fin 16) (n : Fin 207) (c : Fin 128) (m : Fin 3) :
    terms64 S x h (ix2 (row b n) (⟨3 * c.val + m.val, by omega⟩ : Fin 384)) = Spec.term (adj S) (nodes (both64 x h)) m b n c := by
  have hf : unflat64 (flat64 x h) = nodes (both64 x h) := by
    funext b n c
    exact flat64_apply x h b n c
  unfold terms64
  rw [rows64_apply, ← hf]
  match m with
  | 0 => rfl
  | 1 => exact congrFun (congrFun (congrFun (unflat64_spread S (flat64 x h)) b) n) c
  | 2 =>
    have e := congrFun (congrFun (congrFun (unflat64_second S (flat64 x h) (spread64 S (flat64 x h))) b) n) c
    rw [unflat64_spread] at e
    exact e

/-- The product of the diffusion terms with the weights: the input's side and the state's. -/
theorem terms64_sum {o : ℕ} (S : Vec Ideal S207x207 .f32) (x : Vec Ideal S16x207x64 .f32) (h : Vec Ideal S16x207x64 .f32)
    (W : FVec Ideal ⟨2, ![384, o]⟩ .f32) (b : Fin 16) (n : Fin 207) (k : Fin o) :
    ∑ i : Fin 384, terms64 S x h (ix2 (row b n) i) * W (ix2 i k)
      = Spec.half (adj S) (nodes x) (wtsL (w := 64) (C := 128) rfl rfl W) b n k + Spec.half (adj S) (nodes h) (wtsR (w := 64) (C := 128) rfl rfl W) b n k := by
  rw [sum_features (w := 64) (C := 128) rfl rfl]
  refine congrArg₂ (· + ·) (Finset.sum_congr rfl fun m _ => Finset.sum_congr rfl fun c _ => ?_) (Finset.sum_congr rfl fun m _ => Finset.sum_congr rfl fun c _ => ?_)
  · have e := terms64_apply S x h b n (⟨c.val, by omega⟩ : Fin 128) m
    have e' := term_feature (adj S) (nodes x) (nodes (both64 x h)) (fun c : Fin 64 => (⟨c.val, by omega⟩ : Fin 128))
      (fun b n c => both64_left x h b n c) m b n c
    exact congrArg (· * _) (e.trans e')
  · have e := terms64_apply S x h b n (⟨64 + c.val, by omega⟩ : Fin 128) m
    have e' := term_feature (adj S) (nodes h) (nodes (both64 x h)) (fun c : Fin 64 => (⟨64 + c.val, by omega⟩ : Fin 128))
      (fun b n c => both64_right x h b n c) m b n c
    exact congrArg (· * _) (e.trans e')

/-- The diffusion convolution to 128 features, at the nodes. -/
theorem nodes_conv64x128 (S : Vec Ideal S207x207 .f32) (x : Vec Ideal S16x207x64 .f32) (h : Vec Ideal S16x207x64 .f32)
    (W : Vec Ideal S384x128 .f32) (bias : Vec Ideal S128 .f32) :
    nodes (conv64x128 S x h W bias) = Spec.conv (adj S) (nodes x) (nodes h) (wtsL (w := 64) (C := 128) rfl rfl W) (wtsR (w := 64) (C := 128) rfl rfl W) (fun k => bias (ix1 k)) := by
  funext b n k
  show _ = _ + _ + _
  rw [← terms64_sum S x h W b n k]
  generalize ht : terms64 S x h = t
  have e : conv64x128 S x h W bias (ix3 b n k) = (addf (Host.dotGeneral (φ₁ := .f32) (φ₂ := .f32) dot_S3312x384_S384x128_S3312x128_1_0_0_1_n_n none (t : FVec Ideal S3312x384 .f32) (W : FVec Ideal S384x128 .f32))
      (broadcastInDim S3312x128 ![0, 1] bcast_S1x128_S3312x128_0_1 (broadcastInDim S1x128 ![1] bcast_S128_S1x128_1 bias)) : FVec Ideal S3312x128 .f32) (ix2 (row b n) k) := by
    unfold conv64x128
    rw [ht]
    generalize (addf (Host.dotGeneral (φ₁ := .f32) (φ₂ := .f32) dot_S3312x384_S384x128_S3312x128_1_0_0_1_n_n none (t : FVec Ideal S3312x384 .f32) (W : FVec Ideal S384x128 .f32))
      (broadcastInDim S3312x128 ![0, 1] bcast_S1x128_S3312x128_0_1 (broadcastInDim S1x128 ![1] bcast_S128_S1x128_1 bias)) : FVec Ideal S3312x128 .f32) = v
    have hk : ((S3312x128 : Shape).rowMajor (ix2 (row b n) k) : ℕ) = ((S16x207x128 : Shape).rowMajor (ix3 b n k) : ℕ) :=
      (pos2 (row b n) k).trans (Eq.trans (by simp only [row]; omega) (pos3 b n k).symm)
    exact Idealize.ShloMosaic.shapeCast_apply _ _ _ _ hk
  refine e.trans ?_
  pointwise

/-- The diffusion convolution to 64 features, at the nodes. -/
theorem nodes_conv64x64 (S : Vec Ideal S207x207 .f32) (x : Vec Ideal S16x207x64 .f32) (h : Vec Ideal S16x207x64 .f32)
    (W : Vec Ideal S384x64 .f32) (bias : Vec Ideal S64 .f32) :
    nodes (conv64x64 S x h W bias) = Spec.conv (adj S) (nodes x) (nodes h) (wtsL (w := 64) (C := 128) rfl rfl W) (wtsR (w := 64) (C := 128) rfl rfl W) (fun k => bias (ix1 k)) := by
  funext b n k
  show _ = _ + _ + _
  rw [← terms64_sum S x h W b n k]
  generalize ht : terms64 S x h = t
  have e : conv64x64 S x h W bias (ix3 b n k) = (addf (Host.dotGeneral (φ₁ := .f32) (φ₂ := .f32) dot_S3312x384_S384x64_S3312x64_1_0_0_1_n_n none (t : FVec Ideal S3312x384 .f32) (W : FVec Ideal S384x64 .f32))
      (broadcastInDim S3312x64 ![0, 1] bcast_S1x64_S3312x64_0_1 (broadcastInDim S1x64 ![1] bcast_S64_S1x64_1 bias)) : FVec Ideal S3312x64 .f32) (ix2 (row b n) k) := by
    unfold conv64x64
    rw [ht]
    generalize (addf (Host.dotGeneral (φ₁ := .f32) (φ₂ := .f32) dot_S3312x384_S384x64_S3312x64_1_0_0_1_n_n none (t : FVec Ideal S3312x384 .f32) (W : FVec Ideal S384x64 .f32))
      (broadcastInDim S3312x64 ![0, 1] bcast_S1x64_S3312x64_0_1 (broadcastInDim S1x64 ![1] bcast_S64_S1x64_1 bias)) : FVec Ideal S3312x64 .f32) = v
    have hk : ((S3312x64 : Shape).rowMajor (ix2 (row b n) k) : ℕ) = ((S16x207x64 : Shape).rowMajor (ix3 b n k) : ℕ) :=
      (pos2 (row b n) k).trans (Eq.trans (by simp only [row]; omega) (pos3 b n k).symm)
    exact Idealize.ShloMosaic.shapeCast_apply _ _ _ _ hk
  refine e.trans ?_
  pointwise

/-- The weights of a cell as the reference's arrays hold them. -/
def cellW64 (Wg : Vec Ideal S384x128 .f32) (bg : Vec Ideal S128 .f32) (Wc : Vec Ideal S384x64 .f32) (bc : Vec Ideal S64 .f32) : CellW 64 where
  gx := wtsL (w := 64) (C := 128) rfl rfl Wg
  gh := wtsR (w := 64) (C := 128) rfl rfl Wg
  gb := fun k => bg (ix1 k)
  cx := wtsL (w := 64) (C := 128) rfl rfl Wc
  ch := wtsR (w := 64) (C := 128) rfl rfl Wc
  cb := fun k => bc (ix1 k)

/-- The cell, at the nodes. -/
theorem nodes_cell64 (S : Vec Ideal S207x207 .f32) (x : Vec Ideal S16x207x64 .f32) (h : Vec Ideal S16x207x64 .f32)
    (Wg : Vec Ideal S384x128 .f32) (bg : Vec Ideal S128 .f32) (Wc : Vec Ideal S384x64 .f32) (bc : Vec Ideal S64 .f32) :
    nodes (cell64 S x h Wg bg Wc bc) = (cellW64 Wg bg Wc bc).run (adj S) (nodes x) (nodes h) := by
  have hg : nodes (gates64 S x h Wg bg) = fun b n k => Ideal.logistic (Spec.conv (adj S) (nodes x) (nodes h) (wtsL (w := 64) (C := 128) rfl rfl Wg) (wtsR (w := 64) (C := 128) rfl rfl Wg) (fun k => bg (ix1 k)) b n k) := by
    funext b n k
    rw [← nodes_conv64x128]
    exact sigmGates_apply _ _
  funext b n c
  have e : cell64 S x h Wg bg Wc bc (ix3 b n c) = nodes (gates64 S x h Wg bg) b n (Spec.hi c) * nodes h b n c
      + (1 - nodes (gates64 S x h Wg bg) b n (Spec.hi c)) * Ideal.tanh (nodes (conv64x64 S x (mulf (resetGate (gates64 S x h Wg bg)) h) Wc bc) b n c) := by
    show blend _ _ h (ix3 b n c) = _
    rw [blend_apply, updateGate_apply]
    rfl
  refine e.trans ?_
  rw [nodes_conv64x64, nodes_reset, hg]
  rfl

/-! ### An input of 2 features -/

/-- The input beside the state. -/
def both2 (x : Vec Ideal S16x207x2 .f32) (h : Vec Ideal S16x207x64 .f32) : Vec Ideal S16x207x66 .f32 :=
  concatenate S16x207x66 2 [⟨S16x207x2, x⟩, ⟨S16x207x64, h⟩] concatenates_S16x207x2_S16x207x64_S16x207x66_d2

/-- An input of 2 features beside a state: the first features are the input's. -/
theorem both2_left (x : Vec Ideal S16x207x2 .f32) (h : Vec Ideal S16x207x64 .f32) (b : Fin 16) (n : Fin 207) (c : Fin 2) :
    both2 x h (ix3 b n (⟨c.val, by omega⟩ : Fin 66)) = x (ix3 b n c) := by
  unfold both2
  rw [concatenate_pair_apply]
  split
  · refine congrArg x (funext fun a => ?_)
    match a with
    | 0 => rfl
    | 1 => rfl
    | 2 => rfl
  · rename_i hc
    exact absurd c.isLt hc

/-- An input of 2 features beside a state: the further features are the state's. -/
theorem both2_right (x : Vec Ideal S16x207x2 .f32) (h : Vec Ideal S16x207x64 .f32) (b : Fin 16) (n : Fin 207) (c : Fin 64) :
    both2 x h (ix3 b n (⟨2 + c.val, by omega⟩ : Fin 66)) = h (ix3 b n c) := by
  unfold both2
  rw [concatenate_pair_apply]
  split
  · rename_i hc
    exact absurd hc (by show ¬ 2 + c.val < 2; omega)
  · refine congrArg h (funext fun a => ?_)
    match a with
    | 0 => rfl
    | 1 => rfl
    | 2 => exact Fin.ext (by show 2 + c.val - 2 = c.val; omega)

/-- The column of feature `c` of batch entry `b`. -/
def col2 (c : Fin 66) (b : Fin 16) : Fin 1056 := ⟨16 * c.val + b.val, by omega⟩

/-- Features and batch entries merged into columns (input of 2 features), entry by entry. -/
theorem flat2_apply (x : Vec Ideal S16x207x2 .f32) (h : Vec Ideal S16x207x64 .f32) (b : Fin 16) (n : Fin 207) (c : Fin 66) :
    flat2 x h (ix2 n (col2 c b)) = both2 x h (ix3 b n c) := by
  have e : flat2 x h (ix2 n (col2 c b)) = transpose S207x66x16 [1, 2, 0] (both2 x h) transposes_S16x207x66_S207x66x16_1_2_0 (ix3 n c b) := by
    have h0 : flat2 x h = shapeCast S207x1056 (transpose S207x66x16 [1, 2, 0] (both2 x h) transposes_S16x207x66_S207x66x16_1_2_0) shapeCasts_S207x66x16_S207x1056 := rfl
    rw [h0]
    generalize transpose S207x66x16 [1, 2, 0] (both2 x h) transposes_S16x207x66_S207x66x16_1_2_0 = t
    have hk : ((S207x66x16 : Shape).rowMajor (ix3 n c b) : ℕ) = ((S207x1056 : Shape).rowMajor (ix2 n (col2 c b)) : ℕ) :=
      (pos3 n c b).trans (Eq.trans (by simp only [col2]; omega) (pos2 n (col2 c b)).symm)
    exact Idealize.ShloMosaic.shapeCast_apply _ _ _ _ hk
  rw [e]
  pointwise

/-- The flat array's nodes, feature by feature. -/
def unflat2 (y : Vec Ideal S207x1056 .f32) : Nodes 66 := fun b n c => y (ix2 n (col2 c b))

/-- The support times the merged columns is the network's spread (input of 2 features). -/
theorem unflat2_spread (S : Vec Ideal S207x207 .f32) (y : Vec Ideal S207x1056 .f32) : unflat2 (spread2 S y) = Spec.spread (adj S) (unflat2 y) := by
  funext b n c
  show spread2 S y (ix2 n (col2 c b)) = ∑ j : Fin 207, S (ix2 n j) * y (ix2 j (col2 c b))
  pointwise [spread2]

/-- The third diffusion term of the merged columns: twice the spread less the first (input of 2 features). -/
theorem unflat2_second (S : Vec Ideal S207x207 .f32) (y z : Vec Ideal S207x1056 .f32) :
    unflat2 (second2 S y z) = fun b n c => 2 * Spec.spread (adj S) (unflat2 z) b n c - unflat2 y b n c := by
  rw [← unflat2_spread]
  funext b n c
  show second2 S y z (ix2 n (col2 c b)) = 2 * spread2 S z (ix2 n (col2 c b)) - y (ix2 n (col2 c b))
  have e : second2 S y z (ix2 n (col2 c b)) = Ideal.ofBits .f32 0x40000000#32 * spread2 S z (ix2 n (col2 c b)) - y (ix2 n (col2 c b)) := by
    generalize hz : spread2 S z = sz
    have e0 : second2 S y z = (subf (mulf (broadcastInDim S207x1056 ![] bcast_S_S207x1056 (two (F := Ideal))) sz : FVec Ideal S207x1056 .f32) y : FVec Ideal S207x1056 .f32) := by rw [← hz]; rfl
    rw [e0]
    pointwise [two]
  rw [e, ofBits_two]

/-- The three diffusion terms stacked, term by term (input of 2 features). -/
theorem stack2_apply (y z v : Vec Ideal S1x207x1056 .f32) (m : Fin 3) (n : Fin 207) (k : Fin 1056) :
    stack2 y z v (ix3 m n k) = (![y, z, v] : Fin 3 → Vec Ideal S1x207x1056 .f32) m (ix3 0 n k) :=
  Idealize.ShloMosaic.concatenate_ofFn_apply (s₁ := S1x207x1056) (t := S3x207x1056) 0 ![y, z, v]
    concatenates_S1x207x1056_S1x207x1056_S1x207x1056_S3x207x1056_d0 rfl 1 rfl _ m
    (show m.val / 1 = m.val by omega) (ix3 0 n k) (show 0 = m.val % 1 by omega)
    (fun a ha => by match a with | 0 => exact absurd rfl ha | 1 => rfl | 2 => rfl)

/-- The stacked terms as rows, one a node of a batch entry (input of 2 features). -/
theorem rows2_apply (y z v : Vec Ideal S207x1056 .f32) (b : Fin 16) (n : Fin 207) (c : Fin 66) (m : Fin 3) :
    rows2 y z v (ix2 (row b n) (⟨3 * c.val + m.val, by omega⟩ : Fin 198)) = (![y, z, v] : Fin 3 → Vec Ideal S207x1056 .f32) m (ix2 n (col2 c b)) := by
  generalize hs : stack2 (broadcastInDim S1x207x1056 ![1, 2] bcast_S207x1056_S1x207x1056_1_2 y)
        (broadcastInDim S1x207x1056 ![1, 2] bcast_S207x1056_S1x207x1056_1_2 z)
        (broadcastInDim S1x207x1056 ![1, 2] bcast_S207x1056_S1x207x1056_1_2 v) = s
  have e : rows2 y z v (ix2 (row b n) (⟨3 * c.val + m.val, by omega⟩ : Fin 198))
      = transpose S16x207x66x3 [3, 1, 2, 0] (shapeCast S3x207x66x16 s shapeCasts_S3x207x1056_S3x207x66x16) transposes_S3x207x66x16_S16x207x66x3_3_1_2_0 (ix4 b n c m) := by
    unfold rows2
    rw [hs]
    generalize transpose S16x207x66x3 [3, 1, 2, 0] (shapeCast S3x207x66x16 s shapeCasts_S3x207x1056_S3x207x66x16) transposes_S3x207x66x16_S16x207x66x3_3_1_2_0 = t
    have hk : ((S16x207x66x3 : Shape).rowMajor (ix4 b n c m) : ℕ) = ((S3312x198 : Shape).rowMajor (ix2 (row b n) (⟨3 * c.val + m.val, by omega⟩ : Fin 198)) : ℕ) :=
      (pos4 b n c m).trans (Eq.trans (by simp only [row]; omega) (pos2 (row b n) (⟨3 * c.val + m.val, by omega⟩ : Fin 198)).symm)
    exact Idealize.ShloMosaic.shapeCast_apply _ _ _ _ hk
  have e1 : transpose S16x207x66x3 [3, 1, 2, 0] (shapeCast S3x207x66x16 s shapeCasts_S3x207x1056_S3x207x66x16) transposes_S3x207x66x16_S16x207x66x3_3_1_2_0 (ix4 b n c m)
      = shapeCast S3x207x66x16 s shapeCasts_S3x207x1056_S3x207x66x16 (ix4 m n c b) := by
    generalize shapeCast S3x207x66x16 s shapeCasts_S3x207x1056_S3x207x66x16 = t
    pointwise
  have e2 : shapeCast S3x207x66x16 s shapeCasts_S3x207x1056_S3x207x66x16 (ix4 m n c b) = s (ix3 m n (col2 c b)) := by
    have hk : ((S3x207x1056 : Shape).rowMajor (ix3 m n (col2 c b)) : ℕ) = ((S3x207x66x16 : Shape).rowMajor (ix4 m n c b) : ℕ) :=
      (pos3 m n (col2 c b)).trans (Eq.trans (by simp only [col2]; omega) (pos4 m n c b).symm)
    exact Idealize.ShloMosaic.shapeCast_apply _ _ _ _ hk
  rw [e, e1, e2, ← hs, stack2_apply]
  match m with
  | 0 => show broadcastInDim S1x207x1056 ![1, 2] bcast_S207x1056_S1x207x1056_1_2 y (ix3 0 n (col2 c b)) = y (ix2 n (col2 c b)); pointwise
  | 1 => show broadcastInDim S1x207x1056 ![1, 2] bcast_S207x1056_S1x207x1056_1_2 z (ix3 0 n (col2 c b)) = z (ix2 n (col2 c b)); pointwise
  | 2 => show broadcastInDim S1x207x1056 ![1, 2] bcast_S207x1056_S1x207x1056_1_2 v (ix3 0 n (col2 c b)) = v (ix2 n (col2 c b)); pointwise

/-- Each entry of the rows is one diffusion term of the network (input of 2 features). -/
theorem terms2_apply (S : Vec Ideal S207x207 .f32) (x : Vec Ideal S16x207x2 .f32) (h : Vec Ideal S16x207x64 .f32) (b : Fin 16) (n : Fin 207) (c : Fin 66) (m : Fin 3) :
    terms2 S x h (ix2 (row b n) (⟨3 * c.val + m.val, by omega⟩ : Fin 198)) = Spec.term (adj S) (nodes (both2 x h)) m b n c := by
  have hf : unflat2 (flat2 x h) = nodes (both2 x h) := by
    funext b n c
    exact flat2_apply x h b n c
  unfold terms2
  rw [rows2_apply, ← hf]
  match m with
  | 0 => rfl
  | 1 => exact congrFun (congrFun (congrFun (unflat2_spread S (flat2 x h)) b) n) c
  | 2 =>
    have e := congrFun (congrFun (congrFun (unflat2_second S (flat2 x h) (spread2 S (flat2 x h))) b) n) c
    rw [unflat2_spread] at e
    exact e

/-- The product of the diffusion terms with the weights: the input's side and the state's. -/
theorem terms2_sum {o : ℕ} (S : Vec Ideal S207x207 .f32) (x : Vec Ideal S16x207x2 .f32) (h : Vec Ideal S16x207x64 .f32)
    (W : FVec Ideal ⟨2, ![198, o]⟩ .f32) (b : Fin 16) (n : Fin 207) (k : Fin o) :
    ∑ i : Fin 198, terms2 S x h (ix2 (row b n) i) * W (ix2 i k)
      = Spec.half (adj S) (nodes x) (wtsL (w := 2) (C := 66) rfl rfl W) b n k + Spec.half (adj S) (nodes h) (wtsR (w := 2) (C := 66) rfl rfl W) b n k := by
  rw [sum_features (w := 2) (C := 66) rfl rfl]
  refine congrArg₂ (· + ·) (Finset.sum_congr rfl fun m _ => Finset.sum_congr rfl fun c _ => ?_) (Finset.sum_congr rfl fun m _ => Finset.sum_congr rfl fun c _ => ?_)
  · have e := terms2_apply S x h b n (⟨c.val, by omega⟩ : Fin 66) m
    have e' := term_feature (adj S) (nodes x) (nodes (both2 x h)) (fun c : Fin 2 => (⟨c.val, by omega⟩ : Fin 66))
      (fun b n c => both2_left x h b n c) m b n c
    exact congrArg (· * _) (e.trans e')
  · have e := terms2_apply S x h b n (⟨2 + c.val, by omega⟩ : Fin 66) m
    have e' := term_feature (adj S) (nodes h) (nodes (both2 x h)) (fun c : Fin 64 => (⟨2 + c.val, by omega⟩ : Fin 66))
      (fun b n c => both2_right x h b n c) m b n c
    exact congrArg (· * _) (e.trans e')

/-- The diffusion convolution to 128 features, at the nodes. -/
theorem nodes_conv2x128 (S : Vec Ideal S207x207 .f32) (x : Vec Ideal S16x207x2 .f32) (h : Vec Ideal S16x207x64 .f32)
    (W : Vec Ideal S198x128 .f32) (bias : Vec Ideal S128 .f32) :
    nodes (conv2x128 S x h W bias) = Spec.conv (adj S) (nodes x) (nodes h) (wtsL (w := 2) (C := 66) rfl rfl W) (wtsR (w := 2) (C := 66) rfl rfl W) (fun k => bias (ix1 k)) := by
  funext b n k
  show _ = _ + _ + _
  rw [← terms2_sum S x h W b n k]
  generalize ht : terms2 S x h = t
  have e : conv2x128 S x h W bias (ix3 b n k) = (addf (Host.dotGeneral (φ₁ := .f32) (φ₂ := .f32) dot_S3312x198_S198x128_S3312x128_1_0_0_1_n_n none (t : FVec Ideal S3312x198 .f32) (W : FVec Ideal S198x128 .f32))
      (broadcastInDim S3312x128 ![0, 1] bcast_S1x128_S3312x128_0_1 (broadcastInDim S1x128 ![1] bcast_S128_S1x128_1 bias)) : FVec Ideal S3312x128 .f32) (ix2 (row b n) k) := by
    unfold conv2x128
    rw [ht]
    generalize (addf (Host.dotGeneral (φ₁ := .f32) (φ₂ := .f32) dot_S3312x198_S198x128_S3312x128_1_0_0_1_n_n none (t : FVec Ideal S3312x198 .f32) (W : FVec Ideal S198x128 .f32))
      (broadcastInDim S3312x128 ![0, 1] bcast_S1x128_S3312x128_0_1 (broadcastInDim S1x128 ![1] bcast_S128_S1x128_1 bias)) : FVec Ideal S3312x128 .f32) = v
    have hk : ((S3312x128 : Shape).rowMajor (ix2 (row b n) k) : ℕ) = ((S16x207x128 : Shape).rowMajor (ix3 b n k) : ℕ) :=
      (pos2 (row b n) k).trans (Eq.trans (by simp only [row]; omega) (pos3 b n k).symm)
    exact Idealize.ShloMosaic.shapeCast_apply _ _ _ _ hk
  refine e.trans ?_
  pointwise

/-- The diffusion convolution to 64 features, at the nodes. -/
theorem nodes_conv2x64 (S : Vec Ideal S207x207 .f32) (x : Vec Ideal S16x207x2 .f32) (h : Vec Ideal S16x207x64 .f32)
    (W : Vec Ideal S198x64 .f32) (bias : Vec Ideal S64 .f32) :
    nodes (conv2x64 S x h W bias) = Spec.conv (adj S) (nodes x) (nodes h) (wtsL (w := 2) (C := 66) rfl rfl W) (wtsR (w := 2) (C := 66) rfl rfl W) (fun k => bias (ix1 k)) := by
  funext b n k
  show _ = _ + _ + _
  rw [← terms2_sum S x h W b n k]
  generalize ht : terms2 S x h = t
  have e : conv2x64 S x h W bias (ix3 b n k) = (addf (Host.dotGeneral (φ₁ := .f32) (φ₂ := .f32) dot_S3312x198_S198x64_S3312x64_1_0_0_1_n_n none (t : FVec Ideal S3312x198 .f32) (W : FVec Ideal S198x64 .f32))
      (broadcastInDim S3312x64 ![0, 1] bcast_S1x64_S3312x64_0_1 (broadcastInDim S1x64 ![1] bcast_S64_S1x64_1 bias)) : FVec Ideal S3312x64 .f32) (ix2 (row b n) k) := by
    unfold conv2x64
    rw [ht]
    generalize (addf (Host.dotGeneral (φ₁ := .f32) (φ₂ := .f32) dot_S3312x198_S198x64_S3312x64_1_0_0_1_n_n none (t : FVec Ideal S3312x198 .f32) (W : FVec Ideal S198x64 .f32))
      (broadcastInDim S3312x64 ![0, 1] bcast_S1x64_S3312x64_0_1 (broadcastInDim S1x64 ![1] bcast_S64_S1x64_1 bias)) : FVec Ideal S3312x64 .f32) = v
    have hk : ((S3312x64 : Shape).rowMajor (ix2 (row b n) k) : ℕ) = ((S16x207x64 : Shape).rowMajor (ix3 b n k) : ℕ) :=
      (pos2 (row b n) k).trans (Eq.trans (by simp only [row]; omega) (pos3 b n k).symm)
    exact Idealize.ShloMosaic.shapeCast_apply _ _ _ _ hk
  refine e.trans ?_
  pointwise

/-- The weights of a cell as the reference's arrays hold them. -/
def cellW2 (Wg : Vec Ideal S198x128 .f32) (bg : Vec Ideal S128 .f32) (Wc : Vec Ideal S198x64 .f32) (bc : Vec Ideal S64 .f32) : CellW 2 where
  gx := wtsL (w := 2) (C := 66) rfl rfl Wg
  gh := wtsR (w := 2) (C := 66) rfl rfl Wg
  gb := fun k => bg (ix1 k)
  cx := wtsL (w := 2) (C := 66) rfl rfl Wc
  ch := wtsR (w := 2) (C := 66) rfl rfl Wc
  cb := fun k => bc (ix1 k)

/-- The cell, at the nodes. -/
theorem nodes_cell2 (S : Vec Ideal S207x207 .f32) (x : Vec Ideal S16x207x2 .f32) (h : Vec Ideal S16x207x64 .f32)
    (Wg : Vec Ideal S198x128 .f32) (bg : Vec Ideal S128 .f32) (Wc : Vec Ideal S198x64 .f32) (bc : Vec Ideal S64 .f32) :
    nodes (cell2 S x h Wg bg Wc bc) = (cellW2 Wg bg Wc bc).run (adj S) (nodes x) (nodes h) := by
  have hg : nodes (gates2 S x h Wg bg) = fun b n k => Ideal.logistic (Spec.conv (adj S) (nodes x) (nodes h) (wtsL (w := 2) (C := 66) rfl rfl Wg) (wtsR (w := 2) (C := 66) rfl rfl Wg) (fun k => bg (ix1 k)) b n k) := by
    funext b n k
    rw [← nodes_conv2x128]
    exact sigmGates_apply _ _
  funext b n c
  have e : cell2 S x h Wg bg Wc bc (ix3 b n c) = nodes (gates2 S x h Wg bg) b n (Spec.hi c) * nodes h b n c
      + (1 - nodes (gates2 S x h Wg bg) b n (Spec.hi c)) * Ideal.tanh (nodes (conv2x64 S x (mulf (resetGate (gates2 S x h Wg bg)) h) Wc bc) b n c) := by
    show blend _ _ h (ix3 b n c) = _
    rw [blend_apply, updateGate_apply]
    rfl
  refine e.trans ?_
  rw [nodes_conv2x64, nodes_reset, hg]
  rfl

/-! ### An input of 1 features -/

/-- The input beside the state. -/
def both1 (x : Vec Ideal S16x207x1 .f32) (h : Vec Ideal S16x207x64 .f32) : Vec Ideal S16x207x65 .f32 :=
  concatenate S16x207x65 2 [⟨S16x207x1, x⟩, ⟨S16x207x64, h⟩] concatenates_S16x207x1_S16x207x64_S16x207x65_d2

/-- An input of 1 features beside a state: the first features are the input's. -/
theorem both1_left (x : Vec Ideal S16x207x1 .f32) (h : Vec Ideal S16x207x64 .f32) (b : Fin 16) (n : Fin 207) (c : Fin 1) :
    both1 x h (ix3 b n (⟨c.val, by omega⟩ : Fin 65)) = x (ix3 b n c) := by
  unfold both1
  rw [concatenate_pair_apply]
  split
  · refine congrArg x (funext fun a => ?_)
    match a with
    | 0 => rfl
    | 1 => rfl
    | 2 => rfl
  · rename_i hc
    exact absurd c.isLt hc

/-- An input of 1 features beside a state: the further features are the state's. -/
theorem both1_right (x : Vec Ideal S16x207x1 .f32) (h : Vec Ideal S16x207x64 .f32) (b : Fin 16) (n : Fin 207) (c : Fin 64) :
    both1 x h (ix3 b n (⟨1 + c.val, by omega⟩ : Fin 65)) = h (ix3 b n c) := by
  unfold both1
  rw [concatenate_pair_apply]
  split
  · rename_i hc
    exact absurd hc (by show ¬ 1 + c.val < 1; omega)
  · refine congrArg h (funext fun a => ?_)
    match a with
    | 0 => rfl
    | 1 => rfl
    | 2 => exact Fin.ext (by show 1 + c.val - 1 = c.val; omega)

/-- The column of feature `c` of batch entry `b`. -/
def col1 (c : Fin 65) (b : Fin 16) : Fin 1040 := ⟨16 * c.val + b.val, by omega⟩

/-- Features and batch entries merged into columns (input of 1 features), entry by entry. -/
theorem flat1_apply (x : Vec Ideal S16x207x1 .f32) (h : Vec Ideal S16x207x64 .f32) (b : Fin 16) (n : Fin 207) (c : Fin 65) :
    flat1 x h (ix2 n (col1 c b)) = both1 x h (ix3 b n c) := by
  have e : flat1 x h (ix2 n (col1 c b)) = transpose S207x65x16 [1, 2, 0] (both1 x h) transposes_S16x207x65_S207x65x16_1_2_0 (ix3 n c b) := by
    have h0 : flat1 x h = shapeCast S207x1040 (transpose S207x65x16 [1, 2, 0] (both1 x h) transposes_S16x207x65_S207x65x16_1_2_0) shapeCasts_S207x65x16_S207x1040 := rfl
    rw [h0]
    generalize transpose S207x65x16 [1, 2, 0] (both1 x h) transposes_S16x207x65_S207x65x16_1_2_0 = t
    have hk : ((S207x65x16 : Shape).rowMajor (ix3 n c b) : ℕ) = ((S207x1040 : Shape).rowMajor (ix2 n (col1 c b)) : ℕ) :=
      (pos3 n c b).trans (Eq.trans (by simp only [col1]; omega) (pos2 n (col1 c b)).symm)
    exact Idealize.ShloMosaic.shapeCast_apply _ _ _ _ hk
  rw [e]
  pointwise

/-- The flat array's nodes, feature by feature. -/
def unflat1 (y : Vec Ideal S207x1040 .f32) : Nodes 65 := fun b n c => y (ix2 n (col1 c b))

/-- The support times the merged columns is the network's spread (input of 1 features). -/
theorem unflat1_spread (S : Vec Ideal S207x207 .f32) (y : Vec Ideal S207x1040 .f32) : unflat1 (spread1 S y) = Spec.spread (adj S) (unflat1 y) := by
  funext b n c
  show spread1 S y (ix2 n (col1 c b)) = ∑ j : Fin 207, S (ix2 n j) * y (ix2 j (col1 c b))
  pointwise [spread1]

/-- The third diffusion term of the merged columns: twice the spread less the first (input of 1 features). -/
theorem unflat1_second (S : Vec Ideal S207x207 .f32) (y z : Vec Ideal S207x1040 .f32) :
    unflat1 (second1 S y z) = fun b n c => 2 * Spec.spread (adj S) (unflat1 z) b n c - unflat1 y b n c := by
  rw [← unflat1_spread]
  funext b n c
  show second1 S y z (ix2 n (col1 c b)) = 2 * spread1 S z (ix2 n (col1 c b)) - y (ix2 n (col1 c b))
  have e : second1 S y z (ix2 n (col1 c b)) = Ideal.ofBits .f32 0x40000000#32 * spread1 S z (ix2 n (col1 c b)) - y (ix2 n (col1 c b)) := by
    generalize hz : spread1 S z = sz
    have e0 : second1 S y z = (subf (mulf (broadcastInDim S207x1040 ![] bcast_S_S207x1040 (two (F := Ideal))) sz : FVec Ideal S207x1040 .f32) y : FVec Ideal S207x1040 .f32) := by rw [← hz]; rfl
    rw [e0]
    pointwise [two]
  rw [e, ofBits_two]

/-- The three diffusion terms stacked, term by term (input of 1 features). -/
theorem stack1_apply (y z v : Vec Ideal S1x207x1040 .f32) (m : Fin 3) (n : Fin 207) (k : Fin 1040) :
    stack1 y z v (ix3 m n k) = (![y, z, v] : Fin 3 → Vec Ideal S1x207x1040 .f32) m (ix3 0 n k) :=
  Idealize.ShloMosaic.concatenate_ofFn_apply (s₁ := S1x207x1040) (t := S3x207x1040) 0 ![y, z, v]
    concatenates_S1x207x1040_S1x207x1040_S1x207x1040_S3x207x1040_d0 rfl 1 rfl _ m
    (show m.val / 1 = m.val by omega) (ix3 0 n k) (show 0 = m.val % 1 by omega)
    (fun a ha => by match a with | 0 => exact absurd rfl ha | 1 => rfl | 2 => rfl)

/-- The stacked terms as rows, one a node of a batch entry (input of 1 features). -/
theorem rows1_apply (y z v : Vec Ideal S207x1040 .f32) (b : Fin 16) (n : Fin 207) (c : Fin 65) (m : Fin 3) :
    rows1 y z v (ix2 (row b n) (⟨3 * c.val + m.val, by omega⟩ : Fin 195)) = (![y, z, v] : Fin 3 → Vec Ideal S207x1040 .f32) m (ix2 n (col1 c b)) := by
  generalize hs : stack1 (broadcastInDim S1x207x1040 ![1, 2] bcast_S207x1040_S1x207x1040_1_2 y)
        (broadcastInDim S1x207x1040 ![1, 2] bcast_S207x1040_S1x207x1040_1_2 z)
        (broadcastInDim S1x207x1040 ![1, 2] bcast_S207x1040_S1x207x1040_1_2 v) = s
  have e : rows1 y z v (ix2 (row b n) (⟨3 * c.val + m.val, by omega⟩ : Fin 195))
      = transpose S16x207x65x3 [3, 1, 2, 0] (shapeCast S3x207x65x16 s shapeCasts_S3x207x1040_S3x207x65x16) transposes_S3x207x65x16_S16x207x65x3_3_1_2_0 (ix4 b n c m) := by
    unfold rows1
    rw [hs]
    generalize transpose S16x207x65x3 [3, 1, 2, 0] (shapeCast S3x207x65x16 s shapeCasts_S3x207x1040_S3x207x65x16) transposes_S3x207x65x16_S16x207x65x3_3_1_2_0 = t
    have hk : ((S16x207x65x3 : Shape).rowMajor (ix4 b n c m) : ℕ) = ((S3312x195 : Shape).rowMajor (ix2 (row b n) (⟨3 * c.val + m.val, by omega⟩ : Fin 195)) : ℕ) :=
      (pos4 b n c m).trans (Eq.trans (by simp only [row]; omega) (pos2 (row b n) (⟨3 * c.val + m.val, by omega⟩ : Fin 195)).symm)
    exact Idealize.ShloMosaic.shapeCast_apply _ _ _ _ hk
  have e1 : transpose S16x207x65x3 [3, 1, 2, 0] (shapeCast S3x207x65x16 s shapeCasts_S3x207x1040_S3x207x65x16) transposes_S3x207x65x16_S16x207x65x3_3_1_2_0 (ix4 b n c m)
      = shapeCast S3x207x65x16 s shapeCasts_S3x207x1040_S3x207x65x16 (ix4 m n c b) := by
    generalize shapeCast S3x207x65x16 s shapeCasts_S3x207x1040_S3x207x65x16 = t
    pointwise
  have e2 : shapeCast S3x207x65x16 s shapeCasts_S3x207x1040_S3x207x65x16 (ix4 m n c b) = s (ix3 m n (col1 c b)) := by
    have hk : ((S3x207x1040 : Shape).rowMajor (ix3 m n (col1 c b)) : ℕ) = ((S3x207x65x16 : Shape).rowMajor (ix4 m n c b) : ℕ) :=
      (pos3 m n (col1 c b)).trans (Eq.trans (by simp only [col1]; omega) (pos4 m n c b).symm)
    exact Idealize.ShloMosaic.shapeCast_apply _ _ _ _ hk
  rw [e, e1, e2, ← hs, stack1_apply]
  match m with
  | 0 => show broadcastInDim S1x207x1040 ![1, 2] bcast_S207x1040_S1x207x1040_1_2 y (ix3 0 n (col1 c b)) = y (ix2 n (col1 c b)); pointwise
  | 1 => show broadcastInDim S1x207x1040 ![1, 2] bcast_S207x1040_S1x207x1040_1_2 z (ix3 0 n (col1 c b)) = z (ix2 n (col1 c b)); pointwise
  | 2 => show broadcastInDim S1x207x1040 ![1, 2] bcast_S207x1040_S1x207x1040_1_2 v (ix3 0 n (col1 c b)) = v (ix2 n (col1 c b)); pointwise

/-- Each entry of the rows is one diffusion term of the network (input of 1 features). -/
theorem terms1_apply (S : Vec Ideal S207x207 .f32) (x : Vec Ideal S16x207x1 .f32) (h : Vec Ideal S16x207x64 .f32) (b : Fin 16) (n : Fin 207) (c : Fin 65) (m : Fin 3) :
    terms1 S x h (ix2 (row b n) (⟨3 * c.val + m.val, by omega⟩ : Fin 195)) = Spec.term (adj S) (nodes (both1 x h)) m b n c := by
  have hf : unflat1 (flat1 x h) = nodes (both1 x h) := by
    funext b n c
    exact flat1_apply x h b n c
  unfold terms1
  rw [rows1_apply, ← hf]
  match m with
  | 0 => rfl
  | 1 => exact congrFun (congrFun (congrFun (unflat1_spread S (flat1 x h)) b) n) c
  | 2 =>
    have e := congrFun (congrFun (congrFun (unflat1_second S (flat1 x h) (spread1 S (flat1 x h))) b) n) c
    rw [unflat1_spread] at e
    exact e

/-- The product of the diffusion terms with the weights: the input's side and the state's. -/
theorem terms1_sum {o : ℕ} (S : Vec Ideal S207x207 .f32) (x : Vec Ideal S16x207x1 .f32) (h : Vec Ideal S16x207x64 .f32)
    (W : FVec Ideal ⟨2, ![195, o]⟩ .f32) (b : Fin 16) (n : Fin 207) (k : Fin o) :
    ∑ i : Fin 195, terms1 S x h (ix2 (row b n) i) * W (ix2 i k)
      = Spec.half (adj S) (nodes x) (wtsL (w := 1) (C := 65) rfl rfl W) b n k + Spec.half (adj S) (nodes h) (wtsR (w := 1) (C := 65) rfl rfl W) b n k := by
  rw [sum_features (w := 1) (C := 65) rfl rfl]
  refine congrArg₂ (· + ·) (Finset.sum_congr rfl fun m _ => Finset.sum_congr rfl fun c _ => ?_) (Finset.sum_congr rfl fun m _ => Finset.sum_congr rfl fun c _ => ?_)
  · have e := terms1_apply S x h b n (⟨c.val, by omega⟩ : Fin 65) m
    have e' := term_feature (adj S) (nodes x) (nodes (both1 x h)) (fun c : Fin 1 => (⟨c.val, by omega⟩ : Fin 65))
      (fun b n c => both1_left x h b n c) m b n c
    exact congrArg (· * _) (e.trans e')
  · have e := terms1_apply S x h b n (⟨1 + c.val, by omega⟩ : Fin 65) m
    have e' := term_feature (adj S) (nodes h) (nodes (both1 x h)) (fun c : Fin 64 => (⟨1 + c.val, by omega⟩ : Fin 65))
      (fun b n c => both1_right x h b n c) m b n c
    exact congrArg (· * _) (e.trans e')

/-- The diffusion convolution to 128 features, at the nodes. -/
theorem nodes_conv1x128 (S : Vec Ideal S207x207 .f32) (x : Vec Ideal S16x207x1 .f32) (h : Vec Ideal S16x207x64 .f32)
    (W : Vec Ideal S195x128 .f32) (bias : Vec Ideal S128 .f32) :
    nodes (conv1x128 S x h W bias) = Spec.conv (adj S) (nodes x) (nodes h) (wtsL (w := 1) (C := 65) rfl rfl W) (wtsR (w := 1) (C := 65) rfl rfl W) (fun k => bias (ix1 k)) := by
  funext b n k
  show _ = _ + _ + _
  rw [← terms1_sum S x h W b n k]
  generalize ht : terms1 S x h = t
  have e : conv1x128 S x h W bias (ix3 b n k) = (addf (Host.dotGeneral (φ₁ := .f32) (φ₂ := .f32) dot_S3312x195_S195x128_S3312x128_1_0_0_1_n_n none (t : FVec Ideal S3312x195 .f32) (W : FVec Ideal S195x128 .f32))
      (broadcastInDim S3312x128 ![0, 1] bcast_S1x128_S3312x128_0_1 (broadcastInDim S1x128 ![1] bcast_S128_S1x128_1 bias)) : FVec Ideal S3312x128 .f32) (ix2 (row b n) k) := by
    unfold conv1x128
    rw [ht]
    generalize (addf (Host.dotGeneral (φ₁ := .f32) (φ₂ := .f32) dot_S3312x195_S195x128_S3312x128_1_0_0_1_n_n none (t : FVec Ideal S3312x195 .f32) (W : FVec Ideal S195x128 .f32))
      (broadcastInDim S3312x128 ![0, 1] bcast_S1x128_S3312x128_0_1 (broadcastInDim S1x128 ![1] bcast_S128_S1x128_1 bias)) : FVec Ideal S3312x128 .f32) = v
    have hk : ((S3312x128 : Shape).rowMajor (ix2 (row b n) k) : ℕ) = ((S16x207x128 : Shape).rowMajor (ix3 b n k) : ℕ) :=
      (pos2 (row b n) k).trans (Eq.trans (by simp only [row]; omega) (pos3 b n k).symm)
    exact Idealize.ShloMosaic.shapeCast_apply _ _ _ _ hk
  refine e.trans ?_
  pointwise

/-- The diffusion convolution to 64 features, at the nodes. -/
theorem nodes_conv1x64 (S : Vec Ideal S207x207 .f32) (x : Vec Ideal S16x207x1 .f32) (h : Vec Ideal S16x207x64 .f32)
    (W : Vec Ideal S195x64 .f32) (bias : Vec Ideal S64 .f32) :
    nodes (conv1x64 S x h W bias) = Spec.conv (adj S) (nodes x) (nodes h) (wtsL (w := 1) (C := 65) rfl rfl W) (wtsR (w := 1) (C := 65) rfl rfl W) (fun k => bias (ix1 k)) := by
  funext b n k
  show _ = _ + _ + _
  rw [← terms1_sum S x h W b n k]
  generalize ht : terms1 S x h = t
  have e : conv1x64 S x h W bias (ix3 b n k) = (addf (Host.dotGeneral (φ₁ := .f32) (φ₂ := .f32) dot_S3312x195_S195x64_S3312x64_1_0_0_1_n_n none (t : FVec Ideal S3312x195 .f32) (W : FVec Ideal S195x64 .f32))
      (broadcastInDim S3312x64 ![0, 1] bcast_S1x64_S3312x64_0_1 (broadcastInDim S1x64 ![1] bcast_S64_S1x64_1 bias)) : FVec Ideal S3312x64 .f32) (ix2 (row b n) k) := by
    unfold conv1x64
    rw [ht]
    generalize (addf (Host.dotGeneral (φ₁ := .f32) (φ₂ := .f32) dot_S3312x195_S195x64_S3312x64_1_0_0_1_n_n none (t : FVec Ideal S3312x195 .f32) (W : FVec Ideal S195x64 .f32))
      (broadcastInDim S3312x64 ![0, 1] bcast_S1x64_S3312x64_0_1 (broadcastInDim S1x64 ![1] bcast_S64_S1x64_1 bias)) : FVec Ideal S3312x64 .f32) = v
    have hk : ((S3312x64 : Shape).rowMajor (ix2 (row b n) k) : ℕ) = ((S16x207x64 : Shape).rowMajor (ix3 b n k) : ℕ) :=
      (pos2 (row b n) k).trans (Eq.trans (by simp only [row]; omega) (pos3 b n k).symm)
    exact Idealize.ShloMosaic.shapeCast_apply _ _ _ _ hk
  refine e.trans ?_
  pointwise

/-- The weights of a cell as the reference's arrays hold them. -/
def cellW1 (Wg : Vec Ideal S195x128 .f32) (bg : Vec Ideal S128 .f32) (Wc : Vec Ideal S195x64 .f32) (bc : Vec Ideal S64 .f32) : CellW 1 where
  gx := wtsL (w := 1) (C := 65) rfl rfl Wg
  gh := wtsR (w := 1) (C := 65) rfl rfl Wg
  gb := fun k => bg (ix1 k)
  cx := wtsL (w := 1) (C := 65) rfl rfl Wc
  ch := wtsR (w := 1) (C := 65) rfl rfl Wc
  cb := fun k => bc (ix1 k)

/-- The cell, at the nodes. -/
theorem nodes_cell1 (S : Vec Ideal S207x207 .f32) (x : Vec Ideal S16x207x1 .f32) (h : Vec Ideal S16x207x64 .f32)
    (Wg : Vec Ideal S195x128 .f32) (bg : Vec Ideal S128 .f32) (Wc : Vec Ideal S195x64 .f32) (bc : Vec Ideal S64 .f32) :
    nodes (cell1 S x h Wg bg Wc bc) = (cellW1 Wg bg Wc bc).run (adj S) (nodes x) (nodes h) := by
  have hg : nodes (gates1 S x h Wg bg) = fun b n k => Ideal.logistic (Spec.conv (adj S) (nodes x) (nodes h) (wtsL (w := 1) (C := 65) rfl rfl Wg) (wtsR (w := 1) (C := 65) rfl rfl Wg) (fun k => bg (ix1 k)) b n k) := by
    funext b n k
    rw [← nodes_conv1x128]
    exact sigmGates_apply _ _
  funext b n c
  have e : cell1 S x h Wg bg Wc bc (ix3 b n c) = nodes (gates1 S x h Wg bg) b n (Spec.hi c) * nodes h b n c
      + (1 - nodes (gates1 S x h Wg bg) b n (Spec.hi c)) * Ideal.tanh (nodes (conv1x64 S x (mulf (resetGate (gates1 S x h Wg bg)) h) Wc bc) b n c) := by
    show blend _ _ h (ix3 b n c) = _
    rw [blend_apply, updateGate_apply]
    rfl
  refine e.trans ?_
  rw [nodes_conv1x64, nodes_reset, hg]
  rfl

end Cert.Proof.Ref
-- ==== Proof.RSupport.lean ====
/-
  The reference's attention and support read at the extended reals: they are the network's.
-/
module

public import proofs.«01_k».proof.Proof.RRead
public import proofs.«01_k».proof.Proof.Rank
public import Idealize.ShloMosaic.Lib.SortFacts

@[expose] public section

set_option maxRecDepth 16384

noncomputable section

namespace Cert.Proof.Ref

open Idealize.ShloMosaic Cert.ReferenceIdeal Cert.ReferenceIdeal.Gen

/-- The features of the nodes that an array of one row per batch entry and node holds. -/
def rnodes {w : ℕ} (X : FVec Ideal ⟨2, ![3312, w]⟩ .f32) : Spec.Nodes w := fun b n c => X (ix2 (row b n) c)

variable (h : FVec Ideal S3312x64 .f32) (wk wq : FVec Ideal S64x32 .f32)

/-- The keys of the nodes. -/
abbrev keys (h : FVec Ideal S3312x64 .f32) (w : FVec Ideal S64x32 .f32) : FVec Ideal S16x207x32 .f32 :=
  Host.dotGeneral (φ₁ := .f32) (φ₂ := .f32) dot_S16x207x64_S64x32_S16x207x32_2_0_01_1_n_n none (shapeCast S16x207x64 h shapeCasts_S3312x64_S16x207x64) w

/-- Rows split into batch entries and nodes, entry by entry. -/
theorem rows_apply (b : Fin 16) (n : Fin 207) (c : Fin 64) :
    shapeCast S16x207x64 h shapeCasts_S3312x64_S16x207x64 (ix3 b n c) = h (ix2 (row b n) c) := by
  have hk : ((S3312x64 : Shape).rowMajor (ix2 (row b n) c) : ℕ) = (S16x207x64 : Shape).rowMajor (ix3 b n c) := by
    rw [pos2, pos3]
    simp only [row]
    omega
  exact Idealize.ShloMosaic.shapeCast_apply _ _ _ _ hk

/-- A state projected by one weight matrix, entry by entry. -/
theorem keys_apply (w : FVec Ideal S64x32 .f32) (b : Fin 16) (n : Fin 207) (d : Fin 32) :
    keys h w (ix3 b n d) = ∑ c : Fin 64, h (ix2 (row b n) c) * w (ix2 c d) := by
  have hr := rows_apply h b n
  unfold keys
  generalize shapeCast S16x207x64 h shapeCasts_S3312x64_S16x207x64 = X at *
  pointwise []
  simp only [hr]

/-- The attention scores are the network's. -/
theorem scores_apply (b : Fin 16) (n j : Fin 207) :
    scores (F := Ideal) h wk wq (ix3 b n j) = Spec.score (rnodes h) (fun c d => wk (ix2 c d)) (fun c d => wq (ix2 c d)) b n j := by
  have hk := keys_apply h wk
  have hq := keys_apply h wq
  show maximumf (Host.dotGeneral dot_S16x207x32_S16x207x32_S16x207x207_2_2_1_1_0_0 none (keys h wk) (keys h wq)) _ (ix3 b n j) = _
  generalize keys h wk = K at *
  generalize keys h wq = Q at *
  pointwise [zero]
  simp only [hk, hq]
  rfl

/-- The pattern of minus infinity is the least extended real. -/
theorem ofBits_negInf : Ideal.ofBits .f32 0xFF800000#32 = ⊥ := by simp [Ideal.ofBits, Ideal.ieee]

/-- The exponential of a score less its row's greatest. -/
theorem expScores_apply (a : FVec Ideal S16x207x207 .f32) (b : Fin 16) (n j : Fin 207) :
    expScores (F := Ideal) a (ix3 b n j) = Ideal.exp (a (ix3 b n j) - Finset.univ.sup (fun k : Fin 207 => a (ix3 b n k))) := by
  pointwise [expScores, alongRow]
  rw [ofBits_negInf, max_eq_right bot_le]
  rfl

/-- The softmax: an exponential over its row's sum. -/
theorem softmax_apply (a : Vec Ideal S16x207x207 .f32) (b : Fin 16) (n j : Fin 207) :
    softmax (F := Ideal) a (ix3 b n j) = Ideal.div (expScores (F := Ideal) a (ix3 b n j)) (∑ k : Fin 207, expScores (F := Ideal) a (ix3 b n k)) := by
  unfold softmax
  generalize expScores (F := Ideal) a = e
  pointwise [alongRow, zero]

/-- The pattern of sixteen is the number sixteen. -/
theorem ofBits_sixteen : Ideal.ofBits .f32 0x41800000#32 = ((16 : ℝ) : EReal) := by
  simp [Ideal.ofBits, Ideal.ieee]
  rw [← EReal.coe_mul]
  norm_num

/-- The mean over the batch: a sixteenth of the sum. -/
theorem mean_apply (p : FVec Ideal S16x207x207 .f32) (n j : Fin 207) :
    mean (F := Ideal) p (ix2 n j) = (∑ b : Fin 16, p (ix3 b n j)) * ((1 / 16 : ℝ) : EReal) := by
  pointwise [mean, zero]
  rw [ofBits_sixteen]
  unfold Ideal.div
  have h16 : ((16 : ℝ) : EReal) ≠ 0 := by
    intro h
    have := EReal.coe_eq_zero.mp h
    norm_num at this
  rw [if_neg h16, ← EReal.coe_inv, one_div]

/-- Entry `k` of the row through an entry of a matrix. -/
def along (n q k : Fin 207) : S207x207.Idx := (ix2 n q : S207x207.Idx).along 1 k

/-- The indices along a row of a square array. -/
theorem along_row (n q k : Fin 207) : along n q k = ix2 n k := by
  funext a
  fin_cases a <;> rfl

/-- The sorted array holds, in each row, the row's own entries in the sort's order. -/
theorem sort2_row (A : FVec Ideal S207x207 .f32) (y : IVec S207x207 32) (n q : Fin 207) :
    (Host.sort2 S207x207 1 (fun l r => FloatOps.cmpfTotal .gt l.1 r.1) A y).1 (ix2 n q)
      = A (ix2 n (sortedFrom (fun k k' => FloatOps.cmpfTotal .gt (A (ix2 n k)) (A (ix2 n k')) == 1#1) q)) := by
  have e : (Host.sort2 S207x207 1 (fun l r => FloatOps.cmpfTotal .gt l.1 r.1) A y).1 (ix2 n q)
      = A (along n q (sortedFrom (fun k k' : Fin 207 => FloatOps.cmpfTotal .gt (A (along n q k)) (A (along n q k')) == 1#1) q)) := by
    unfold Host.sort2
    rw [dif_pos (show 1 < S207x207.rank from (by decide))]
    rfl
  rw [e]
  simp only [along_row]

/-- The last of a row's thirty greatest is the thirtieth entry of the sorted row. -/
theorem topK_apply (A : FVec Ideal S207x207 .f32) (n : Fin 207) :
    (Host.topK S207x30 1 (FloatOps.cmpfTotal .gt) A sliceFits_S207x207_S207x30).1 (ix2 n 29)
      = A (ix2 n (sortedFrom (fun k k' => FloatOps.cmpfTotal .gt (A (ix2 n k)) (A (ix2 n k')) == 1#1) 29)) := by
  unfold Host.topK
  dsimp only
  pointwise []
  exact sort2_row A _ n 29

/-- The threshold of a row is its thirtieth greatest entry. -/
theorem threshold_apply (A : Vec Ideal S207x207 .f32) (n : Fin 207) :
    threshold (F := Ideal) A (ix2 n 0) = Spec.thirtieth (adj A n) := by
  unfold threshold
  pointwise []
  rw [topK_apply]
  symm
  apply Spec.thirtieth_eq
  refine Spec.isThirtieth_sorted (adj A n) _ (sortedFrom_injective _) fun i j hij => ?_
  have hlt : ∀ k k', (FloatOps.cmpfTotal (F := Ideal) (φ := .f32) .gt (A (ix2 n k)) (A (ix2 n k')) == 1#1) = decide (A (ix2 n k') < A (ix2 n k)) := by
    intro k k'
    show (BitVec.ofBool (decide (A (ix2 n k') < A (ix2 n k))) == 1#1) = _
    cases decide (A (ix2 n k') < A (ix2 n k)) <;> rfl
  have := sortedFrom_noInversion (fun k k' => decide (A (ix2 n k') < A (ix2 n k)))
    (fun k k' => FloatOps.cmpfTotal (F := Ideal) (φ := .f32) .gt (A (ix2 n k)) (A (ix2 n k')) == 1#1)
    (fun a b hab => by rw [hlt] at hab; exact decide_eq_false (not_lt.mpr (of_decide_eq_true hab).le))
    (fun a b hab => by rw [hlt]; exact hab)
    (fun a b c hab hbc => decide_eq_false (not_lt.mpr ((not_lt.mp (of_decide_eq_false hab)).trans (not_lt.mp (of_decide_eq_false hbc)))))
    i j hij
  exact not_lt.mp (of_decide_eq_false this)

/-- The entries kept are the network's. -/
theorem kept_apply (A : Vec Ideal S207x207 .f32) (n j : Fin 207) :
    kept (F := Ideal) A (ix2 n j) = Spec.kept (adj A) n j := by
  have ht := threshold_apply A n
  unfold kept
  generalize threshold (F := Ideal) A = t at *
  pointwise [zero]
  rw [ht]
  rfl

/-- The support's rows normalised are the network's. -/
theorem normalised_apply (A : FVec Ideal S207x207 .f32) (n j : Fin 207) :
    normalised (F := Ideal) A (ix2 n j) = Spec.normal (adj A) n j := by
  unfold normalised invDegree degree
  pointwise [zero, one]
  rfl

/-- The softmax of the scores is the network's, batch entry by batch entry. -/
theorem softmax_node (b : Fin 16) (n j : Fin 207) :
    softmax (F := Ideal) (scores (F := Ideal) h wk wq) (ix3 b n j)
      = Spec.rowNormal (Spec.expo (Spec.score (rnodes h) (fun c d => wk (ix2 c d)) (fun c d => wq (ix2 c d)) b)) n j := by
  have hs := scores_apply h wk wq
  generalize scores (F := Ideal) h wk wq = a at *
  rw [softmax_apply]
  simp only [expScores_apply, hs]
  rfl

/-- The mean of the softmax is the network's attention. -/
theorem mean_node :
    adj (mean (F := Ideal) (softmax (F := Ideal) (scores (F := Ideal) h wk wq)))
      = Spec.attention (rnodes h) (fun c d => wk (ix2 c d)) (fun c d => wq (ix2 c d)) := by
  funext n j
  have hs := softmax_node h wk wq
  unfold adj
  generalize softmax (F := Ideal) (scores (F := Ideal) h wk wq) = p at *
  rw [mean_apply]
  simp only [hs]
  rfl

/-- The reference's support is the network's. -/
theorem support_node :
    adj (support (F := Ideal) h wk wq) = Spec.support (rnodes h) (fun c d => wk (ix2 c d)) (fun c d => wq (ix2 c d)) := by
  have hm := mean_node h wk wq
  unfold support
  generalize mean (F := Ideal) (softmax (F := Ideal) (scores (F := Ideal) h wk wq)) = A at *
  have hk : adj (kept (F := Ideal) A) = Spec.kept (adj A) := by
    funext n j
    exact kept_apply A n j
  funext n j
  refine (normalised_apply _ n j).trans ?_
  rw [hk, hm]
  rfl

end Cert.Proof.Ref

end
-- ==== Proof.RefValue.lean ====
/-
  The reference's result as recursions over its time steps: the recurrent pass, the support it ends in, the encoder's
  states and the decoder's states, value and output.
-/
module

public import proofs.«01_k».proof.Proof.RefFrame

@[expose] public section

set_option maxRecDepth 16384

noncomputable section

namespace Cert.Proof.Ref

open Idealize.ShloMosaic Cert.ReferenceIdeal Cert.ReferenceIdeal.Gen
open Idealize.ShloMosaic.StableHlo

variable {F : FTy → Type} [FloatOps F]

/-- The input's nodes, time step by time step. -/
def seqNodes (x : Vec F S16x12x207x2 .f32) : Vec F S12x16x207x2 .f32 := transpose S12x16x207x2 [1, 0, 2, 3] x transposes_S16x12x207x2_S12x16x207x2_1_0_2_3

/-- The input's rows, time step by time step. -/
def seqRows (x : Vec F S16x12x207x2 .f32) : Vec F S12x3312x2 .f32 := shapeCast S12x3312x2 (seqNodes x) shapeCasts_S12x16x207x2_S12x3312x2

/-- The recurrent pass's state before step `k`. -/
def gruFold (xt : Vec F S12x3312x2 .f32) (wih : Vec F S192x2 .f32) (bih : Vec F S192 .f32) (whh : Vec F S192x64 .f32) (bhh : Vec F S192 .f32) : ℕ → Vec F S3312x64 .f32
  | 0 => broadcastInDim S3312x64 ![] bcast_S_S3312x64 zero
  | k + 1 => gru (frameRows xt (word k)) wih bih whh bhh (gruFold xt wih bih whh bhh k)

/-- The encoder's first layer before step `k`: its state, and the states stored so far. -/
def enc0Fold (S : Vec F S207x207 .f32) (xt : Vec F S12x16x207x2 .f32) (Wg : Vec F S198x128 .f32) (bg : Vec F S128 .f32) (Wc : Vec F S198x64 .f32) (bc : Vec F S64 .f32) :
    ℕ → Vec F S16x207x64 .f32 × Vec F S12x16x207x64 .f32
  | 0 => (broadcastInDim S16x207x64 ![] bcast_S_S16x207x64 zero, broadcastInDim S12x16x207x64 ![] bcast_S_S12x16x207x64 zero)
  | k + 1 =>
    let p := enc0Fold S xt Wg bg Wc bc k
    let a := cell2 S (frameNodes xt (word k)) p.1 Wg bg Wc bc
    (a, putState p.2 a (word k))

/-- The encoder's second layer's state before step `k`, from the first layer's states. -/
def enc1Fold (S : Vec F S207x207 .f32) (hs : Vec F S12x16x207x64 .f32) (Wg : Vec F S384x128 .f32) (bg : Vec F S128 .f32) (Wc : Vec F S384x64 .f32) (bc : Vec F S64 .f32) :
    ℕ → Vec F S16x207x64 .f32
  | 0 => broadcastInDim S16x207x64 ![] bcast_S_S16x207x64 zero
  | k + 1 => cell64 S (frameStates hs (word k)) (enc1Fold S hs Wg bg Wc bc k) Wg bg Wc bc

/-- The decoder's two states, its current value and the output before step `k`. -/
def decFold (S : Vec F S207x207 .f32) (Wg : Vec F S195x128 .f32) (bg : Vec F S128 .f32) (Wc : Vec F S195x64 .f32) (bc : Vec F S64 .f32)
    (Wg' : Vec F S384x128 .f32) (bg' : Vec F S128 .f32) (Wc' : Vec F S384x64 .f32) (bc' : Vec F S64 .f32) (pw : Vec F S64x1 .f32) (pb : Vec F S1 .f32)
    (h0 h1 : Vec F S16x207x64 .f32) : ℕ → Vec F S16x207x64 .f32 × Vec F S16x207x64 .f32 × Vec F S16x207x1 .f32 × Vec F S16x12x207x1 .f32
  | 0 => (h0, h1, broadcastInDim S16x207x1 ![] bcast_S_S16x207x1 zero, broadcastInDim S16x12x207x1 ![] bcast_S_S16x12x207x1 zero)
  | k + 1 =>
    let p := decFold S Wg bg Wc bc Wg' bg' Wc' bc' pw pb h0 h1 k
    let a := cell1 S p.2.2.1 p.1 Wg bg Wc bc
    let b := cell64 S a p.2.1 Wg' bg' Wc' bc'
    (a, b, project b pw pb, putStep p.2.2.2 (project b pw pb) (word k))

variable (m : (ℓ : Loc nD τ sig) → Buf (Elt F) ℓ)

/-- The launch's contents of an argument. -/
abbrev arg (c : Dev nD) (r : Ref sig .tc) := launchContents m c (Proc.devRef .tc r)

/-! ## The recurrent pass -/

/-- What the loop of the recurrent layer over the rows enters with. -/
theorem entry0_at (c : Dev nD) :
    entry0 m c (Proc.devRef .tc main_v3_0) = (seqRows (arg m c main_arg0))
      ∧ entry0 m c (Proc.devRef .tc main_v3_1) = (arg m c main_arg19)
      ∧ entry0 m c (Proc.devRef .tc main_v3_2) = (arg m c main_arg21)
      ∧ entry0 m c (Proc.devRef .tc main_v3_3) = (arg m c main_arg20)
      ∧ entry0 m c (Proc.devRef .tc main_v3_4) = (arg m c main_arg22)
      ∧ entry0 m c (Proc.devRef .tc main_v3_7) = broadcastInDim S3312x64 ![] bcast_S_S3312x64 zero := by
  unfold entry0
  simp only [afterL_cons, afterL_nil]
  refine ⟨?_, ?_, ?_, ?_, ?_, ?_⟩ <;> (after_reads_simp; rfl)

/-- What the loop of the recurrent layer over the rows reads and never changes. -/
theorem at0_kept (c : Dev nD) (k : ℕ) :
    at0 m k c (Proc.devRef .tc main_v3_0) = (seqRows (arg m c main_arg0))
      ∧ at0 m k c (Proc.devRef .tc main_v3_1) = (arg m c main_arg19)
      ∧ at0 m k c (Proc.devRef .tc main_v3_2) = (arg m c main_arg21)
      ∧ at0 m k c (Proc.devRef .tc main_v3_3) = (arg m c main_arg20)
      ∧ at0 m k c (Proc.devRef .tc main_v3_4) = (arg m c main_arg22) := by
  induction k with
  | zero =>
    obtain ⟨h0, h1, h2, h3, h4, _⟩ := entry0_at m c
    exact ⟨h0, h1, h2, h3, h4⟩
  | succ k ih =>
    obtain ⟨h0, h1, h2, h3, h4⟩ := ih
    obtain ⟨t0, t1, t2, t3, t4⟩ := trip0_kept (at0 m k c)
    rw [at0_succ]
    exact ⟨t0.trans h0, t1.trans h1, t2.trans h2, t3.trans h3, t4.trans h4⟩

/-- The recurrent pass's state after `k` trips. -/
theorem at0_state (c : Dev nD) (k : ℕ) :
    at0 m k c (Proc.devRef .tc main_v3_7) = gruFold (seqRows (arg m c main_arg0)) (arg m c main_arg19) (arg m c main_arg21) (arg m c main_arg20) (arg m c main_arg22) k := by
  induction k with
  | zero => exact (entry0_at m c).2.2.2.2.2
  | succ k ih =>
    obtain ⟨h0, h1, h2, h3, h4⟩ := at0_kept m c k
    rw [at0_succ, trip0_state, ih, h0, h1, h2, h3, h4, (at0_counter m c k).2]
    rfl

/-- The state the recurrent pass ends in. -/
def lastState (c : Dev nD) : Vec F S3312x64 .f32 := gruFold (seqRows (arg m c main_arg0)) (arg m c main_arg19) (arg m c main_arg21) (arg m c main_arg20) (arg m c main_arg22) 12

/-- The support. -/
def supportAt (c : Dev nD) : Vec F S207x207 .f32 := support (lastState m c) (arg m c main_arg23) (arg m c main_arg24)

/-! ## The support -/

/-- The operations between the recurrent layer and the encoder compute the support. -/
theorem between_support (V : Valuation τ sig (Elt F)) :
    afterL between V (Proc.devRef .tc main_v35) = support (V (Proc.devRef .tc main_v3_7)) (V (Proc.devRef .tc main_arg23)) (V (Proc.devRef .tc main_arg24)) := by
  simp only [afterL_cons, afterL_nil]
  after_reads_simp
  rfl

/-! ## The encoder's first layer -/

/-- What the encoder's loop finds: the launch's arguments, up to the first loop's end. -/
theorem keeps_test (c : Dev nD) : Keeps (launchContents m c) (StableHlo.after cond0Ops (at0 m 12 c)) :=
  (keeps_start _).trans <| (keeps_at0 m c 12).trans (keeps_test0 _)

/-- What the operations before the encoder hand to its first layer. -/
theorem between_reads (V : Valuation τ sig (Elt F)) :
    afterL between V (Proc.devRef .tc main_v39_0) = seqNodes (V (Proc.devRef .tc main_arg0))
      ∧ afterL between V (Proc.devRef .tc main_v39_1) = afterL between V (Proc.devRef .tc main_v35)
      ∧ afterL between V (Proc.devRef .tc main_v39_2) = V (Proc.devRef .tc main_arg1)
      ∧ afterL between V (Proc.devRef .tc main_v39_3) = V (Proc.devRef .tc main_arg2)
      ∧ afterL between V (Proc.devRef .tc main_v39_4) = V (Proc.devRef .tc main_arg3)
      ∧ afterL between V (Proc.devRef .tc main_v39_5) = V (Proc.devRef .tc main_arg4)
      ∧ afterL between V (Proc.devRef .tc main_v37) = broadcastInDim S16x207x64 ![] bcast_S_S16x207x64 zero
      ∧ afterL between V (Proc.devRef .tc main_v39_8) = broadcastInDim S16x207x64 ![] bcast_S_S16x207x64 zero
      ∧ afterL between V (Proc.devRef .tc main_v39_9) = broadcastInDim S12x16x207x64 ![] bcast_S_S12x16x207x64 zero := by
  simp only [afterL_cons, afterL_nil]
  refine ⟨?_, ?_, ?_, ?_, ?_, ?_, ?_, ?_, ?_⟩ <;> (after_reads_simp; rfl)

/-- The test of the loop of the recurrent layer over the rows leaves the results in place. -/
theorem test0_state (V : Valuation τ sig (Elt F)) : StableHlo.after cond0Ops V (Proc.devRef .tc main_v3_7) = V (Proc.devRef .tc main_v3_7) := by
  after_reads_simp

/-- What the encoder's first-layer loop enters with. -/
theorem entry1_at (c : Dev nD) :
    entry1 m c (Proc.devRef .tc main_v39_0) = (seqNodes (arg m c main_arg0))
      ∧ entry1 m c (Proc.devRef .tc main_v39_1) = (supportAt m c)
      ∧ entry1 m c (Proc.devRef .tc main_v39_2) = (arg m c main_arg1)
      ∧ entry1 m c (Proc.devRef .tc main_v39_3) = (arg m c main_arg2)
      ∧ entry1 m c (Proc.devRef .tc main_v39_4) = (arg m c main_arg3)
      ∧ entry1 m c (Proc.devRef .tc main_v39_5) = (arg m c main_arg4)
      ∧ entry1 m c (Proc.devRef .tc main_v35) = (supportAt m c)
      ∧ entry1 m c (Proc.devRef .tc main_v37) = broadcastInDim S16x207x64 ![] bcast_S_S16x207x64 zero
      ∧ entry1 m c (Proc.devRef .tc main_v39_8) = broadcastInDim S16x207x64 ![] bcast_S_S16x207x64 zero
      ∧ entry1 m c (Proc.devRef .tc main_v39_9) = broadcastInDim S12x16x207x64 ![] bcast_S_S12x16x207x64 zero := by
  have hk := keeps_test m c
  have hs : afterL between (StableHlo.after cond0Ops (at0 m 12 c)) (Proc.devRef .tc main_v35) = supportAt m c := by
    rw [between_support, test0_state, at0_state, hk main_arg23 (by simp), hk main_arg24 (by simp)]
    rfl
  obtain ⟨h0, h1, h2, h3, h4, h5, h6, h7, h8⟩ := between_reads (StableHlo.after cond0Ops (at0 m 12 c))
  refine ⟨h0.trans (congrArg seqNodes (hk main_arg0 (by simp))), h1.trans hs, ?_, ?_, ?_, ?_, hs, h6, h7, h8⟩
  · exact h2.trans (hk main_arg1 (by simp))
  · exact h3.trans (hk main_arg2 (by simp))
  · exact h4.trans (hk main_arg3 (by simp))
  · exact h5.trans (hk main_arg4 (by simp))

/-- One trip of the encoder's first-layer loop leaves alone what later parts read. -/
theorem trip1_others (V : Valuation τ sig (Elt F)) : trip1 V (Proc.devRef .tc main_v35) = V (Proc.devRef .tc main_v35)
    ∧ trip1 V (Proc.devRef .tc main_v37) = V (Proc.devRef .tc main_v37) := by
  unfold trip1
  constructor <;> after_reads_simp

/-- What the encoder's first-layer loop reads and never changes. -/
theorem at1_kept (c : Dev nD) (k : ℕ) :
    at1 m k c (Proc.devRef .tc main_v39_0) = (seqNodes (arg m c main_arg0))
      ∧ at1 m k c (Proc.devRef .tc main_v39_1) = (supportAt m c)
      ∧ at1 m k c (Proc.devRef .tc main_v39_2) = (arg m c main_arg1)
      ∧ at1 m k c (Proc.devRef .tc main_v39_3) = (arg m c main_arg2)
      ∧ at1 m k c (Proc.devRef .tc main_v39_4) = (arg m c main_arg3)
      ∧ at1 m k c (Proc.devRef .tc main_v39_5) = (arg m c main_arg4)
      ∧ at1 m k c (Proc.devRef .tc main_v35) = (supportAt m c)
      ∧ at1 m k c (Proc.devRef .tc main_v37) = broadcastInDim S16x207x64 ![] bcast_S_S16x207x64 zero := by
  induction k with
  | zero =>
    obtain ⟨h0, h1, h2, h3, h4, h5, h6, h7, _, _⟩ := entry1_at m c
    exact ⟨h0, h1, h2, h3, h4, h5, h6, h7⟩
  | succ k ih =>
    obtain ⟨h0, h1, h2, h3, h4, h5, h6, h7⟩ := ih
    obtain ⟨t0, t1, t2, t3, t4, t5⟩ := trip1_kept (at1 m k c)
    rw [at1_succ]
    exact ⟨t0.trans h0, t1.trans h1, t2.trans h2, t3.trans h3, t4.trans h4, t5.trans h5, (trip1_others _).1.trans h6, (trip1_others _).2.trans h7⟩

/-- The first layer's state, and the states stored, after `k` trips. -/
def enc0At (c : Dev nD) (k : ℕ) : Vec F S16x207x64 .f32 × Vec F S12x16x207x64 .f32 :=
  enc0Fold (supportAt m c) (seqNodes (arg m c main_arg0)) (arg m c main_arg1) (arg m c main_arg2) (arg m c main_arg3) (arg m c main_arg4) k

/-- What the encoder's first-layer loop has computed after `k` trips. -/
theorem at1_states (c : Dev nD) (k : ℕ) :
    at1 m k c (Proc.devRef .tc main_v39_8) = (enc0At m c k).1 ∧ at1 m k c (Proc.devRef .tc main_v39_9) = (enc0At m c k).2 := by
  induction k with
  | zero =>
    obtain ⟨_, _, _, _, _, _, _, _, e0, e1⟩ := entry1_at m c
    exact ⟨e0, e1⟩
  | succ k ih =>
    obtain ⟨h0, h1, h2, h3, h4, h5, h6, h7⟩ := at1_kept m c k
    rw [at1_succ, trip1_stored, trip1_state, ih.1, ih.2, h0, h1, h2, h3, h4, h5, (at1_counter m c k).2]
    exact ⟨rfl, rfl⟩

/-! ## The encoder's second layer -/

/-- What the operations between the encoder's layers hand to the second. -/
theorem layers_reads (V : Valuation τ sig (Elt F)) :
    afterL [hostOps0_8] V (Proc.devRef .tc main_v40_0) = V (Proc.devRef .tc main_v39_9)
      ∧ afterL [hostOps0_8] V (Proc.devRef .tc main_v40_1) = V (Proc.devRef .tc main_v35)
      ∧ afterL [hostOps0_8] V (Proc.devRef .tc main_v40_2) = V (Proc.devRef .tc main_arg5)
      ∧ afterL [hostOps0_8] V (Proc.devRef .tc main_v40_3) = V (Proc.devRef .tc main_arg6)
      ∧ afterL [hostOps0_8] V (Proc.devRef .tc main_v40_4) = V (Proc.devRef .tc main_arg7)
      ∧ afterL [hostOps0_8] V (Proc.devRef .tc main_v40_5) = V (Proc.devRef .tc main_arg8)
      ∧ afterL [hostOps0_8] V (Proc.devRef .tc main_v35) = V (Proc.devRef .tc main_v35)
      ∧ afterL [hostOps0_8] V (Proc.devRef .tc main_v39_8) = V (Proc.devRef .tc main_v39_8)
      ∧ afterL [hostOps0_8] V (Proc.devRef .tc main_v40_8) = V (Proc.devRef .tc main_v37) := by
  simp only [afterL_cons, afterL_nil]
  refine ⟨?_, ?_, ?_, ?_, ?_, ?_, ?_, ?_, ?_⟩ <;> (after_reads_simp; try rfl)

/-- The test of the encoder's first-layer loop leaves the results in place. -/
theorem test1_states (V : Valuation τ sig (Elt F)) :
    StableHlo.after cond1Ops V (Proc.devRef .tc main_v35) = V (Proc.devRef .tc main_v35)
      ∧ StableHlo.after cond1Ops V (Proc.devRef .tc main_v37) = V (Proc.devRef .tc main_v37)
      ∧ StableHlo.after cond1Ops V (Proc.devRef .tc main_v39_8) = V (Proc.devRef .tc main_v39_8)
      ∧ StableHlo.after cond1Ops V (Proc.devRef .tc main_v39_9) = V (Proc.devRef .tc main_v39_9) := by
  refine ⟨?_, ?_, ?_, ?_⟩ <;> after_reads_simp

/-- Up to the end of the encoder's first layer the arguments are kept. -/
theorem keeps_layer (c : Dev nD) : Keeps (launchContents m c) (StableHlo.after cond1Ops (at1 m 12 c)) :=
  (keeps_test m c).trans <| (keeps_between _).trans <| (keeps_at1 m c 12).trans (keeps_test1 _)

/-- What the encoder's second-layer loop enters with. -/
theorem entry2_at (c : Dev nD) :
    entry2 m c (Proc.devRef .tc main_v40_0) = ((enc0At m c 12).2)
      ∧ entry2 m c (Proc.devRef .tc main_v40_1) = (supportAt m c)
      ∧ entry2 m c (Proc.devRef .tc main_v40_2) = (arg m c main_arg5)
      ∧ entry2 m c (Proc.devRef .tc main_v40_3) = (arg m c main_arg6)
      ∧ entry2 m c (Proc.devRef .tc main_v40_4) = (arg m c main_arg7)
      ∧ entry2 m c (Proc.devRef .tc main_v40_5) = (arg m c main_arg8)
      ∧ entry2 m c (Proc.devRef .tc main_v35) = (supportAt m c)
      ∧ entry2 m c (Proc.devRef .tc main_v39_8) = (enc0At m c 12).1
      ∧ entry2 m c (Proc.devRef .tc main_v40_8) = broadcastInDim S16x207x64 ![] bcast_S_S16x207x64 zero := by
  have hk := keeps_layer m c
  obtain ⟨_, _, _, _, _, _, s0, s1⟩ := at1_kept m c 12
  obtain ⟨g0, g1, g2, g3⟩ := test1_states (at1 m 12 c)
  obtain ⟨h0, h1, h2, h3, h4, h5, h6, h7, h8⟩ := layers_reads (StableHlo.after cond1Ops (at1 m 12 c))
  refine ⟨h0.trans (g3.trans (at1_states m c 12).2), h1.trans (g0.trans s0), ?_, ?_, ?_, ?_, h6.trans (g0.trans s0),
    h7.trans (g2.trans (at1_states m c 12).1), h8.trans (g1.trans s1)⟩
  · exact h2.trans (hk main_arg5 (by simp))
  · exact h3.trans (hk main_arg6 (by simp))
  · exact h4.trans (hk main_arg7 (by simp))
  · exact h5.trans (hk main_arg8 (by simp))

/-- One trip of the encoder's second-layer loop leaves alone what later parts read. -/
theorem trip2_others (V : Valuation τ sig (Elt F)) : trip2 V (Proc.devRef .tc main_v35) = V (Proc.devRef .tc main_v35)
    ∧ trip2 V (Proc.devRef .tc main_v39_8) = V (Proc.devRef .tc main_v39_8) := by
  unfold trip2
  constructor <;> after_reads_simp

/-- What the encoder's second-layer loop reads and never changes. -/
theorem at2_kept (c : Dev nD) (k : ℕ) :
    at2 m k c (Proc.devRef .tc main_v40_0) = ((enc0At m c 12).2)
      ∧ at2 m k c (Proc.devRef .tc main_v40_1) = (supportAt m c)
      ∧ at2 m k c (Proc.devRef .tc main_v40_2) = (arg m c main_arg5)
      ∧ at2 m k c (Proc.devRef .tc main_v40_3) = (arg m c main_arg6)
      ∧ at2 m k c (Proc.devRef .tc main_v40_4) = (arg m c main_arg7)
      ∧ at2 m k c (Proc.devRef .tc main_v40_5) = (arg m c main_arg8)
      ∧ at2 m k c (Proc.devRef .tc main_v35) = (supportAt m c)
      ∧ at2 m k c (Proc.devRef .tc main_v39_8) = (enc0At m c 12).1 := by
  induction k with
  | zero =>
    obtain ⟨h0, h1, h2, h3, h4, h5, h6, h7, _⟩ := entry2_at m c
    exact ⟨h0, h1, h2, h3, h4, h5, h6, h7⟩
  | succ k ih =>
    obtain ⟨h0, h1, h2, h3, h4, h5, h6, h7⟩ := ih
    obtain ⟨t0, t1, t2, t3, t4, t5⟩ := trip2_kept (at2 m k c)
    rw [at2_succ]
    exact ⟨t0.trans h0, t1.trans h1, t2.trans h2, t3.trans h3, t4.trans h4, t5.trans h5, (trip2_others _).1.trans h6, (trip2_others _).2.trans h7⟩

/-- The second layer's state after `k` trips. -/
def enc1At (c : Dev nD) (k : ℕ) : Vec F S16x207x64 .f32 :=
  enc1Fold (supportAt m c) (enc0At m c 12).2 (arg m c main_arg5) (arg m c main_arg6) (arg m c main_arg7) (arg m c main_arg8) k

/-- What the encoder's second-layer loop has computed after `k` trips. -/
theorem at2_state (c : Dev nD) (k : ℕ) : at2 m k c (Proc.devRef .tc main_v40_8) = enc1At m c k := by
  induction k with
  | zero =>
    obtain ⟨_, _, _, _, _, _, _, _, e0⟩ := entry2_at m c
    exact e0
  | succ k ih =>
    obtain ⟨h0, h1, h2, h3, h4, h5, h6, h7⟩ := at2_kept m c k
    rw [at2_succ, trip2_state, ih, h0, h1, h2, h3, h4, h5, (at2_counter m c k).2]
    rfl

/-! ## The decoder -/

/-- What the operations before the decoder hand to it. -/
theorem last_reads (V : Valuation τ sig (Elt F)) :
    afterL [hostOps0_9] V (Proc.devRef .tc main_v43_0) = V (Proc.devRef .tc main_v35)
      ∧ afterL [hostOps0_9] V (Proc.devRef .tc main_v43_1) = V (Proc.devRef .tc main_arg9)
      ∧ afterL [hostOps0_9] V (Proc.devRef .tc main_v43_2) = V (Proc.devRef .tc main_arg10)
      ∧ afterL [hostOps0_9] V (Proc.devRef .tc main_v43_3) = V (Proc.devRef .tc main_arg11)
      ∧ afterL [hostOps0_9] V (Proc.devRef .tc main_v43_4) = V (Proc.devRef .tc main_arg12)
      ∧ afterL [hostOps0_9] V (Proc.devRef .tc main_v43_5) = V (Proc.devRef .tc main_arg13)
      ∧ afterL [hostOps0_9] V (Proc.devRef .tc main_v43_6) = V (Proc.devRef .tc main_arg14)
      ∧ afterL [hostOps0_9] V (Proc.devRef .tc main_v43_7) = V (Proc.devRef .tc main_arg15)
      ∧ afterL [hostOps0_9] V (Proc.devRef .tc main_v43_8) = V (Proc.devRef .tc main_arg16)
      ∧ afterL [hostOps0_9] V (Proc.devRef .tc main_v43_9) = V (Proc.devRef .tc main_arg17)
      ∧ afterL [hostOps0_9] V (Proc.devRef .tc main_v43_10) = V (Proc.devRef .tc main_arg18)
      ∧ afterL [hostOps0_9] V (Proc.devRef .tc main_v43_13) = V (Proc.devRef .tc main_v39_8)
      ∧ afterL [hostOps0_9] V (Proc.devRef .tc main_v43_14) = V (Proc.devRef .tc main_v40_8)
      ∧ afterL [hostOps0_9] V (Proc.devRef .tc main_v43_15) = broadcastInDim S16x207x1 ![] bcast_S_S16x207x1 zero
      ∧ afterL [hostOps0_9] V (Proc.devRef .tc main_v43_16) = broadcastInDim S16x12x207x1 ![] bcast_S_S16x12x207x1 zero := by
  simp only [afterL_cons, afterL_nil]
  refine ⟨?_, ?_, ?_, ?_, ?_, ?_, ?_, ?_, ?_, ?_, ?_, ?_, ?_, ?_, ?_⟩ <;> (after_reads_simp; rfl)

/-- The test of the encoder's second-layer loop leaves the results in place. -/
theorem test2_states (V : Valuation τ sig (Elt F)) :
    StableHlo.after cond2Ops V (Proc.devRef .tc main_v35) = V (Proc.devRef .tc main_v35)
      ∧ StableHlo.after cond2Ops V (Proc.devRef .tc main_v39_8) = V (Proc.devRef .tc main_v39_8)
      ∧ StableHlo.after cond2Ops V (Proc.devRef .tc main_v40_8) = V (Proc.devRef .tc main_v40_8) := by
  refine ⟨?_, ?_, ?_⟩ <;> after_reads_simp

/-- What the decoder's loop enters with. -/
theorem entry3_at (c : Dev nD) :
    entry3 m c (Proc.devRef .tc main_v43_0) = (supportAt m c)
      ∧ entry3 m c (Proc.devRef .tc main_v43_1) = (arg m c main_arg9)
      ∧ entry3 m c (Proc.devRef .tc main_v43_2) = (arg m c main_arg10)
      ∧ entry3 m c (Proc.devRef .tc main_v43_3) = (arg m c main_arg11)
      ∧ entry3 m c (Proc.devRef .tc main_v43_4) = (arg m c main_arg12)
      ∧ entry3 m c (Proc.devRef .tc main_v43_5) = (arg m c main_arg13)
      ∧ entry3 m c (Proc.devRef .tc main_v43_6) = (arg m c main_arg14)
      ∧ entry3 m c (Proc.devRef .tc main_v43_7) = (arg m c main_arg15)
      ∧ entry3 m c (Proc.devRef .tc main_v43_8) = (arg m c main_arg16)
      ∧ entry3 m c (Proc.devRef .tc main_v43_9) = (arg m c main_arg17)
      ∧ entry3 m c (Proc.devRef .tc main_v43_10) = (arg m c main_arg18)
      ∧ entry3 m c (Proc.devRef .tc main_v43_13) = (enc0At m c 12).1
      ∧ entry3 m c (Proc.devRef .tc main_v43_14) = (enc1At m c 12)
      ∧ entry3 m c (Proc.devRef .tc main_v43_15) = broadcastInDim S16x207x1 ![] bcast_S_S16x207x1 zero
      ∧ entry3 m c (Proc.devRef .tc main_v43_16) = broadcastInDim S16x12x207x1 ![] bcast_S_S16x12x207x1 zero := by
  have hk : Keeps (launchContents m c) (StableHlo.after cond2Ops (at2 m 12 c)) :=
    (keeps_layer m c).trans <| (keeps_layers _).trans <| (keeps_at2 m c 12).trans (keeps_test2 _)
  obtain ⟨_, _, _, _, _, _, s0, s1⟩ := at2_kept m c 12
  obtain ⟨g0, g1, g2⟩ := test2_states (at2 m 12 c)
  obtain ⟨h0, h1, h2, h3, h4, h5, h6, h7, h8, h9, h10, h11, h12, h13, h14⟩ := last_reads (StableHlo.after cond2Ops (at2 m 12 c))
  refine ⟨h0.trans (g0.trans s0), ?_, ?_, ?_, ?_, ?_, ?_, ?_, ?_, ?_, ?_,
    h11.trans (g1.trans s1), h12.trans (g2.trans (at2_state m c 12)), h13, h14⟩
  · exact h1.trans (hk main_arg9 (by simp))
  · exact h2.trans (hk main_arg10 (by simp))
  · exact h3.trans (hk main_arg11 (by simp))
  · exact h4.trans (hk main_arg12 (by simp))
  · exact h5.trans (hk main_arg13 (by simp))
  · exact h6.trans (hk main_arg14 (by simp))
  · exact h7.trans (hk main_arg15 (by simp))
  · exact h8.trans (hk main_arg16 (by simp))
  · exact h9.trans (hk main_arg17 (by simp))
  · exact h10.trans (hk main_arg18 (by simp))

/-- What the decoder's loop reads and never changes. -/
theorem at3_kept (c : Dev nD) (k : ℕ) :
    at3 m k c (Proc.devRef .tc main_v43_0) = (supportAt m c)
      ∧ at3 m k c (Proc.devRef .tc main_v43_1) = (arg m c main_arg9)
      ∧ at3 m k c (Proc.devRef .tc main_v43_2) = (arg m c main_arg10)
      ∧ at3 m k c (Proc.devRef .tc main_v43_3) = (arg m c main_arg11)
      ∧ at3 m k c (Proc.devRef .tc main_v43_4) = (arg m c main_arg12)
      ∧ at3 m k c (Proc.devRef .tc main_v43_5) = (arg m c main_arg13)
      ∧ at3 m k c (Proc.devRef .tc main_v43_6) = (arg m c main_arg14)
      ∧ at3 m k c (Proc.devRef .tc main_v43_7) = (arg m c main_arg15)
      ∧ at3 m k c (Proc.devRef .tc main_v43_8) = (arg m c main_arg16)
      ∧ at3 m k c (Proc.devRef .tc main_v43_9) = (arg m c main_arg17)
      ∧ at3 m k c (Proc.devRef .tc main_v43_10) = (arg m c main_arg18) := by
  induction k with
  | zero =>
    obtain ⟨h0, h1, h2, h3, h4, h5, h6, h7, h8, h9, h10, _, _, _, _⟩ := entry3_at m c
    exact ⟨h0, h1, h2, h3, h4, h5, h6, h7, h8, h9, h10⟩
  | succ k ih =>
    obtain ⟨h0, h1, h2, h3, h4, h5, h6, h7, h8, h9, h10⟩ := ih
    obtain ⟨t0, t1, t2, t3, t4, t5, t6, t7, t8, t9, t10⟩ := trip3_kept (at3 m k c)
    rw [at3_succ]
    exact ⟨t0.trans h0, t1.trans h1, t2.trans h2, t3.trans h3, t4.trans h4, t5.trans h5, t6.trans h6, t7.trans h7, t8.trans h8, t9.trans h9, t10.trans h10⟩

/-- The decoder's states, value and output after `k` trips. -/
def decAt (c : Dev nD) (k : ℕ) : Vec F S16x207x64 .f32 × Vec F S16x207x64 .f32 × Vec F S16x207x1 .f32 × Vec F S16x12x207x1 .f32 :=
  decFold (supportAt m c) (arg m c main_arg9) (arg m c main_arg10) (arg m c main_arg11) (arg m c main_arg12) (arg m c main_arg13) (arg m c main_arg14) (arg m c main_arg15) (arg m c main_arg16) (arg m c main_arg17) (arg m c main_arg18) (enc0At m c 12).1 (enc1At m c 12) k

/-- One step more of the decoder. -/
theorem decAt_succ (c : Dev nD) (k : ℕ) : decAt m c (k + 1) =
    (cell1 (supportAt m c) (decAt m c k).2.2.1 (decAt m c k).1 (arg m c main_arg9) (arg m c main_arg10) (arg m c main_arg11) (arg m c main_arg12),
      cell64 (supportAt m c) (cell1 (supportAt m c) (decAt m c k).2.2.1 (decAt m c k).1 (arg m c main_arg9) (arg m c main_arg10) (arg m c main_arg11) (arg m c main_arg12)) (decAt m c k).2.1 (arg m c main_arg13) (arg m c main_arg14) (arg m c main_arg15) (arg m c main_arg16),
      project (cell64 (supportAt m c) (cell1 (supportAt m c) (decAt m c k).2.2.1 (decAt m c k).1 (arg m c main_arg9) (arg m c main_arg10) (arg m c main_arg11) (arg m c main_arg12)) (decAt m c k).2.1 (arg m c main_arg13) (arg m c main_arg14) (arg m c main_arg15) (arg m c main_arg16)) (arg m c main_arg17) (arg m c main_arg18),
      putStep (decAt m c k).2.2.2 (project (cell64 (supportAt m c) (cell1 (supportAt m c) (decAt m c k).2.2.1 (decAt m c k).1 (arg m c main_arg9) (arg m c main_arg10) (arg m c main_arg11) (arg m c main_arg12)) (decAt m c k).2.1 (arg m c main_arg13) (arg m c main_arg14) (arg m c main_arg15) (arg m c main_arg16)) (arg m c main_arg17) (arg m c main_arg18)) (word k)) := rfl

/-- What the decoder's loop has computed after `k` trips. -/
theorem at3_states (c : Dev nD) (k : ℕ) :
    at3 m k c (Proc.devRef .tc main_v43_13) = (decAt m c k).1 ∧ at3 m k c (Proc.devRef .tc main_v43_14) = (decAt m c k).2.1
      ∧ at3 m k c (Proc.devRef .tc main_v43_15) = (decAt m c k).2.2.1 ∧ at3 m k c (Proc.devRef .tc main_v43_16) = (decAt m c k).2.2.2 := by
  induction k with
  | zero =>
    obtain ⟨_, _, _, _, _, _, _, _, _, _, _, e0, e1, e2, e3⟩ := entry3_at m c
    exact ⟨e0, e1, e2, e3⟩
  | succ k ih =>
    obtain ⟨i0, i1, i2, i3⟩ := ih
    obtain ⟨h0, h1, h2, h3, h4, h5, h6, h7, h8, h9, h10⟩ := at3_kept m c k
    rw [at3_succ, trip3_output, (trip3_states _).1, (trip3_states _).2.1, (trip3_states _).2.2, i0, i1, i2, i3, h0, h1, h2, h3, h4, h5, h6, h7, h8, h9, h10, (at3_counter m c k).2, decAt_succ]
    exact ⟨rfl, rfl, rfl, rfl⟩

/-- The reference's result: the output after twelve steps of the decoder. -/
theorem final_result (c : Dev nD) : final m c (Proc.devRef .tc main_v43_16) = (decAt m c 12).2.2.2 := by
  rw [← (at3_states m c 12).2.2.2]
  unfold final
  after_reads_simp

end Cert.Proof.Ref
-- ==== Proof.RReadLoops.lean ====
/-
  The reference's four loops read at the extended reals: each is the network's recursion on the features of the nodes.
-/
module

public import proofs.«01_k».proof.Proof.RRead
public import proofs.«01_k».proof.Proof.RSupport
public import proofs.«01_k».proof.Proof.RefValue

@[expose] public section

set_option maxRecDepth 16384

noncomputable section

namespace Cert.Proof.Ref

open Idealize.ShloMosaic Cert.ReferenceIdeal Cert.ReferenceIdeal.Gen
open Cert.Proof.Spec (Nodes Adj Wts CellW)

/-! ### The gated recurrent unit -/

/-- The rows' squashing function is the logistic, entry by entry. -/
theorem sigmRows_apply (x : Vec Ideal S3312x64 .f32) (j : S3312x64.Idx) : sigmRows x j = Ideal.logistic (x j) := by
  have e : sigmRows x j = Ideal.div 1 (1 + Ideal.exp (-(x j))) := by
    pointwise [sigmRows, one]
  exact e

/-- The input's share of the recurrent layer's gates, entry by entry. -/
theorem gateIn_apply (x : FVec Ideal S3312x2 .f32) (wih : FVec Ideal S192x2 .f32) (bih : FVec Ideal S192 .f32) (r : Fin 3312) (k : Fin 192) :
    gateIn (F := Ideal) x wih bih (ix2 r k) = ∑ c : Fin 2, x (ix2 r c) * wih (ix2 k c) + bih (ix1 k) := by
  pointwise [gateIn]

/-- The state's share of the recurrent layer's gates, entry by entry. -/
theorem gateState_apply (h : FVec Ideal S3312x64 .f32) (whh : FVec Ideal S192x64 .f32) (bhh : FVec Ideal S192 .f32) (r : Fin 3312) (k : Fin 192) :
    gateState (F := Ideal) h whh bhh (ix2 r k) = ∑ c : Fin 64, h (ix2 r c) * whh (ix2 k c) + bhh (ix1 k) := by
  pointwise [gateState]

/-- The first third of the recurrent layer's gates, entry by entry. -/
theorem part0_apply (g : FVec Ideal S3312x192 .f32) (r : Fin 3312) (c : Fin 64) : part0 (F := Ideal) g (ix2 r c) = g (ix2 r (Spec.p0 c)) := by
  pointwise [part0]
  rfl

/-- The second third of the recurrent layer's gates, entry by entry. -/
theorem part1_apply (g : FVec Ideal S3312x192 .f32) (r : Fin 3312) (c : Fin 64) : part1 (F := Ideal) g (ix2 r c) = g (ix2 r (Spec.p1 c)) := by
  pointwise [part1]
  rfl

/-- The third third of the recurrent layer's gates, entry by entry. -/
theorem part2_apply (g : FVec Ideal S3312x192 .f32) (r : Fin 3312) (c : Fin 64) : part2 (F := Ideal) g (ix2 r c) = g (ix2 r (Spec.p2 c)) := by
  pointwise [part2]
  rfl

/-- The recurrent layer's new state out of both shares of its gates, entry by entry. -/
theorem gruMix_apply (gi gh : FVec Ideal S3312x192 .f32) (h : FVec Ideal S3312x64 .f32) (r : Fin 3312) (c : Fin 64) :
    gruMix (F := Ideal) gi gh h (ix2 r c)
      = (1 - Ideal.logistic (gi (ix2 r (Spec.p1 c)) + gh (ix2 r (Spec.p1 c))))
          * Ideal.tanh (gi (ix2 r (Spec.p2 c)) + Ideal.logistic (gi (ix2 r (Spec.p0 c)) + gh (ix2 r (Spec.p0 c))) * gh (ix2 r (Spec.p2 c)))
        + Ideal.logistic (gi (ix2 r (Spec.p1 c)) + gh (ix2 r (Spec.p1 c))) * h (ix2 r c) := by
  have a0 := part0_apply gi r c
  have a1 := part1_apply gi r c
  have a2 := part2_apply gi r c
  have b0 := part0_apply gh r c
  have b1 := part1_apply gh r c
  have b2 := part2_apply gh r c
  unfold gruMix
  generalize part0 (F := Ideal) gi = x0 at *
  generalize part1 (F := Ideal) gi = x1 at *
  generalize part2 (F := Ideal) gi = x2 at *
  generalize part0 (F := Ideal) gh = y0 at *
  generalize part1 (F := Ideal) gh = y1 at *
  generalize part2 (F := Ideal) gh = y2 at *
  have hz := sigmRows_apply (addf (F := Ideal) (φ := .f32) x1 y1 : FVec Ideal S3312x64 .f32) (ix2 r c)
  have hr := sigmRows_apply (addf (F := Ideal) (φ := .f32) x0 y0 : FVec Ideal S3312x64 .f32) (ix2 r c)
  generalize sigmRows (F := Ideal) (addf (F := Ideal) (φ := .f32) x1 y1 : FVec Ideal S3312x64 .f32) = z at *
  generalize sigmRows (F := Ideal) (addf (F := Ideal) (φ := .f32) x0 y0 : FVec Ideal S3312x64 .f32) = q at *
  pointwise [one] at hz hr ⊢
  rw [hz, hr, a0, a1, a2, b0, b1, b2]

/-- One step of the gated unit, at the nodes. -/
theorem rnodes_gru (x : Vec Ideal S3312x2 .f32) (wih : Vec Ideal S192x2 .f32) (bih : Vec Ideal S192 .f32) (whh : Vec Ideal S192x64 .f32)
    (bhh : Vec Ideal S192 .f32) (h : Vec Ideal S3312x64 .f32) :
    rnodes (w := 64) (gru x wih bih whh bhh h) = Spec.gru (fun k c => wih (ix2 k c)) (fun k c => whh (ix2 k c)) (fun k => bih (ix1 k)) (fun k => bhh (ix1 k))
      (rnodes (w := 2) x) (rnodes (w := 64) h) := by
  funext b n c
  show gruMix (F := Ideal) (gateIn x wih bih) (gateState h whh bhh) h (ix2 (row b n) c) = _
  rw [gruMix_apply]
  simp only [gateIn_apply, gateState_apply]
  rfl

/-! ### The time steps -/

/-- The index a loop computes from its counter is the counter, at each of the twelve steps. -/
theorem stepIndex_word : ∀ k : Fin 12, (stepIndex (F := Ideal) (word k.val) (Shape.Idx.first h_S_)).toInt = k.val := by
  intro k
  show (Scalar.select (IntOp.cmpi .slt (BitVec.ofNat 32 k.val) 0#32) (IntOp.addi (BitVec.ofNat 32 k.val) 12#32) (BitVec.ofNat 32 k.val)).toInt = k.val
  revert k
  decide

/-- Twelve steps of features at the nodes, and one step of them. -/
abbrev Steps (w : ℕ) : Shape := ⟨4, ![12, 16, 207, w]⟩
abbrev Step (w : ℕ) : Shape := ⟨4, ![1, 16, 207, w]⟩

/-- The slice of one step. -/
theorem slice4_apply {w : ℕ} (hf : (Steps w).Slices (fun _ => 0) (Step w)) (x : FVec Ideal (Steps w) .f32) (start : Fin 4 → ℤ) (k : Fin 12) (h0 : start 0 = k.val) (h1 : start 1 = 0) (h2 : start 2 = 0)
    (h3 : start 3 = 0) (b : Fin 16) (n : Fin 207) (c : Fin w) :
    Host.dynamicSlice (Step w) x start hf (ix4 0 b n c) = x (ix4 k b n c) := by
  have c0 : Host.clampedStart (Steps w) (Step w) rfl start 0 = k.val :=
    Host.clampedStart_of_le (s := (Steps w)) (t := (Step w)) rfl start 0 k.val h0 (by show k.val + 1 ≤ 12; omega)
  have c1 : Host.clampedStart (Steps w) (Step w) rfl start 1 = 0 :=
    Host.clampedStart_of_le (s := (Steps w)) (t := (Step w)) rfl start 1 0 h1 (by show 0 + 16 ≤ 16; omega)
  have c2 : Host.clampedStart (Steps w) (Step w) rfl start 2 = 0 :=
    Host.clampedStart_of_le (s := (Steps w)) (t := (Step w)) rfl start 2 0 h2 (by show 0 + 207 ≤ 207; omega)
  have c3 : Host.clampedStart (Steps w) (Step w) rfl start 3 = 0 :=
    Host.clampedStart_of_le (s := (Steps w)) (t := (Step w)) rfl start 3 0 h3 (by show 0 + w ≤ w; omega)
  rw [Host.dynamicSlice_apply]
  congr 1
  funext a
  rw [Shape.Idx.norm_def]
  fin_cases a
  · exact Fin.ext (show Host.clampedStart (Steps w) (Step w) rfl start 0 + 0 = k.val by rw [c0, add_zero])
  · exact Fin.ext (show Host.clampedStart (Steps w) (Step w) rfl start 1 + b.val = b.val by rw [c1, zero_add])
  · exact Fin.ext (show Host.clampedStart (Steps w) (Step w) rfl start 2 + n.val = n.val by rw [c2, zero_add])
  · exact Fin.ext (show Host.clampedStart (Steps w) (Step w) rfl start 3 + c.val = c.val by rw [c3, zero_add])

/-- One step cut out of an array of twelve, entry by entry. -/
theorem slice3_apply (x : FVec Ideal S12x3312x2 .f32) (start : Fin 3 → ℤ) (k : Fin 12) (h0 : start 0 = k.val) (h1 : start 1 = 0) (h2 : start 2 = 0)
    (r : Fin 3312) (c : Fin 2) :
    Host.dynamicSlice S1x3312x2 x start sliceFits_S12x3312x2_S1x3312x2 (ix3 0 r c) = x (ix3 k r c) := by
  have c0 : Host.clampedStart S12x3312x2 S1x3312x2 rfl start 0 = k.val :=
    Host.clampedStart_of_le (s := S12x3312x2) (t := S1x3312x2) rfl start 0 k.val h0 (by show k.val + 1 ≤ 12; omega)
  have c1 : Host.clampedStart S12x3312x2 S1x3312x2 rfl start 1 = 0 :=
    Host.clampedStart_of_le (s := S12x3312x2) (t := S1x3312x2) rfl start 1 0 h1 (by show 0 + 3312 ≤ 3312; omega)
  have c2 : Host.clampedStart S12x3312x2 S1x3312x2 rfl start 2 = 0 :=
    Host.clampedStart_of_le (s := S12x3312x2) (t := S1x3312x2) rfl start 2 0 h2 (by show 0 + 2 ≤ 2; omega)
  rw [Host.dynamicSlice_apply]
  congr 1
  funext a
  rw [Shape.Idx.norm_def]
  fin_cases a
  · exact Fin.ext (show Host.clampedStart S12x3312x2 S1x3312x2 rfl start 0 + 0 = k.val by rw [c0, add_zero])
  · exact Fin.ext (show Host.clampedStart S12x3312x2 S1x3312x2 rfl start 1 + r.val = r.val by rw [c1, zero_add])
  · exact Fin.ext (show Host.clampedStart S12x3312x2 S1x3312x2 rfl start 2 + c.val = c.val by rw [c2, zero_add])

/-- A step written into the forecast: that step is the new one, the others stay. -/
theorem update_apply (o : FVec Ideal S16x12x207x1 .f32) (u : FVec Ideal S16x1x207x1 .f32) (start : Fin 4 → ℤ) (k : Fin 12) (h0 : start 0 = 0)
    (h1 : start 1 = k.val) (h2 : start 2 = 0) (h3 : start 3 = 0) (b : Fin 16) (t : Fin 12) (n : Fin 207) :
    Host.dynamicUpdateSlice o u start updateFits_S16x12x207x1_S16x1x207x1 (ix4 b t n 0)
      = if t = k then u (ix4 b 0 n 0) else o (ix4 b t n 0) := by
  have c0 : Host.clampedStart S16x12x207x1 S16x1x207x1 rfl start 0 = 0 :=
    Host.clampedStart_of_le (s := S16x12x207x1) (t := S16x1x207x1) rfl start 0 0 h0 (by show 0 + 16 ≤ 16; omega)
  have c1 : Host.clampedStart S16x12x207x1 S16x1x207x1 rfl start 1 = k.val :=
    Host.clampedStart_of_le (s := S16x12x207x1) (t := S16x1x207x1) rfl start 1 k.val h1 (by show k.val + 1 ≤ 12; omega)
  have c2 : Host.clampedStart S16x12x207x1 S16x1x207x1 rfl start 2 = 0 :=
    Host.clampedStart_of_le (s := S16x12x207x1) (t := S16x1x207x1) rfl start 2 0 h2 (by show 0 + 207 ≤ 207; omega)
  have c3 : Host.clampedStart S16x12x207x1 S16x1x207x1 rfl start 3 = 0 :=
    Host.clampedStart_of_le (s := S16x12x207x1) (t := S16x1x207x1) rfl start 3 0 h3 (by show 0 + 1 ≤ 1; omega)
  rw [Host.dynamicUpdateSlice_apply]
  by_cases htk : t = k
  · rw [if_pos htk]
    have hin : ∀ a : Fin 4, Host.clampedStart S16x12x207x1 S16x1x207x1 rfl start a ≤ ((ix4 b t n 0 : S16x12x207x1.Idx) a).val
        ∧ ((ix4 b t n 0 : S16x12x207x1.Idx) a).val < Host.clampedStart S16x12x207x1 S16x1x207x1 rfl start a + S16x1x207x1.size a := by
      intro a
      fin_cases a
      · show Host.clampedStart S16x12x207x1 S16x1x207x1 rfl start 0 ≤ b.val ∧ b.val < Host.clampedStart S16x12x207x1 S16x1x207x1 rfl start 0 + 16
        rw [c0]; omega
      · show Host.clampedStart S16x12x207x1 S16x1x207x1 rfl start 1 ≤ t.val ∧ t.val < Host.clampedStart S16x12x207x1 S16x1x207x1 rfl start 1 + 1
        rw [c1, htk]; omega
      · show Host.clampedStart S16x12x207x1 S16x1x207x1 rfl start 2 ≤ n.val ∧ n.val < Host.clampedStart S16x12x207x1 S16x1x207x1 rfl start 2 + 207
        rw [c2]; omega
      · show Host.clampedStart S16x12x207x1 S16x1x207x1 rfl start 3 ≤ 0 ∧ 0 < Host.clampedStart S16x12x207x1 S16x1x207x1 rfl start 3 + 1
        rw [c3]; omega
    refine (dif_pos hin).trans ?_
    congr 1
    funext a
    rw [Shape.Idx.norm_def]
    fin_cases a
    · exact Fin.ext (show b.val - Host.clampedStart S16x12x207x1 S16x1x207x1 rfl start 0 = b.val by rw [c0, Nat.sub_zero])
    · exact Fin.ext (show t.val - Host.clampedStart S16x12x207x1 S16x1x207x1 rfl start 1 = 0 by rw [c1, htk, Nat.sub_self])
    · exact Fin.ext (show n.val - Host.clampedStart S16x12x207x1 S16x1x207x1 rfl start 2 = n.val by rw [c2, Nat.sub_zero])
    · exact Fin.ext (show 0 - Host.clampedStart S16x12x207x1 S16x1x207x1 rfl start 3 = 0 by rw [Nat.zero_sub])
  · rw [if_neg htk, dif_neg]
    intro hin
    have h : Host.clampedStart S16x12x207x1 S16x1x207x1 rfl start 1 ≤ t.val ∧ t.val < Host.clampedStart S16x12x207x1 S16x1x207x1 rfl start 1 + 1 := hin 1
    rw [c1] at h
    exact htk (Fin.ext (by omega))

/-- The array with one step replaced. -/
theorem updateStep_apply (o : FVec Ideal (Steps 64) .f32) (u : FVec Ideal (Step 64) .f32) (start : Fin 4 → ℤ) (k : Fin 12) (h0 : start 0 = k.val)
    (h1 : start 1 = 0) (h2 : start 2 = 0) (h3 : start 3 = 0) (t : Fin 12) (b : Fin 16) (n : Fin 207) (c : Fin 64) :
    Host.dynamicUpdateSlice o u start updateFits_S12x16x207x64_S1x16x207x64 (ix4 t b n c)
      = if t = k then u (ix4 0 b n c) else o (ix4 t b n c) := by
  have c0 : Host.clampedStart (Steps 64) (Step 64) rfl start 0 = k.val :=
    Host.clampedStart_of_le (s := Steps 64) (t := Step 64) rfl start 0 k.val h0 (by show k.val + 1 ≤ 12; omega)
  have c1 : Host.clampedStart (Steps 64) (Step 64) rfl start 1 = 0 :=
    Host.clampedStart_of_le (s := Steps 64) (t := Step 64) rfl start 1 0 h1 (by show 0 + 16 ≤ 16; omega)
  have c2 : Host.clampedStart (Steps 64) (Step 64) rfl start 2 = 0 :=
    Host.clampedStart_of_le (s := Steps 64) (t := Step 64) rfl start 2 0 h2 (by show 0 + 207 ≤ 207; omega)
  have c3 : Host.clampedStart (Steps 64) (Step 64) rfl start 3 = 0 :=
    Host.clampedStart_of_le (s := Steps 64) (t := Step 64) rfl start 3 0 h3 (by show 0 + 64 ≤ 64; omega)
  rw [Host.dynamicUpdateSlice_apply]
  by_cases htk : t = k
  · rw [if_pos htk]
    have hin : ∀ a : Fin 4, Host.clampedStart (Steps 64) (Step 64) rfl start a ≤ ((ix4 t b n c : (Steps 64).Idx) a).val
        ∧ ((ix4 t b n c : (Steps 64).Idx) a).val < Host.clampedStart (Steps 64) (Step 64) rfl start a + (Step 64).size a := by
      intro a
      fin_cases a
      · show Host.clampedStart (Steps 64) (Step 64) rfl start 0 ≤ t.val ∧ t.val < Host.clampedStart (Steps 64) (Step 64) rfl start 0 + 1
        rw [c0, htk]; omega
      · show Host.clampedStart (Steps 64) (Step 64) rfl start 1 ≤ b.val ∧ b.val < Host.clampedStart (Steps 64) (Step 64) rfl start 1 + 16
        rw [c1]; omega
      · show Host.clampedStart (Steps 64) (Step 64) rfl start 2 ≤ n.val ∧ n.val < Host.clampedStart (Steps 64) (Step 64) rfl start 2 + 207
        rw [c2]; omega
      · show Host.clampedStart (Steps 64) (Step 64) rfl start 3 ≤ c.val ∧ c.val < Host.clampedStart (Steps 64) (Step 64) rfl start 3 + 64
        rw [c3]; omega
    refine (dif_pos hin).trans ?_
    congr 1
    funext a
    rw [Shape.Idx.norm_def]
    fin_cases a
    · exact Fin.ext (show t.val - Host.clampedStart (Steps 64) (Step 64) rfl start 0 = 0 by rw [c0, htk, Nat.sub_self])
    · exact Fin.ext (show b.val - Host.clampedStart (Steps 64) (Step 64) rfl start 1 = b.val by rw [c1, Nat.sub_zero])
    · exact Fin.ext (show n.val - Host.clampedStart (Steps 64) (Step 64) rfl start 2 = n.val by rw [c2, Nat.sub_zero])
    · exact Fin.ext (show c.val - Host.clampedStart (Steps 64) (Step 64) rfl start 3 = c.val by rw [c3, Nat.sub_zero])
  · rw [if_neg htk, dif_neg]
    intro hin
    have h : Host.clampedStart (Steps 64) (Step 64) rfl start 0 ≤ t.val ∧ t.val < Host.clampedStart (Steps 64) (Step 64) rfl start 0 + 1 := hin 0
    rw [c0] at h
    exact htk (Fin.ext (by omega))

/-- The input's step `k` at the nodes, entry by entry. -/
theorem frameNodes_apply (x : Vec Ideal S12x16x207x2 .f32) (k : Fin 12) (b : Fin 16) (n : Fin 207) (c : Fin 2) :
    frameNodes x (word k.val) (ix3 b n c) = x (ix4 k b n c) := by
  have hs := slice4_apply sliceFits_S12x16x207x2_S1x16x207x2 x (fun a => ((![stepIndex (word k.val), constantI S_ 32 0#32, constantI S_ 32 0#32, constantI S_ 32 0#32] : Fin 4 → Vec Ideal S_ .i32) a
      (Shape.Idx.first h_S_)).toInt) k (stepIndex_word k) rfl rfl rfl b n c
  unfold frameNodes
  generalize Host.dynamicSlice S1x16x207x2 x _ sliceFits_S12x16x207x2_S1x16x207x2 = y at *
  have hk : ((S1x16x207x2 : Shape).rowMajor (ix4 0 b n c) : ℕ) = (S16x207x2 : Shape).rowMajor (ix3 b n c) := by
    rw [pos4, pos3]
    simp only [Fin.val_zero]
    omega
  exact (Idealize.ShloMosaic.shapeCast_apply _ _ _ _ hk).trans hs

/-- The stored state of step `k`, entry by entry. -/
theorem frameStates_apply (x : Vec Ideal S12x16x207x64 .f32) (k : Fin 12) (b : Fin 16) (n : Fin 207) (c : Fin 64) :
    frameStates x (word k.val) (ix3 b n c) = x (ix4 k b n c) := by
  have hs := slice4_apply sliceFits_S12x16x207x64_S1x16x207x64 x (fun a => ((![stepIndex (word k.val), constantI S_ 32 0#32, constantI S_ 32 0#32, constantI S_ 32 0#32] : Fin 4 → Vec Ideal S_ .i32) a
      (Shape.Idx.first h_S_)).toInt) k (stepIndex_word k) rfl rfl rfl b n c
  unfold frameStates
  generalize Host.dynamicSlice S1x16x207x64 x _ sliceFits_S12x16x207x64_S1x16x207x64 = y at *
  have hk : ((S1x16x207x64 : Shape).rowMajor (ix4 0 b n c) : ℕ) = (S16x207x64 : Shape).rowMajor (ix3 b n c) := by
    rw [pos4, pos3]
    simp only [Fin.val_zero]
    omega
  exact (Idealize.ShloMosaic.shapeCast_apply _ _ _ _ hk).trans hs

/-- A state stored at step `k`: that step is the new one, the others stay. -/
theorem putState_apply (o : Vec Ideal S12x16x207x64 .f32) (p : Vec Ideal S16x207x64 .f32) (k : Fin 12) (t : Fin 12) (b : Fin 16) (n : Fin 207) (c : Fin 64) :
    putState o p (word k.val) (ix4 t b n c) = if t = k then p (ix3 b n c) else o (ix4 t b n c) := by
  have hu : broadcastInDim S1x16x207x64 ![1, 2, 3] bcast_S16x207x64_S1x16x207x64_1_2_3 p (ix4 0 b n c) = p (ix3 b n c) := by
    pointwise []
  rw [← hu]
  exact updateStep_apply o _ _ k (stepIndex_word k) rfl rfl rfl t b n c

/-- The input's step `k` as rows, entry by entry. -/
theorem frameRows_apply (x : Vec Ideal S12x3312x2 .f32) (k : Fin 12) (r : Fin 3312) (c : Fin 2) :
    frameRows x (word k.val) (ix2 r c) = x (ix3 k r c) := by
  have hs := slice3_apply x (fun a => ((![stepIndex (word k.val), constantI S_ 32 0#32, constantI S_ 32 0#32] : Fin 3 → Vec Ideal S_ .i32) a
      (Shape.Idx.first h_S_)).toInt) k (stepIndex_word k) rfl rfl r c
  unfold frameRows
  generalize Host.dynamicSlice S1x3312x2 x _ sliceFits_S12x3312x2_S1x3312x2 = y at *
  have hk : ((S1x3312x2 : Shape).rowMajor (ix3 0 r c) : ℕ) = (S3312x2 : Shape).rowMajor (ix2 r c) := by
    rw [pos3, pos2]
    simp only [Fin.val_zero]
    omega
  exact (Idealize.ShloMosaic.shapeCast_apply _ _ _ _ hk).trans hs

/-- A prediction written at step `k`: that step is the new one, the others stay. -/
theorem putStep_apply (o : Vec Ideal S16x12x207x1 .f32) (p : Vec Ideal S16x207x1 .f32) (k : Fin 12) (b : Fin 16) (t : Fin 12) (n : Fin 207) :
    putStep o p (word k.val) (ix4 b t n 0) = if t = k then p (ix3 b n 0) else o (ix4 b t n 0) := by
  have hu : broadcastInDim S16x1x207x1 ![0, 2, 3] bcast_S16x207x1_S16x1x207x1_0_2_3 p (ix4 b 0 n 0) = p (ix3 b n 0) := by
    pointwise []
  rw [← hu]
  exact update_apply o _ _ k rfl (stepIndex_word k) rfl rfl b t n

/-- The features of a step. -/
def stepNodes (x : Vec Ideal S16x12x207x2 .f32) (k : ℕ) : Nodes 2 := fun b n c => x (ix4 b (⟨k % 12, Nat.mod_lt _ (by decide)⟩ : Fin 12) n c)

/-- The input with its steps first, entry by entry. -/
theorem seqNodes_apply (x : Vec Ideal S16x12x207x2 .f32) (k : Fin 12) (b : Fin 16) (n : Fin 207) (c : Fin 2) :
    seqNodes x (ix4 k b n c) = x (ix4 b k n c) := by
  pointwise [seqNodes]

/-- Step `k` of the input, at the nodes. -/
theorem nodes_frame (x : Vec Ideal S16x12x207x2 .f32) (k : ℕ) (hk : k < 12) : nodes (w := 2) (frameNodes (seqNodes x) (word k)) = stepNodes x k := by
  funext b n c
  refine (frameNodes_apply (seqNodes x) ⟨k, hk⟩ b n c).trans ((seqNodes_apply x _ b n c).trans ?_)
  unfold stepNodes
  simp only [Nat.mod_eq_of_lt hk]

/-- Step `k` of the input's rows, at the nodes. -/
theorem rnodes_frame (x : Vec Ideal S16x12x207x2 .f32) (k : ℕ) (hk : k < 12) : rnodes (w := 2) (frameRows (seqRows x) (word k)) = stepNodes x k := by
  funext b n c
  refine (frameRows_apply (seqRows x) ⟨k, hk⟩ (row b n) c).trans ?_
  have hs := seqNodes_apply x ⟨k, hk⟩ b n c
  unfold seqRows
  generalize seqNodes x = y at *
  have hp : ((S12x16x207x2 : Shape).rowMajor (ix4 ⟨k, hk⟩ b n c) : ℕ) = (S12x3312x2 : Shape).rowMajor (ix3 ⟨k, hk⟩ (row b n) c) := by
    rw [pos4, pos3]
    simp only [row]
    omega
  refine (Idealize.ShloMosaic.shapeCast_apply _ _ _ _ hp).trans (hs.trans ?_)
  unfold stepNodes
  simp only [Nat.mod_eq_of_lt hk]

/-- The projection, at the nodes. -/
theorem nodes_project (h : Vec Ideal S16x207x64 .f32) (pw : Vec Ideal S64x1 .f32) (pb : Vec Ideal S1 .f32) :
    nodes (w := 1) (project h pw pb) = Spec.project (fun c => pw (ix2 c 0)) (pb (ix1 0)) (nodes (w := 64) h) := by
  funext b n c
  obtain rfl : c = 0 := Subsingleton.elim _ _
  show project (F := Ideal) h pw pb (ix3 b n 0) = ∑ c : Fin 64, h (ix3 b n c) * pw (ix2 c 0) + pb (ix1 0)
  pointwise [project]

/-! ### The loops -/

/-- The recurrent layer's state after `k` steps is the network's. -/
theorem rnodes_gruFold (x : Vec Ideal S16x12x207x2 .f32) (wih : Vec Ideal S192x2 .f32) (bih : Vec Ideal S192 .f32) (whh : Vec Ideal S192x64 .f32)
    (bhh : Vec Ideal S192 .f32) (k : ℕ) (hk : k ≤ 12) :
    rnodes (w := 64) (gruFold (seqRows x) wih bih whh bhh k)
      = Spec.gruFold (fun k c => wih (ix2 k c)) (fun k c => whh (ix2 k c)) (fun k => bih (ix1 k)) (fun k => bhh (ix1 k)) (stepNodes x) k := by
  induction k with
  | zero =>
    funext b n c
    exact Ideal.ofBits_zero_f32
  | succ k ih =>
    show rnodes (w := 64) (gru (frameRows (seqRows x) (word k)) wih bih whh bhh (gruFold (seqRows x) wih bih whh bhh k)) = _
    rw [rnodes_gru, ih (by omega), rnodes_frame x k (by omega)]
    rfl

/-- The array of zeros, 64 features a node, is zero at each node. -/
theorem nodes_zero64 : nodes (w := 64) (broadcastInDim S16x207x64 ![] bcast_S_S16x207x64 (zero (F := Ideal))) = fun _ _ _ => 0 := by
  funext b n c
  exact Ideal.ofBits_zero_f32

/-- The array of zeros, 1 feature a node, is zero at each node. -/
theorem nodes_zero1 : nodes (w := 1) (broadcastInDim S16x207x1 ![] bcast_S_S16x207x1 (zero (F := Ideal))) = fun _ _ _ => 0 := by
  funext b n c
  exact Ideal.ofBits_zero_f32

section Encoder

variable (S : Vec Ideal S207x207 .f32) (x : Vec Ideal S16x12x207x2 .f32) (Wg : Vec Ideal S198x128 .f32) (bg : Vec Ideal S128 .f32) (Wc : Vec Ideal S198x64 .f32)
  (bc : Vec Ideal S64 .f32) (Wg' : Vec Ideal S384x128 .f32) (bg' : Vec Ideal S128 .f32) (Wc' : Vec Ideal S384x64 .f32) (bc' : Vec Ideal S64 .f32)

/-- The encoder's recursion on the nodes. -/
abbrev encSpec (k : ℕ) := Spec.encFold (adj S) (cellW2 Wg bg Wc bc) (cellW64 Wg' bg' Wc' bc') (stepNodes x) k

/-- The first layer's state. -/
theorem nodes_enc0Fold (k : ℕ) (hk : k ≤ 12) :
    nodes (w := 64) (enc0Fold S (seqNodes x) Wg bg Wc bc k).1 = (encSpec S x Wg bg Wc bc Wg' bg' Wc' bc' k).1 := by
  induction k with
  | zero => exact nodes_zero64
  | succ k ih =>
    show nodes (w := 64) (cell2 S (frameNodes (seqNodes x) (word k)) (enc0Fold S (seqNodes x) Wg bg Wc bc k).1 Wg bg Wc bc)
      = (cellW2 Wg bg Wc bc).run (adj S) (stepNodes x k) (encSpec S x Wg bg Wc bc Wg' bg' Wc' bc' k).1
    rw [nodes_cell2, nodes_frame x k (by omega), ih (by omega)]

/-- The state stored for step `t`, once stored, is the first layer's after that step. -/
theorem enc0_stored (t : Fin 12) (k : ℕ) (hk : k ≤ 12) (htk : t.val < k) (b : Fin 16) (n : Fin 207) (c : Fin 64) :
    (enc0Fold S (seqNodes x) Wg bg Wc bc k).2 (ix4 t b n c) = (encSpec S x Wg bg Wc bc Wg' bg' Wc' bc' (t.val + 1)).1 b n c := by
  induction k with
  | zero => exact absurd htk (Nat.not_lt_zero _)
  | succ k ih =>
    have e : (enc0Fold S (seqNodes x) Wg bg Wc bc (k + 1)).2
        = putState (enc0Fold S (seqNodes x) Wg bg Wc bc k).2 (enc0Fold S (seqNodes x) Wg bg Wc bc (k + 1)).1 (word k) := rfl
    rw [e]
    refine (putState_apply _ _ ⟨k, by omega⟩ t b n c).trans ?_
    by_cases h : t.val = k
    · rw [if_pos (Fin.ext h), h, ← nodes_enc0Fold S x Wg bg Wc bc Wg' bg' Wc' bc' (k + 1) hk]
      rfl
    · rw [if_neg (fun e => h (congrArg Fin.val e))]
      exact ih (by omega) (by omega)

/-- The state the first layer stored at step `k` is the network's first-layer state after `k + 1` steps. -/
theorem nodes_states (k : ℕ) (hk : k < 12) :
    nodes (w := 64) (frameStates (enc0Fold S (seqNodes x) Wg bg Wc bc 12).2 (word k)) = (encSpec S x Wg bg Wc bc Wg' bg' Wc' bc' (k + 1)).1 := by
  funext b n c
  exact (frameStates_apply _ ⟨k, hk⟩ b n c).trans (enc0_stored S x Wg bg Wc bc Wg' bg' Wc' bc' ⟨k, hk⟩ 12 le_rfl hk b n c)

/-- The second layer's state, from the first layer's stored states. -/
theorem nodes_enc1Fold (k : ℕ) (hk : k ≤ 12) :
    nodes (w := 64) (enc1Fold S (enc0Fold S (seqNodes x) Wg bg Wc bc 12).2 Wg' bg' Wc' bc' k) = (encSpec S x Wg bg Wc bc Wg' bg' Wc' bc' k).2 := by
  induction k with
  | zero => exact nodes_zero64
  | succ k ih =>
    have hs := nodes_states S x Wg bg Wc bc Wg' bg' Wc' bc' k (by omega)
    have hi := ih (by omega)
    have e : enc1Fold S (enc0Fold S (seqNodes x) Wg bg Wc bc 12).2 Wg' bg' Wc' bc' (k + 1)
        = cell64 S (frameStates (enc0Fold S (seqNodes x) Wg bg Wc bc 12).2 (word k))
            (enc1Fold S (enc0Fold S (seqNodes x) Wg bg Wc bc 12).2 Wg' bg' Wc' bc' k) Wg' bg' Wc' bc' := rfl
    have e' : (encSpec S x Wg bg Wc bc Wg' bg' Wc' bc' (k + 1)).2
        = (cellW64 Wg' bg' Wc' bc').run (adj S) (encSpec S x Wg bg Wc bc Wg' bg' Wc' bc' (k + 1)).1 (encSpec S x Wg bg Wc bc Wg' bg' Wc' bc' k).2 := rfl
    rw [e, e', nodes_cell64, hs, hi]

/-- The two layers one after the other end in the states that the two layers together end in. -/
theorem nodes_enc :
    (nodes (w := 64) (enc0Fold S (seqNodes x) Wg bg Wc bc 12).1,
      nodes (w := 64) (enc1Fold S (enc0Fold S (seqNodes x) Wg bg Wc bc 12).2 Wg' bg' Wc' bc' 12))
      = Spec.encFold (adj S) (cellW2 Wg bg Wc bc) (cellW64 Wg' bg' Wc' bc') (stepNodes x) 12 := by
  rw [nodes_enc0Fold S x Wg bg Wc bc Wg' bg' Wc' bc' 12 le_rfl, nodes_enc1Fold S x Wg bg Wc bc Wg' bg' Wc' bc' 12 le_rfl]

end Encoder

section Decoder

variable (S : Vec Ideal S207x207 .f32) (Wg : Vec Ideal S195x128 .f32) (bg : Vec Ideal S128 .f32) (Wc : Vec Ideal S195x64 .f32)
  (bc : Vec Ideal S64 .f32) (Wg' : Vec Ideal S384x128 .f32) (bg' : Vec Ideal S128 .f32) (Wc' : Vec Ideal S384x64 .f32) (bc' : Vec Ideal S64 .f32)
  (pw : Vec Ideal S64x1 .f32) (pb : Vec Ideal S1 .f32) (h0 h1 : Vec Ideal S16x207x64 .f32)

/-- The decoder's recursion on the nodes. -/
abbrev decSpec (k : ℕ) :=
  Spec.decFold (adj S) (cellW1 Wg bg Wc bc) (cellW64 Wg' bg' Wc' bc') (fun c => pw (ix2 c 0)) (pb (ix1 0)) (nodes (w := 64) h0, nodes (w := 64) h1) k

/-- The decoder's states and last prediction after `k` steps are the network's. -/
theorem nodes_decFold (k : ℕ) :
    (nodes (w := 64) (decFold S Wg bg Wc bc Wg' bg' Wc' bc' pw pb h0 h1 k).1, nodes (w := 64) (decFold S Wg bg Wc bc Wg' bg' Wc' bc' pw pb h0 h1 k).2.1,
      nodes (w := 1) (decFold S Wg bg Wc bc Wg' bg' Wc' bc' pw pb h0 h1 k).2.2.1) = decSpec S Wg bg Wc bc Wg' bg' Wc' bc' pw pb h0 h1 k := by
  induction k with
  | zero => exact congrArg (fun z => (nodes (w := 64) h0, nodes (w := 64) h1, z)) nodes_zero1
  | succ k ih =>
    generalize hD : decFold S Wg bg Wc bc Wg' bg' Wc' bc' pw pb h0 h1 k = D at ih
    have e : decFold S Wg bg Wc bc Wg' bg' Wc' bc' pw pb h0 h1 (k + 1)
        = (cell1 S D.2.2.1 D.1 Wg bg Wc bc, cell64 S (cell1 S D.2.2.1 D.1 Wg bg Wc bc) D.2.1 Wg' bg' Wc' bc',
          project (cell64 S (cell1 S D.2.2.1 D.1 Wg bg Wc bc) D.2.1 Wg' bg' Wc' bc') pw pb,
          putStep D.2.2.2 (project (cell64 S (cell1 S D.2.2.1 D.1 Wg bg Wc bc) D.2.1 Wg' bg' Wc' bc') pw pb) (word k)) := by
      rw [← hD]; rfl
    generalize hE : decSpec S Wg bg Wc bc Wg' bg' Wc' bc' pw pb h0 h1 k = E at ih
    have e' : decSpec S Wg bg Wc bc Wg' bg' Wc' bc' pw pb h0 h1 (k + 1)
        = ((cellW1 Wg bg Wc bc).run (adj S) E.2.2 E.1,
          (cellW64 Wg' bg' Wc' bc').run (adj S) ((cellW1 Wg bg Wc bc).run (adj S) E.2.2 E.1) E.2.1,
          Spec.project (fun c => pw (ix2 c 0)) (pb (ix1 0)) ((cellW64 Wg' bg' Wc' bc').run (adj S) ((cellW1 Wg bg Wc bc).run (adj S) E.2.2 E.1) E.2.1)) := by
      rw [← hE]; rfl
    rw [e, e', ← ih]
    dsimp only
    rw [nodes_project, nodes_cell64, nodes_cell1]

/-- Row `t` of the result, once written, is the projection of step `t`. -/
theorem dec_out (b : Fin 16) (n : Fin 207) (t : Fin 12) (k : ℕ) (hk : k ≤ 12) (htk : t.val < k) :
    (decFold S Wg bg Wc bc Wg' bg' Wc' bc' pw pb h0 h1 k).2.2.2 (ix4 b t n 0)
      = (decSpec S Wg bg Wc bc Wg' bg' Wc' bc' pw pb h0 h1 (t.val + 1)).2.2 b n 0 := by
  induction k with
  | zero => exact absurd htk (Nat.not_lt_zero _)
  | succ k ih =>
    have e : (decFold S Wg bg Wc bc Wg' bg' Wc' bc' pw pb h0 h1 (k + 1)).2.2.2
        = putStep (decFold S Wg bg Wc bc Wg' bg' Wc' bc' pw pb h0 h1 k).2.2.2 (decFold S Wg bg Wc bc Wg' bg' Wc' bc' pw pb h0 h1 (k + 1)).2.2.1 (word k) := rfl
    rw [e]
    refine (putStep_apply _ _ ⟨k, by omega⟩ b t n).trans ?_
    by_cases h : t.val = k
    · rw [if_pos (Fin.ext h), h, ← nodes_decFold S Wg bg Wc bc Wg' bg' Wc' bc' pw pb h0 h1 (k + 1)]
      rfl
    · rw [if_neg (fun e => h (congrArg Fin.val e))]
      exact ih (by omega) (by omega)

end Decoder

end Cert.Proof.Ref

end
-- ==== Proof.Net.lean ====
/-
  The whole network on plain functions: the support from the gated unit's last state, the encoder over the twelve steps,
  and the decoder from the encoder's last states.
-/
module

public import proofs.«01_k».proof.Proof.Spec

@[expose] public section

noncomputable section

namespace Cert.Proof.Spec

/-- The support of the network. -/
def netSupport (X : ℕ → Nodes 2) (wih : Fin 192 → Fin 2 → EReal) (whh : Fin 192 → Fin 64 → EReal) (bih bhh : Fin 192 → EReal)
    (wk wq : Fin 64 → Fin 32 → EReal) : Adj := support (gruFold wih whh bih bhh X 12) wk wq

/-- The network's forecast for step `t`, over a given support. -/
def forecast (A : Adj) (X : ℕ → Nodes 2) (E₀ : CellW 2) (E₁ : CellW 64) (D₀ : CellW 1) (D₁ : CellW 64) (pw : Fin 64 → EReal) (pb : EReal)
    (t : Fin 12) (b : Fin 16) (n : Fin 207) : EReal :=
  (decFold A D₀ D₁ pw pb (encFold A E₀ E₁ X 12) (t.val + 1)).2.2 b n 0

end Cert.Proof.Spec

end
-- ==== Proof.KNet.lean ====
/-
  The kernel's result is the network's forecast: the launch's array read at a batch entry's node and a step, and the
  prepared weights and input read as the arguments they come from.
-/
module

public import proofs.«01_k».proof.Proof.KValue
public import proofs.«01_k».proof.Proof.KSupport
public import proofs.«01_k».proof.Proof.RReadLoops
public import proofs.«01_k».proof.Proof.Net

@[expose] public section

set_option maxRecDepth 16384

noncomputable section

namespace Cert.Proof.KernelIdeal

open Cert.KernelIdeal Cert.KernelIdeal.Gen
open Idealize.ShloMosaic Idealize.ShloMosaic.TcCoe
open Cert.Proof.Spec (Nodes Adj Wts CellW)

/-- The body's result, at a batch entry's node and a step. -/
theorem bodyOut_apply (x0 : FVec Ideal S12x3328x2 .f32) (x1 : FVec Ideal S2x192 .f32) (x2 : FVec Ideal S64x192 .f32) (x3 : FVec Ideal S1x192 .f32) (x4 : FVec Ideal S1x192 .f32) (x5 : FVec Ideal S64x32 .f32) (x6 : FVec Ideal S64x32 .f32) (x7 : FVec Ideal S6x128 .f32) (x8 : FVec Ideal S192x128 .f32) (x9 : FVec Ideal S1x128 .f32) (x10 : FVec Ideal S6x64 .f32) (x11 : FVec Ideal S192x64 .f32) (x12 : FVec Ideal S1x64 .f32) (x13 : FVec Ideal S192x128 .f32) (x14 : FVec Ideal S192x128 .f32) (x15 : FVec Ideal S1x128 .f32) (x16 : FVec Ideal S192x64 .f32) (x17 : FVec Ideal S192x64 .f32) (x18 : FVec Ideal S1x64 .f32) (x19 : FVec Ideal S3x128 .f32) (x20 : FVec Ideal S192x128 .f32) (x21 : FVec Ideal S1x128 .f32) (x22 : FVec Ideal S3x64 .f32) (x23 : FVec Ideal S192x64 .f32) (x24 : FVec Ideal S1x64 .f32) (x25 : FVec Ideal S192x128 .f32) (x26 : FVec Ideal S192x128 .f32) (x27 : FVec Ideal S1x128 .f32) (x28 : FVec Ideal S192x64 .f32) (x29 : FVec Ideal S192x64 .f32) (x30 : FVec Ideal S1x64 .f32) (x31 : FVec Ideal S1x64 .f32) (x32 : FVec Ideal S1x1 .f32) (b : Fin 16) (n : Fin 207) (t : Fin 12) :
    bodyOut (F := Ideal) x0 x1 x2 x3 x4 x5 x6 x7 x8 x9 x10 x11 x12 x13 x14 x15 x16 x17 x18 x19 x20 x21 x22 x23 x24 x25 x26 x27 x28 x29 x30 x31 x32 (ix2 (row b n) t)
      = Spec.forecast (Spec.netSupport (fun k => nodes (frameAt x0 k)) (fun k c => x1 (ix2 c k)) (fun k c => x2 (ix2 c k)) (fun k => x3 (ix2 0 k)) (fun k => x4 (ix2 0 k))
          (fun c d => x5 (ix2 c d)) (fun c d => x6 (ix2 c d)))
        (fun k => nodes (frameAt x0 k)) (cellW (w := 2) rfl x7 x8 x9 x10 x11 x12) (cellW (w := 64) rfl x13 x14 x15 x16 x17 x18)
        (cellW (w := 1) rfl x19 x20 x21 x22 x23 x24) (cellW (w := 64) rfl x25 x26 x27 x28 x29 x30) (fun c => x31 (ix2 0 c)) (x32 (ix2 0 0)) t b n := by
  have hS := supportOf_holds (gruFold x1 x2 x3 x4 x0 12) x5 x6
  rw [nodes_gruFold] at hS
  unfold Spec.forecast Spec.netSupport
  unfold bodyOut
  generalize supportOf (gruFold x1 x2 x3 x4 x0 12) x5 x6 = S at hS ⊢
  rw [← nodes_encFold hS]
  exact dec_out x19 x20 x21 x22 x23 x24 x25 x26 x27 x28 x29 x30 x31 x32 _ _ hS b n t 12 le_rfl t.isLt

/-! ### The prepared weights and input -/

/-- A vector as one row. -/
theorem bias128_apply (v : FVec Ideal S128 .f32) (k : Fin 128) : broadcastInDim S1x128 ![1] bcast_S128_S1x128_1 v (ix2 0 k) = v (ix1 k) := by
  pointwise []
/-- A bias of 64 entries laid out as one row, entry by entry. -/
theorem bias64_apply (v : FVec Ideal S64 .f32) (k : Fin 64) : broadcastInDim S1x64 ![1] bcast_S64_S1x64_1 v (ix2 0 k) = v (ix1 k) := by
  pointwise []
/-- A bias of 192 entries laid out as one row, entry by entry. -/
theorem bias192_apply (v : FVec Ideal S192 .f32) (k : Fin 192) : broadcastInDim S1x192 ![1] bcast_S192_S1x192_1 v (ix2 0 k) = v (ix1 k) := by
  pointwise []

/-- A transposed matrix. -/
theorem wih_apply (W : FVec Ideal S192x2 .f32) (c : Fin 2) (k : Fin 192) : transpose S2x192 [1, 0] W transposes_S192x2_S2x192_1_0 (ix2 c k) = W (ix2 k c) := by
  pointwise []
/-- The state's weights transposed, entry by entry. -/
theorem whh_apply (W : FVec Ideal S192x64 .f32) (c : Fin 64) (k : Fin 192) : transpose S64x192 [1, 0] W transposes_S192x64_S64x192_1_0 (ix2 c k) = W (ix2 k c) := by
  pointwise []
/-- The projection's weights transposed, entry by entry. -/
theorem pw_apply (W : FVec Ideal S64x1 .f32) (c : Fin 64) : transpose S1x64 [1, 0] W transposes_S64x1_S1x64_1_0 (ix2 0 c) = W (ix2 c 0) := by
  pointwise []

/-- A number as a matrix of one entry. -/
theorem pb_apply (v : FVec Ideal S1 .f32) : shapeCast S1x1 v shapeCasts_S1_S1x1 (ix2 0 0) = v (ix1 0) :=
  by
  have e : (Shape.reshapeEquiv shapeCasts_S1_S1x1) (ix2 0 0) = (ix1 0 : S1.Idx) := by
    funext a
    match a with | 0 => exact Subsingleton.elim (α := Fin 1) _ _
  exact congrArg v e

/-- The prepared weights of a cell whose input has width 2 are the cell's weights. -/
theorem cellW2_eq (Wg : FVec Ideal S198x128 .f32) (bg : FVec Ideal S128 .f32) (Wc : FVec Ideal S198x64 .f32) (bc : FVec Ideal S64 .f32) :
    cellW (w := 2) rfl (xRows2_128 (F := Ideal) Wg) (hRows2_128 (F := Ideal) Wg) (broadcastInDim S1x128 ![1] bcast_S128_S1x128_1 bg)
        (xRows2_64 (F := Ideal) Wc) (hRows2_64 (F := Ideal) Wc) (broadcastInDim S1x64 ![1] bcast_S64_S1x64_1 bc)
      = Ref.cellW2 Wg bg Wc bc := by
  unfold cellW Ref.cellW2
  congr 1
  · funext m c k
    exact (xRows2_128_apply Wg m c k).trans (congrArg (fun i => Wg (ix2 i k)) (Fin.ext (by show 3 * (0 + c.val) + m.val = 3 * c.val + m.val; omega)))
  · funext m c k
    exact hRows2_128_apply Wg m c k
  · funext k
    exact bias128_apply bg k
  · funext m c k
    exact (xRows2_64_apply Wc m c k).trans (congrArg (fun i => Wc (ix2 i k)) (Fin.ext (by show 3 * (0 + c.val) + m.val = 3 * c.val + m.val; omega)))
  · funext m c k
    exact hRows2_64_apply Wc m c k
  · funext k
    exact bias64_apply bc k

/-- The prepared weights of a cell whose input has width 64 are the cell's weights. -/
theorem cellW64_eq (Wg : FVec Ideal S384x128 .f32) (bg : FVec Ideal S128 .f32) (Wc : FVec Ideal S384x64 .f32) (bc : FVec Ideal S64 .f32) :
    cellW (w := 64) rfl (xRows64_128 (F := Ideal) Wg) (hRows64_128 (F := Ideal) Wg) (broadcastInDim S1x128 ![1] bcast_S128_S1x128_1 bg)
        (xRows64_64 (F := Ideal) Wc) (hRows64_64 (F := Ideal) Wc) (broadcastInDim S1x64 ![1] bcast_S64_S1x64_1 bc)
      = Ref.cellW64 Wg bg Wc bc := by
  unfold cellW Ref.cellW64
  congr 1
  · funext m c k
    exact (xRows64_128_apply Wg m c k).trans (congrArg (fun i => Wg (ix2 i k)) (Fin.ext (by show 3 * (0 + c.val) + m.val = 3 * c.val + m.val; omega)))
  · funext m c k
    exact hRows64_128_apply Wg m c k
  · funext k
    exact bias128_apply bg k
  · funext m c k
    exact (xRows64_64_apply Wc m c k).trans (congrArg (fun i => Wc (ix2 i k)) (Fin.ext (by show 3 * (0 + c.val) + m.val = 3 * c.val + m.val; omega)))
  · funext m c k
    exact hRows64_64_apply Wc m c k
  · funext k
    exact bias64_apply bc k

/-- The prepared weights of a cell whose input has width 1 are the cell's weights. -/
theorem cellW1_eq (Wg : FVec Ideal S195x128 .f32) (bg : FVec Ideal S128 .f32) (Wc : FVec Ideal S195x64 .f32) (bc : FVec Ideal S64 .f32) :
    cellW (w := 1) rfl (xRows1_128 (F := Ideal) Wg) (hRows1_128 (F := Ideal) Wg) (broadcastInDim S1x128 ![1] bcast_S128_S1x128_1 bg)
        (xRows1_64 (F := Ideal) Wc) (hRows1_64 (F := Ideal) Wc) (broadcastInDim S1x64 ![1] bcast_S64_S1x64_1 bc)
      = Ref.cellW1 Wg bg Wc bc := by
  unfold cellW Ref.cellW1
  congr 1
  · funext m c k
    exact (xRows1_128_apply Wg m c k).trans (congrArg (fun i => Wg (ix2 i k)) (Fin.ext (by show 3 * (0 + c.val) + m.val = 3 * c.val + m.val; omega)))
  · funext m c k
    exact hRows1_128_apply Wg m c k
  · funext k
    exact bias128_apply bg k
  · funext m c k
    exact (xRows1_64_apply Wc m c k).trans (congrArg (fun i => Wc (ix2 i k)) (Fin.ext (by show 3 * (0 + c.val) + m.val = 3 * c.val + m.val; omega)))
  · funext m c k
    exact hRows1_64_apply Wc m c k
  · funext k
    exact bias64_apply bc k

/-- The prepared input at a node is the input. -/
theorem steps_apply (x : FVec Ideal S16x12x207x2 .f32) (k : Fin 12) (b : Fin 16) (n : Fin 207) (c : Fin 2) :
    steps (F := Ideal) x (ix3 k (row b n) c) = x (ix4 b k n c) := by
  generalize hp : pad S12x16x208x2 ![0, 0, 0, 0] ![0, 0, 1, 0] ![0, 0, 0, 0]
    (transpose S12x16x207x2 [1, 0, 2, 3] x transposes_S16x12x207x2_S12x16x207x2_1_0_2_3) (sitofp .f32 (constantI S_ 32 0#32) : FVec Ideal S_ .f32)
    pads_S12x16x207x2_S12x16x208x2_000_000_010_000 h_S_ = p
  have e : steps (F := Ideal) x (ix3 k (row b n) c) = shapeCast S12x3328x2 p shapeCasts_S12x16x208x2_S12x3328x2 (ix3 k (row b n) c) := by
    rw [← hp]; rfl
  have hk : ((S12x16x208x2 : Shape).rowMajor (ix4 k b n.castSucc c) : ℕ) = (S12x3328x2 : Shape).rowMajor (ix3 k (row b n) c) :=
    (Ref.pos4 k b n.castSucc c).trans (Eq.trans (by simp only [row, prow, Fin.val_castSucc]; omega) (Ref.pos3 k (row b n) c).symm)
  rw [e, Idealize.ShloMosaic.shapeCast_apply _ _ _ _ hk, ← hp]
  pointwise []
  exact dif_pos n.isLt

/-- The nodes' features at a step are the reference's. -/
theorem nodes_steps (x : FVec Ideal S16x12x207x2 .f32) (k : ℕ) : nodes (frameAt (steps (F := Ideal) x) k) = Ref.stepNodes x k := by
  funext b n c
  exact steps_apply x ⟨k % 12, Nat.mod_lt _ (by decide)⟩ b n c

/-- The result at a batch entry's step and node. -/
theorem cutOut_apply (o : FVec Ideal S3328x12 .f32) (b : Fin 16) (t : Fin 12) (n : Fin 207) :
    cutOut (F := Ideal) o (ix4 b t n 0) = o (ix2 (row b n) t) := by
  generalize hs : shapeCast S16x208x12 o shapeCasts_S3328x12_S16x208x12 = s
  have e : cutOut (F := Ideal) o (ix4 b t n 0) = s (ix3 b n.castSucc t) := by
    rw [← hs]
    unfold cutOut
    rw [hs]
    pointwise []
    rfl
  have hk : ((S3328x12 : Shape).rowMajor (ix2 (row b n) t) : ℕ) = (S16x208x12 : Shape).rowMajor (ix3 b n.castSucc t) :=
    (Ref.pos2 (row b n) t).trans (Eq.trans (by simp only [row, prow, Fin.val_castSucc]; omega) (Ref.pos3 b n.castSucc t).symm)
  rw [e, ← hs, Idealize.ShloMosaic.shapeCast_apply _ _ _ _ hk]

end Cert.Proof.KernelIdeal
-- ==== Proof.Same.lean ====
/-
  The two programs' results are the same numbers: each is the network's forecast on the same arguments.
-/
module

public import proofs.«01_k».proof.Proof.KNet
public import proofs.«01_k».proof.Proof.RefFrame

@[expose] public section

set_option maxRecDepth 16384

noncomputable section

namespace Cert.Proof.Ref

open Idealize.ShloMosaic Idealize.ShloMosaic.TcCoe Cert.ReferenceIdeal Cert.ReferenceIdeal.Gen

/-- The network's forecast from the twenty-five arguments. -/
def net (a0 : FVec Ideal S16x12x207x2 .f32) (a1 : FVec Ideal S198x128 .f32) (a2 : FVec Ideal S128 .f32) (a3 : FVec Ideal S198x64 .f32) (a4 : FVec Ideal S64 .f32) (a5 : FVec Ideal S384x128 .f32) (a6 : FVec Ideal S128 .f32) (a7 : FVec Ideal S384x64 .f32) (a8 : FVec Ideal S64 .f32) (a9 : FVec Ideal S195x128 .f32) (a10 : FVec Ideal S128 .f32) (a11 : FVec Ideal S195x64 .f32) (a12 : FVec Ideal S64 .f32) (a13 : FVec Ideal S384x128 .f32) (a14 : FVec Ideal S128 .f32) (a15 : FVec Ideal S384x64 .f32) (a16 : FVec Ideal S64 .f32) (a17 : FVec Ideal S64x1 .f32) (a18 : FVec Ideal S1 .f32) (a19 : FVec Ideal S192x2 .f32) (a20 : FVec Ideal S192x64 .f32) (a21 : FVec Ideal S192 .f32) (a22 : FVec Ideal S192 .f32) (a23 : FVec Ideal S64x32 .f32) (a24 : FVec Ideal S64x32 .f32)
    (t : Fin 12) (b : Fin 16) (n : Fin 207) : EReal :=
  Spec.forecast (Spec.netSupport (stepNodes a0) (fun k c => a19 (ix2 k c)) (fun k c => a20 (ix2 k c)) (fun k => a21 (ix1 k)) (fun k => a22 (ix1 k))
      (fun c d => a23 (ix2 c d)) (fun c d => a24 (ix2 c d)))
    (stepNodes a0) (cellW2 a1 a2 a3 a4) (cellW64 a5 a6 a7 a8) (cellW1 a9 a10 a11 a12) (cellW64 a13 a14 a15 a16)
    (fun c => a17 (ix2 c 0)) (a18 (ix1 0)) t b n

/-- The reference's loops compute it. -/
theorem loops_net (a0 : FVec Ideal S16x12x207x2 .f32) (a1 : FVec Ideal S198x128 .f32) (a2 : FVec Ideal S128 .f32) (a3 : FVec Ideal S198x64 .f32) (a4 : FVec Ideal S64 .f32) (a5 : FVec Ideal S384x128 .f32) (a6 : FVec Ideal S128 .f32) (a7 : FVec Ideal S384x64 .f32) (a8 : FVec Ideal S64 .f32) (a9 : FVec Ideal S195x128 .f32) (a10 : FVec Ideal S128 .f32) (a11 : FVec Ideal S195x64 .f32) (a12 : FVec Ideal S64 .f32) (a13 : FVec Ideal S384x128 .f32) (a14 : FVec Ideal S128 .f32) (a15 : FVec Ideal S384x64 .f32) (a16 : FVec Ideal S64 .f32) (a17 : FVec Ideal S64x1 .f32) (a18 : FVec Ideal S1 .f32) (a19 : FVec Ideal S192x2 .f32) (a20 : FVec Ideal S192x64 .f32) (a21 : FVec Ideal S192 .f32) (a22 : FVec Ideal S192 .f32) (a23 : FVec Ideal S64x32 .f32) (a24 : FVec Ideal S64x32 .f32)
    (t : Fin 12) (b : Fin 16) (n : Fin 207) (S : FVec Ideal S207x207 .f32)
    (hS : S = support (F := Ideal) (gruFold (seqRows a0) a19 a21 a20 a22 12) a23 a24) :
    (decFold (F := Ideal) S a9 a10 a11 a12 a13 a14 a15 a16 a17 a18 (enc0Fold S (seqNodes a0) a1 a2 a3 a4 12).1
        (enc1Fold S (enc0Fold S (seqNodes a0) a1 a2 a3 a4 12).2 a5 a6 a7 a8 12) 12).2.2.2 (ix4 b t n 0)
      = net a0 a1 a2 a3 a4 a5 a6 a7 a8 a9 a10 a11 a12 a13 a14 a15 a16 a17 a18 a19 a20 a21 a22 a23 a24 t b n := by
  have hA := support_node (gruFold (F := Ideal) (seqRows a0) a19 a21 a20 a22 12) a23 a24
  rw [← hS, rnodes_gruFold a0 a19 a21 a20 a22 12 le_rfl] at hA
  have hE := nodes_enc S a0 a1 a2 a3 a4 a5 a6 a7 a8
  rw [dec_out S a9 a10 a11 a12 a13 a14 a15 a16 a17 a18 _ _ b n t 12 le_rfl t.isLt]
  unfold net Spec.forecast Spec.netSupport
  rw [← hA, ← hE]

/-- The reference's result. -/
theorem final_net (m : (ℓ : Loc nD τ sig) → Buf (Elt Ideal) ℓ) (c : Dev nD) (t : Fin 12) (b : Fin 16) (n : Fin 207) :
    (final m c (Proc.devRef .tc main_v43_16) : FVec Ideal S16x12x207x1 .f32) (ix4 b t n 0)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) t b n := by
  rw [final_result m c]
  exact loops_net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) t b n (supportAt m c) rfl

end Cert.Proof.Ref

namespace Cert.Proof.KernelIdeal

open Idealize.ShloMosaic Idealize.ShloMosaic.TcCoe Cert.KernelIdeal Cert.KernelIdeal.Gen

/-- The kernel's body on the prepared arguments computes it. -/
theorem body_net (a0 : FVec Ideal S16x12x207x2 .f32) (a1 : FVec Ideal S198x128 .f32) (a2 : FVec Ideal S128 .f32) (a3 : FVec Ideal S198x64 .f32) (a4 : FVec Ideal S64 .f32) (a5 : FVec Ideal S384x128 .f32) (a6 : FVec Ideal S128 .f32) (a7 : FVec Ideal S384x64 .f32) (a8 : FVec Ideal S64 .f32) (a9 : FVec Ideal S195x128 .f32) (a10 : FVec Ideal S128 .f32) (a11 : FVec Ideal S195x64 .f32) (a12 : FVec Ideal S64 .f32) (a13 : FVec Ideal S384x128 .f32) (a14 : FVec Ideal S128 .f32) (a15 : FVec Ideal S384x64 .f32) (a16 : FVec Ideal S64 .f32) (a17 : FVec Ideal S64x1 .f32) (a18 : FVec Ideal S1 .f32) (a19 : FVec Ideal S192x2 .f32) (a20 : FVec Ideal S192x64 .f32) (a21 : FVec Ideal S192 .f32) (a22 : FVec Ideal S192 .f32) (a23 : FVec Ideal S64x32 .f32) (a24 : FVec Ideal S64x32 .f32)
    (t : Fin 12) (b : Fin 16) (n : Fin 207) :
    bodyOut (F := Ideal) (steps a0)
      (transpose S2x192 [1, 0] a19 transposes_S192x2_S2x192_1_0)
      (transpose S64x192 [1, 0] a20 transposes_S192x64_S64x192_1_0)
      (broadcastInDim S1x192 ![1] bcast_S192_S1x192_1 a21)
      (broadcastInDim S1x192 ![1] bcast_S192_S1x192_1 a22)
      a23
      a24
      (xRows2_128 a1)
      (hRows2_128 a1)
      (broadcastInDim S1x128 ![1] bcast_S128_S1x128_1 a2)
      (xRows2_64 a3)
      (hRows2_64 a3)
      (broadcastInDim S1x64 ![1] bcast_S64_S1x64_1 a4)
      (xRows64_128 a5)
      (hRows64_128 a5)
      (broadcastInDim S1x128 ![1] bcast_S128_S1x128_1 a6)
      (xRows64_64 a7)
      (hRows64_64 a7)
      (broadcastInDim S1x64 ![1] bcast_S64_S1x64_1 a8)
      (xRows1_128 a9)
      (hRows1_128 a9)
      (broadcastInDim S1x128 ![1] bcast_S128_S1x128_1 a10)
      (xRows1_64 a11)
      (hRows1_64 a11)
      (broadcastInDim S1x64 ![1] bcast_S64_S1x64_1 a12)
      (xRows64_128 a13)
      (hRows64_128 a13)
      (broadcastInDim S1x128 ![1] bcast_S128_S1x128_1 a14)
      (xRows64_64 a15)
      (hRows64_64 a15)
      (broadcastInDim S1x64 ![1] bcast_S64_S1x64_1 a16)
      (transpose S1x64 [1, 0] a17 transposes_S64x1_S1x64_1_0)
      (shapeCast S1x1 a18 shapeCasts_S1_S1x1) (ix2 (row b n) t)
      = Ref.net a0 a1 a2 a3 a4 a5 a6 a7 a8 a9 a10 a11 a12 a13 a14 a15 a16 a17 a18 a19 a20 a21 a22 a23 a24 t b n := by
  rw [bodyOut_apply]
  unfold Ref.net
  simp only [nodes_steps, pb_apply]
  rw [cellW2_eq, cellW64_eq, cellW1_eq, cellW64_eq]
  have e1 : (fun (k : Fin 192) (c : Fin 2) => transpose S2x192 [1, 0] a19 transposes_S192x2_S2x192_1_0 (ix2 c k)) = fun k c => a19 (ix2 k c) :=
    funext fun k => funext fun c => wih_apply a19 c k
  have e2 : (fun (k : Fin 192) (c : Fin 64) => transpose S64x192 [1, 0] a20 transposes_S192x64_S64x192_1_0 (ix2 c k)) = fun k c => a20 (ix2 k c) :=
    funext fun k => funext fun c => whh_apply a20 c k
  have e3 : (fun k : Fin 192 => broadcastInDim S1x192 ![1] bcast_S192_S1x192_1 a21 (ix2 0 k)) = fun k => a21 (ix1 k) := funext (bias192_apply a21)
  have e4 : (fun k : Fin 192 => broadcastInDim S1x192 ![1] bcast_S192_S1x192_1 a22 (ix2 0 k)) = fun k => a22 (ix1 k) := funext (bias192_apply a22)
  have e5 : (fun c : Fin 64 => transpose S1x64 [1, 0] a17 transposes_S64x1_S1x64_1_0 (ix2 0 c)) = fun c => a17 (ix2 c 0) := funext (pw_apply a17)
  rw [e1, e2, e3, e4, e5]

/-- The kernel's result. -/
theorem cutOut_net (m : (ℓ : Loc nD τ sig) → Buf (Elt Ideal) ℓ) (c : Dev nD) (t : Fin 12) (b : Fin 16) (n : Fin 207) :
    cutOut (F := Ideal) (launched m c) (ix4 b t n 0)
      = Ref.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) t b n :=
  (cutOut_apply _ b t n).trans
    (body_net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) t b n)

end Cert.Proof.KernelIdeal

namespace Cert.Proof

open Idealize.ShloMosaic Idealize.ShloMosaic.TcCoe

/-- From the same arguments the two results are equal. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    (Ref.final m' c (Proc.devRef .tc Cert.ReferenceIdeal.main_v43_16) : FVec Ideal Cert.KernelIdeal.S16x12x207x1 .f32)
      = KernelIdeal.cutOut (F := Ideal) (KernelIdeal.launched m c) := by
  funext i
  have hi : i = ix4 (i 0) (i 1) (i 2) 0 := by
    funext a
    match a with
    | 0 => rfl
    | 1 => rfl
    | 2 => rfl
    | 3 => exact Subsingleton.elim (α := Fin 1) _ _
  rw [hi]
  obtain ⟨h0, h1, h2, h3, h4, h5, h6, h7, h8, h9, h10, h11, h12, h13, h14, h15, h16, h17, h18, h19, h20, h21, h22, h23, h24⟩ := h
  refine (Ref.final_net m' c (i 1) (i 0) (i 2)).trans ((?_ : _ = _).trans (KernelIdeal.cutOut_net m c (i 1) (i 0) (i 2)).symm)
  rw [h0, h1, h2, h3, h4, h5, h6, h7, h8, h9, h10, h11, h12, h13, h14, h15, h16, h17, h18, h19, h20, h21, h22, h23, h24]

end Cert.Proof

end
-- ==== Proof.lean ====
module

public import proofs.«01_k».proof.Defs
public import proofs.«01_k».proof.Proof.RefFrame
public import proofs.«01_k».proof.Proof.KernelRun
public import proofs.«01_k».proof.Proof.KernelIdealRun
public import proofs.«01_k».proof.Proof.Same
public import Idealize.ShloMosaic.Lib.Claim

@[expose] public section

noncomputable section

namespace Cert.Proof

open Idealize.ShloMosaic Idealize.SL.Sem

/-- The kernel's frame at the machine's words. -/
theorem quiescent_Kernel : Cert.quiescent_Kernel (hKernel := Cert.Kernel.Gen.facts) := fun m g _ =>
  θ_run_and (Cert.Kernel.Gen.frame_of m g (Kernel.dats m) (Kernel.A_eq m) (Kernel.run_main m g))
    ((θ_run _ _ _).mono (fun _ h => h.2) (Kernel.run_main_quiescent m g))

/-- The ideal kernel's frame. -/
theorem quiescent_KernelIdeal : Cert.quiescent_KernelIdeal (hKernelIdeal := Cert.KernelIdeal.Gen.facts) := fun m g _ =>
  θ_run_and (Cert.KernelIdeal.Gen.frame_of m g (KernelIdeal.dats m) (KernelIdeal.A_eq m) (KernelIdeal.run_main m g))
    ((θ_run _ _ _).mono (fun _ h => h.2) (KernelIdeal.run_main_quiescent m g))

/-- The reference's frame. -/
theorem quiescent_ReferenceIdeal : Cert.quiescent_ReferenceIdeal (hReferenceIdeal := Cert.ReferenceIdeal.Gen.facts) := fun m g _ =>
  (θ_run _ _ _).mono (fun _ h => ⟨fun c =>
      ⟨(h.1 c Cert.ReferenceIdeal.main_arg0 rfl).trans (Ref.keeps_final m c _ (by simp)),
      (h.1 c Cert.ReferenceIdeal.main_arg1 rfl).trans (Ref.keeps_final m c _ (by simp)),
      (h.1 c Cert.ReferenceIdeal.main_arg2 rfl).trans (Ref.keeps_final m c _ (by simp)),
      (h.1 c Cert.ReferenceIdeal.main_arg3 rfl).trans (Ref.keeps_final m c _ (by simp)),
      (h.1 c Cert.ReferenceIdeal.main_arg4 rfl).trans (Ref.keeps_final m c _ (by simp)),
      (h.1 c Cert.ReferenceIdeal.main_arg5 rfl).trans (Ref.keeps_final m c _ (by simp)),
      (h.1 c Cert.ReferenceIdeal.main_arg6 rfl).trans (Ref.keeps_final m c _ (by simp)),
      (h.1 c Cert.ReferenceIdeal.main_arg7 rfl).trans (Ref.keeps_final m c _ (by simp)),
      (h.1 c Cert.ReferenceIdeal.main_arg8 rfl).trans (Ref.keeps_final m c _ (by simp)),
      (h.1 c Cert.ReferenceIdeal.main_arg9 rfl).trans (Ref.keeps_final m c _ (by simp)),
      (h.1 c Cert.ReferenceIdeal.main_arg10 rfl).trans (Ref.keeps_final m c _ (by simp)),
      (h.1 c Cert.ReferenceIdeal.main_arg11 rfl).trans (Ref.keeps_final m c _ (by simp)),
      (h.1 c Cert.ReferenceIdeal.main_arg12 rfl).trans (Ref.keeps_final m c _ (by simp)),
      (h.1 c Cert.ReferenceIdeal.main_arg13 rfl).trans (Ref.keeps_final m c _ (by simp)),
      (h.1 c Cert.ReferenceIdeal.main_arg14 rfl).trans (Ref.keeps_final m c _ (by simp)),
      (h.1 c Cert.ReferenceIdeal.main_arg15 rfl).trans (Ref.keeps_final m c _ (by simp)),
      (h.1 c Cert.ReferenceIdeal.main_arg16 rfl).trans (Ref.keeps_final m c _ (by simp)),
      (h.1 c Cert.ReferenceIdeal.main_arg17 rfl).trans (Ref.keeps_final m c _ (by simp)),
      (h.1 c Cert.ReferenceIdeal.main_arg18 rfl).trans (Ref.keeps_final m c _ (by simp)),
      (h.1 c Cert.ReferenceIdeal.main_arg19 rfl).trans (Ref.keeps_final m c _ (by simp)),
      (h.1 c Cert.ReferenceIdeal.main_arg20 rfl).trans (Ref.keeps_final m c _ (by simp)),
      (h.1 c Cert.ReferenceIdeal.main_arg21 rfl).trans (Ref.keeps_final m c _ (by simp)),
      (h.1 c Cert.ReferenceIdeal.main_arg22 rfl).trans (Ref.keeps_final m c _ (by simp)),
      (h.1 c Cert.ReferenceIdeal.main_arg23 rfl).trans (Ref.keeps_final m c _ (by simp)),
      (h.1 c Cert.ReferenceIdeal.main_arg24 rfl).trans (Ref.keeps_final m c _ (by simp))⟩, h.2⟩)
    (Ref.run m g)

/-- Over the extended reals the kernel and the reference, from the same arguments, end in the same result. -/
theorem algebraic : Cert.algebraic_KernelIdeal_ReferenceIdeal (hKernelIdeal := Cert.KernelIdeal.Gen.facts)
    (hReferenceIdeal := Cert.ReferenceIdeal.Gen.facts) := fun m g m' g' _ hsame =>
  ⟨fun c => KernelIdeal.cutOut (F := Ideal) (KernelIdeal.launched m c),
    (θ_run _ _ _).mono (fun _ h c => ⟨KernelIdeal.result_eq m h.2 c, h.1.1 c⟩)
      (θ_run_and (quiescent_KernelIdeal m g trivial) (KernelIdeal.run_main m g)),
    (θ_run _ _ _).mono
      (fun _ h c => ⟨(h.2.1 c Cert.ReferenceIdeal.main_v43_16 rfl).trans (same_result m m' c (hsame c)), h.1.1 c⟩)
      (θ_run_and (quiescent_ReferenceIdeal m' g' trivial) (Ref.run m' g'))⟩

/-- Everything claimed. -/
theorem claim : Cert.Claim :=
  ⟨Cert.Kernel.Gen.facts, Cert.KernelIdeal.Gen.facts, Cert.ReferenceIdeal.Gen.facts, quiescent_Kernel, quiescent_KernelIdeal,
    quiescent_ReferenceIdeal, trivial, algebraic⟩

end Cert.Proof

end
